-- ==== Defs.lean ====
def Pre_Gather [hPre_in_tokens : Cert.Pre_in_tokens.Facts] (m : (ℓ : Loc Cert.Gather.nD Cert.Gather.τ Cert.Gather.sig) → Buf (Elt Bits) ℓ) : Prop :=
  ∀ c : Dev Cert.Gather.nD,
    (Cert.Pre_in_tokens.fn (F := Bits) (m ((c.tc : Thread Cert.Gather.nD Cert.Gather.τ).loc Cert.Gather.main_arg0)) (m ((c.tc : Thread Cert.Gather.nD Cert.Gather.τ).loc Cert.Gather.main_arg1))) = (fun _ => 1#1)

def Pre_GatherIdeal [hPre_in_tokens : Cert.Pre_in_tokens.Facts] (m : (ℓ : Loc Cert.GatherIdeal.nD Cert.GatherIdeal.τ Cert.GatherIdeal.sig) → Buf (Elt Ideal) ℓ) : Prop :=
  ∀ c : Dev Cert.GatherIdeal.nD,
    (Cert.Pre_in_tokens.fn (F := Ideal) (m ((c.tc : Thread Cert.GatherIdeal.nD Cert.GatherIdeal.τ).loc Cert.GatherIdeal.main_arg0)) (m ((c.tc : Thread Cert.GatherIdeal.nD Cert.GatherIdeal.τ).loc Cert.GatherIdeal.main_arg1))) = (fun _ => 1#1)

def Pre_GatherRefIdeal (m : (ℓ : Loc Cert.GatherRefIdeal.nD Cert.GatherRefIdeal.τ Cert.GatherRefIdeal.sig) → Buf (Elt Ideal) ℓ) : Prop :=
  True

def Pre_GatherRefIdeal_in_tokens [hPre_in_tokens : Cert.Pre_in_tokens.Facts] (m : (ℓ : Loc Cert.GatherRefIdeal.nD Cert.GatherRefIdeal.τ Cert.GatherRefIdeal.sig) → Buf (Elt Ideal) ℓ) : Prop :=
  ∀ c : Dev Cert.GatherRefIdeal.nD,
    (Cert.Pre_in_tokens.fn (F := Ideal) (m ((c.tc : Thread Cert.GatherRefIdeal.nD Cert.GatherRefIdeal.τ).loc Cert.GatherRefIdeal.main_arg0)) (m ((c.tc : Thread Cert.GatherRefIdeal.nD Cert.GatherRefIdeal.τ).loc Cert.GatherRefIdeal.main_arg1))) = (fun _ => 1#1)

def Pre_Combine [hPre_in_rows : Cert.Pre_in_rows.Facts] (m : (ℓ : Loc Cert.Combine.nD Cert.Combine.τ Cert.Combine.sig) → Buf (Elt Bits) ℓ) : Prop :=
  ∀ c : Dev Cert.Combine.nD,
    (Cert.Pre_in_rows.fn (F := Bits) (m ((c.tc : Thread Cert.Combine.nD Cert.Combine.τ).loc Cert.Combine.main_arg0)) (m ((c.tc : Thread Cert.Combine.nD Cert.Combine.τ).loc Cert.Combine.main_arg1)) (m ((c.tc : Thread Cert.Combine.nD Cert.Combine.τ).loc Cert.Combine.main_arg2))) = (fun _ => 1#1)

def Pre_CombineIdeal [hPre_in_rows : Cert.Pre_in_rows.Facts] (m : (ℓ : Loc Cert.CombineIdeal.nD Cert.CombineIdeal.τ Cert.CombineIdeal.sig) → Buf (Elt Ideal) ℓ) : Prop :=
  ∀ c : Dev Cert.CombineIdeal.nD,
    (Cert.Pre_in_rows.fn (F := Ideal) (m ((c.tc : Thread Cert.CombineIdeal.nD Cert.CombineIdeal.τ).loc Cert.CombineIdeal.main_arg0)) (m ((c.tc : Thread Cert.CombineIdeal.nD Cert.CombineIdeal.τ).loc Cert.CombineIdeal.main_arg1)) (m ((c.tc : Thread Cert.CombineIdeal.nD Cert.CombineIdeal.τ).loc Cert.CombineIdeal.main_arg2))) = (fun _ => 1#1)

def Pre_CombineRefIdeal (m : (ℓ : Loc Cert.CombineRefIdeal.nD Cert.CombineRefIdeal.τ Cert.CombineRefIdeal.sig) → Buf (Elt Ideal) ℓ) : Prop :=
  True

def Pre_CombineRefIdeal_in_rows [hPre_in_rows : Cert.Pre_in_rows.Facts] (m : (ℓ : Loc Cert.CombineRefIdeal.nD Cert.CombineRefIdeal.τ Cert.CombineRefIdeal.sig) → Buf (Elt Ideal) ℓ) : Prop :=
  ∀ c : Dev Cert.CombineRefIdeal.nD,
    (Cert.Pre_in_rows.fn (F := Ideal) (m ((c.tc : Thread Cert.CombineRefIdeal.nD Cert.CombineRefIdeal.τ).loc Cert.CombineRefIdeal.main_arg0)) (m ((c.tc : Thread Cert.CombineRefIdeal.nD Cert.CombineRefIdeal.τ).loc Cert.CombineRefIdeal.main_arg1)) (m ((c.tc : Thread Cert.CombineRefIdeal.nD Cert.CombineRefIdeal.τ).loc Cert.CombineRefIdeal.main_arg2))) = (fun _ => 1#1)

def Pre_Ffn [hPre_in_experts : Cert.Pre_in_experts.Facts] (m : (ℓ : Loc Cert.Ffn.nD Cert.Ffn.τ Cert.Ffn.sig) → Buf (Elt Bits) ℓ) : Prop :=
  ∀ c : Dev Cert.Ffn.nD,
    (Cert.Pre_in_experts.fn (F := Bits) (m ((c.tc : Thread Cert.Ffn.nD Cert.Ffn.τ).loc Cert.Ffn.main_arg0)) (m ((c.tc : Thread Cert.Ffn.nD Cert.Ffn.τ).loc Cert.Ffn.main_arg1)) (m ((c.tc : Thread Cert.Ffn.nD Cert.Ffn.τ).loc Cert.Ffn.main_arg2)) (m ((c.tc : Thread Cert.Ffn.nD Cert.Ffn.τ).loc Cert.Ffn.main_arg3)) (m ((c.tc : Thread Cert.Ffn.nD Cert.Ffn.τ).loc Cert.Ffn.main_arg4)) (m ((c.tc : Thread Cert.Ffn.nD Cert.Ffn.τ).loc Cert.Ffn.main_arg5))) = (fun _ => 1#1)

def Pre_FfnIdeal [hPre_in_experts : Cert.Pre_in_experts.Facts] (m : (ℓ : Loc Cert.FfnIdeal.nD Cert.FfnIdeal.τ Cert.FfnIdeal.sig) → Buf (Elt Ideal) ℓ) : Prop :=
  ∀ c : Dev Cert.FfnIdeal.nD,
    (Cert.Pre_in_experts.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))) = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_in_experts [hPre_in_experts : Cert.Pre_in_experts.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_in_experts.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5))) = (fun _ => 1#1)

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateIdeal_in_finite [hPre_in_finite : Cert.Pre_in_finite.Facts] (m : (ℓ : Loc Cert.GateIdeal.nD Cert.GateIdeal.τ Cert.GateIdeal.sig) → Buf (Elt Ideal) ℓ) : Prop :=
  ∀ c : Dev Cert.GateIdeal.nD,
    (Cert.Pre_in_finite.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2))) = (fun _ => 1#1)

def Pre_GateRefIdeal (m : (ℓ : Loc Cert.GateRefIdeal.nD Cert.GateRefIdeal.τ Cert.GateRefIdeal.sig) → Buf (Elt Ideal) ℓ) : Prop :=
  True

def Pre_GateRefIdeal_in_finite [hPre_in_finite : Cert.Pre_in_finite.Facts] (m : (ℓ : Loc Cert.GateRefIdeal.nD Cert.GateRefIdeal.τ Cert.GateRefIdeal.sig) → Buf (Elt Ideal) ℓ) : Prop :=
  ∀ c : Dev Cert.GateRefIdeal.nD,
    (Cert.Pre_in_finite.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2))) = (fun _ => 1#1)

def Pre_Route (m : (ℓ : Loc Cert.Route.nD Cert.Route.τ Cert.Route.sig) → Buf (Elt Bits) ℓ) : Prop :=
  True

def Pre_RouteIdeal (m : (ℓ : Loc Cert.RouteIdeal.nD Cert.RouteIdeal.τ Cert.RouteIdeal.sig) → Buf (Elt Ideal) ℓ) : Prop :=
  True

def Pre_RouteIdeal_in_finite [hPre_in_finite : Cert.Pre_in_finite.Facts] (m : (ℓ : Loc Cert.RouteIdeal.nD Cert.RouteIdeal.τ Cert.RouteIdeal.sig) → Buf (Elt Ideal) ℓ) : Prop :=
  ∀ c : Dev Cert.RouteIdeal.nD,
    (Cert.Pre_in_finite.fn (F := Ideal) (m ((c.tc : Thread Cert.RouteIdeal.nD Cert.RouteIdeal.τ).loc Cert.RouteIdeal.main_arg0)) (m ((c.tc : Thread Cert.RouteIdeal.nD Cert.RouteIdeal.τ).loc Cert.RouteIdeal.main_arg1)) (m ((c.tc : Thread Cert.RouteIdeal.nD Cert.RouteIdeal.τ).loc Cert.RouteIdeal.main_arg2))) = (fun _ => 1#1)

def Pre_RouteRefIdeal (m : (ℓ : Loc Cert.RouteRefIdeal.nD Cert.RouteRefIdeal.τ Cert.RouteRefIdeal.sig) → Buf (Elt Ideal) ℓ) : Prop :=
  True

def Pre_RouteRefIdeal_in_finite [hPre_in_finite : Cert.Pre_in_finite.Facts] (m : (ℓ : Loc Cert.RouteRefIdeal.nD Cert.RouteRefIdeal.τ Cert.RouteRefIdeal.sig) → Buf (Elt Ideal) ℓ) : Prop :=
  ∀ c : Dev Cert.RouteRefIdeal.nD,
    (Cert.Pre_in_finite.fn (F := Ideal) (m ((c.tc : Thread Cert.RouteRefIdeal.nD Cert.RouteRefIdeal.τ).loc Cert.RouteRefIdeal.main_arg0)) (m ((c.tc : Thread Cert.RouteRefIdeal.nD Cert.RouteRefIdeal.τ).loc Cert.RouteRefIdeal.main_arg1)) (m ((c.tc : Thread Cert.RouteRefIdeal.nD Cert.RouteRefIdeal.τ).loc Cert.RouteRefIdeal.main_arg2))) = (fun _ => 1#1)

def quiescent_Gather [hGather : Cert.Gather.Facts] [hPre_in_tokens : Cert.Pre_in_tokens.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (Cert.Gather.threads (F := Bits)) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0)
      ∧ r.2.mem ((c.tc : Thread Cert.Gather.nD Cert.Gather.τ).loc Cert.Gather.main_arg1) = m ((c.tc : Thread Cert.Gather.nD Cert.Gather.τ).loc Cert.Gather.main_arg1))
      ∧ r.2.sem = fun _ => 0)

def quiescent_GatherIdeal [hGatherIdeal : Cert.GatherIdeal.Facts] [hPre_in_tokens : Cert.Pre_in_tokens.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal m →
    θ_run (Cert.GatherIdeal.defs (F := Ideal)) (Cert.GatherIdeal.threads (F := Ideal)) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
      ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1))
      ∧ r.2.sem = fun _ => 0)

def quiescent_GatherRefIdeal [hGatherRefIdeal : Cert.GatherRefIdeal.Facts] : Prop :=
  ∀ (m : (ℓ : Loc Cert.GatherRefIdeal.nD Cert.GatherRefIdeal.τ Cert.GatherRefIdeal.sig) → Buf (Elt Ideal) ℓ) (g : Dev Cert.GatherRefIdeal.nD → PrngReg), Pre_GatherRefIdeal m →
    θ_run (Cert.GatherRefIdeal.defs (F := Ideal)) (onTc (τ := Cert.GatherRefIdeal.τ) (Cert.GatherRefIdeal.main (F := Ideal))) ⟨m, fun _ => 0, g⟩ (fun r => (∀ c : Dev Cert.GatherRefIdeal.nD,
      r.2.mem ((c.tc : Thread Cert.GatherRefIdeal.nD Cert.GatherRefIdeal.τ).loc Cert.GatherRefIdeal.main_arg0) = m ((c.tc : Thread Cert.GatherRefIdeal.nD Cert.GatherRefIdeal.τ).loc Cert.GatherRefIdeal.main_arg0)
      ∧ r.2.mem ((c.tc : Thread Cert.GatherRefIdeal.nD Cert.GatherRefIdeal.τ).loc Cert.GatherRefIdeal.main_arg1) = m ((c.tc : Thread Cert.GatherRefIdeal.nD Cert.GatherRefIdeal.τ).loc Cert.GatherRefIdeal.main_arg1))
      ∧ r.2.sem = fun _ => 0)

def quiescent_GatherRefIdeal_pre_in_tokens [hGatherRefIdeal : Cert.GatherRefIdeal.Facts] [hPre_in_tokens : Cert.Pre_in_tokens.Facts] : Prop :=
  ∀ (m : (ℓ : Loc Cert.GatherRefIdeal.nD Cert.GatherRefIdeal.τ Cert.GatherRefIdeal.sig) → Buf (Elt Ideal) ℓ) (g : Dev Cert.GatherRefIdeal.nD → PrngReg), Pre_GatherRefIdeal_in_tokens m →
    θ_run (Cert.GatherRefIdeal.defs (F := Ideal)) (onTc (τ := Cert.GatherRefIdeal.τ) (Cert.GatherRefIdeal.main (F := Ideal))) ⟨m, fun _ => 0, g⟩ (fun r => (∀ c : Dev Cert.GatherRefIdeal.nD,
      r.2.mem ((c.tc : Thread Cert.GatherRefIdeal.nD Cert.GatherRefIdeal.τ).loc Cert.GatherRefIdeal.main_arg0) = m ((c.tc : Thread Cert.GatherRefIdeal.nD Cert.GatherRefIdeal.τ).loc Cert.GatherRefIdeal.main_arg0)
      ∧ r.2.mem ((c.tc : Thread Cert.GatherRefIdeal.nD Cert.GatherRefIdeal.τ).loc Cert.GatherRefIdeal.main_arg1) = m ((c.tc : Thread Cert.GatherRefIdeal.nD Cert.GatherRefIdeal.τ).loc Cert.GatherRefIdeal.main_arg1))
      ∧ r.2.sem = fun _ => 0)

def quiescent_Combine [hCombine : Cert.Combine.Facts] [hPre_in_rows : Cert.Pre_in_rows.Facts] : Prop :=
  ∀ (m : (ℓ : Loc Cert.Combine.nD Cert.Combine.τ Cert.Combine.sig) → Buf (Elt Bits) ℓ) (g : Dev Cert.Combine.nD → PrngReg), Pre_Combine m →
    θ_run (Cert.Combine.defs (F := Bits)) (Cert.Combine.threads (F := Bits)) ⟨m, fun _ => 0, g⟩ (fun r => (∀ c : Dev Cert.Combine.nD,
      r.2.mem ((c.tc : Thread Cert.Combine.nD Cert.Combine.τ).loc Cert.Combine.main_arg0) = m ((c.tc : Thread Cert.Combine.nD Cert.Combine.τ).loc Cert.Combine.main_arg0)
      ∧ r.2.mem ((c.tc : Thread Cert.Combine.nD Cert.Combine.τ).loc Cert.Combine.main_arg1) = m ((c.tc : Thread Cert.Combine.nD Cert.Combine.τ).loc Cert.Combine.main_arg1)
      ∧ r.2.mem ((c.tc : Thread Cert.Combine.nD Cert.Combine.τ).loc Cert.Combine.main_arg2) = m ((c.tc : Thread Cert.Combine.nD Cert.Combine.τ).loc Cert.Combine.main_arg2))
      ∧ r.2.sem = fun _ => 0)

def quiescent_CombineIdeal [hCombineIdeal : Cert.CombineIdeal.Facts] [hPre_in_rows : Cert.Pre_in_rows.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal m →
    θ_run (Cert.CombineIdeal.defs (F := Ideal)) (Cert.CombineIdeal.threads (F := Ideal)) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
      ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2))
      ∧ r.2.sem = fun _ => 0)

def quiescent_CombineRefIdeal [hCombineRefIdeal : Cert.CombineRefIdeal.Facts] : Prop :=
  ∀ (m : (ℓ : Loc Cert.CombineRefIdeal.nD Cert.CombineRefIdeal.τ Cert.CombineRefIdeal.sig) → Buf (Elt Ideal) ℓ) (g : Dev Cert.CombineRefIdeal.nD → PrngReg), Pre_CombineRefIdeal m →
    θ_run (Cert.CombineRefIdeal.defs (F := Ideal)) (onTc (τ := Cert.CombineRefIdeal.τ) (Cert.CombineRefIdeal.main (F := Ideal))) ⟨m, fun _ => 0, g⟩ (fun r => (∀ c : Dev Cert.CombineRefIdeal.nD,
      r.2.mem ((c.tc : Thread Cert.CombineRefIdeal.nD Cert.CombineRefIdeal.τ).loc Cert.CombineRefIdeal.main_arg0) = m ((c.tc : Thread Cert.CombineRefIdeal.nD Cert.CombineRefIdeal.τ).loc Cert.CombineRefIdeal.main_arg0)
      ∧ r.2.mem ((c.tc : Thread Cert.CombineRefIdeal.nD Cert.CombineRefIdeal.τ).loc Cert.CombineRefIdeal.main_arg1) = m ((c.tc : Thread Cert.CombineRefIdeal.nD Cert.CombineRefIdeal.τ).loc Cert.CombineRefIdeal.main_arg1)
      ∧ r.2.mem ((c.tc : Thread Cert.CombineRefIdeal.nD Cert.CombineRefIdeal.τ).loc Cert.CombineRefIdeal.main_arg2) = m ((c.tc : Thread Cert.CombineRefIdeal.nD Cert.CombineRefIdeal.τ).loc Cert.CombineRefIdeal.main_arg2))
      ∧ r.2.sem = fun _ => 0)

def quiescent_CombineRefIdeal_pre_in_rows [hCombineRefIdeal : Cert.CombineRefIdeal.Facts] [hPre_in_rows : Cert.Pre_in_rows.Facts] : Prop :=
  ∀ (m : (ℓ : Loc Cert.CombineRefIdeal.nD Cert.CombineRefIdeal.τ Cert.CombineRefIdeal.sig) → Buf (Elt Ideal) ℓ) (g : Dev Cert.CombineRefIdeal.nD → PrngReg), Pre_CombineRefIdeal_in_rows m →
    θ_run (Cert.CombineRefIdeal.defs (F := Ideal)) (onTc (τ := Cert.CombineRefIdeal.τ) (Cert.CombineRefIdeal.main (F := Ideal))) ⟨m, fun _ => 0, g⟩ (fun r => (∀ c : Dev Cert.CombineRefIdeal.nD,
      r.2.mem ((c.tc : Thread Cert.CombineRefIdeal.nD Cert.CombineRefIdeal.τ).loc Cert.CombineRefIdeal.main_arg0) = m ((c.tc : Thread Cert.CombineRefIdeal.nD Cert.CombineRefIdeal.τ).loc Cert.CombineRefIdeal.main_arg0)
      ∧ r.2.mem ((c.tc : Thread Cert.CombineRefIdeal.nD Cert.CombineRefIdeal.τ).loc Cert.CombineRefIdeal.main_arg1) = m ((c.tc : Thread Cert.CombineRefIdeal.nD Cert.CombineRefIdeal.τ).loc Cert.CombineRefIdeal.main_arg1)
      ∧ r.2.mem ((c.tc : Thread Cert.CombineRefIdeal.nD Cert.CombineRefIdeal.τ).loc Cert.CombineRefIdeal.main_arg2) = m ((c.tc : Thread Cert.CombineRefIdeal.nD Cert.CombineRefIdeal.τ).loc Cert.CombineRefIdeal.main_arg2))
      ∧ r.2.sem = fun _ => 0)

def quiescent_Ffn [hFfn : Cert.Ffn.Facts] [hPre_in_experts : Cert.Pre_in_experts.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] [hPre_in_experts : Cert.Pre_in_experts.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_FfnRefIdeal_pre_in_experts [hFfnRefIdeal : Cert.FfnRefIdeal.Facts] [hPre_in_experts : Cert.Pre_in_experts.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_in_experts m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2))
      ∧ r.2.sem = fun _ => 0)

def quiescent_GateIdeal_pre_in_finite [hGateIdeal : Cert.GateIdeal.Facts] [hPre_in_finite : Cert.Pre_in_finite.Facts] : Prop :=
  ∀ (m : (ℓ : Loc Cert.GateIdeal.nD Cert.GateIdeal.τ Cert.GateIdeal.sig) → Buf (Elt Ideal) ℓ) (g : Dev Cert.GateIdeal.nD → PrngReg), Pre_GateIdeal_in_finite m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2))
      ∧ r.2.sem = fun _ => 0)

def quiescent_GateRefIdeal_pre_in_finite [hGateRefIdeal : Cert.GateRefIdeal.Facts] [hPre_in_finite : Cert.Pre_in_finite.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal_in_finite m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2))
      ∧ r.2.sem = fun _ => 0)

def quiescent_Route [hRoute : Cert.Route.Facts] : Prop :=
  ∀ (m : (ℓ : Loc Cert.Route.nD Cert.Route.τ Cert.Route.sig) → Buf (Elt Bits) ℓ) (g : Dev Cert.Route.nD → PrngReg), Pre_Route m →
    θ_run (Cert.Route.defs (F := Bits)) (onTc (τ := Cert.Route.τ) (Cert.Route.main (F := Bits))) ⟨m, fun _ => 0, g⟩ (fun r => (∀ c : Dev Cert.Route.nD,
      r.2.mem ((c.tc : Thread Cert.Route.nD Cert.Route.τ).loc Cert.Route.main_arg0) = m ((c.tc : Thread Cert.Route.nD Cert.Route.τ).loc Cert.Route.main_arg0)
      ∧ r.2.mem ((c.tc : Thread Cert.Route.nD Cert.Route.τ).loc Cert.Route.main_arg1) = m ((c.tc : Thread Cert.Route.nD Cert.Route.τ).loc Cert.Route.main_arg1)
      ∧ r.2.mem ((c.tc : Thread Cert.Route.nD Cert.Route.τ).loc Cert.Route.main_arg2) = m ((c.tc : Thread Cert.Route.nD Cert.Route.τ).loc Cert.Route.main_arg2))
      ∧ r.2.sem = fun _ => 0)

def quiescent_RouteIdeal [hRouteIdeal : Cert.RouteIdeal.Facts] : Prop :=
  ∀ (m : (ℓ : Loc Cert.RouteIdeal.nD Cert.RouteIdeal.τ Cert.RouteIdeal.sig) → Buf (Elt Ideal) ℓ) (g : Dev Cert.RouteIdeal.nD → PrngReg), Pre_RouteIdeal m →
    θ_run (Cert.RouteIdeal.defs (F := Ideal)) (onTc (τ := Cert.RouteIdeal.τ) (Cert.RouteIdeal.main (F := Ideal))) ⟨m, fun _ => 0, g⟩ (fun r => (∀ c : Dev Cert.RouteIdeal.nD,
      r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0)
      ∧ r.2.mem ((c.tc : Thread Cert.RouteIdeal.nD Cert.RouteIdeal.τ).loc Cert.RouteIdeal.main_arg1) = m ((c.tc : Thread Cert.RouteIdeal.nD Cert.RouteIdeal.τ).loc Cert.RouteIdeal.main_arg1)
      ∧ r.2.mem ((c.tc : Thread Cert.RouteIdeal.nD Cert.RouteIdeal.τ).loc Cert.RouteIdeal.main_arg2) = m ((c.tc : Thread Cert.RouteIdeal.nD Cert.RouteIdeal.τ).loc Cert.RouteIdeal.main_arg2))
      ∧ r.2.sem = fun _ => 0)

def quiescent_RouteIdeal_pre_in_finite [hRouteIdeal : Cert.RouteIdeal.Facts] [hPre_in_finite : Cert.Pre_in_finite.Facts] : Prop :=
  ∀ (m : (ℓ : Loc Cert.RouteIdeal.nD Cert.RouteIdeal.τ Cert.RouteIdeal.sig) → Buf (Elt Ideal) ℓ) (g : Dev Cert.RouteIdeal.nD → PrngReg), Pre_RouteIdeal_in_finite m →
    θ_run (Cert.RouteIdeal.defs (F := Ideal)) (onTc (τ := Cert.RouteIdeal.τ) (Cert.RouteIdeal.main (F := Ideal))) ⟨m, fun _ => 0, g⟩ (fun r => (∀ c : Dev Cert.RouteIdeal.nD,
      r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0)
      ∧ r.2.mem ((c.tc : Thread Cert.RouteIdeal.nD Cert.RouteIdeal.τ).loc Cert.RouteIdeal.main_arg1) = m ((c.tc : Thread Cert.RouteIdeal.nD Cert.RouteIdeal.τ).loc Cert.RouteIdeal.main_arg1)
      ∧ r.2.mem ((c.tc : Thread Cert.RouteIdeal.nD Cert.RouteIdeal.τ).loc Cert.RouteIdeal.main_arg2) = m ((c.tc : Thread Cert.RouteIdeal.nD Cert.RouteIdeal.τ).loc Cert.RouteIdeal.main_arg2))
      ∧ r.2.sem = fun _ => 0)

def quiescent_RouteRefIdeal [hRouteRefIdeal : Cert.RouteRefIdeal.Facts] : Prop :=
  ∀ (m : (ℓ : Loc Cert.RouteRefIdeal.nD Cert.RouteRefIdeal.τ Cert.RouteRefIdeal.sig) → Buf (Elt Ideal) ℓ) (g : Dev Cert.RouteRefIdeal.nD → PrngReg), Pre_RouteRefIdeal m →
    θ_run (Cert.RouteRefIdeal.defs (F := Ideal)) (onTc (τ := Cert.RouteRefIdeal.τ) (Cert.RouteRefIdeal.main (F := Ideal))) ⟨m, fun _ => 0, g⟩ (fun r => (∀ c : Dev Cert.RouteRefIdeal.nD,
      r.2.mem ((c.tc : Thread Cert.RouteRefIdeal.nD Cert.RouteRefIdeal.τ).loc Cert.RouteRefIdeal.main_arg0) = m ((c.tc : Thread Cert.RouteRefIdeal.nD Cert.RouteRefIdeal.τ).loc Cert.RouteRefIdeal.main_arg0)
      ∧ r.2.mem ((c.tc : Thread Cert.RouteRefIdeal.nD Cert.RouteRefIdeal.τ).loc Cert.RouteRefIdeal.main_arg1) = m ((c.tc : Thread Cert.RouteRefIdeal.nD Cert.RouteRefIdeal.τ).loc Cert.RouteRefIdeal.main_arg1)
      ∧ r.2.mem ((c.tc : Thread Cert.RouteRefIdeal.nD Cert.RouteRefIdeal.τ).loc Cert.RouteRefIdeal.main_arg2) = m ((c.tc : Thread Cert.RouteRefIdeal.nD Cert.RouteRefIdeal.τ).loc Cert.RouteRefIdeal.main_arg2))
      ∧ r.2.sem = fun _ => 0)

def quiescent_RouteRefIdeal_pre_in_finite [hRouteRefIdeal : Cert.RouteRefIdeal.Facts] [hPre_in_finite : Cert.Pre_in_finite.Facts] : Prop :=
  ∀ (m : (ℓ : Loc Cert.RouteRefIdeal.nD Cert.RouteRefIdeal.τ Cert.RouteRefIdeal.sig) → Buf (Elt Ideal) ℓ) (g : Dev Cert.RouteRefIdeal.nD → PrngReg), Pre_RouteRefIdeal_in_finite m →
    θ_run (Cert.RouteRefIdeal.defs (F := Ideal)) (onTc (τ := Cert.RouteRefIdeal.τ) (Cert.RouteRefIdeal.main (F := Ideal))) ⟨m, fun _ => 0, g⟩ (fun r => (∀ c : Dev Cert.RouteRefIdeal.nD,
      r.2.mem ((c.tc : Thread Cert.RouteRefIdeal.nD Cert.RouteRefIdeal.τ).loc Cert.RouteRefIdeal.main_arg0) = m ((c.tc : Thread Cert.RouteRefIdeal.nD Cert.RouteRefIdeal.τ).loc Cert.RouteRefIdeal.main_arg0)
      ∧ r.2.mem ((c.tc : Thread Cert.RouteRefIdeal.nD Cert.RouteRefIdeal.τ).loc Cert.RouteRefIdeal.main_arg1) = m ((c.tc : Thread Cert.RouteRefIdeal.nD Cert.RouteRefIdeal.τ).loc Cert.RouteRefIdeal.main_arg1)
      ∧ r.2.mem ((c.tc : Thread Cert.RouteRefIdeal.nD Cert.RouteRefIdeal.τ).loc Cert.RouteRefIdeal.main_arg2) = m ((c.tc : Thread Cert.RouteRefIdeal.nD Cert.RouteRefIdeal.τ).loc Cert.RouteRefIdeal.main_arg2))
      ∧ r.2.sem = fun _ => 0)

def preserves_Gather_GatherIdeal : Prop :=
  True

def algebraic_GatherIdeal_GatherRefIdeal [hGatherIdeal : Cert.GatherIdeal.Facts] [hGatherRefIdeal : Cert.GatherRefIdeal.Facts] [hPre_in_tokens : Cert.Pre_in_tokens.Facts] : Prop :=
  ∀ (m : (ℓ : Loc Cert.GatherIdeal.nD Cert.GatherIdeal.τ Cert.GatherIdeal.sig) → Buf (Elt Ideal) ℓ) (g : Dev Cert.GatherIdeal.nD → PrngReg)
    (m' : (ℓ : Loc Cert.GatherRefIdeal.nD Cert.GatherRefIdeal.τ Cert.GatherRefIdeal.sig) → Buf (Elt Ideal) ℓ) (g' : Dev Cert.GatherRefIdeal.nD → PrngReg), Pre_GatherIdeal m →
    (∀ c : Dev Cert.GatherIdeal.nD,
      m' ((c.tc : Thread Cert.GatherRefIdeal.nD Cert.GatherRefIdeal.τ).loc Cert.GatherRefIdeal.main_arg0) = m ((c.tc : Thread Cert.GatherIdeal.nD Cert.GatherIdeal.τ).loc Cert.GatherIdeal.main_arg0)
      ∧ m' ((c.tc : Thread Cert.GatherRefIdeal.nD Cert.GatherRefIdeal.τ).loc Cert.GatherRefIdeal.main_arg1) = m ((c.tc : Thread Cert.GatherIdeal.nD Cert.GatherIdeal.τ).loc Cert.GatherIdeal.main_arg1)) →
    ∃ (v0 : (c : Dev Cert.GatherIdeal.nD) → Buf (Elt Ideal) ((c.tc : Thread Cert.GatherIdeal.nD Cert.GatherIdeal.τ).loc Cert.GatherIdeal.main_v11)),
      θ_run (Cert.GatherIdeal.defs (F := Ideal)) (Cert.GatherIdeal.threads (F := Ideal)) ⟨m, fun _ => 0, g⟩ (fun r => ∀ c : Dev Cert.GatherIdeal.nD,
          r.2.mem ((c.tc : Thread Cert.GatherIdeal.nD Cert.GatherIdeal.τ).loc Cert.GatherIdeal.main_v11) = v0 c
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
          ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1))
      ∧ θ_run (Cert.GatherRefIdeal.defs (F := Ideal)) (onTc (τ := Cert.GatherRefIdeal.τ) (Cert.GatherRefIdeal.main (F := Ideal))) ⟨m', fun _ => 0, g'⟩ (fun r => ∀ c : Dev Cert.GatherRefIdeal.nD,
          r.2.mem ((c.tc : Thread Cert.GatherRefIdeal.nD Cert.GatherRefIdeal.τ).loc Cert.GatherRefIdeal.main_v7) = v0 c
          ∧ r.2.mem ((c.tc : Thread Cert.GatherRefIdeal.nD Cert.GatherRefIdeal.τ).loc Cert.GatherRefIdeal.main_arg0) = m' ((c.tc : Thread Cert.GatherRefIdeal.nD Cert.GatherRefIdeal.τ).loc Cert.GatherRefIdeal.main_arg0)
          ∧ r.2.mem ((c.tc : Thread Cert.GatherRefIdeal.nD Cert.GatherRefIdeal.τ).loc Cert.GatherRefIdeal.main_arg1) = m' ((c.tc : Thread Cert.GatherRefIdeal.nD Cert.GatherRefIdeal.τ).loc Cert.GatherRefIdeal.main_arg1))

def preserves_Combine_CombineIdeal : Prop :=
  True

def algebraic_CombineIdeal_CombineRefIdeal [hCombineIdeal : Cert.CombineIdeal.Facts] [hCombineRefIdeal : Cert.CombineRefIdeal.Facts] [hPre_in_rows : Cert.Pre_in_rows.Facts] : Prop :=
  ∀ (m : (ℓ : Loc Cert.CombineIdeal.nD Cert.CombineIdeal.τ Cert.CombineIdeal.sig) → Buf (Elt Ideal) ℓ) (g : Dev Cert.CombineIdeal.nD → PrngReg)
    (m' : (ℓ : Loc Cert.CombineRefIdeal.nD Cert.CombineRefIdeal.τ Cert.CombineRefIdeal.sig) → Buf (Elt Ideal) ℓ) (g' : Dev Cert.CombineRefIdeal.nD → PrngReg), Pre_CombineIdeal m →
    (∀ c : Dev Cert.CombineIdeal.nD,
      m' ((c.tc : Thread Cert.CombineRefIdeal.nD Cert.CombineRefIdeal.τ).loc Cert.CombineRefIdeal.main_arg0) = m ((c.tc : Thread Cert.CombineIdeal.nD Cert.CombineIdeal.τ).loc Cert.CombineIdeal.main_arg0)
      ∧ m' ((c.tc : Thread Cert.CombineRefIdeal.nD Cert.CombineRefIdeal.τ).loc Cert.CombineRefIdeal.main_arg1) = m ((c.tc : Thread Cert.CombineIdeal.nD Cert.CombineIdeal.τ).loc Cert.CombineIdeal.main_arg1)
      ∧ m' ((c.tc : Thread Cert.CombineRefIdeal.nD Cert.CombineRefIdeal.τ).loc Cert.CombineRefIdeal.main_arg2) = m ((c.tc : Thread Cert.CombineIdeal.nD Cert.CombineIdeal.τ).loc Cert.CombineIdeal.main_arg2)) →
    ∃ (v0 : (c : Dev Cert.CombineIdeal.nD) → Buf (Elt Ideal) ((c.tc : Thread Cert.CombineIdeal.nD Cert.CombineIdeal.τ).loc Cert.CombineIdeal.main_v15)),
      θ_run (Cert.CombineIdeal.defs (F := Ideal)) (Cert.CombineIdeal.threads (F := Ideal)) ⟨m, fun _ => 0, g⟩ (fun r => ∀ c : Dev Cert.CombineIdeal.nD,
          r.2.mem ((c.tc : Thread Cert.CombineIdeal.nD Cert.CombineIdeal.τ).loc Cert.CombineIdeal.main_v15) = v0 c
          ∧ r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
          ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
          ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2))
      ∧ θ_run (Cert.CombineRefIdeal.defs (F := Ideal)) (onTc (τ := Cert.CombineRefIdeal.τ) (Cert.CombineRefIdeal.main (F := Ideal))) ⟨m', fun _ => 0, g'⟩ (fun r => ∀ c : Dev Cert.CombineRefIdeal.nD,
          r.2.mem ((c.tc : Thread Cert.CombineRefIdeal.nD Cert.CombineRefIdeal.τ).loc Cert.CombineRefIdeal.main_v24) = v0 c
          ∧ r.2.mem ((c.tc : Thread Cert.CombineRefIdeal.nD Cert.CombineRefIdeal.τ).loc Cert.CombineRefIdeal.main_arg0) = m' ((c.tc : Thread Cert.CombineRefIdeal.nD Cert.CombineRefIdeal.τ).loc Cert.CombineRefIdeal.main_arg0)
          ∧ r.2.mem ((c.tc : Thread Cert.CombineRefIdeal.nD Cert.CombineRefIdeal.τ).loc Cert.CombineRefIdeal.main_arg1) = m' ((c.tc : Thread Cert.CombineRefIdeal.nD Cert.CombineRefIdeal.τ).loc Cert.CombineRefIdeal.main_arg1)
          ∧ r.2.mem ((c.tc : Thread Cert.CombineRefIdeal.nD Cert.CombineRefIdeal.τ).loc Cert.CombineRefIdeal.main_arg2) = m' ((c.tc : Thread Cert.CombineRefIdeal.nD Cert.CombineRefIdeal.τ).loc Cert.CombineRefIdeal.main_arg2))

def preserves_Ffn_FfnIdeal : Prop :=
  True

def algebraic_FfnIdeal_FfnRefIdeal [hFfnIdeal : Cert.FfnIdeal.Facts] [hFfnRefIdeal : Cert.FfnRefIdeal.Facts] [hPre_in_experts : Cert.Pre_in_experts.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v2)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v2) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v34) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_Gate_GateIdeal : Prop :=
  IdealRules.named_const.Statement Cert.GateIdeal.κ "mask" .f32 0xF149F2CA#32 ⊥

def algebraic_GateIdeal_GateRefIdeal_pre_in_finite [hGateIdeal : Cert.GateIdeal.Facts] [hGateRefIdeal : Cert.GateRefIdeal.Facts] [hPre_in_finite : Cert.Pre_in_finite.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal_in_finite m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)) →
    ∃ (v0 : (c : Dev Cert.GateIdeal.nD) → Buf (Elt Ideal) ((c.tc : Thread Cert.GateIdeal.nD Cert.GateIdeal.τ).loc Cert.GateIdeal.main_v8_0)) (v1 : (c : Dev Cert.GateIdeal.nD) → Buf (Elt Ideal) ((c.tc : Thread Cert.GateIdeal.nD Cert.GateIdeal.τ).loc Cert.GateIdeal.main_v8_1)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v8_0) = v0 c
          ∧ r.2.mem ((c.tc : Thread Cert.GateIdeal.nD Cert.GateIdeal.τ).loc Cert.GateIdeal.main_v8_1) = v1 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v51) = v0 c
          ∧ r.2.mem ((c.tc : Thread Cert.GateRefIdeal.nD Cert.GateRefIdeal.τ).loc Cert.GateRefIdeal.main_v45) = v1 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2))

def preserves_Route_RouteIdeal : Prop :=
  IdealRules.named_const.Statement Cert.RouteIdeal.κ "mask" .f32 0xF149F2CA#32 ⊥

def algebraic_RouteIdeal_RouteRefIdeal_pre_in_finite [hRouteIdeal : Cert.RouteIdeal.Facts] [hRouteRefIdeal : Cert.RouteRefIdeal.Facts] [hPre_in_finite : Cert.Pre_in_finite.Facts] : Prop :=
  ∀ (m : (ℓ : Loc Cert.RouteIdeal.nD Cert.RouteIdeal.τ Cert.RouteIdeal.sig) → Buf (Elt Ideal) ℓ) (g : Dev Cert.RouteIdeal.nD → PrngReg)
    (m' : (ℓ : Loc Cert.RouteRefIdeal.nD Cert.RouteRefIdeal.τ Cert.RouteRefIdeal.sig) → Buf (Elt Ideal) ℓ) (g' : Dev Cert.RouteRefIdeal.nD → PrngReg), Pre_RouteIdeal_in_finite m →
    (∀ c : Dev Cert.RouteIdeal.nD,
      m' ((c.tc : Thread Cert.RouteRefIdeal.nD Cert.RouteRefIdeal.τ).loc Cert.RouteRefIdeal.main_arg0) = m ((c.tc : Thread Cert.RouteIdeal.nD Cert.RouteIdeal.τ).loc Cert.RouteIdeal.main_arg0)
      ∧ m' ((c.tc : Thread Cert.RouteRefIdeal.nD Cert.RouteRefIdeal.τ).loc Cert.RouteRefIdeal.main_arg1) = m ((c.tc : Thread Cert.RouteIdeal.nD Cert.RouteIdeal.τ).loc Cert.RouteIdeal.main_arg1)
      ∧ m' ((c.tc : Thread Cert.RouteRefIdeal.nD Cert.RouteRefIdeal.τ).loc Cert.RouteRefIdeal.main_arg2) = m ((c.tc : Thread Cert.RouteIdeal.nD Cert.RouteIdeal.τ).loc Cert.RouteIdeal.main_arg2)) →
    ∃ (v0 : (c : Dev Cert.RouteIdeal.nD) → Buf (Elt Ideal) ((c.tc : Thread Cert.RouteIdeal.nD Cert.RouteIdeal.τ).loc Cert.RouteIdeal.main_v44)) (v1 : (c : Dev Cert.RouteIdeal.nD) → Buf (Elt Ideal) ((c.tc : Thread Cert.RouteIdeal.nD Cert.RouteIdeal.τ).loc Cert.RouteIdeal.main_v52)) (v2 : (c : Dev Cert.RouteIdeal.nD) → Buf (Elt Ideal) ((c.tc : Thread Cert.RouteIdeal.nD Cert.RouteIdeal.τ).loc Cert.RouteIdeal.main_v22)) (v3 : (c : Dev Cert.RouteIdeal.nD) → Buf (Elt Ideal) ((c.tc : Thread Cert.RouteIdeal.nD Cert.RouteIdeal.τ).loc Cert.RouteIdeal.main_v24)) (v4 : (c : Dev Cert.RouteIdeal.nD) → Buf (Elt Ideal) ((c.tc : Thread Cert.RouteIdeal.nD Cert.RouteIdeal.τ).loc Cert.RouteIdeal.main_v64)) (v5 : (c : Dev Cert.RouteIdeal.nD) → Buf (Elt Ideal) ((c.tc : Thread Cert.RouteIdeal.nD Cert.RouteIdeal.τ).loc Cert.RouteIdeal.main_v80)) (v6 : (c : Dev Cert.RouteIdeal.nD) → Buf (Elt Ideal) ((c.tc : Thread Cert.RouteIdeal.nD Cert.RouteIdeal.τ).loc Cert.RouteIdeal.main_v90)) (v7 : (c : Dev Cert.RouteIdeal.nD) → Buf (Elt Ideal) ((c.tc : Thread Cert.RouteIdeal.nD Cert.RouteIdeal.τ).loc Cert.RouteIdeal.main_cst_22)),
      θ_run (Cert.RouteIdeal.defs (F := Ideal)) (onTc (τ := Cert.RouteIdeal.τ) (Cert.RouteIdeal.main (F := Ideal))) ⟨m, fun _ => 0, g⟩ (fun r => ∀ c : Dev Cert.RouteIdeal.nD,
          r.2.mem ((c.tc : Thread Cert.RouteIdeal.nD Cert.RouteIdeal.τ).loc Cert.RouteIdeal.main_v44) = v0 c
          ∧ r.2.mem ((c.tc : Thread Cert.RouteIdeal.nD Cert.RouteIdeal.τ).loc Cert.RouteIdeal.main_v52) = v1 c
          ∧ r.2.mem ((c.tc : Thread Cert.RouteIdeal.nD Cert.RouteIdeal.τ).loc Cert.RouteIdeal.main_v22) = v2 c
          ∧ r.2.mem ((c.tc : Thread Cert.RouteIdeal.nD Cert.RouteIdeal.τ).loc Cert.RouteIdeal.main_v24) = v3 c
          ∧ r.2.mem ((c.tc : Thread Cert.RouteIdeal.nD Cert.RouteIdeal.τ).loc Cert.RouteIdeal.main_v64) = v4 c
          ∧ r.2.mem ((c.tc : Thread Cert.RouteIdeal.nD Cert.RouteIdeal.τ).loc Cert.RouteIdeal.main_v80) = v5 c
          ∧ r.2.mem ((c.tc : Thread Cert.RouteIdeal.nD Cert.RouteIdeal.τ).loc Cert.RouteIdeal.main_v90) = v6 c
          ∧ r.2.mem ((c.tc : Thread Cert.RouteIdeal.nD Cert.RouteIdeal.τ).loc Cert.RouteIdeal.main_cst_22) = v7 c
          ∧ r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0)
          ∧ r.2.mem ((c.tc : Thread Cert.RouteIdeal.nD Cert.RouteIdeal.τ).loc Cert.RouteIdeal.main_arg1) = m ((c.tc : Thread Cert.RouteIdeal.nD Cert.RouteIdeal.τ).loc Cert.RouteIdeal.main_arg1)
          ∧ r.2.mem ((c.tc : Thread Cert.RouteIdeal.nD Cert.RouteIdeal.τ).loc Cert.RouteIdeal.main_arg2) = m ((c.tc : Thread Cert.RouteIdeal.nD Cert.RouteIdeal.τ).loc Cert.RouteIdeal.main_arg2))
      ∧ θ_run (Cert.RouteRefIdeal.defs (F := Ideal)) (onTc (τ := Cert.RouteRefIdeal.τ) (Cert.RouteRefIdeal.main (F := Ideal))) ⟨m', fun _ => 0, g'⟩ (fun r => ∀ c : Dev Cert.RouteRefIdeal.nD,
          r.2.mem ((c.tc : Thread Cert.RouteRefIdeal.nD Cert.RouteRefIdeal.τ).loc Cert.RouteRefIdeal.main_v104) = v0 c
          ∧ r.2.mem ((c.tc : Thread Cert.RouteRefIdeal.nD Cert.RouteRefIdeal.τ).loc Cert.RouteRefIdeal.main_v106) = v1 c
          ∧ r.2.mem ((c.tc : Thread Cert.RouteRefIdeal.nD Cert.RouteRefIdeal.τ).loc Cert.RouteRefIdeal.main_v108) = v2 c
          ∧ r.2.mem ((c.tc : Thread Cert.RouteRefIdeal.nD Cert.RouteRefIdeal.τ).loc Cert.RouteRefIdeal.main_v110) = v3 c
          ∧ r.2.mem ((c.tc : Thread Cert.RouteRefIdeal.nD Cert.RouteRefIdeal.τ).loc Cert.RouteRefIdeal.main_v80) = v4 c
          ∧ r.2.mem ((c.tc : Thread Cert.RouteRefIdeal.nD Cert.RouteRefIdeal.τ).loc Cert.RouteRefIdeal.main_v92) = v5 c
          ∧ r.2.mem ((c.tc : Thread Cert.RouteRefIdeal.nD Cert.RouteRefIdeal.τ).loc Cert.RouteRefIdeal.main_v102) = v6 c
          ∧ r.2.mem ((c.tc : Thread Cert.RouteRefIdeal.nD Cert.RouteRefIdeal.τ).loc Cert.RouteRefIdeal.main_cst_21) = v7 c
          ∧ r.2.mem ((c.tc : Thread Cert.RouteRefIdeal.nD Cert.RouteRefIdeal.τ).loc Cert.RouteRefIdeal.main_arg0) = m' ((c.tc : Thread Cert.RouteRefIdeal.nD Cert.RouteRefIdeal.τ).loc Cert.RouteRefIdeal.main_arg0)
          ∧ r.2.mem ((c.tc : Thread Cert.RouteRefIdeal.nD Cert.RouteRefIdeal.τ).loc Cert.RouteRefIdeal.main_arg1) = m' ((c.tc : Thread Cert.RouteRefIdeal.nD Cert.RouteRefIdeal.τ).loc Cert.RouteRefIdeal.main_arg1)
          ∧ r.2.mem ((c.tc : Thread Cert.RouteRefIdeal.nD Cert.RouteRefIdeal.τ).loc Cert.RouteRefIdeal.main_arg2) = m' ((c.tc : Thread Cert.RouteRefIdeal.nD Cert.RouteRefIdeal.τ).loc Cert.RouteRefIdeal.main_arg2))

def Claim : Prop :=
  ∃ (hGather : Cert.Gather.Facts) (hGatherIdeal : Cert.GatherIdeal.Facts) (hGatherRefIdeal : Cert.GatherRefIdeal.Facts) (hCombine : Cert.Combine.Facts) (hCombineIdeal : Cert.CombineIdeal.Facts) (hCombineRefIdeal : Cert.CombineRefIdeal.Facts) (hFfn : Cert.Ffn.Facts) (hFfnIdeal : Cert.FfnIdeal.Facts) (hFfnRefIdeal : Cert.FfnRefIdeal.Facts) (hGate : Cert.Gate.Facts) (hGateIdeal : Cert.GateIdeal.Facts) (hGateRefIdeal : Cert.GateRefIdeal.Facts) (hRoute : Cert.Route.Facts) (hRouteIdeal : Cert.RouteIdeal.Facts) (hRouteRefIdeal : Cert.RouteRefIdeal.Facts) (hPre_in_tokens : Cert.Pre_in_tokens.Facts) (hPre_in_rows : Cert.Pre_in_rows.Facts) (hPre_in_experts : Cert.Pre_in_experts.Facts) (hPre_in_finite : Cert.Pre_in_finite.Facts),
    quiescent_Gather (hGather := hGather) (hPre_in_tokens := hPre_in_tokens)
    ∧ quiescent_GatherIdeal (hGatherIdeal := hGatherIdeal) (hPre_in_tokens := hPre_in_tokens)
    ∧ quiescent_GatherRefIdeal (hGatherRefIdeal := hGatherRefIdeal)
    ∧ quiescent_GatherRefIdeal_pre_in_tokens (hGatherRefIdeal := hGatherRefIdeal) (hPre_in_tokens := hPre_in_tokens)
    ∧ quiescent_Combine (hCombine := hCombine) (hPre_in_rows := hPre_in_rows)
    ∧ quiescent_CombineIdeal (hCombineIdeal := hCombineIdeal) (hPre_in_rows := hPre_in_rows)
    ∧ quiescent_CombineRefIdeal (hCombineRefIdeal := hCombineRefIdeal)
    ∧ quiescent_CombineRefIdeal_pre_in_rows (hCombineRefIdeal := hCombineRefIdeal) (hPre_in_rows := hPre_in_rows)
    ∧ quiescent_Ffn (hFfn := hFfn) (hPre_in_experts := hPre_in_experts)
    ∧ quiescent_FfnIdeal (hFfnIdeal := hFfnIdeal) (hPre_in_experts := hPre_in_experts)
    ∧ quiescent_FfnRefIdeal (hFfnRefIdeal := hFfnRefIdeal)
    ∧ quiescent_FfnRefIdeal_pre_in_experts (hFfnRefIdeal := hFfnRefIdeal) (hPre_in_experts := hPre_in_experts)
    ∧ quiescent_Gate (hGate := hGate)
    ∧ quiescent_GateIdeal (hGateIdeal := hGateIdeal)
    ∧ quiescent_GateIdeal_pre_in_finite (hGateIdeal := hGateIdeal) (hPre_in_finite := hPre_in_finite)
    ∧ quiescent_GateRefIdeal (hGateRefIdeal := hGateRefIdeal)
    ∧ quiescent_GateRefIdeal_pre_in_finite (hGateRefIdeal := hGateRefIdeal) (hPre_in_finite := hPre_in_finite)
    ∧ quiescent_Route (hRoute := hRoute)
    ∧ quiescent_RouteIdeal (hRouteIdeal := hRouteIdeal)
    ∧ quiescent_RouteIdeal_pre_in_finite (hRouteIdeal := hRouteIdeal) (hPre_in_finite := hPre_in_finite)
    ∧ quiescent_RouteRefIdeal (hRouteRefIdeal := hRouteRefIdeal)
    ∧ quiescent_RouteRefIdeal_pre_in_finite (hRouteRefIdeal := hRouteRefIdeal) (hPre_in_finite := hPre_in_finite)
    ∧ preserves_Gather_GatherIdeal
    ∧ algebraic_GatherIdeal_GatherRefIdeal (hGatherIdeal := hGatherIdeal) (hGatherRefIdeal := hGatherRefIdeal) (hPre_in_tokens := hPre_in_tokens)
    ∧ preserves_Combine_CombineIdeal
    ∧ algebraic_CombineIdeal_CombineRefIdeal (hCombineIdeal := hCombineIdeal) (hCombineRefIdeal := hCombineRefIdeal) (hPre_in_rows := hPre_in_rows)
    ∧ preserves_Ffn_FfnIdeal
    ∧ algebraic_FfnIdeal_FfnRefIdeal (hFfnIdeal := hFfnIdeal) (hFfnRefIdeal := hFfnRefIdeal) (hPre_in_experts := hPre_in_experts)
    ∧ preserves_Gate_GateIdeal
    ∧ algebraic_GateIdeal_GateRefIdeal_pre_in_finite (hGateIdeal := hGateIdeal) (hGateRefIdeal := hGateRefIdeal) (hPre_in_finite := hPre_in_finite)
    ∧ preserves_Route_RouteIdeal
    ∧ algebraic_RouteIdeal_RouteRefIdeal_pre_in_finite (hRouteIdeal := hRouteIdeal) (hRouteRefIdeal := hRouteRefIdeal) (hPre_in_finite := hPre_in_finite)
-- ==== Pre_in_experts.lean ====
abbrev S80 : Shape := ⟨1, ![80]⟩
abbrev S20480x1024 : Shape := ⟨2, ![20480, 1024]⟩
abbrev S16x1024x1024 : Shape := ⟨3, ![16, 1024, 1024]⟩
abbrev S16x1024 : Shape := ⟨2, ![16, 1024]⟩
abbrev S_ : Shape := ⟨0, ![]⟩

class Facts : Prop where
  bcast_S_S80 : S_.BroadcastsInDim S80 (![] : Fin 0 → Fin S80.rank)
  reducesTo_S80_S_d0 : S80.ReducesTo [0] S_
  h_S_ : 0 < S_.numel

variable [Facts]

def fn {F : FTy → Type} [FloatOps F] (main_arg0 : IVec S80 32) (main_arg1 : FVec F S20480x1024 .f32) (main_arg2 : FVec F S16x1024x1024 .f32) (main_arg3 : FVec F S16x1024 .f32) (main_arg4 : FVec F S16x1024x1024 .f32) (main_arg5 : FVec F S16x1024 .f32) : IVec S_ 1 :=
  let main_c : IVec S_ 32 := constantI S_ 32 0#32
  let main_v0 : IVec S80 32 := broadcastInDim S80 ![] bcast_S_S80 main_c
  let main_v1 : IVec S80 1 := cmpi .sge main_arg0 main_v0
  let main_c_0 : IVec S_ 32 := constantI S_ 32 16#32
  let main_v2 : IVec S80 32 := broadcastInDim S80 ![] bcast_S_S80 main_c_0
  let main_v3 : IVec S80 1 := cmpi .slt main_arg0 main_v2
  let main_v4 : IVec S80 1 := andi main_v1 main_v3
  let main_c_1 : IVec S_ 1 := constantI S_ 1 1#1
  let main_v5 : IVec S_ 1 := (fun x v => Host.reduce IntOp.andi x v reducesTo_S80_S_d0 h_S_) main_v4 main_c_1
  main_v5
-- ==== Pre_in_finite.lean ====
abbrev S8192x1024 : Shape := ⟨2, ![8192, 1024]⟩
abbrev S1024x16 : Shape := ⟨2, ![1024, 16]⟩
abbrev S16 : Shape := ⟨1, ![16]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x16 : S_.BroadcastsInDim S1024x16 (![] : Fin 0 → Fin S1024x16.rank)
  reducesTo_S1024x16_S_d0_1 : S1024x16.ReducesTo [0, 1] S_
  bcast_S_S16 : S_.BroadcastsInDim S16 (![] : Fin 0 → Fin S16.rank)
  reducesTo_S16_S_d0 : S16.ReducesTo [0] S_

variable [Facts]

def fn {F : FTy → Type} [FloatOps F] (main_arg0 : FVec F S8192x1024 .f32) (main_arg1 : FVec F S1024x16 .f32) (main_arg2 : FVec F S16 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024x16 .f32 := Host.absf main_arg1
  let main_cst_0 : FVec F S_ .f32 := constant S_ .f32 0x7F800000#32
  let main_v5 : FVec F S1024x16 .f32 := broadcastInDim S1024x16 ![] bcast_S_S1024x16 main_cst_0
  let main_v6 : IVec S1024x16 1 := cmpf .olt main_v4 main_v5
  let main_c_1 : IVec S_ 1 := constantI S_ 1 1#1
  let main_v7 : IVec S_ 1 := (fun x v => Host.reduce IntOp.andi x v reducesTo_S1024x16_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  main_v13
-- ==== Pre_in_rows.lean ====
abbrev S20480x1024 : Shape := ⟨2, ![20480, 1024]⟩
abbrev S8192x2 : Shape := ⟨2, ![8192, 2]⟩
abbrev S_ : Shape := ⟨0, ![]⟩

class Facts : Prop where
  bcast_S_S8192x2 : S_.BroadcastsInDim S8192x2 (![] : Fin 0 → Fin S8192x2.rank)
  reducesTo_S8192x2_S_d0_1 : S8192x2.ReducesTo [0, 1] S_
  h_S_ : 0 < S_.numel

variable [Facts]

def fn {F : FTy → Type} [FloatOps F] (main_arg0 : FVec F S20480x1024 .f32) (main_arg1 : IVec S8192x2 32) (main_arg2 : FVec F S8192x2 .f32) : IVec S_ 1 :=
  let main_c : IVec S_ 32 := constantI S_ 32 0#32
  let main_v0 : IVec S8192x2 32 := broadcastInDim S8192x2 ![] bcast_S_S8192x2 main_c
  let main_v1 : IVec S8192x2 1 := cmpi .sge main_arg1 main_v0
  let main_c_0 : IVec S_ 32 := constantI S_ 32 20480#32
  let main_v2 : IVec S8192x2 32 := broadcastInDim S8192x2 ![] bcast_S_S8192x2 main_c_0
  let main_v3 : IVec S8192x2 1 := cmpi .slt main_arg1 main_v2
  let main_v4 : IVec S8192x2 1 := andi main_v1 main_v3
  let main_c_1 : IVec S_ 1 := constantI S_ 1 1#1
  let main_v5 : IVec S_ 1 := (fun x v => Host.reduce IntOp.andi x v reducesTo_S8192x2_S_d0_1 h_S_) main_v4 main_c_1
  main_v5
-- ==== Pre_in_tokens.lean ====
abbrev S8192x1024 : Shape := ⟨2, ![8192, 1024]⟩
abbrev S32x20x32 : Shape := ⟨3, ![32, 20, 32]⟩
abbrev S_ : Shape := ⟨0, ![]⟩

class Facts : Prop where
  bcast_S_S32x20x32 : S_.BroadcastsInDim S32x20x32 (![] : Fin 0 → Fin S32x20x32.rank)
  reducesTo_S32x20x32_S_d0_1_2 : S32x20x32.ReducesTo [0, 1, 2] S_
  h_S_ : 0 < S_.numel

variable [Facts]

def fn {F : FTy → Type} [FloatOps F] (main_arg0 : FVec F S8192x1024 .f32) (main_arg1 : IVec S32x20x32 32) : IVec S_ 1 :=
  let main_c : IVec S_ 32 := constantI S_ 32 0#32
  let main_v0 : IVec S32x20x32 32 := broadcastInDim S32x20x32 ![] bcast_S_S32x20x32 main_c
  let main_v1 : IVec S32x20x32 1 := cmpi .sge main_arg1 main_v0
  let main_c_0 : IVec S_ 32 := constantI S_ 32 8192#32
  let main_v2 : IVec S32x20x32 32 := broadcastInDim S32x20x32 ![] bcast_S_S32x20x32 main_c_0
  let main_v3 : IVec S32x20x32 1 := cmpi .slt main_arg1 main_v2
  let main_v4 : IVec S32x20x32 1 := andi main_v1 main_v3
  let main_c_1 : IVec S_ 1 := constantI S_ 1 1#1
  let main_v5 : IVec S_ 1 := (fun x v => Host.reduce IntOp.andi x v reducesTo_S32x20x32_S_d0_1_2 h_S_) main_v4 main_c_1
  main_v5
-- ==== Gather.lean ====
abbrev S8192x1024 : Shape := ⟨2, ![8192, 1024]⟩
abbrev S32x20x32 : Shape := ⟨3, ![32, 20, 32]⟩
abbrev S32768x2x128 : Shape := ⟨3, ![32768, 2, 128]⟩
abbrev S32x20x32x1 : Shape := ⟨4, ![32, 20, 32, 1]⟩
abbrev S_ : Shape := ⟨0, ![]⟩
abbrev S4 : Shape := ⟨1, ![4]⟩
abbrev S1x1x1x4 : Shape := ⟨4, ![1, 1, 1, 4]⟩
abbrev S32x20x32x4 : Shape := ⟨4, ![32, 20, 32, 4]⟩
abbrev S32x20x128 : Shape := ⟨3, ![32, 20, 128]⟩
abbrev S640x128x2x128 : Shape := ⟨4, ![640, 128, 2, 128]⟩
abbrev S20x128 : Shape := ⟨2, ![20, 128]⟩
abbrev S128x2x128 : Shape := ⟨3, ![128, 2, 128]⟩
abbrev S1x20x128 : Shape := ⟨3, ![1, 20, 128]⟩
abbrev S1x128 : Shape := ⟨2, ![1, 128]⟩
abbrev S128 : Shape := ⟨1, ![128]⟩
abbrev S1x128x2x128 : Shape := ⟨4, ![1, 128, 2, 128]⟩
abbrev S20480x1024 : Shape := ⟨2, ![20480, 1024]⟩

abbrev nBuf : Table → Nat
  | .hbm => 15
  | .local .scVector .vmem => 3
  | _ => 0

abbrev bufTy : (tb : Table) → Fin (nBuf tb) → BufTy
  | .hbm, ⟨0, _⟩ => ⟨S8192x1024, .f32⟩
  | .hbm, ⟨1, _⟩ => ⟨S32x20x32, .i32⟩
  | .hbm, ⟨2, _⟩ => ⟨S32768x2x128, .f32⟩
  | .hbm, ⟨3, _⟩ => ⟨S32x20x32x1, .i32⟩
  | .hbm, ⟨4, _⟩ => ⟨S_, .i32⟩
  | .hbm, ⟨5, _⟩ => ⟨S32x20x32x1, .i32⟩
  | .hbm, ⟨6, _⟩ => ⟨S32x20x32x1, .i32⟩
  | .hbm, ⟨7, _⟩ => ⟨S4, .i32⟩
  | .hbm, ⟨8, _⟩ => ⟨S1x1x1x4, .i32⟩
  | .hbm, ⟨9, _⟩ => ⟨S32x20x32x4, .i32⟩
  | .hbm, ⟨10, _⟩ => ⟨S32x20x32x4, .i32⟩
  | .hbm, ⟨11, _⟩ => ⟨S32x20x32x4, .i32⟩
  | .hbm, ⟨12, _⟩ => ⟨S32x20x128, .i32⟩
  | .hbm, ⟨13, _⟩ => ⟨S640x128x2x128, .f32⟩
  | .hbm, ⟨14, _⟩ => ⟨S20480x1024, .f32⟩
  | .local .scVector .vmem, ⟨0, _⟩ => ⟨S20x128, .i32⟩
  | .local .scVector .vmem, ⟨1, _⟩ => ⟨S128x2x128, .f32⟩
  | .local .scVector .vmem, ⟨2, _⟩ => ⟨S128x2x128, .f32⟩
  | _, _ => ⟨S8192x1024, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 23 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | _ => false

abbrev sig : RefSig :=
  ofTables nBuf rfl bufTy 4 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v0_scv : Ref sig .scVector := ⟨.hbm, 2, rfl⟩
abbrev main_v9_scv : Ref sig .scVector := ⟨.hbm, 12, rfl⟩
abbrev main_v10_scv : Ref sig .scVector := ⟨.hbm, 13, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_201_r0 : BitVec 32 := 0#32
  let c0_i32_202_r0 : BitVec 32 := 0#32
  ![v1.toNat, 0, 0]
def k0_off2 (i : grid0.Coords) (c0_i32_13 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c20_i32 : BitVec 32 := 20#32
  let v2 : BitVec 32 := Scalar.muli v1 c20_i32
  let v12 : BitVec 32 := Scalar.addi v2 c0_i32_13
  let c0_i32_201_r1 : BitVec 32 := 0#32
  let c0_i32_202_r1 : BitVec 32 := 0#32
  let c0_i32_203_r1 : BitVec 32 := 0#32
  ![v12.toNat, 0, 0, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== GatherRefIdeal.lean ====
abbrev S8192x1024 : Shape := ⟨2, ![8192, 1024]⟩
abbrev S32x20x32 : Shape := ⟨3, ![32, 20, 32]⟩
abbrev S20480 : Shape := ⟨1, ![20480]⟩
abbrev S_ : Shape := ⟨0, ![]⟩
abbrev S20480x1 : Shape := ⟨2, ![20480, 1]⟩
abbrev S20480x1024 : Shape := ⟨2, ![20480, 1024]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S32x20x32, .i32⟩
  | .hbm, ⟨2, _⟩ => ⟨S20480, .i32⟩
  | .hbm, ⟨3, _⟩ => ⟨S_, .i32⟩
  | .hbm, ⟨4, _⟩ => ⟨S20480, .i32⟩
  | .hbm, ⟨5, _⟩ => ⟨S20480, .i1⟩
  | .hbm, ⟨6, _⟩ => ⟨S_, .i32⟩
  | .hbm, ⟨7, _⟩ => ⟨S20480, .i32⟩
  | .hbm, ⟨8, _⟩ => ⟨S20480, .i32⟩
  | .hbm, ⟨9, _⟩ => ⟨S20480, .i32⟩
  | .hbm, ⟨10, _⟩ => ⟨S20480x1, .i32⟩
  | .hbm, ⟨11, _⟩ => ⟨S20480x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Combine.lean ====
abbrev S20480x1024 : Shape := ⟨2, ![20480, 1024]⟩
abbrev S8192x2 : Shape := ⟨2, ![8192, 2]⟩
abbrev S512x32 : Shape := ⟨2, ![512, 32]⟩
abbrev S8192x1 : Shape := ⟨2, ![8192, 1]⟩
abbrev S8192x16 : Shape := ⟨2, ![8192, 16]⟩
abbrev S81920x2x128 : Shape := ⟨3, ![81920, 2, 128]⟩
abbrev S512x32x1 : Shape := ⟨3, ![512, 32, 1]⟩
abbrev S_ : Shape := ⟨0, ![]⟩
abbrev S4 : Shape := ⟨1, ![4]⟩
abbrev S1x1x4 : Shape := ⟨3, ![1, 1, 4]⟩
abbrev S512x32x4 : Shape := ⟨3, ![512, 32, 4]⟩
abbrev S512x128 : Shape := ⟨2, ![512, 128]⟩
abbrev S8192x1024 : Shape := ⟨2, ![8192, 1024]⟩
abbrev S16x128 : Shape := ⟨2, ![16, 128]⟩
abbrev S256x16 : Shape := ⟨2, ![256, 16]⟩
abbrev S128x2x128 : Shape := ⟨3, ![128, 2, 128]⟩
abbrev S16x1024 : Shape := ⟨2, ![16, 1024]⟩
abbrev S1x128 : Shape := ⟨2, ![1, 128]⟩
abbrev S128 : Shape := ⟨1, ![128]⟩
abbrev S1x16 : Shape := ⟨2, ![1, 16]⟩
abbrev S16 : Shape := ⟨1, ![16]⟩
abbrev S1x1x16 : Shape := ⟨3, ![1, 1, 16]⟩

abbrev nBuf : Table → Nat
  | .hbm => 20
  | .local .scVector .vmem => 6
  | _ => 0

abbrev bufTy : (tb : Table) → Fin (nBuf tb) → BufTy
  | .hbm, ⟨0, _⟩ => ⟨S20480x1024, .f32⟩
  | .hbm, ⟨1, _⟩ => ⟨S8192x2, .i32⟩
  | .hbm, ⟨2, _⟩ => ⟨S8192x2, .f32⟩
  | .hbm, ⟨3, _⟩ => ⟨S512x32, .i32⟩
  | .hbm, ⟨4, _⟩ => ⟨S8192x1, .f32⟩
  | .hbm, ⟨5, _⟩ => ⟨S8192x16, .f32⟩
  | .hbm, ⟨6, _⟩ => ⟨S8192x1, .f32⟩
  | .hbm, ⟨7, _⟩ => ⟨S8192x16, .f32⟩
  | .hbm, ⟨8, _⟩ => ⟨S81920x2x128, .f32⟩
  | .hbm, ⟨9, _⟩ => ⟨S512x32x1, .i32⟩
  | .hbm, ⟨10, _⟩ => ⟨S_, .i32⟩
  | .hbm, ⟨11, _⟩ => ⟨S512x32x1, .i32⟩
  | .hbm, ⟨12, _⟩ => ⟨S512x32x1, .i32⟩
  | .hbm, ⟨13, _⟩ => ⟨S4, .i32⟩
  | .hbm, ⟨14, _⟩ => ⟨S1x1x4, .i32⟩
  | .hbm, ⟨15, _⟩ => ⟨S512x32x4, .i32⟩
  | .hbm, ⟨16, _⟩ => ⟨S512x32x4, .i32⟩
  | .hbm, ⟨17, _⟩ => ⟨S512x32x4, .i32⟩
  | .hbm, ⟨18, _⟩ => ⟨S512x128, .i32⟩
  | .hbm, ⟨19, _⟩ => ⟨S8192x1024, .f32⟩
  | .local .scVector .vmem, ⟨0, _⟩ => ⟨S16x128, .i32⟩
  | .local .scVector .vmem, ⟨1, _⟩ => ⟨S256x16, .f32⟩
  | .local .scVector .vmem, ⟨2, _⟩ => ⟨S256x16, .f32⟩
  | .local .scVector .vmem, ⟨3, _⟩ => ⟨S128x2x128, .f32⟩
  | .local .scVector .vmem, ⟨4, _⟩ => ⟨S128x2x128, .f32⟩
  | .local .scVector .vmem, ⟨5, _⟩ => ⟨S16x1024, .f32⟩
  | _, _ => ⟨S20480x1024, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 21 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | _ => false

abbrev sig : RefSig :=
  ofTables nBuf rfl bufTy 4 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v5_scv : Ref sig .scVector := ⟨.hbm, 8, rfl⟩
abbrev main_v14_scv : Ref sig .scVector := ⟨.hbm, 18, rfl⟩
abbrev main_v2_scv : Ref sig .scVector := ⟨.hbm, 5, rfl⟩
abbrev main_v4_scv : Ref sig .scVector := ⟨.hbm, 7, rfl⟩
abbrev main_v15_scv : Ref sig .scVector := ⟨.hbm, 19, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_257_r0 : BitVec 32 := 0#32
  ![v2.toNat, 0]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v3 : BitVec 32 := Scalar.muli v1 c256_i32
  let c0_i32_257_r1 : BitVec 32 := 0#32
  ![v3.toNat, 0]
@[reducible] def k0_t1_loop : Scf.Loop 32 :=
  let c0_i32_14 : BitVec 32 := 0#32
  let c16_i32_15 : BitVec 32 := 16#32
  let v13 : BitVec 32 := Scalar.addi c0_i32_14 c16_i32_15
  let c1_i32_16 : BitVec 32 := 1#32
  ⟨c0_i32_14, v13, c1_i32_16⟩
def k0_off3 (k0_t1 : Fin k0_t1_loop.trips) : Fin 2 → Nat :=
  let c0_i32_257 : BitVec 32 := 0#32
  let c0_i32_14 : BitVec 32 := 0#32
  let c1_i32_16 : BitVec 32 := 1#32
  let arg15 : BitVec 32 := Scf.iv c0_i32_14 c1_i32_16 k0_t1
  let v164 : BitVec 32 := Scalar.addi c0_i32_257 arg15
  let v165 : Index := Scalar.indexCast v164
  let c0 : Index := 0#32
  ![v165.toNat, 0]
@[reducible] def k0_t2_loop : Scf.Loop 32 :=
  let c0_i32_261 : BitVec 32 := 0#32
  let c64_i32 : BitVec 32 := 64#32
  let v172 : BitVec 32 := Scalar.addi c0_i32_261 c64_i32
  let c1_i32_262 : BitVec 32 := 1#32
  ⟨c0_i32_261, v172, c1_i32_262⟩
def k0_off4 (k0_t1 : Fin k0_t1_loop.trips) (k0_t2 : Fin k0_t2_loop.trips) : Fin 3 → Nat :=
  let c8_i32_271 : BitVec 32 := 8#32
  let c0_i32_14 : BitVec 32 := 0#32
  let c1_i32_16 : BitVec 32 := 1#32
  let arg15 : BitVec 32 := Scf.iv c0_i32_14 c1_i32_16 k0_t1
  let v180 : BitVec 32 := Scalar.muli c8_i32_271 arg15
  let c0_i32_261 : BitVec 32 := 0#32
  let c1_i32_262 : BitVec 32 := 1#32
  let arg17 : BitVec 32 := Scf.iv c0_i32_261 c1_i32_262 k0_t2
  let c4_i32_266 : BitVec 32 := 4#32
  let v175 : BitVec 32 := Scalar.shrsi arg17 c4_i32_266
  let v181 : BitVec 32 := Scalar.addi v180 v175
  let v182 : Index := Scalar.indexCast v181
  let c3_i32_267 : BitVec 32 := 3#32
  let v176 : BitVec 32 := Scalar.shrsi arg17 c3_i32_267
  let c1_i32_268 : BitVec 32 := 1#32
  let v177 : BitVec 32 := Scalar.andi v176 c1_i32_268
  let v183 : Index := Scalar.indexCast v177
  let c7_i32_269 : BitVec 32 := 7#32
  let v178 : BitVec 32 := Scalar.andi arg17 c7_i32_269
  let c16_i32_270 : BitVec 32 := 16#32
  let v179 : BitVec 32 := Scalar.muli v178 c16_i32_270
  let v184 : Index := Scalar.indexCast v179
  ![v182.toNat, v183.toNat, v184.toNat]
def k0_off5 (k0_t1 : Fin k0_t1_loop.trips) (k0_t2 : Fin k0_t2_loop.trips) : Fin 3 → Nat :=
  let c8_i32_272 : BitVec 32 := 8#32
  let c0_i32_14 : BitVec 32 := 0#32
  let c1_i32_16 : BitVec 32 := 1#32
  let arg15 : BitVec 32 := Scf.iv c0_i32_14 c1_i32_16 k0_t1
  let v188 : BitVec 32 := Scalar.muli c8_i32_272 arg15
  let c4_i32_273 : BitVec 32 := 4#32
  let v189 : BitVec 32 := Scalar.addi v188 c4_i32_273
  let c0_i32_261 : BitVec 32 := 0#32
  let c1_i32_262 : BitVec 32 := 1#32
  let arg17 : BitVec 32 := Scf.iv c0_i32_261 c1_i32_262 k0_t2
  let c4_i32_266 : BitVec 32 := 4#32
  let v175 : BitVec 32 := Scalar.shrsi arg17 c4_i32_266
  let v190 : BitVec 32 := Scalar.addi v189 v175
  let v191 : Index := Scalar.indexCast v190
  let c3_i32_267 : BitVec 32 := 3#32
  let v176 : BitVec 32 := Scalar.shrsi arg17 c3_i32_267
  let c1_i32_268 : BitVec 32 := 1#32
  let v177 : BitVec 32 := Scalar.andi v176 c1_i32_268
  let v192 : Index := Scalar.indexCast v177
  let c7_i32_269 : BitVec 32 := 7#32
  let v178 : BitVec 32 := Scalar.andi arg17 c7_i32_269
  let c16_i32_270 : BitVec 32 := 16#32
  let v179 : BitVec 32 := Scalar.muli v178 c16_i32_270
  let v193 : Index := Scalar.indexCast v179
  ![v191.toNat, v192.toNat, v193.toNat]
def k0_off6 (k0_t1 : Fin k0_t1_loop.trips) (k0_t2 : Fin k0_t2_loop.trips) : Fin 2 → Nat :=
  let c0_i32_14 : BitVec 32 := 0#32
  let c1_i32_16 : BitVec 32 := 1#32
  let arg15 : BitVec 32 := Scf.iv c0_i32_14 c1_i32_16 k0_t1
  let v198 : Index := Scalar.indexCast arg15
  let c0_i32_261 : BitVec 32 := 0#32
  let c1_i32_262 : BitVec 32 := 1#32
  let arg17 : BitVec 32 := Scf.iv c0_i32_261 c1_i32_262 k0_t2
  let c16_i32_265 : BitVec 32 := 16#32
  let v174 : BitVec 32 := Scalar.muli arg17 c16_i32_265
  let v199 : Index := Scalar.indexCast v174
  ![v198.toNat, v199.toNat]
def k0_off7 (i : grid0.Coords) (c0_i32_18 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let v15 : BitVec 32 := Scalar.addi v2 c0_i32_18
  let c16_i32_19 : BitVec 32 := 16#32
  let v16 : BitVec 32 := Scalar.muli v15 c16_i32_19
  let c0_i32_257_r3 : BitVec 32 := 0#32
  ![v16.toNat, 0]
@[reducible] def k0_t3_loop : Scf.Loop 32 :=
  let c0_i32_31 : BitVec 32 := 0#32
  let c16_i32_32 : BitVec 32 := 16#32
  let v23 : BitVec 32 := Scalar.addi c0_i32_31 c16_i32_32
  let c1_i32_33 : BitVec 32 := 1#32
  ⟨c0_i32_31, v23, c1_i32_33⟩
def k0_off8 (k0_t3 : Fin k0_t3_loop.trips) : Fin 2 → Nat :=
  let c16_i32_257 : BitVec 32 := 16#32
  let c0_i32_31 : BitVec 32 := 0#32
  let c1_i32_33 : BitVec 32 := 1#32
  let arg15 : BitVec 32 := Scf.iv c0_i32_31 c1_i32_33 k0_t3
  let v164 : BitVec 32 := Scalar.addi c16_i32_257 arg15
  let v165 : Index := Scalar.indexCast v164
  let c0 : Index := 0#32
  ![v165.toNat, 0]
@[reducible] def k0_t4_loop : Scf.Loop 32 :=
  let c0_i32_261 : BitVec 32 := 0#32
  let c64_i32 : BitVec 32 := 64#32
  let v172 : BitVec 32 := Scalar.addi c0_i32_261 c64_i32
  let c1_i32_262 : BitVec 32 := 1#32
  ⟨c0_i32_261, v172, c1_i32_262⟩
def k0_off9 (k0_t3 : Fin k0_t3_loop.trips) (k0_t4 : Fin k0_t4_loop.trips) : Fin 3 → Nat :=
  let c8_i32_271 : BitVec 32 := 8#32
  let c0_i32_31 : BitVec 32 := 0#32
  let c1_i32_33 : BitVec 32 := 1#32
  let arg15 : BitVec 32 := Scf.iv c0_i32_31 c1_i32_33 k0_t3
  let v180 : BitVec 32 := Scalar.muli c8_i32_271 arg15
  let c0_i32_261 : BitVec 32 := 0#32
  let c1_i32_262 : BitVec 32 := 1#32
  let arg17 : BitVec 32 := Scf.iv c0_i32_261 c1_i32_262 k0_t4
  let c4_i32_266 : BitVec 32 := 4#32
  let v175 : BitVec 32 := Scalar.shrsi arg17 c4_i32_266
  let v181 : BitVec 32 := Scalar.addi v180 v175
  let v182 : Index := Scalar.indexCast v181
  let c3_i32_267 : BitVec 32 := 3#32
  let v176 : BitVec 32 := Scalar.shrsi arg17 c3_i32_267
  let c1_i32_268 : BitVec 32 := 1#32
  let v177 : BitVec 32 := Scalar.andi v176 c1_i32_268
  let v183 : Index := Scalar.indexCast v177
  let c7_i32_269 : BitVec 32 := 7#32
  let v178 : BitVec 32 := Scalar.andi arg17 c7_i32_269
  let c16_i32_270 : BitVec 32 := 16#32
  let v179 : BitVec 32 := Scalar.muli v178 c16_i32_270
  let v184 : Index := Scalar.indexCast v179
  ![v182.toNat, v183.toNat, v184.toNat]
def k0_off10 (k0_t3 : Fin k0_t3_loop.trips) (k0_t4 : Fin k0_t4_loop.trips) : Fin 3 → Nat :=
  let c8_i32_272 : BitVec 32 := 8#32
  let c0_i32_31 : BitVec 32 := 0#32
  let c1_i32_33 : BitVec 32 := 1#32
  let arg15 : BitVec 32 := Scf.iv c0_i32_31 c1_i32_33 k0_t3
  let v188 : BitVec 32 := Scalar.muli c8_i32_272 arg15
  let c4_i32_273 : BitVec 32 := 4#32
  let v189 : BitVec 32 := Scalar.addi v188 c4_i32_273
  let c0_i32_261 : BitVec 32 := 0#32
  let c1_i32_262 : BitVec 32 := 1#32
  let arg17 : BitVec 32 := Scf.iv c0_i32_261 c1_i32_262 k0_t4
  let c4_i32_266 : BitVec 32 := 4#32
  let v175 : BitVec 32 := Scalar.shrsi arg17 c4_i32_266
  let v190 : BitVec 32 := Scalar.addi v189 v175
  let v191 : Index := Scalar.indexCast v190
  let c3_i32_267 : BitVec 32 := 3#32
  let v176 : BitVec 32 := Scalar.shrsi arg17 c3_i32_267
  let c1_i32_268 : BitVec 32 := 1#32
  let v177 : BitVec 32 := Scalar.andi v176 c1_i32_268
  let v192 : Index := Scalar.indexCast v177
  let c7_i32_269 : BitVec 32 := 7#32
  let v178 : BitVec 32 := Scalar.andi arg17 c7_i32_269
  let c16_i32_270 : BitVec 32 := 16#32
  let v179 : BitVec 32 := Scalar.muli v178 c16_i32_270
  let v193 : Index := Scalar.indexCast v179
  ![v191.toNat, v192.toNat, v193.toNat]
def k0_off11 (k0_t3 : Fin k0_t3_loop.trips) (k0_t4 : Fin k0_t4_loop.trips) : Fin 2 → Nat :=
  let c0_i32_31 : BitVec 32 := 0#32
  let c1_i32_33 : BitVec 32 := 1#32
  let arg15 : BitVec 32 := Scf.iv c0_i32_31 c1_i32_33 k0_t3
  let v198 : Index := Scalar.indexCast arg15
  let c0_i32_261 : BitVec 32 := 0#32
  let c1_i32_262 : BitVec 32 := 1#32
  let arg17 : BitVec 32 := Scf.iv c0_i32_261 c1_i32_262 k0_t4
  let c16_i32_265 : BitVec 32 := 16#32
  let v174 : BitVec 32 := Scalar.muli arg17 c16_i32_265
  let v199 : Index := Scalar.indexCast v174
  ![v198.toNat, v199.toNat]
@[reducible] def k0_t5_loop : Scf.Loop 32 :=
  let c0_i32_47 : BitVec 32 := 0#32
  let c16_i32_48 : BitVec 32 := 16#32
  let v33 : BitVec 32 := Scalar.addi c0_i32_47 c16_i32_48
  let c1_i32_49 : BitVec 32 := 1#32
  ⟨c0_i32_47, v33, c1_i32_49⟩
def k0_off12 (k0_t5 : Fin k0_t5_loop.trips) : Fin 2 → Nat :=
  let c32_i32 : BitVec 32 := 32#32
  let c0_i32_47 : BitVec 32 := 0#32
  let c1_i32_49 : BitVec 32 := 1#32
  let arg15 : BitVec 32 := Scf.iv c0_i32_47 c1_i32_49 k0_t5
  let v164 : BitVec 32 := Scalar.addi c32_i32 arg15
  let v165 : Index := Scalar.indexCast v164
  let c0 : Index := 0#32
  ![v165.toNat, 0]
@[reducible] def k0_t6_loop : Scf.Loop 32 :=
  let c0_i32_260 : BitVec 32 := 0#32
  let c64_i32 : BitVec 32 := 64#32
  let v172 : BitVec 32 := Scalar.addi c0_i32_260 c64_i32
  let c1_i32_261 : BitVec 32 := 1#32
  ⟨c0_i32_260, v172, c1_i32_261⟩
def k0_off13 (k0_t5 : Fin k0_t5_loop.trips) (k0_t6 : Fin k0_t6_loop.trips) : Fin 3 → Nat :=
  let c8_i32_270 : BitVec 32 := 8#32
  let c0_i32_47 : BitVec 32 := 0#32
  let c1_i32_49 : BitVec 32 := 1#32
  let arg15 : BitVec 32 := Scf.iv c0_i32_47 c1_i32_49 k0_t5
  let v180 : BitVec 32 := Scalar.muli c8_i32_270 arg15
  let c0_i32_260 : BitVec 32 := 0#32
  let c1_i32_261 : BitVec 32 := 1#32
  let arg17 : BitVec 32 := Scf.iv c0_i32_260 c1_i32_261 k0_t6
  let c4_i32_265 : BitVec 32 := 4#32
  let v175 : BitVec 32 := Scalar.shrsi arg17 c4_i32_265
  let v181 : BitVec 32 := Scalar.addi v180 v175
  let v182 : Index := Scalar.indexCast v181
  let c3_i32_266 : BitVec 32 := 3#32
  let v176 : BitVec 32 := Scalar.shrsi arg17 c3_i32_266
  let c1_i32_267 : BitVec 32 := 1#32
  let v177 : BitVec 32 := Scalar.andi v176 c1_i32_267
  let v183 : Index := Scalar.indexCast v177
  let c7_i32_268 : BitVec 32 := 7#32
  let v178 : BitVec 32 := Scalar.andi arg17 c7_i32_268
  let c16_i32_269 : BitVec 32 := 16#32
  let v179 : BitVec 32 := Scalar.muli v178 c16_i32_269
  let v184 : Index := Scalar.indexCast v179
  ![v182.toNat, v183.toNat, v184.toNat]
def k0_off14 (k0_t5 : Fin k0_t5_loop.trips) (k0_t6 : Fin k0_t6_loop.trips) : Fin 3 → Nat :=
  let c8_i32_271 : BitVec 32 := 8#32
  let c0_i32_47 : BitVec 32 := 0#32
  let c1_i32_49 : BitVec 32 := 1#32
  let arg15 : BitVec 32 := Scf.iv c0_i32_47 c1_i32_49 k0_t5
  let v188 : BitVec 32 := Scalar.muli c8_i32_271 arg15
  let c4_i32_272 : BitVec 32 := 4#32
  let v189 : BitVec 32 := Scalar.addi v188 c4_i32_272
  let c0_i32_260 : BitVec 32 := 0#32
  let c1_i32_261 : BitVec 32 := 1#32
  let arg17 : BitVec 32 := Scf.iv c0_i32_260 c1_i32_261 k0_t6
  let c4_i32_265 : BitVec 32 := 4#32
  let v175 : BitVec 32 := Scalar.shrsi arg17 c4_i32_265
  let v190 : BitVec 32 := Scalar.addi v189 v175
  let v191 : Index := Scalar.indexCast v190
  let c3_i32_266 : BitVec 32 := 3#32
  let v176 : BitVec 32 := Scalar.shrsi arg17 c3_i32_266
  let c1_i32_267 : BitVec 32 := 1#32
  let v177 : BitVec 32 := Scalar.andi v176 c1_i32_267
  let v192 : Index := Scalar.indexCast v177
  let c7_i32_268 : BitVec 32 := 7#32
  let v178 : BitVec 32 := Scalar.andi arg17 c7_i32_268
  let c16_i32_269 : BitVec 32 := 16#32
  let v179 : BitVec 32 := Scalar.muli v178 c16_i32_269
  let v193 : Index := Scalar.indexCast v179
  ![v191.toNat, v192.toNat, v193.toNat]
def k0_off15 (k0_t5 : Fin k0_t5_loop.trips) (k0_t6 : Fin k0_t6_loop.trips) : Fin 2 → Nat :=
  let c0_i32_47 : BitVec 32 := 0#32
  let c1_i32_49 : BitVec 32 := 1#32
  let arg15 : BitVec 32 := Scf.iv c0_i32_47 c1_i32_49 k0_t5
  let v198 : Index := Scalar.indexCast arg15
  let c0_i32_260 : BitVec 32 := 0#32
  let c1_i32_261 : BitVec 32 := 1#32
  let arg17 : BitVec 32 := Scf.iv c0_i32_260 c1_i32_261 k0_t6
  let c16_i32_264 : BitVec 32 := 16#32
  let v174 : BitVec 32 := Scalar.muli arg17 c16_i32_264
  let v199 : Index := Scalar.indexCast v174
  ![v198.toNat, v199.toNat]
@[reducible] def k0_t7_loop : Scf.Loop 32 :=
  let c0_i32_63 : BitVec 32 := 0#32
  let c16_i32_64 : BitVec 32 := 16#32
  let v43 : BitVec 32 := Scalar.addi c0_i32_63 c16_i32_64
  let c1_i32_65 : BitVec 32 := 1#32
  ⟨c0_i32_63, v43, c1_i32_65⟩
def k0_off16 (k0_t7 : Fin k0_t7_loop.trips) : Fin 2 → Nat :=
  let c48_i32 : BitVec 32 := 48#32
  let c0_i32_63 : BitVec 32 := 0#32
  let c1_i32_65 : BitVec 32 := 1#32
  let arg15 : BitVec 32 := Scf.iv c0_i32_63 c1_i32_65 k0_t7
  let v164 : BitVec 32 := Scalar.addi c48_i32 arg15
  let v165 : Index := Scalar.indexCast v164
  let c0 : Index := 0#32
  ![v165.toNat, 0]
@[reducible] def k0_t8_loop : Scf.Loop 32 :=
  let c0_i32_260 : BitVec 32 := 0#32
  let c64_i32 : BitVec 32 := 64#32
  let v172 : BitVec 32 := Scalar.addi c0_i32_260 c64_i32
  let c1_i32_261 : BitVec 32 := 1#32
  ⟨c0_i32_260, v172, c1_i32_261⟩
def k0_off17 (k0_t7 : Fin k0_t7_loop.trips) (k0_t8 : Fin k0_t8_loop.trips) : Fin 3 → Nat :=
  let c8_i32_270 : BitVec 32 := 8#32
  let c0_i32_63 : BitVec 32 := 0#32
  let c1_i32_65 : BitVec 32 := 1#32
  let arg15 : BitVec 32 := Scf.iv c0_i32_63 c1_i32_65 k0_t7
  let v180 : BitVec 32 := Scalar.muli c8_i32_270 arg15
  let c0_i32_260 : BitVec 32 := 0#32
  let c1_i32_261 : BitVec 32 := 1#32
  let arg17 : BitVec 32 := Scf.iv c0_i32_260 c1_i32_261 k0_t8
  let c4_i32_265 : BitVec 32 := 4#32
  let v175 : BitVec 32 := Scalar.shrsi arg17 c4_i32_265
  let v181 : BitVec 32 := Scalar.addi v180 v175
  let v182 : Index := Scalar.indexCast v181
  let c3_i32_266 : BitVec 32 := 3#32
  let v176 : BitVec 32 := Scalar.shrsi arg17 c3_i32_266
  let c1_i32_267 : BitVec 32 := 1#32
  let v177 : BitVec 32 := Scalar.andi v176 c1_i32_267
  let v183 : Index := Scalar.indexCast v177
  let c7_i32_268 : BitVec 32 := 7#32
  let v178 : BitVec 32 := Scalar.andi arg17 c7_i32_268
  let c16_i32_269 : BitVec 32 := 16#32
  let v179 : BitVec 32 := Scalar.muli v178 c16_i32_269
  let v184 : Index := Scalar.indexCast v179
  ![v182.toNat, v183.toNat, v184.toNat]
def k0_off18 (k0_t7 : Fin k0_t7_loop.trips) (k0_t8 : Fin k0_t8_loop.trips) : Fin 3 → Nat :=
  let c8_i32_271 : BitVec 32 := 8#32
  let c0_i32_63 : BitVec 32 := 0#32
  let c1_i32_65 : BitVec 32 := 1#32
  let arg15 : BitVec 32 := Scf.iv c0_i32_63 c1_i32_65 k0_t7
  let v188 : BitVec 32 := Scalar.muli c8_i32_271 arg15
  let c4_i32_272 : BitVec 32 := 4#32
  let v189 : BitVec 32 := Scalar.addi v188 c4_i32_272
  let c0_i32_260 : BitVec 32 := 0#32
  let c1_i32_261 : BitVec 32 := 1#32
  let arg17 : BitVec 32 := Scf.iv c0_i32_260 c1_i32_261 k0_t8
  let c4_i32_265 : BitVec 32 := 4#32
  let v175 : BitVec 32 := Scalar.shrsi arg17 c4_i32_265
  let v190 : BitVec 32 := Scalar.addi v189 v175
  let v191 : Index := Scalar.indexCast v190
  let c3_i32_266 : BitVec 32 := 3#32
  let v176 : BitVec 32 := Scalar.shrsi arg17 c3_i32_266
  let c1_i32_267 : BitVec 32 := 1#32
  let v177 : BitVec 32 := Scalar.andi v176 c1_i32_267
  let v192 : Index := Scalar.indexCast v177
  let c7_i32_268 : BitVec 32 := 7#32
  let v178 : BitVec 32 := Scalar.andi arg17 c7_i32_268
  let c16_i32_269 : BitVec 32 := 16#32
  let v179 : BitVec 32 := Scalar.muli v178 c16_i32_269
  let v193 : Index := Scalar.indexCast v179
  ![v191.toNat, v192.toNat, v193.toNat]
def k0_off19 (k0_t7 : Fin k0_t7_loop.trips) (k0_t8 : Fin k0_t8_loop.trips) : Fin 2 → Nat :=
  let c0_i32_63 : BitVec 32 := 0#32
  let c1_i32_65 : BitVec 32 := 1#32
  let arg15 : BitVec 32 := Scf.iv c0_i32_63 c1_i32_65 k0_t7
  let v198 : Index := Scalar.indexCast arg15
  let c0_i32_260 : BitVec 32 := 0#32
  let c1_i32_261 : BitVec 32 := 1#32
  let arg17 : BitVec 32 := Scf.iv c0_i32_260 c1_i32_261 k0_t8
  let c16_i32_264 : BitVec 32 := 16#32
  let v174 : BitVec 32 := Scalar.muli arg17 c16_i32_264
  let v199 : Index := Scalar.indexCast v174
  ![v198.toNat, v199.toNat]
@[reducible] def k0_t9_loop : Scf.Loop 32 :=
  let c0_i32_79 : BitVec 32 := 0#32
  let c16_i32_80 : BitVec 32 := 16#32
  let v53 : BitVec 32 := Scalar.addi c0_i32_79 c16_i32_80
  let c1_i32_81 : BitVec 32 := 1#32
  ⟨c0_i32_79, v53, c1_i32_81⟩
def k0_off20 (k0_t9 : Fin k0_t9_loop.trips) : Fin 2 → Nat :=
  let c64_i32 : BitVec 32 := 64#32
  let c0_i32_79 : BitVec 32 := 0#32
  let c1_i32_81 : BitVec 32 := 1#32
  let arg15 : BitVec 32 := Scf.iv c0_i32_79 c1_i32_81 k0_t9
  let v164 : BitVec 32 := Scalar.addi c64_i32 arg15
  let v165 : Index := Scalar.indexCast v164
  let c0 : Index := 0#32
  ![v165.toNat, 0]
@[reducible] def k0_t10_loop : Scf.Loop 32 :=
  let c0_i32_260 : BitVec 32 := 0#32
  let c64_i32_261 : BitVec 32 := 64#32
  let v172 : BitVec 32 := Scalar.addi c0_i32_260 c64_i32_261
  let c1_i32_262 : BitVec 32 := 1#32
  ⟨c0_i32_260, v172, c1_i32_262⟩
def k0_off21 (k0_t9 : Fin k0_t9_loop.trips) (k0_t10 : Fin k0_t10_loop.trips) : Fin 3 → Nat :=
  let c8_i32_271 : BitVec 32 := 8#32
  let c0_i32_79 : BitVec 32 := 0#32
  let c1_i32_81 : BitVec 32 := 1#32
  let arg15 : BitVec 32 := Scf.iv c0_i32_79 c1_i32_81 k0_t9
  let v180 : BitVec 32 := Scalar.muli c8_i32_271 arg15
  let c0_i32_260 : BitVec 32 := 0#32
  let c1_i32_262 : BitVec 32 := 1#32
  let arg17 : BitVec 32 := Scf.iv c0_i32_260 c1_i32_262 k0_t10
  let c4_i32_266 : BitVec 32 := 4#32
  let v175 : BitVec 32 := Scalar.shrsi arg17 c4_i32_266
  let v181 : BitVec 32 := Scalar.addi v180 v175
  let v182 : Index := Scalar.indexCast v181
  let c3_i32_267 : BitVec 32 := 3#32
  let v176 : BitVec 32 := Scalar.shrsi arg17 c3_i32_267
  let c1_i32_268 : BitVec 32 := 1#32
  let v177 : BitVec 32 := Scalar.andi v176 c1_i32_268
  let v183 : Index := Scalar.indexCast v177
  let c7_i32_269 : BitVec 32 := 7#32
  let v178 : BitVec 32 := Scalar.andi arg17 c7_i32_269
  let c16_i32_270 : BitVec 32 := 16#32
  let v179 : BitVec 32 := Scalar.muli v178 c16_i32_270
  let v184 : Index := Scalar.indexCast v179
  ![v182.toNat, v183.toNat, v184.toNat]
def k0_off22 (k0_t9 : Fin k0_t9_loop.trips) (k0_t10 : Fin k0_t10_loop.trips) : Fin 3 → Nat :=
  let c8_i32_272 : BitVec 32 := 8#32
  let c0_i32_79 : BitVec 32 := 0#32
  let c1_i32_81 : BitVec 32 := 1#32
  let arg15 : BitVec 32 := Scf.iv c0_i32_79 c1_i32_81 k0_t9
  let v188 : BitVec 32 := Scalar.muli c8_i32_272 arg15
  let c4_i32_273 : BitVec 32 := 4#32
  let v189 : BitVec 32 := Scalar.addi v188 c4_i32_273
  let c0_i32_260 : BitVec 32 := 0#32
  let c1_i32_262 : BitVec 32 := 1#32
  let arg17 : BitVec 32 := Scf.iv c0_i32_260 c1_i32_262 k0_t10
  let c4_i32_266 : BitVec 32 := 4#32
  let v175 : BitVec 32 := Scalar.shrsi arg17 c4_i32_266
  let v190 : BitVec 32 := Scalar.addi v189 v175
  let v191 : Index := Scalar.indexCast v190
  let c3_i32_267 : BitVec 32 := 3#32
  let v176 : BitVec 32 := Scalar.shrsi arg17 c3_i32_267
  let c1_i32_268 : BitVec 32 := 1#32
  let v177 : BitVec 32 := Scalar.andi v176 c1_i32_268
  let v192 : Index := Scalar.indexCast v177
  let c7_i32_269 : BitVec 32 := 7#32
  let v178 : BitVec 32 := Scalar.andi arg17 c7_i32_269
  let c16_i32_270 : BitVec 32 := 16#32
  let v179 : BitVec 32 := Scalar.muli v178 c16_i32_270
  let v193 : Index := Scalar.indexCast v179
  ![v191.toNat, v192.toNat, v193.toNat]
def k0_off23 (k0_t9 : Fin k0_t9_loop.trips) (k0_t10 : Fin k0_t10_loop.trips) : Fin 2 → Nat :=
  let c0_i32_79 : BitVec 32 := 0#32
  let c1_i32_81 : BitVec 32 := 1#32
  let arg15 : BitVec 32 := Scf.iv c0_i32_79 c1_i32_81 k0_t9
  let v198 : Index := Scalar.indexCast arg15
  let c0_i32_260 : BitVec 32 := 0#32
  let c1_i32_262 : BitVec 32 := 1#32
  let arg17 : BitVec 32 := Scf.iv c0_i32_260 c1_i32_262 k0_t10
  let c16_i32_265 : BitVec 32 := 16#32
  let v174 : BitVec 32 := Scalar.muli arg17 c16_i32_265
  let v199 : Index := Scalar.indexCast v174
  ![v198.toNat, v199.toNat]
@[reducible] def k0_t11_loop : Scf.Loop 32 :=
  let c0_i32_95 : BitVec 32 := 0#32
  let c16_i32_96 : BitVec 32 := 16#32
  let v63 : BitVec 32 := Scalar.addi c0_i32_95 c16_i32_96
  let c1_i32_97 : BitVec 32 := 1#32
  ⟨c0_i32_95, v63, c1_i32_97⟩
def k0_off24 (k0_t11 : Fin k0_t11_loop.trips) : Fin 2 → Nat :=
  let c80_i32 : BitVec 32 := 80#32
  let c0_i32_95 : BitVec 32 := 0#32
  let c1_i32_97 : BitVec 32 := 1#32
  let arg15 : BitVec 32 := Scf.iv c0_i32_95 c1_i32_97 k0_t11
  let v164 : BitVec 32 := Scalar.addi c80_i32 arg15
  let v165 : Index := Scalar.indexCast v164
  let c0 : Index := 0#32
  ![v165.toNat, 0]
@[reducible] def k0_t12_loop : Scf.Loop 32 :=
  let c0_i32_260 : BitVec 32 := 0#32
  let c64_i32 : BitVec 32 := 64#32
  let v172 : BitVec 32 := Scalar.addi c0_i32_260 c64_i32
  let c1_i32_261 : BitVec 32 := 1#32
  ⟨c0_i32_260, v172, c1_i32_261⟩
def k0_off25 (k0_t11 : Fin k0_t11_loop.trips) (k0_t12 : Fin k0_t12_loop.trips) : Fin 3 → Nat :=
  let c8_i32_270 : BitVec 32 := 8#32
  let c0_i32_95 : BitVec 32 := 0#32
  let c1_i32_97 : BitVec 32 := 1#32
  let arg15 : BitVec 32 := Scf.iv c0_i32_95 c1_i32_97 k0_t11
  let v180 : BitVec 32 := Scalar.muli c8_i32_270 arg15
  let c0_i32_260 : BitVec 32 := 0#32
  let c1_i32_261 : BitVec 32 := 1#32
  let arg17 : BitVec 32 := Scf.iv c0_i32_260 c1_i32_261 k0_t12
  let c4_i32_265 : BitVec 32 := 4#32
  let v175 : BitVec 32 := Scalar.shrsi arg17 c4_i32_265
  let v181 : BitVec 32 := Scalar.addi v180 v175
  let v182 : Index := Scalar.indexCast v181
  let c3_i32_266 : BitVec 32 := 3#32
  let v176 : BitVec 32 := Scalar.shrsi arg17 c3_i32_266
  let c1_i32_267 : BitVec 32 := 1#32
  let v177 : BitVec 32 := Scalar.andi v176 c1_i32_267
  let v183 : Index := Scalar.indexCast v177
  let c7_i32_268 : BitVec 32 := 7#32
  let v178 : BitVec 32 := Scalar.andi arg17 c7_i32_268
  let c16_i32_269 : BitVec 32 := 16#32
  let v179 : BitVec 32 := Scalar.muli v178 c16_i32_269
  let v184 : Index := Scalar.indexCast v179
  ![v182.toNat, v183.toNat, v184.toNat]
def k0_off26 (k0_t11 : Fin k0_t11_loop.trips) (k0_t12 : Fin k0_t12_loop.trips) : Fin 3 → Nat :=
  let c8_i32_271 : BitVec 32 := 8#32
  let c0_i32_95 : BitVec 32 := 0#32
  let c1_i32_97 : BitVec 32 := 1#32
  let arg15 : BitVec 32 := Scf.iv c0_i32_95 c1_i32_97 k0_t11
  let v188 : BitVec 32 := Scalar.muli c8_i32_271 arg15
  let c4_i32_272 : BitVec 32 := 4#32
  let v189 : BitVec 32 := Scalar.addi v188 c4_i32_272
  let c0_i32_260 : BitVec 32 := 0#32
  let c1_i32_261 : BitVec 32 := 1#32
  let arg17 : BitVec 32 := Scf.iv c0_i32_260 c1_i32_261 k0_t12
  let c4_i32_265 : BitVec 32 := 4#32
  let v175 : BitVec 32 := Scalar.shrsi arg17 c4_i32_265
  let v190 : BitVec 32 := Scalar.addi v189 v175
  let v191 : Index := Scalar.indexCast v190
  let c3_i32_266 : BitVec 32 := 3#32
  let v176 : BitVec 32 := Scalar.shrsi arg17 c3_i32_266
  let c1_i32_267 : BitVec 32 := 1#32
  let v177 : BitVec 32 := Scalar.andi v176 c1_i32_267
  let v192 : Index := Scalar.indexCast v177
  let c7_i32_268 : BitVec 32 := 7#32
  let v178 : BitVec 32 := Scalar.andi arg17 c7_i32_268
  let c16_i32_269 : BitVec 32 := 16#32
  let v179 : BitVec 32 := Scalar.muli v178 c16_i32_269
  let v193 : Index := Scalar.indexCast v179
  ![v191.toNat, v192.toNat, v193.toNat]
def k0_off27 (k0_t11 : Fin k0_t11_loop.trips) (k0_t12 : Fin k0_t12_loop.trips) : Fin 2 → Nat :=
  let c0_i32_95 : BitVec 32 := 0#32
  let c1_i32_97 : BitVec 32 := 1#32
  let arg15 : BitVec 32 := Scf.iv c0_i32_95 c1_i32_97 k0_t11
  let v198 : Index := Scalar.indexCast arg15
  let c0_i32_260 : BitVec 32 := 0#32
  let c1_i32_261 : BitVec 32 := 1#32
  let arg17 : BitVec 32 := Scf.iv c0_i32_260 c1_i32_261 k0_t12
  let c16_i32_264 : BitVec 32 := 16#32
  let v174 : BitVec 32 := Scalar.muli arg17 c16_i32_264
  let v199 : Index := Scalar.indexCast v174
  ![v198.toNat, v199.toNat]
@[reducible] def k0_t13_loop : Scf.Loop 32 :=
  let c0_i32_111 : BitVec 32 := 0#32
  let c16_i32_112 : BitVec 32 := 16#32
  let v73 : BitVec 32 := Scalar.addi c0_i32_111 c16_i32_112
  let c1_i32_113 : BitVec 32 := 1#32
  ⟨c0_i32_111, v73, c1_i32_113⟩
def k0_off28 (k0_t13 : Fin k0_t13_loop.trips) : Fin 2 → Nat :=
  let c96_i32 : BitVec 32 := 96#32
  let c0_i32_111 : BitVec 32 := 0#32
  let c1_i32_113 : BitVec 32 := 1#32
  let arg15 : BitVec 32 := Scf.iv c0_i32_111 c1_i32_113 k0_t13
  let v164 : BitVec 32 := Scalar.addi c96_i32 arg15
  let v165 : Index := Scalar.indexCast v164
  let c0 : Index := 0#32
  ![v165.toNat, 0]
@[reducible] def k0_t14_loop : Scf.Loop 32 :=
  let c0_i32_260 : BitVec 32 := 0#32
  let c64_i32 : BitVec 32 := 64#32
  let v172 : BitVec 32 := Scalar.addi c0_i32_260 c64_i32
  let c1_i32_261 : BitVec 32 := 1#32
  ⟨c0_i32_260, v172, c1_i32_261⟩
def k0_off29 (k0_t13 : Fin k0_t13_loop.trips) (k0_t14 : Fin k0_t14_loop.trips) : Fin 3 → Nat :=
  let c8_i32_270 : BitVec 32 := 8#32
  let c0_i32_111 : BitVec 32 := 0#32
  let c1_i32_113 : BitVec 32 := 1#32
  let arg15 : BitVec 32 := Scf.iv c0_i32_111 c1_i32_113 k0_t13
  let v180 : BitVec 32 := Scalar.muli c8_i32_270 arg15
  let c0_i32_260 : BitVec 32 := 0#32
  let c1_i32_261 : BitVec 32 := 1#32
  let arg17 : BitVec 32 := Scf.iv c0_i32_260 c1_i32_261 k0_t14
  let c4_i32_265 : BitVec 32 := 4#32
  let v175 : BitVec 32 := Scalar.shrsi arg17 c4_i32_265
  let v181 : BitVec 32 := Scalar.addi v180 v175
  let v182 : Index := Scalar.indexCast v181
  let c3_i32_266 : BitVec 32 := 3#32
  let v176 : BitVec 32 := Scalar.shrsi arg17 c3_i32_266
  let c1_i32_267 : BitVec 32 := 1#32
  let v177 : BitVec 32 := Scalar.andi v176 c1_i32_267
  let v183 : Index := Scalar.indexCast v177
  let c7_i32_268 : BitVec 32 := 7#32
  let v178 : BitVec 32 := Scalar.andi arg17 c7_i32_268
  let c16_i32_269 : BitVec 32 := 16#32
  let v179 : BitVec 32 := Scalar.muli v178 c16_i32_269
  let v184 : Index := Scalar.indexCast v179
  ![v182.toNat, v183.toNat, v184.toNat]
def k0_off30 (k0_t13 : Fin k0_t13_loop.trips) (k0_t14 : Fin k0_t14_loop.trips) : Fin 3 → Nat :=
  let c8_i32_271 : BitVec 32 := 8#32
  let c0_i32_111 : BitVec 32 := 0#32
  let c1_i32_113 : BitVec 32 := 1#32
  let arg15 : BitVec 32 := Scf.iv c0_i32_111 c1_i32_113 k0_t13
  let v188 : BitVec 32 := Scalar.muli c8_i32_271 arg15
  let c4_i32_272 : BitVec 32 := 4#32
  let v189 : BitVec 32 := Scalar.addi v188 c4_i32_272
  let c0_i32_260 : BitVec 32 := 0#32
  let c1_i32_261 : BitVec 32 := 1#32
  let arg17 : BitVec 32 := Scf.iv c0_i32_260 c1_i32_261 k0_t14
  let c4_i32_265 : BitVec 32 := 4#32
  let v175 : BitVec 32 := Scalar.shrsi arg17 c4_i32_265
  let v190 : BitVec 32 := Scalar.addi v189 v175
  let v191 : Index := Scalar.indexCast v190
  let c3_i32_266 : BitVec 32 := 3#32
  let v176 : BitVec 32 := Scalar.shrsi arg17 c3_i32_266
  let c1_i32_267 : BitVec 32 := 1#32
  let v177 : BitVec 32 := Scalar.andi v176 c1_i32_267
  let v192 : Index := Scalar.indexCast v177
  let c7_i32_268 : BitVec 32 := 7#32
  let v178 : BitVec 32 := Scalar.andi arg17 c7_i32_268
  let c16_i32_269 : BitVec 32 := 16#32
  let v179 : BitVec 32 := Scalar.muli v178 c16_i32_269
  let v193 : Index := Scalar.indexCast v179
  ![v191.toNat, v192.toNat, v193.toNat]
def k0_off31 (k0_t13 : Fin k0_t13_loop.trips) (k0_t14 : Fin k0_t14_loop.trips) : Fin 2 → Nat :=
  let c0_i32_111 : BitVec 32 := 0#32
  let c1_i32_113 : BitVec 32 := 1#32
  let arg15 : BitVec 32 := Scf.iv c0_i32_111 c1_i32_113 k0_t13
  let v198 : Index := Scalar.indexCast arg15
  let c0_i32_260 : BitVec 32 := 0#32
  let c1_i32_261 : BitVec 32 := 1#32
  let arg17 : BitVec 32 := Scf.iv c0_i32_260 c1_i32_261 k0_t14
  let c16_i32_264 : BitVec 32 := 16#32
  let v174 : BitVec 32 := Scalar.muli arg17 c16_i32_264
  let v199 : Index := Scalar.indexCast v174
  ![v198.toNat, v199.toNat]
@[reducible] def k0_t15_loop : Scf.Loop 32 :=
  let c0_i32_127 : BitVec 32 := 0#32
  let c16_i32_128 : BitVec 32 := 16#32
  let v83 : BitVec 32 := Scalar.addi c0_i32_127 c16_i32_128
  let c1_i32_129 : BitVec 32 := 1#32
  ⟨c0_i32_127, v83, c1_i32_129⟩
def k0_off32 (k0_t15 : Fin k0_t15_loop.trips) : Fin 2 → Nat :=
  let c112_i32 : BitVec 32 := 112#32
  let c0_i32_127 : BitVec 32 := 0#32
  let c1_i32_129 : BitVec 32 := 1#32
  let arg15 : BitVec 32 := Scf.iv c0_i32_127 c1_i32_129 k0_t15
  let v164 : BitVec 32 := Scalar.addi c112_i32 arg15
  let v165 : Index := Scalar.indexCast v164
  let c0 : Index := 0#32
  ![v165.toNat, 0]
@[reducible] def k0_t16_loop : Scf.Loop 32 :=
  let c0_i32_260 : BitVec 32 := 0#32
  let c64_i32 : BitVec 32 := 64#32
  let v172 : BitVec 32 := Scalar.addi c0_i32_260 c64_i32
  let c1_i32_261 : BitVec 32 := 1#32
  ⟨c0_i32_260, v172, c1_i32_261⟩
def k0_off33 (k0_t15 : Fin k0_t15_loop.trips) (k0_t16 : Fin k0_t16_loop.trips) : Fin 3 → Nat :=
  let c8_i32_270 : BitVec 32 := 8#32
  let c0_i32_127 : BitVec 32 := 0#32
  let c1_i32_129 : BitVec 32 := 1#32
  let arg15 : BitVec 32 := Scf.iv c0_i32_127 c1_i32_129 k0_t15
  let v180 : BitVec 32 := Scalar.muli c8_i32_270 arg15
  let c0_i32_260 : BitVec 32 := 0#32
  let c1_i32_261 : BitVec 32 := 1#32
  let arg17 : BitVec 32 := Scf.iv c0_i32_260 c1_i32_261 k0_t16
  let c4_i32_265 : BitVec 32 := 4#32
  let v175 : BitVec 32 := Scalar.shrsi arg17 c4_i32_265
  let v181 : BitVec 32 := Scalar.addi v180 v175
  let v182 : Index := Scalar.indexCast v181
  let c3_i32_266 : BitVec 32 := 3#32
  let v176 : BitVec 32 := Scalar.shrsi arg17 c3_i32_266
  let c1_i32_267 : BitVec 32 := 1#32
  let v177 : BitVec 32 := Scalar.andi v176 c1_i32_267
  let v183 : Index := Scalar.indexCast v177
  let c7_i32_268 : BitVec 32 := 7#32
  let v178 : BitVec 32 := Scalar.andi arg17 c7_i32_268
  let c16_i32_269 : BitVec 32 := 16#32
  let v179 : BitVec 32 := Scalar.muli v178 c16_i32_269
  let v184 : Index := Scalar.indexCast v179
  ![v182.toNat, v183.toNat, v184.toNat]
def k0_off34 (k0_t15 : Fin k0_t15_loop.trips) (k0_t16 : Fin k0_t16_loop.trips) : Fin 3 → Nat :=
  let c8_i32_271 : BitVec 32 := 8#32
  let c0_i32_127 : BitVec 32 := 0#32
  let c1_i32_129 : BitVec 32 := 1#32
  let arg15 : BitVec 32 := Scf.iv c0_i32_127 c1_i32_129 k0_t15
  let v188 : BitVec 32 := Scalar.muli c8_i32_271 arg15
  let c4_i32_272 : BitVec 32 := 4#32
  let v189 : BitVec 32 := Scalar.addi v188 c4_i32_272
  let c0_i32_260 : BitVec 32 := 0#32
  let c1_i32_261 : BitVec 32 := 1#32
  let arg17 : BitVec 32 := Scf.iv c0_i32_260 c1_i32_261 k0_t16
  let c4_i32_265 : BitVec 32 := 4#32
  let v175 : BitVec 32 := Scalar.shrsi arg17 c4_i32_265
  let v190 : BitVec 32 := Scalar.addi v189 v175
  let v191 : Index := Scalar.indexCast v190
  let c3_i32_266 : BitVec 32 := 3#32
  let v176 : BitVec 32 := Scalar.shrsi arg17 c3_i32_266
  let c1_i32_267 : BitVec 32 := 1#32
  let v177 : BitVec 32 := Scalar.andi v176 c1_i32_267
  let v192 : Index := Scalar.indexCast v177
  let c7_i32_268 : BitVec 32 := 7#32
  let v178 : BitVec 32 := Scalar.andi arg17 c7_i32_268
  let c16_i32_269 : BitVec 32 := 16#32
  let v179 : BitVec 32 := Scalar.muli v178 c16_i32_269
  let v193 : Index := Scalar.indexCast v179
  ![v191.toNat, v192.toNat, v193.toNat]
def k0_off35 (k0_t15 : Fin k0_t15_loop.trips) (k0_t16 : Fin k0_t16_loop.trips) : Fin 2 → Nat :=
  let c0_i32_127 : BitVec 32 := 0#32
  let c1_i32_129 : BitVec 32 := 1#32
  let arg15 : BitVec 32 := Scf.iv c0_i32_127 c1_i32_129 k0_t15
  let v198 : Index := Scalar.indexCast arg15
  let c0_i32_260 : BitVec 32 := 0#32
  let c1_i32_261 : BitVec 32 := 1#32
  let arg17 : BitVec 32 := Scf.iv c0_i32_260 c1_i32_261 k0_t16
  let c16_i32_264 : BitVec 32 := 16#32
  let v174 : BitVec 32 := Scalar.muli arg17 c16_i32_264
  let v199 : Index := Scalar.indexCast v174
  ![v198.toNat, v199.toNat]
@[reducible] def k0_t17_loop : Scf.Loop 32 :=
  let c0_i32_143 : BitVec 32 := 0#32
  let c16_i32_144 : BitVec 32 := 16#32
  let v93 : BitVec 32 := Scalar.addi c0_i32_143 c16_i32_144
  let c1_i32_145 : BitVec 32 := 1#32
  ⟨c0_i32_143, v93, c1_i32_145⟩
def k0_off36 (k0_t17 : Fin k0_t17_loop.trips) : Fin 2 → Nat :=
  let c128_i32 : BitVec 32 := 128#32
  let c0_i32_143 : BitVec 32 := 0#32
  let c1_i32_145 : BitVec 32 := 1#32
  let arg15 : BitVec 32 := Scf.iv c0_i32_143 c1_i32_145 k0_t17
  let v164 : BitVec 32 := Scalar.addi c128_i32 arg15
  let v165 : Index := Scalar.indexCast v164
  let c0 : Index := 0#32
  ![v165.toNat, 0]
@[reducible] def k0_t18_loop : Scf.Loop 32 :=
  let c0_i32_260 : BitVec 32 := 0#32
  let c64_i32 : BitVec 32 := 64#32
  let v172 : BitVec 32 := Scalar.addi c0_i32_260 c64_i32
  let c1_i32_261 : BitVec 32 := 1#32
  ⟨c0_i32_260, v172, c1_i32_261⟩
def k0_off37 (k0_t17 : Fin k0_t17_loop.trips) (k0_t18 : Fin k0_t18_loop.trips) : Fin 3 → Nat :=
  let c8_i32_270 : BitVec 32 := 8#32
  let c0_i32_143 : BitVec 32 := 0#32
  let c1_i32_145 : BitVec 32 := 1#32
  let arg15 : BitVec 32 := Scf.iv c0_i32_143 c1_i32_145 k0_t17
  let v180 : BitVec 32 := Scalar.muli c8_i32_270 arg15
  let c0_i32_260 : BitVec 32 := 0#32
  let c1_i32_261 : BitVec 32 := 1#32
  let arg17 : BitVec 32 := Scf.iv c0_i32_260 c1_i32_261 k0_t18
  let c4_i32_265 : BitVec 32 := 4#32
  let v175 : BitVec 32 := Scalar.shrsi arg17 c4_i32_265
  let v181 : BitVec 32 := Scalar.addi v180 v175
  let v182 : Index := Scalar.indexCast v181
  let c3_i32_266 : BitVec 32 := 3#32
  let v176 : BitVec 32 := Scalar.shrsi arg17 c3_i32_266
  let c1_i32_267 : BitVec 32 := 1#32
  let v177 : BitVec 32 := Scalar.andi v176 c1_i32_267
  let v183 : Index := Scalar.indexCast v177
  let c7_i32_268 : BitVec 32 := 7#32
  let v178 : BitVec 32 := Scalar.andi arg17 c7_i32_268
  let c16_i32_269 : BitVec 32 := 16#32
  let v179 : BitVec 32 := Scalar.muli v178 c16_i32_269
  let v184 : Index := Scalar.indexCast v179
  ![v182.toNat, v183.toNat, v184.toNat]
def k0_off38 (k0_t17 : Fin k0_t17_loop.trips) (k0_t18 : Fin k0_t18_loop.trips) : Fin 3 → Nat :=
  let c8_i32_271 : BitVec 32 := 8#32
  let c0_i32_143 : BitVec 32 := 0#32
  let c1_i32_145 : BitVec 32 := 1#32
  let arg15 : BitVec 32 := Scf.iv c0_i32_143 c1_i32_145 k0_t17
  let v188 : BitVec 32 := Scalar.muli c8_i32_271 arg15
  let c4_i32_272 : BitVec 32 := 4#32
  let v189 : BitVec 32 := Scalar.addi v188 c4_i32_272
  let c0_i32_260 : BitVec 32 := 0#32
  let c1_i32_261 : BitVec 32 := 1#32
  let arg17 : BitVec 32 := Scf.iv c0_i32_260 c1_i32_261 k0_t18
  let c4_i32_265 : BitVec 32 := 4#32
  let v175 : BitVec 32 := Scalar.shrsi arg17 c4_i32_265
  let v190 : BitVec 32 := Scalar.addi v189 v175
  let v191 : Index := Scalar.indexCast v190
  let c3_i32_266 : BitVec 32 := 3#32
  let v176 : BitVec 32 := Scalar.shrsi arg17 c3_i32_266
  let c1_i32_267 : BitVec 32 := 1#32
  let v177 : BitVec 32 := Scalar.andi v176 c1_i32_267
  let v192 : Index := Scalar.indexCast v177
  let c7_i32_268 : BitVec 32 := 7#32
  let v178 : BitVec 32 := Scalar.andi arg17 c7_i32_268
  let c16_i32_269 : BitVec 32 := 16#32
  let v179 : BitVec 32 := Scalar.muli v178 c16_i32_269
  let v193 : Index := Scalar.indexCast v179
  ![v191.toNat, v192.toNat, v193.toNat]
def k0_off39 (k0_t17 : Fin k0_t17_loop.trips) (k0_t18 : Fin k0_t18_loop.trips) : Fin 2 → Nat :=
  let c0_i32_143 : BitVec 32 := 0#32
  let c1_i32_145 : BitVec 32 := 1#32
  let arg15 : BitVec 32 := Scf.iv c0_i32_143 c1_i32_145 k0_t17
  let v198 : Index := Scalar.indexCast arg15
  let c0_i32_260 : BitVec 32 := 0#32
  let c1_i32_261 : BitVec 32 := 1#32
  let arg17 : BitVec 32 := Scf.iv c0_i32_260 c1_i32_261 k0_t18
  let c16_i32_264 : BitVec 32 := 16#32
  let v174 : BitVec 32 := Scalar.muli arg17 c16_i32_264
  let v199 : Index := Scalar.indexCast v174
  ![v198.toNat, v199.toNat]
@[reducible] def k0_t19_loop : Scf.Loop 32 :=
  let c0_i32_159 : BitVec 32 := 0#32
  let c16_i32_160 : BitVec 32 := 16#32
  let v103 : BitVec 32 := Scalar.addi c0_i32_159 c16_i32_160
  let c1_i32_161 : BitVec 32 := 1#32
  ⟨c0_i32_159, v103, c1_i32_161⟩
def k0_off40 (k0_t19 : Fin k0_t19_loop.trips) : Fin 2 → Nat :=
  let c144_i32 : BitVec 32 := 144#32
  let c0_i32_159 : BitVec 32 := 0#32
  let c1_i32_161 : BitVec 32 := 1#32
  let arg15 : BitVec 32 := Scf.iv c0_i32_159 c1_i32_161 k0_t19
  let v164 : BitVec 32 := Scalar.addi c144_i32 arg15
  let v165 : Index := Scalar.indexCast v164
  let c0 : Index := 0#32
  ![v165.toNat, 0]
@[reducible] def k0_t20_loop : Scf.Loop 32 :=
  let c0_i32_260 : BitVec 32 := 0#32
  let c64_i32 : BitVec 32 := 64#32
  let v172 : BitVec 32 := Scalar.addi c0_i32_260 c64_i32
  let c1_i32_261 : BitVec 32 := 1#32
  ⟨c0_i32_260, v172, c1_i32_261⟩
def k0_off41 (k0_t19 : Fin k0_t19_loop.trips) (k0_t20 : Fin k0_t20_loop.trips) : Fin 3 → Nat :=
  let c8_i32_270 : BitVec 32 := 8#32
  let c0_i32_159 : BitVec 32 := 0#32
  let c1_i32_161 : BitVec 32 := 1#32
  let arg15 : BitVec 32 := Scf.iv c0_i32_159 c1_i32_161 k0_t19
  let v180 : BitVec 32 := Scalar.muli c8_i32_270 arg15
  let c0_i32_260 : BitVec 32 := 0#32
  let c1_i32_261 : BitVec 32 := 1#32
  let arg17 : BitVec 32 := Scf.iv c0_i32_260 c1_i32_261 k0_t20
  let c4_i32_265 : BitVec 32 := 4#32
  let v175 : BitVec 32 := Scalar.shrsi arg17 c4_i32_265
  let v181 : BitVec 32 := Scalar.addi v180 v175
  let v182 : Index := Scalar.indexCast v181
  let c3_i32_266 : BitVec 32 := 3#32
  let v176 : BitVec 32 := Scalar.shrsi arg17 c3_i32_266
  let c1_i32_267 : BitVec 32 := 1#32
  let v177 : BitVec 32 := Scalar.andi v176 c1_i32_267
  let v183 : Index := Scalar.indexCast v177
  let c7_i32_268 : BitVec 32 := 7#32
  let v178 : BitVec 32 := Scalar.andi arg17 c7_i32_268
  let c16_i32_269 : BitVec 32 := 16#32
  let v179 : BitVec 32 := Scalar.muli v178 c16_i32_269
  let v184 : Index := Scalar.indexCast v179
  ![v182.toNat, v183.toNat, v184.toNat]
def k0_off42 (k0_t19 : Fin k0_t19_loop.trips) (k0_t20 : Fin k0_t20_loop.trips) : Fin 3 → Nat :=
  let c8_i32_271 : BitVec 32 := 8#32
  let c0_i32_159 : BitVec 32 := 0#32
  let c1_i32_161 : BitVec 32 := 1#32
  let arg15 : BitVec 32 := Scf.iv c0_i32_159 c1_i32_161 k0_t19
  let v188 : BitVec 32 := Scalar.muli c8_i32_271 arg15
  let c4_i32_272 : BitVec 32 := 4#32
  let v189 : BitVec 32 := Scalar.addi v188 c4_i32_272
  let c0_i32_260 : BitVec 32 := 0#32
  let c1_i32_261 : BitVec 32 := 1#32
  let arg17 : BitVec 32 := Scf.iv c0_i32_260 c1_i32_261 k0_t20
  let c4_i32_265 : BitVec 32 := 4#32
  let v175 : BitVec 32 := Scalar.shrsi arg17 c4_i32_265
  let v190 : BitVec 32 := Scalar.addi v189 v175
  let v191 : Index := Scalar.indexCast v190
  let c3_i32_266 : BitVec 32 := 3#32
  let v176 : BitVec 32 := Scalar.shrsi arg17 c3_i32_266
  let c1_i32_267 : BitVec 32 := 1#32
  let v177 : BitVec 32 := Scalar.andi v176 c1_i32_267
  let v192 : Index := Scalar.indexCast v177
  let c7_i32_268 : BitVec 32 := 7#32
  let v178 : BitVec 32 := Scalar.andi arg17 c7_i32_268
  let c16_i32_269 : BitVec 32 := 16#32
  let v179 : BitVec 32 := Scalar.muli v178 c16_i32_269
  let v193 : Index := Scalar.indexCast v179
  ![v191.toNat, v192.toNat, v193.toNat]
def k0_off43 (k0_t19 : Fin k0_t19_loop.trips) (k0_t20 : Fin k0_t20_loop.trips) : Fin 2 → Nat :=
  let c0_i32_159 : BitVec 32 := 0#32
  let c1_i32_161 : BitVec 32 := 1#32
  let arg15 : BitVec 32 := Scf.iv c0_i32_159 c1_i32_161 k0_t19
  let v198 : Index := Scalar.indexCast arg15
  let c0_i32_260 : BitVec 32 := 0#32
  let c1_i32_261 : BitVec 32 := 1#32
  let arg17 : BitVec 32 := Scf.iv c0_i32_260 c1_i32_261 k0_t20
  let c16_i32_264 : BitVec 32 := 16#32
  let v174 : BitVec 32 := Scalar.muli arg17 c16_i32_264
  let v199 : Index := Scalar.indexCast v174
  ![v198.toNat, v199.toNat]
@[reducible] def k0_t21_loop : Scf.Loop 32 :=
  let c0_i32_175 : BitVec 32 := 0#32
  let c16_i32_176 : BitVec 32 := 16#32
  let v113 : BitVec 32 := Scalar.addi c0_i32_175 c16_i32_176
  let c1_i32_177 : BitVec 32 := 1#32
  ⟨c0_i32_175, v113, c1_i32_177⟩
def k0_off44 (k0_t21 : Fin k0_t21_loop.trips) : Fin 2 → Nat :=
  let c160_i32 : BitVec 32 := 160#32
  let c0_i32_175 : BitVec 32 := 0#32
  let c1_i32_177 : BitVec 32 := 1#32
  let arg15 : BitVec 32 := Scf.iv c0_i32_175 c1_i32_177 k0_t21
  let v164 : BitVec 32 := Scalar.addi c160_i32 arg15
  let v165 : Index := Scalar.indexCast v164
  let c0 : Index := 0#32
  ![v165.toNat, 0]
@[reducible] def k0_t22_loop : Scf.Loop 32 :=
  let c0_i32_260 : BitVec 32 := 0#32
  let c64_i32 : BitVec 32 := 64#32
  let v172 : BitVec 32 := Scalar.addi c0_i32_260 c64_i32
  let c1_i32_261 : BitVec 32 := 1#32
  ⟨c0_i32_260, v172, c1_i32_261⟩
def k0_off45 (k0_t21 : Fin k0_t21_loop.trips) (k0_t22 : Fin k0_t22_loop.trips) : Fin 3 → Nat :=
  let c8_i32_270 : BitVec 32 := 8#32
  let c0_i32_175 : BitVec 32 := 0#32
  let c1_i32_177 : BitVec 32 := 1#32
  let arg15 : BitVec 32 := Scf.iv c0_i32_175 c1_i32_177 k0_t21
  let v180 : BitVec 32 := Scalar.muli c8_i32_270 arg15
  let c0_i32_260 : BitVec 32 := 0#32
  let c1_i32_261 : BitVec 32 := 1#32
  let arg17 : BitVec 32 := Scf.iv c0_i32_260 c1_i32_261 k0_t22
  let c4_i32_265 : BitVec 32 := 4#32
  let v175 : BitVec 32 := Scalar.shrsi arg17 c4_i32_265
  let v181 : BitVec 32 := Scalar.addi v180 v175
  let v182 : Index := Scalar.indexCast v181
  let c3_i32_266 : BitVec 32 := 3#32
  let v176 : BitVec 32 := Scalar.shrsi arg17 c3_i32_266
  let c1_i32_267 : BitVec 32 := 1#32
  let v177 : BitVec 32 := Scalar.andi v176 c1_i32_267
  let v183 : Index := Scalar.indexCast v177
  let c7_i32_268 : BitVec 32 := 7#32
  let v178 : BitVec 32 := Scalar.andi arg17 c7_i32_268
  let c16_i32_269 : BitVec 32 := 16#32
  let v179 : BitVec 32 := Scalar.muli v178 c16_i32_269
  let v184 : Index := Scalar.indexCast v179
  ![v182.toNat, v183.toNat, v184.toNat]
def k0_off46 (k0_t21 : Fin k0_t21_loop.trips) (k0_t22 : Fin k0_t22_loop.trips) : Fin 3 → Nat :=
  let c8_i32_271 : BitVec 32 := 8#32
  let c0_i32_175 : BitVec 32 := 0#32
  let c1_i32_177 : BitVec 32 := 1#32
  let arg15 : BitVec 32 := Scf.iv c0_i32_175 c1_i32_177 k0_t21
  let v188 : BitVec 32 := Scalar.muli c8_i32_271 arg15
  let c4_i32_272 : BitVec 32 := 4#32
  let v189 : BitVec 32 := Scalar.addi v188 c4_i32_272
  let c0_i32_260 : BitVec 32 := 0#32
  let c1_i32_261 : BitVec 32 := 1#32
  let arg17 : BitVec 32 := Scf.iv c0_i32_260 c1_i32_261 k0_t22
  let c4_i32_265 : BitVec 32 := 4#32
  let v175 : BitVec 32 := Scalar.shrsi arg17 c4_i32_265
  let v190 : BitVec 32 := Scalar.addi v189 v175
  let v191 : Index := Scalar.indexCast v190
  let c3_i32_266 : BitVec 32 := 3#32
  let v176 : BitVec 32 := Scalar.shrsi arg17 c3_i32_266
  let c1_i32_267 : BitVec 32 := 1#32
  let v177 : BitVec 32 := Scalar.andi v176 c1_i32_267
  let v192 : Index := Scalar.indexCast v177
  let c7_i32_268 : BitVec 32 := 7#32
  let v178 : BitVec 32 := Scalar.andi arg17 c7_i32_268
  let c16_i32_269 : BitVec 32 := 16#32
  let v179 : BitVec 32 := Scalar.muli v178 c16_i32_269
  let v193 : Index := Scalar.indexCast v179
  ![v191.toNat, v192.toNat, v193.toNat]
def k0_off47 (k0_t21 : Fin k0_t21_loop.trips) (k0_t22 : Fin k0_t22_loop.trips) : Fin 2 → Nat :=
  let c0_i32_175 : BitVec 32 := 0#32
  let c1_i32_177 : BitVec 32 := 1#32
  let arg15 : BitVec 32 := Scf.iv c0_i32_175 c1_i32_177 k0_t21
  let v198 : Index := Scalar.indexCast arg15
  let c0_i32_260 : BitVec 32 := 0#32
  let c1_i32_261 : BitVec 32 := 1#32
  let arg17 : BitVec 32 := Scf.iv c0_i32_260 c1_i32_261 k0_t22
  let c16_i32_264 : BitVec 32 := 16#32
  let v174 : BitVec 32 := Scalar.muli arg17 c16_i32_264
  let v199 : Index := Scalar.indexCast v174
  ![v198.toNat, v199.toNat]
@[reducible] def k0_t23_loop : Scf.Loop 32 :=
  let c0_i32_191 : BitVec 32 := 0#32
  let c16_i32_192 : BitVec 32 := 16#32
  let v123 : BitVec 32 := Scalar.addi c0_i32_191 c16_i32_192
  let c1_i32_193 : BitVec 32 := 1#32
  ⟨c0_i32_191, v123, c1_i32_193⟩
def k0_off48 (k0_t23 : Fin k0_t23_loop.trips) : Fin 2 → Nat :=
  let c176_i32 : BitVec 32 := 176#32
  let c0_i32_191 : BitVec 32 := 0#32
  let c1_i32_193 : BitVec 32 := 1#32
  let arg15 : BitVec 32 := Scf.iv c0_i32_191 c1_i32_193 k0_t23
  let v164 : BitVec 32 := Scalar.addi c176_i32 arg15
  let v165 : Index := Scalar.indexCast v164
  let c0 : Index := 0#32
  ![v165.toNat, 0]
@[reducible] def k0_t24_loop : Scf.Loop 32 :=
  let c0_i32_260 : BitVec 32 := 0#32
  let c64_i32 : BitVec 32 := 64#32
  let v172 : BitVec 32 := Scalar.addi c0_i32_260 c64_i32
  let c1_i32_261 : BitVec 32 := 1#32
  ⟨c0_i32_260, v172, c1_i32_261⟩
def k0_off49 (k0_t23 : Fin k0_t23_loop.trips) (k0_t24 : Fin k0_t24_loop.trips) : Fin 3 → Nat :=
  let c8_i32_270 : BitVec 32 := 8#32
  let c0_i32_191 : BitVec 32 := 0#32
  let c1_i32_193 : BitVec 32 := 1#32
  let arg15 : BitVec 32 := Scf.iv c0_i32_191 c1_i32_193 k0_t23
  let v180 : BitVec 32 := Scalar.muli c8_i32_270 arg15
  let c0_i32_260 : BitVec 32 := 0#32
  let c1_i32_261 : BitVec 32 := 1#32
  let arg17 : BitVec 32 := Scf.iv c0_i32_260 c1_i32_261 k0_t24
  let c4_i32_265 : BitVec 32 := 4#32
  let v175 : BitVec 32 := Scalar.shrsi arg17 c4_i32_265
  let v181 : BitVec 32 := Scalar.addi v180 v175
  let v182 : Index := Scalar.indexCast v181
  let c3_i32_266 : BitVec 32 := 3#32
  let v176 : BitVec 32 := Scalar.shrsi arg17 c3_i32_266
  let c1_i32_267 : BitVec 32 := 1#32
  let v177 : BitVec 32 := Scalar.andi v176 c1_i32_267
  let v183 : Index := Scalar.indexCast v177
  let c7_i32_268 : BitVec 32 := 7#32
  let v178 : BitVec 32 := Scalar.andi arg17 c7_i32_268
  let c16_i32_269 : BitVec 32 := 16#32
  let v179 : BitVec 32 := Scalar.muli v178 c16_i32_269
  let v184 : Index := Scalar.indexCast v179
  ![v182.toNat, v183.toNat, v184.toNat]
def k0_off50 (k0_t23 : Fin k0_t23_loop.trips) (k0_t24 : Fin k0_t24_loop.trips) : Fin 3 → Nat :=
  let c8_i32_271 : BitVec 32 := 8#32
  let c0_i32_191 : BitVec 32 := 0#32
  let c1_i32_193 : BitVec 32 := 1#32
  let arg15 : BitVec 32 := Scf.iv c0_i32_191 c1_i32_193 k0_t23
  let v188 : BitVec 32 := Scalar.muli c8_i32_271 arg15
  let c4_i32_272 : BitVec 32 := 4#32
  let v189 : BitVec 32 := Scalar.addi v188 c4_i32_272
  let c0_i32_260 : BitVec 32 := 0#32
  let c1_i32_261 : BitVec 32 := 1#32
  let arg17 : BitVec 32 := Scf.iv c0_i32_260 c1_i32_261 k0_t24
  let c4_i32_265 : BitVec 32 := 4#32
  let v175 : BitVec 32 := Scalar.shrsi arg17 c4_i32_265
  let v190 : BitVec 32 := Scalar.addi v189 v175
  let v191 : Index := Scalar.indexCast v190
  let c3_i32_266 : BitVec 32 := 3#32
  let v176 : BitVec 32 := Scalar.shrsi arg17 c3_i32_266
  let c1_i32_267 : BitVec 32 := 1#32
  let v177 : BitVec 32 := Scalar.andi v176 c1_i32_267
  let v192 : Index := Scalar.indexCast v177
  let c7_i32_268 : BitVec 32 := 7#32
  let v178 : BitVec 32 := Scalar.andi arg17 c7_i32_268
  let c16_i32_269 : BitVec 32 := 16#32
  let v179 : BitVec 32 := Scalar.muli v178 c16_i32_269
  let v193 : Index := Scalar.indexCast v179
  ![v191.toNat, v192.toNat, v193.toNat]
def k0_off51 (k0_t23 : Fin k0_t23_loop.trips) (k0_t24 : Fin k0_t24_loop.trips) : Fin 2 → Nat :=
  let c0_i32_191 : BitVec 32 := 0#32
  let c1_i32_193 : BitVec 32 := 1#32
  let arg15 : BitVec 32 := Scf.iv c0_i32_191 c1_i32_193 k0_t23
  let v198 : Index := Scalar.indexCast arg15
  let c0_i32_260 : BitVec 32 := 0#32
  let c1_i32_261 : BitVec 32 := 1#32
  let arg17 : BitVec 32 := Scf.iv c0_i32_260 c1_i32_261 k0_t24
  let c16_i32_264 : BitVec 32 := 16#32
  let v174 : BitVec 32 := Scalar.muli arg17 c16_i32_264
  let v199 : Index := Scalar.indexCast v174
  ![v198.toNat, v199.toNat]
@[reducible] def k0_t25_loop : Scf.Loop 32 :=
  let c0_i32_207 : BitVec 32 := 0#32
  let c16_i32_208 : BitVec 32 := 16#32
  let v133 : BitVec 32 := Scalar.addi c0_i32_207 c16_i32_208
  let c1_i32_209 : BitVec 32 := 1#32
  ⟨c0_i32_207, v133, c1_i32_209⟩
def k0_off52 (k0_t25 : Fin k0_t25_loop.trips) : Fin 2 → Nat :=
  let c192_i32 : BitVec 32 := 192#32
  let c0_i32_207 : BitVec 32 := 0#32
  let c1_i32_209 : BitVec 32 := 1#32
  let arg15 : BitVec 32 := Scf.iv c0_i32_207 c1_i32_209 k0_t25
  let v164 : BitVec 32 := Scalar.addi c192_i32 arg15
  let v165 : Index := Scalar.indexCast v164
  let c0 : Index := 0#32
  ![v165.toNat, 0]
@[reducible] def k0_t26_loop : Scf.Loop 32 :=
  let c0_i32_260 : BitVec 32 := 0#32
  let c64_i32 : BitVec 32 := 64#32
  let v172 : BitVec 32 := Scalar.addi c0_i32_260 c64_i32
  let c1_i32_261 : BitVec 32 := 1#32
  ⟨c0_i32_260, v172, c1_i32_261⟩
def k0_off53 (k0_t25 : Fin k0_t25_loop.trips) (k0_t26 : Fin k0_t26_loop.trips) : Fin 3 → Nat :=
  let c8_i32_270 : BitVec 32 := 8#32
  let c0_i32_207 : BitVec 32 := 0#32
  let c1_i32_209 : BitVec 32 := 1#32
  let arg15 : BitVec 32 := Scf.iv c0_i32_207 c1_i32_209 k0_t25
  let v180 : BitVec 32 := Scalar.muli c8_i32_270 arg15
  let c0_i32_260 : BitVec 32 := 0#32
  let c1_i32_261 : BitVec 32 := 1#32
  let arg17 : BitVec 32 := Scf.iv c0_i32_260 c1_i32_261 k0_t26
  let c4_i32_265 : BitVec 32 := 4#32
  let v175 : BitVec 32 := Scalar.shrsi arg17 c4_i32_265
  let v181 : BitVec 32 := Scalar.addi v180 v175
  let v182 : Index := Scalar.indexCast v181
  let c3_i32_266 : BitVec 32 := 3#32
  let v176 : BitVec 32 := Scalar.shrsi arg17 c3_i32_266
  let c1_i32_267 : BitVec 32 := 1#32
  let v177 : BitVec 32 := Scalar.andi v176 c1_i32_267
  let v183 : Index := Scalar.indexCast v177
  let c7_i32_268 : BitVec 32 := 7#32
  let v178 : BitVec 32 := Scalar.andi arg17 c7_i32_268
  let c16_i32_269 : BitVec 32 := 16#32
  let v179 : BitVec 32 := Scalar.muli v178 c16_i32_269
  let v184 : Index := Scalar.indexCast v179
  ![v182.toNat, v183.toNat, v184.toNat]
def k0_off54 (k0_t25 : Fin k0_t25_loop.trips) (k0_t26 : Fin k0_t26_loop.trips) : Fin 3 → Nat :=
  let c8_i32_271 : BitVec 32 := 8#32
  let c0_i32_207 : BitVec 32 := 0#32
  let c1_i32_209 : BitVec 32 := 1#32
  let arg15 : BitVec 32 := Scf.iv c0_i32_207 c1_i32_209 k0_t25
  let v188 : BitVec 32 := Scalar.muli c8_i32_271 arg15
  let c4_i32_272 : BitVec 32 := 4#32
  let v189 : BitVec 32 := Scalar.addi v188 c4_i32_272
  let c0_i32_260 : BitVec 32 := 0#32
  let c1_i32_261 : BitVec 32 := 1#32
  let arg17 : BitVec 32 := Scf.iv c0_i32_260 c1_i32_261 k0_t26
  let c4_i32_265 : BitVec 32 := 4#32
  let v175 : BitVec 32 := Scalar.shrsi arg17 c4_i32_265
  let v190 : BitVec 32 := Scalar.addi v189 v175
  let v191 : Index := Scalar.indexCast v190
  let c3_i32_266 : BitVec 32 := 3#32
  let v176 : BitVec 32 := Scalar.shrsi arg17 c3_i32_266
  let c1_i32_267 : BitVec 32 := 1#32
  let v177 : BitVec 32 := Scalar.andi v176 c1_i32_267
  let v192 : Index := Scalar.indexCast v177
  let c7_i32_268 : BitVec 32 := 7#32
  let v178 : BitVec 32 := Scalar.andi arg17 c7_i32_268
  let c16_i32_269 : BitVec 32 := 16#32
  let v179 : BitVec 32 := Scalar.muli v178 c16_i32_269
  let v193 : Index := Scalar.indexCast v179
  ![v191.toNat, v192.toNat, v193.toNat]
def k0_off55 (k0_t25 : Fin k0_t25_loop.trips) (k0_t26 : Fin k0_t26_loop.trips) : Fin 2 → Nat :=
  let c0_i32_207 : BitVec 32 := 0#32
  let c1_i32_209 : BitVec 32 := 1#32
  let arg15 : BitVec 32 := Scf.iv c0_i32_207 c1_i32_209 k0_t25
  let v198 : Index := Scalar.indexCast arg15
  let c0_i32_260 : BitVec 32 := 0#32
  let c1_i32_261 : BitVec 32 := 1#32
  let arg17 : BitVec 32 := Scf.iv c0_i32_260 c1_i32_261 k0_t26
  let c16_i32_264 : BitVec 32 := 16#32
  let v174 : BitVec 32 := Scalar.muli arg17 c16_i32_264
  let v199 : Index := Scalar.indexCast v174
  ![v198.toNat, v199.toNat]
@[reducible] def k0_t27_loop : Scf.Loop 32 :=
  let c0_i32_223 : BitVec 32 := 0#32
  let c16_i32_224 : BitVec 32 := 16#32
  let v143 : BitVec 32 := Scalar.addi c0_i32_223 c16_i32_224
  let c1_i32_225 : BitVec 32 := 1#32
  ⟨c0_i32_223, v143, c1_i32_225⟩
def k0_off56 (k0_t27 : Fin k0_t27_loop.trips) : Fin 2 → Nat :=
  let c208_i32 : BitVec 32 := 208#32
  let c0_i32_223 : BitVec 32 := 0#32
  let c1_i32_225 : BitVec 32 := 1#32
  let arg15 : BitVec 32 := Scf.iv c0_i32_223 c1_i32_225 k0_t27
  let v164 : BitVec 32 := Scalar.addi c208_i32 arg15
  let v165 : Index := Scalar.indexCast v164
  let c0 : Index := 0#32
  ![v165.toNat, 0]
@[reducible] def k0_t28_loop : Scf.Loop 32 :=
  let c0_i32_260 : BitVec 32 := 0#32
  let c64_i32 : BitVec 32 := 64#32
  let v172 : BitVec 32 := Scalar.addi c0_i32_260 c64_i32
  let c1_i32_261 : BitVec 32 := 1#32
  ⟨c0_i32_260, v172, c1_i32_261⟩
def k0_off57 (k0_t27 : Fin k0_t27_loop.trips) (k0_t28 : Fin k0_t28_loop.trips) : Fin 3 → Nat :=
  let c8_i32_270 : BitVec 32 := 8#32
  let c0_i32_223 : BitVec 32 := 0#32
  let c1_i32_225 : BitVec 32 := 1#32
  let arg15 : BitVec 32 := Scf.iv c0_i32_223 c1_i32_225 k0_t27
  let v180 : BitVec 32 := Scalar.muli c8_i32_270 arg15
  let c0_i32_260 : BitVec 32 := 0#32
  let c1_i32_261 : BitVec 32 := 1#32
  let arg17 : BitVec 32 := Scf.iv c0_i32_260 c1_i32_261 k0_t28
  let c4_i32_265 : BitVec 32 := 4#32
  let v175 : BitVec 32 := Scalar.shrsi arg17 c4_i32_265
  let v181 : BitVec 32 := Scalar.addi v180 v175
  let v182 : Index := Scalar.indexCast v181
  let c3_i32_266 : BitVec 32 := 3#32
  let v176 : BitVec 32 := Scalar.shrsi arg17 c3_i32_266
  let c1_i32_267 : BitVec 32 := 1#32
  let v177 : BitVec 32 := Scalar.andi v176 c1_i32_267
  let v183 : Index := Scalar.indexCast v177
  let c7_i32_268 : BitVec 32 := 7#32
  let v178 : BitVec 32 := Scalar.andi arg17 c7_i32_268
  let c16_i32_269 : BitVec 32 := 16#32
  let v179 : BitVec 32 := Scalar.muli v178 c16_i32_269
  let v184 : Index := Scalar.indexCast v179
  ![v182.toNat, v183.toNat, v184.toNat]
def k0_off58 (k0_t27 : Fin k0_t27_loop.trips) (k0_t28 : Fin k0_t28_loop.trips) : Fin 3 → Nat :=
  let c8_i32_271 : BitVec 32 := 8#32
  let c0_i32_223 : BitVec 32 := 0#32
  let c1_i32_225 : BitVec 32 := 1#32
  let arg15 : BitVec 32 := Scf.iv c0_i32_223 c1_i32_225 k0_t27
  let v188 : BitVec 32 := Scalar.muli c8_i32_271 arg15
  let c4_i32_272 : BitVec 32 := 4#32
  let v189 : BitVec 32 := Scalar.addi v188 c4_i32_272
  let c0_i32_260 : BitVec 32 := 0#32
  let c1_i32_261 : BitVec 32 := 1#32
  let arg17 : BitVec 32 := Scf.iv c0_i32_260 c1_i32_261 k0_t28
  let c4_i32_265 : BitVec 32 := 4#32
  let v175 : BitVec 32 := Scalar.shrsi arg17 c4_i32_265
  let v190 : BitVec 32 := Scalar.addi v189 v175
  let v191 : Index := Scalar.indexCast v190
  let c3_i32_266 : BitVec 32 := 3#32
  let v176 : BitVec 32 := Scalar.shrsi arg17 c3_i32_266
  let c1_i32_267 : BitVec 32 := 1#32
  let v177 : BitVec 32 := Scalar.andi v176 c1_i32_267
  let v192 : Index := Scalar.indexCast v177
  let c7_i32_268 : BitVec 32 := 7#32
  let v178 : BitVec 32 := Scalar.andi arg17 c7_i32_268
  let c16_i32_269 : BitVec 32 := 16#32
  let v179 : BitVec 32 := Scalar.muli v178 c16_i32_269
  let v193 : Index := Scalar.indexCast v179
  ![v191.toNat, v192.toNat, v193.toNat]
def k0_off59 (k0_t27 : Fin k0_t27_loop.trips) (k0_t28 : Fin k0_t28_loop.trips) : Fin 2 → Nat :=
  let c0_i32_223 : BitVec 32 := 0#32
  let c1_i32_225 : BitVec 32 := 1#32
  let arg15 : BitVec 32 := Scf.iv c0_i32_223 c1_i32_225 k0_t27
  let v198 : Index := Scalar.indexCast arg15
  let c0_i32_260 : BitVec 32 := 0#32
  let c1_i32_261 : BitVec 32 := 1#32
  let arg17 : BitVec 32 := Scf.iv c0_i32_260 c1_i32_261 k0_t28
  let c16_i32_264 : BitVec 32 := 16#32
  let v174 : BitVec 32 := Scalar.muli arg17 c16_i32_264
  let v199 : Index := Scalar.indexCast v174
  ![v198.toNat, v199.toNat]
@[reducible] def k0_t29_loop : Scf.Loop 32 :=
  let c0_i32_239 : BitVec 32 := 0#32
  let c16_i32_240 : BitVec 32 := 16#32
  let v153 : BitVec 32 := Scalar.addi c0_i32_239 c16_i32_240
  let c1_i32_241 : BitVec 32 := 1#32
  ⟨c0_i32_239, v153, c1_i32_241⟩
def k0_off60 (k0_t29 : Fin k0_t29_loop.trips) : Fin 2 → Nat :=
  let c224_i32 : BitVec 32 := 224#32
  let c0_i32_239 : BitVec 32 := 0#32
  let c1_i32_241 : BitVec 32 := 1#32
  let arg15 : BitVec 32 := Scf.iv c0_i32_239 c1_i32_241 k0_t29
  let v164 : BitVec 32 := Scalar.addi c224_i32 arg15
  let v165 : Index := Scalar.indexCast v164
  let c0 : Index := 0#32
  ![v165.toNat, 0]
@[reducible] def k0_t30_loop : Scf.Loop 32 :=
  let c0_i32_260 : BitVec 32 := 0#32
  let c64_i32 : BitVec 32 := 64#32
  let v172 : BitVec 32 := Scalar.addi c0_i32_260 c64_i32
  let c1_i32_261 : BitVec 32 := 1#32
  ⟨c0_i32_260, v172, c1_i32_261⟩
def k0_off61 (k0_t29 : Fin k0_t29_loop.trips) (k0_t30 : Fin k0_t30_loop.trips) : Fin 3 → Nat :=
  let c8_i32_270 : BitVec 32 := 8#32
  let c0_i32_239 : BitVec 32 := 0#32
  let c1_i32_241 : BitVec 32 := 1#32
  let arg15 : BitVec 32 := Scf.iv c0_i32_239 c1_i32_241 k0_t29
  let v180 : BitVec 32 := Scalar.muli c8_i32_270 arg15
  let c0_i32_260 : BitVec 32 := 0#32
  let c1_i32_261 : BitVec 32 := 1#32
  let arg17 : BitVec 32 := Scf.iv c0_i32_260 c1_i32_261 k0_t30
  let c4_i32_265 : BitVec 32 := 4#32
  let v175 : BitVec 32 := Scalar.shrsi arg17 c4_i32_265
  let v181 : BitVec 32 := Scalar.addi v180 v175
  let v182 : Index := Scalar.indexCast v181
  let c3_i32_266 : BitVec 32 := 3#32
  let v176 : BitVec 32 := Scalar.shrsi arg17 c3_i32_266
  let c1_i32_267 : BitVec 32 := 1#32
  let v177 : BitVec 32 := Scalar.andi v176 c1_i32_267
  let v183 : Index := Scalar.indexCast v177
  let c7_i32_268 : BitVec 32 := 7#32
  let v178 : BitVec 32 := Scalar.andi arg17 c7_i32_268
  let c16_i32_269 : BitVec 32 := 16#32
  let v179 : BitVec 32 := Scalar.muli v178 c16_i32_269
  let v184 : Index := Scalar.indexCast v179
  ![v182.toNat, v183.toNat, v184.toNat]
def k0_off62 (k0_t29 : Fin k0_t29_loop.trips) (k0_t30 : Fin k0_t30_loop.trips) : Fin 3 → Nat :=
  let c8_i32_271 : BitVec 32 := 8#32
  let c0_i32_239 : BitVec 32 := 0#32
  let c1_i32_241 : BitVec 32 := 1#32
  let arg15 : BitVec 32 := Scf.iv c0_i32_239 c1_i32_241 k0_t29
  let v188 : BitVec 32 := Scalar.muli c8_i32_271 arg15
  let c4_i32_272 : BitVec 32 := 4#32
  let v189 : BitVec 32 := Scalar.addi v188 c4_i32_272
  let c0_i32_260 : BitVec 32 := 0#32
  let c1_i32_261 : BitVec 32 := 1#32
  let arg17 : BitVec 32 := Scf.iv c0_i32_260 c1_i32_261 k0_t30
  let c4_i32_265 : BitVec 32 := 4#32
  let v175 : BitVec 32 := Scalar.shrsi arg17 c4_i32_265
  let v190 : BitVec 32 := Scalar.addi v189 v175
  let v191 : Index := Scalar.indexCast v190
  let c3_i32_266 : BitVec 32 := 3#32
  let v176 : BitVec 32 := Scalar.shrsi arg17 c3_i32_266
  let c1_i32_267 : BitVec 32 := 1#32
  let v177 : BitVec 32 := Scalar.andi v176 c1_i32_267
  let v192 : Index := Scalar.indexCast v177
  let c7_i32_268 : BitVec 32 := 7#32
  let v178 : BitVec 32 := Scalar.andi arg17 c7_i32_268
  let c16_i32_269 : BitVec 32 := 16#32
  let v179 : BitVec 32 := Scalar.muli v178 c16_i32_269
  let v193 : Index := Scalar.indexCast v179
  ![v191.toNat, v192.toNat, v193.toNat]
def k0_off63 (k0_t29 : Fin k0_t29_loop.trips) (k0_t30 : Fin k0_t30_loop.trips) : Fin 2 → Nat :=
  let c0_i32_239 : BitVec 32 := 0#32
  let c1_i32_241 : BitVec 32 := 1#32
  let arg15 : BitVec 32 := Scf.iv c0_i32_239 c1_i32_241 k0_t29
  let v198 : Index := Scalar.indexCast arg15
  let c0_i32_260 : BitVec 32 := 0#32
  let c1_i32_261 : BitVec 32 := 1#32
  let arg17 : BitVec 32 := Scf.iv c0_i32_260 c1_i32_261 k0_t30
  let c16_i32_264 : BitVec 32 := 16#32
  let v174 : BitVec 32 := Scalar.muli arg17 c16_i32_264
  let v199 : Index := Scalar.indexCast v174
  ![v198.toNat, v199.toNat]
@[reducible] def k0_t31_loop : Scf.Loop 32 :=
  let c0_i32_251 : BitVec 32 := 0#32
  let c16_i32_252 : BitVec 32 := 16#32
  let v160 : BitVec 32 := Scalar.addi c0_i32_251 c16_i32_252
  let c1_i32_253 : BitVec 32 := 1#32
  ⟨c0_i32_251, v160, c1_i32_253⟩
def k0_off64 (k0_t31 : Fin k0_t31_loop.trips) : Fin 2 → Nat :=
  let c240_i32 : BitVec 32 := 240#32
  let c0_i32_251 : BitVec 32 := 0#32
  let c1_i32_253 : BitVec 32 := 1#32
  let arg15 : BitVec 32 := Scf.iv c0_i32_251 c1_i32_253 k0_t31
  let v164 : BitVec 32 := Scalar.addi c240_i32 arg15
  let v165 : Index := Scalar.indexCast v164
  let c0 : Index := 0#32
  ![v165.toNat, 0]
@[reducible] def k0_t32_loop : Scf.Loop 32 :=
  let c0_i32_260 : BitVec 32 := 0#32
  let c64_i32 : BitVec 32 := 64#32
  let v172 : BitVec 32 := Scalar.addi c0_i32_260 c64_i32
  let c1_i32_261 : BitVec 32 := 1#32
  ⟨c0_i32_260, v172, c1_i32_261⟩
def k0_off65 (k0_t31 : Fin k0_t31_loop.trips) (k0_t32 : Fin k0_t32_loop.trips) : Fin 3 → Nat :=
  let c8_i32_270 : BitVec 32 := 8#32
  let c0_i32_251 : BitVec 32 := 0#32
  let c1_i32_253 : BitVec 32 := 1#32
  let arg15 : BitVec 32 := Scf.iv c0_i32_251 c1_i32_253 k0_t31
  let v180 : BitVec 32 := Scalar.muli c8_i32_270 arg15
  let c0_i32_260 : BitVec 32 := 0#32
  let c1_i32_261 : BitVec 32 := 1#32
  let arg17 : BitVec 32 := Scf.iv c0_i32_260 c1_i32_261 k0_t32
  let c4_i32_265 : BitVec 32 := 4#32
  let v175 : BitVec 32 := Scalar.shrsi arg17 c4_i32_265
  let v181 : BitVec 32 := Scalar.addi v180 v175
  let v182 : Index := Scalar.indexCast v181
  let c3_i32_266 : BitVec 32 := 3#32
  let v176 : BitVec 32 := Scalar.shrsi arg17 c3_i32_266
  let c1_i32_267 : BitVec 32 := 1#32
  let v177 : BitVec 32 := Scalar.andi v176 c1_i32_267
  let v183 : Index := Scalar.indexCast v177
  let c7_i32_268 : BitVec 32 := 7#32
  let v178 : BitVec 32 := Scalar.andi arg17 c7_i32_268
  let c16_i32_269 : BitVec 32 := 16#32
  let v179 : BitVec 32 := Scalar.muli v178 c16_i32_269
  let v184 : Index := Scalar.indexCast v179
  ![v182.toNat, v183.toNat, v184.toNat]
def k0_off66 (k0_t31 : Fin k0_t31_loop.trips) (k0_t32 : Fin k0_t32_loop.trips) : Fin 3 → Nat :=
  let c8_i32_271 : BitVec 32 := 8#32
  let c0_i32_251 : BitVec 32 := 0#32
  let c1_i32_253 : BitVec 32 := 1#32
  let arg15 : BitVec 32 := Scf.iv c0_i32_251 c1_i32_253 k0_t31
  let v188 : BitVec 32 := Scalar.muli c8_i32_271 arg15
  let c4_i32_272 : BitVec 32 := 4#32
  let v189 : BitVec 32 := Scalar.addi v188 c4_i32_272
  let c0_i32_260 : BitVec 32 := 0#32
  let c1_i32_261 : BitVec 32 := 1#32
  let arg17 : BitVec 32 := Scf.iv c0_i32_260 c1_i32_261 k0_t32
  let c4_i32_265 : BitVec 32 := 4#32
  let v175 : BitVec 32 := Scalar.shrsi arg17 c4_i32_265
  let v190 : BitVec 32 := Scalar.addi v189 v175
  let v191 : Index := Scalar.indexCast v190
  let c3_i32_266 : BitVec 32 := 3#32
  let v176 : BitVec 32 := Scalar.shrsi arg17 c3_i32_266
  let c1_i32_267 : BitVec 32 := 1#32
  let v177 : BitVec 32 := Scalar.andi v176 c1_i32_267
  let v192 : Index := Scalar.indexCast v177
  let c7_i32_268 : BitVec 32 := 7#32
  let v178 : BitVec 32 := Scalar.andi arg17 c7_i32_268
  let c16_i32_269 : BitVec 32 := 16#32
  let v179 : BitVec 32 := Scalar.muli v178 c16_i32_269
  let v193 : Index := Scalar.indexCast v179
  ![v191.toNat, v192.toNat, v193.toNat]
def k0_off67 (k0_t31 : Fin k0_t31_loop.trips) (k0_t32 : Fin k0_t32_loop.trips) : Fin 2 → Nat :=
  let c0_i32_251 : BitVec 32 := 0#32
  let c1_i32_253 : BitVec 32 := 1#32
  let arg15 : BitVec 32 := Scf.iv c0_i32_251 c1_i32_253 k0_t31
  let v198 : Index := Scalar.indexCast arg15
  let c0_i32_260 : BitVec 32 := 0#32
  let c1_i32_261 : BitVec 32 := 1#32
  let arg17 : BitVec 32 := Scf.iv c0_i32_260 c1_i32_261 k0_t32
  let c16_i32_264 : BitVec 32 := 16#32
  let v174 : BitVec 32 := Scalar.muli arg17 c16_i32_264
  let v199 : Index := Scalar.indexCast v174
  ![v198.toNat, v199.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== CombineRefIdeal.lean ====
abbrev S20480x1024 : Shape := ⟨2, ![20480, 1024]⟩
abbrev S8192x2 : Shape := ⟨2, ![8192, 2]⟩
abbrev S8192x1 : Shape := ⟨2, ![8192, 1]⟩
abbrev S8192 : Shape := ⟨1, ![8192]⟩
abbrev S_ : Shape := ⟨0, ![]⟩
abbrev S8192x1024 : Shape := ⟨2, ![8192, 1024]⟩

abbrev nBuf : Space → Nat
  | .hbm => 32
  | .vmem => 0
  | .smem => 0
  | _ => 0

abbrev bufTy : (tb : Table) → Fin (tcTables nBuf tb) → BufTy
  | .hbm, ⟨0, _⟩ => ⟨S20480x1024, .f32⟩
  | .hbm, ⟨1, _⟩ => ⟨S8192x2, .i32⟩
  | .hbm, ⟨2, _⟩ => ⟨S8192x2, .f32⟩
  | .hbm, ⟨3, _⟩ => ⟨S8192x1, .f32⟩
  | .hbm, ⟨4, _⟩ => ⟨S8192x1, .i32⟩
  | .hbm, ⟨5, _⟩ => ⟨S8192, .i32⟩
  | .hbm, ⟨6, _⟩ => ⟨S_, .i32⟩
  | .hbm, ⟨7, _⟩ => ⟨S8192, .i32⟩
  | .hbm, ⟨8, _⟩ => ⟨S8192, .i1⟩
  | .hbm, ⟨9, _⟩ => ⟨S_, .i32⟩
  | .hbm, ⟨10, _⟩ => ⟨S8192, .i32⟩
  | .hbm, ⟨11, _⟩ => ⟨S8192, .i32⟩
  | .hbm, ⟨12, _⟩ => ⟨S8192, .i32⟩
  | .hbm, ⟨13, _⟩ => ⟨S8192x1, .i32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1, .f32⟩
  | .hbm, ⟨18, _⟩ => ⟨S8192x1, .i32⟩
  | .hbm, ⟨19, _⟩ => ⟨S8192, .i32⟩
  | .hbm, ⟨20, _⟩ => ⟨S_, .i32⟩
  | .hbm, ⟨21, _⟩ => ⟨S8192, .i32⟩
  | .hbm, ⟨22, _⟩ => ⟨S8192, .i1⟩
  | .hbm, ⟨23, _⟩ => ⟨S_, .i32⟩
  | .hbm, ⟨24, _⟩ => ⟨S8192, .i32⟩
  | .hbm, ⟨25, _⟩ => ⟨S8192, .i32⟩
  | .hbm, ⟨26, _⟩ => ⟨S8192, .i32⟩
  | .hbm, ⟨27, _⟩ => ⟨S8192x1, .i32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | _, _ => ⟨S20480x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c_1 : Ref sig .tc := ⟨.hbm, 20, rfl⟩
abbrev main_v15 : Ref sig .tc := ⟨.hbm, 21, rfl⟩
abbrev main_v16 : Ref sig .tc := ⟨.hbm, 22, rfl⟩
abbrev main_c_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩

abbrev nD : Nat := 1
abbrev τ : Topo := Topo.v7x

variable {F : FTy → Type} [FloatOps F]
-- ==== Ffn.lean ====
abbrev S80 : Shape := ⟨1, ![80]⟩
abbrev S20480x1024 : Shape := ⟨2, ![20480, 1024]⟩
abbrev S16x1024x1024 : Shape := ⟨3, ![16, 1024, 1024]⟩
abbrev S16x1024 : Shape := ⟨2, ![16, 1024]⟩
abbrev S16x1x1024 : Shape := ⟨3, ![16, 1, 1024]⟩
abbrev S256x1024 : Shape := ⟨2, ![256, 1024]⟩
abbrev S1x1024x1024 : Shape := ⟨3, ![1, 1024, 1024]⟩
abbrev S1 : Shape := ⟨1, ![1]⟩
abbrev S1x1x1024 : Shape := ⟨3, ![1, 1, 1024]⟩
abbrev S1024x1024 : Shape := ⟨2, ![1024, 1024]⟩
abbrev S1x1024 : Shape := ⟨2, ![1, 1024]⟩

abbrev nBuf : Space → Nat
  | .hbm => 8
  | .vmem => 12
  | .smem => 1
  | _ => 0

abbrev bufTy : (tb : Table) → Fin (tcTables nBuf tb) → BufTy
  | .hbm, ⟨0, _⟩ => ⟨S20480x1024, .f32⟩
  | .hbm, ⟨1, _⟩ => ⟨S16x1024x1024, .f32⟩
  | .hbm, ⟨2, _⟩ => ⟨S16x1024, .f32⟩
  | .hbm, ⟨3, _⟩ => ⟨S16x1024x1024, .f32⟩
  | .hbm, ⟨4, _⟩ => ⟨S16x1024, .f32⟩
  | .hbm, ⟨5, _⟩ => ⟨S16x1x1024, .f32⟩
  | .hbm, ⟨6, _⟩ => ⟨S16x1x1024, .f32⟩
  | .hbm, ⟨7, _⟩ => ⟨S20480x1024, .f32⟩
  | .local _ .vmem, ⟨0, _⟩ => ⟨S256x1024, .f32⟩
  | .local _ .vmem, ⟨1, _⟩ => ⟨S256x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1x1024, .f32⟩
  | .local _ .vmem, ⟨9, _⟩ => ⟨S1x1x1024, .f32⟩
  | .local _ .vmem, ⟨10, _⟩ => ⟨S256x1024, .f32⟩
  | .local _ .vmem, ⟨11, _⟩ => ⟨S256x1024, .f32⟩
  | .local _ .smem, ⟨0, _⟩ => ⟨S80, .i32⟩
  | _, _ => ⟨S20480x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![80], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S80.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S80) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S80.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S80) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S80.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S80) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S80.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S80) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnRefIdeal.lean ====
abbrev S80 : Shape := ⟨1, ![80]⟩
abbrev S20480x1024 : Shape := ⟨2, ![20480, 1024]⟩
abbrev S16x1024x1024 : Shape := ⟨3, ![16, 1024, 1024]⟩
abbrev S16x1024 : Shape := ⟨2, ![16, 1024]⟩
abbrev S80x256 : Shape := ⟨2, ![80, 256]⟩
abbrev S20480 : Shape := ⟨1, ![20480]⟩
abbrev S_ : Shape := ⟨0, ![]⟩
abbrev S20480x1 : Shape := ⟨2, ![20480, 1]⟩
abbrev S20480x1024x1024 : Shape := ⟨3, ![20480, 1024, 1024]⟩

abbrev nBuf : Space → Nat
  | .hbm => 51
  | .vmem => 0
  | .smem => 0
  | _ => 0

abbrev bufTy : (tb : Table) → Fin (tcTables nBuf tb) → BufTy
  | .hbm, ⟨0, _⟩ => ⟨S80, .i32⟩
  | .hbm, ⟨1, _⟩ => ⟨S20480x1024, .f32⟩
  | .hbm, ⟨2, _⟩ => ⟨S16x1024x1024, .f32⟩
  | .hbm, ⟨3, _⟩ => ⟨S16x1024, .f32⟩
  | .hbm, ⟨4, _⟩ => ⟨S16x1024x1024, .f32⟩
  | .hbm, ⟨5, _⟩ => ⟨S16x1024, .f32⟩
  | .hbm, ⟨6, _⟩ => ⟨S80x256, .i32⟩
  | .hbm, ⟨7, _⟩ => ⟨S20480, .i32⟩
  | .hbm, ⟨8, _⟩ => ⟨S_, .i32⟩
  | .hbm, ⟨9, _⟩ => ⟨S20480, .i32⟩
  | .hbm, ⟨10, _⟩ => ⟨S20480, .i1⟩
  | .hbm, ⟨11, _⟩ => ⟨S_, .i32⟩
  | .hbm, ⟨12, _⟩ => ⟨S20480, .i32⟩
  | .hbm, ⟨13, _⟩ => ⟨S20480, .i32⟩
  | .hbm, ⟨14, _⟩ => ⟨S20480, .i32⟩
  | .hbm, ⟨15, _⟩ => ⟨S20480x1, .i32⟩
  | .hbm, ⟨16, _⟩ => ⟨S20480x1024x1024, .f32⟩
  | .hbm, ⟨17, _⟩ => ⟨S20480x1024, .f32⟩
  | .hbm, ⟨18, _⟩ => ⟨S_, .i32⟩
  | .hbm, ⟨19, _⟩ => ⟨S20480, .i32⟩
  | .hbm, ⟨20, _⟩ => ⟨S20480, .i1⟩
  | .hbm, ⟨21, _⟩ => ⟨S_, .i32⟩
  | .hbm, ⟨22, _⟩ => ⟨S20480, .i32⟩
  | .hbm, ⟨23, _⟩ => ⟨S20480, .i32⟩
  | .hbm, ⟨24, _⟩ => ⟨S20480, .i32⟩
  | .hbm, ⟨25, _⟩ => ⟨S20480x1, .i32⟩
  | .hbm, ⟨26, _⟩ => ⟨S20480x1024, .f32⟩
  | .hbm, ⟨27, _⟩ => ⟨S20480x1024, .f32⟩
  | .hbm, ⟨28, _⟩ => ⟨S_, .f32⟩
  | .hbm, ⟨29, _⟩ => ⟨S20480x1024, .f32⟩
  | .hbm, ⟨30, _⟩ => ⟨S20480x1024, .f32⟩
  | .hbm, ⟨31, _⟩ => ⟨S_, .i32⟩
  | .hbm, ⟨32, _⟩ => ⟨S20480, .i32⟩
  | .hbm, ⟨33, _⟩ => ⟨S20480, .i1⟩
  | .hbm, ⟨34, _⟩ => ⟨S_, .i32⟩
  | .hbm, ⟨35, _⟩ => ⟨S20480, .i32⟩
  | .hbm, ⟨36, _⟩ => ⟨S20480, .i32⟩
  | .hbm, ⟨37, _⟩ => ⟨S20480, .i32⟩
  | .hbm, ⟨38, _⟩ => ⟨S20480x1, .i32⟩
  | .hbm, ⟨39, _⟩ => ⟨S20480x1024x1024, .f32⟩
  | .hbm, ⟨40, _⟩ => ⟨S20480x1024, .f32⟩
  | .hbm, ⟨41, _⟩ => ⟨S_, .i32⟩
  | .hbm, ⟨42, _⟩ => ⟨S20480, .i32⟩
  | .hbm, ⟨43, _⟩ => ⟨S20480, .i1⟩
  | .hbm, ⟨44, _⟩ => ⟨S_, .i32⟩
  | .hbm, ⟨45, _⟩ => ⟨S20480, .i32⟩
  | .hbm, ⟨46, _⟩ => ⟨S20480, .i32⟩
  | .hbm, ⟨47, _⟩ => ⟨S20480, .i32⟩
  | .hbm, ⟨48, _⟩ => ⟨S20480x1, .i32⟩
  | .hbm, ⟨49, _⟩ => ⟨S20480x1024, .f32⟩
  | .hbm, ⟨50, _⟩ => ⟨S20480x1024, .f32⟩
  | _, _ => ⟨S80, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_1 : Ref sig .tc := ⟨.hbm, 18, rfl⟩
abbrev main_v10 : Ref sig .tc := ⟨.hbm, 19, rfl⟩
abbrev main_v11 : Ref sig .tc := ⟨.hbm, 20, rfl⟩
abbrev main_c_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_cst : Ref sig .tc := ⟨.hbm, 28, rfl⟩
abbrev main_call0_v0 : Ref sig .tc := ⟨.hbm, 29, rfl⟩
abbrev main_v18 : Ref sig .tc := ⟨.hbm, 30, rfl⟩
abbrev main_c_3 : Ref sig .tc := ⟨.hbm, 31, rfl⟩
abbrev main_v19 : Ref sig .tc := ⟨.hbm, 32, rfl⟩
abbrev main_v20 : Ref sig .tc := ⟨.hbm, 33, rfl⟩
abbrev main_c_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_5 : Ref sig .tc := ⟨.hbm, 41, rfl⟩
abbrev main_v27 : Ref sig .tc := ⟨.hbm, 42, rfl⟩
abbrev main_v28 : Ref sig .tc := ⟨.hbm, 43, rfl⟩
abbrev main_c_6 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩

abbrev nD : Nat := 1
abbrev τ : Topo := Topo.v7x

variable {F : FTy → Type} [FloatOps F]
-- ==== Gate.lean ====
abbrev S8192x1024 : Shape := ⟨2, ![8192, 1024]⟩
abbrev S1024x16 : Shape := ⟨2, ![1024, 16]⟩
abbrev S16 : Shape := ⟨1, ![16]⟩
abbrev S_ : Shape := ⟨0, ![]⟩
abbrev S1024x128 : Shape := ⟨2, ![1024, 128]⟩
abbrev S1 : Shape := ⟨1, ![1]⟩
abbrev S1x128 : Shape := ⟨2, ![1, 128]⟩
abbrev S2 : Shape := ⟨1, ![2]⟩
abbrev S8192x128 : Shape := ⟨2, ![8192, 128]⟩
abbrev S256x1024 : Shape := ⟨2, ![256, 1024]⟩
abbrev S256x128 : Shape := ⟨2, ![256, 128]⟩
abbrev S256 : Shape := ⟨1, ![256]⟩
abbrev S256x1 : Shape := ⟨2, ![256, 1]⟩
abbrev S256x256 : Shape := ⟨2, ![256, 256]⟩
abbrev S128 : Shape := ⟨1, ![128]⟩

abbrev nBuf : Space → Nat
  | .hbm => 18
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1024x16, .f32⟩
  | .hbm, ⟨2, _⟩ => ⟨S16, .f32⟩
  | .hbm, ⟨3, _⟩ => ⟨S_, .f32⟩
  | .hbm, ⟨4, _⟩ => ⟨S1024x128, .f32⟩
  | .hbm, ⟨5, _⟩ => ⟨S_, .i32⟩
  | .hbm, ⟨6, _⟩ => ⟨S1, .i32⟩
  | .hbm, ⟨7, _⟩ => ⟨S1024x128, .f32⟩
  | .hbm, ⟨8, _⟩ => ⟨S_, .f32⟩
  | .hbm, ⟨9, _⟩ => ⟨S1x128, .f32⟩
  | .hbm, ⟨10, _⟩ => ⟨S_, .i32⟩
  | .hbm, ⟨11, _⟩ => ⟨S1, .i32⟩
  | .hbm, ⟨12, _⟩ => ⟨S_, .i32⟩
  | .hbm, ⟨13, _⟩ => ⟨S1, .i32⟩
  | .hbm, ⟨14, _⟩ => ⟨S2, .i32⟩
  | .hbm, ⟨15, _⟩ => ⟨S1x128, .f32⟩
  | .hbm, ⟨16, _⟩ => ⟨S8192x128, .f32⟩
  | .hbm, ⟨17, _⟩ => ⟨S1x128, .f32⟩
  | .local _ .vmem, ⟨0, _⟩ => ⟨S256x1024, .f32⟩
  | .local _ .vmem, ⟨1, _⟩ => ⟨S256x1024, .f32⟩
  | .local _ .vmem, ⟨2, _⟩ => ⟨S1024x128, .f32⟩
  | .local _ .vmem, ⟨3, _⟩ => ⟨S1x128, .f32⟩
  | .local _ .vmem, ⟨4, _⟩ => ⟨S256x128, .f32⟩
  | .local _ .vmem, ⟨5, _⟩ => ⟨S256x128, .f32⟩
  | .local _ .vmem, ⟨6, _⟩ => ⟨S1x128, .f32⟩
  | .local _ .vmem, ⟨7, _⟩ => ⟨S1x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_c_1 : Ref sig .tc := ⟨.hbm, 10, rfl⟩
abbrev main_v4 : Ref sig .tc := ⟨.hbm, 11, rfl⟩
abbrev main_c_2 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== GateIdeal.lean ====
variable {F : FTy → Type} [FloatOps F] [Named F]
def κ : String → Option EReal := fun
  | "mask" => some ⊥
  | _ => none
-- ==== GateRefIdeal.lean ====
abbrev S8192x1024 : Shape := ⟨2, ![8192, 1024]⟩
abbrev S1024x16 : Shape := ⟨2, ![1024, 16]⟩
abbrev S16 : Shape := ⟨1, ![16]⟩
abbrev S8192x16 : Shape := ⟨2, ![8192, 16]⟩
abbrev S1x16 : Shape := ⟨2, ![1, 16]⟩
abbrev S_ : Shape := ⟨0, ![]⟩
abbrev S8192 : Shape := ⟨1, ![8192]⟩
abbrev S8192x1 : Shape := ⟨2, ![8192, 1]⟩
abbrev S8192x2 : Shape := ⟨2, ![8192, 2]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S128 : Shape := ⟨1, ![128]⟩
abbrev S1x128 : Shape := ⟨2, ![1, 128]⟩
abbrev S16384x128 : Shape := ⟨2, ![16384, 128]⟩
abbrev S8192x10 : Shape := ⟨2, ![8192, 10]⟩
abbrev S8192x2x16 : Shape := ⟨3, ![8192, 2, 16]⟩
abbrev S8192x32 : Shape := ⟨2, ![8192, 32]⟩
abbrev S8192x80 : Shape := ⟨2, ![8192, 80]⟩
abbrev S8192x128 : Shape := ⟨2, ![8192, 128]⟩

abbrev nBuf : Space → Nat
  | .hbm => 66
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x16, .f32⟩
  | .hbm, ⟨2, _⟩ => ⟨S16, .f32⟩
  | .hbm, ⟨3, _⟩ => ⟨S8192x16, .f32⟩
  | .hbm, ⟨4, _⟩ => ⟨S1x16, .f32⟩
  | .hbm, ⟨5, _⟩ => ⟨S8192x16, .f32⟩
  | .hbm, ⟨6, _⟩ => ⟨S8192x16, .f32⟩
  | .hbm, ⟨7, _⟩ => ⟨S_, .f32⟩
  | .hbm, ⟨8, _⟩ => ⟨S8192, .f32⟩
  | .hbm, ⟨9, _⟩ => ⟨S_, .f32⟩
  | .hbm, ⟨10, _⟩ => ⟨S8192, .f32⟩
  | .hbm, ⟨11, _⟩ => ⟨S8192, .f32⟩
  | .hbm, ⟨12, _⟩ => ⟨S8192x1, .f32⟩
  | .hbm, ⟨13, _⟩ => ⟨S8192x16, .f32⟩
  | .hbm, ⟨14, _⟩ => ⟨S8192x16, .f32⟩
  | .hbm, ⟨15, _⟩ => ⟨S8192x16, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S8192x16, .f32⟩
  | .hbm, ⟨20, _⟩ => ⟨S8192x16, .f32⟩
  | .hbm, ⟨21, _⟩ => ⟨S8192x2, .f32⟩
  | .hbm, ⟨22, _⟩ => ⟨S8192x2, .i32⟩
  | .hbm, ⟨23, _⟩ => ⟨S_, .f32⟩
  | .hbm, ⟨24, _⟩ => ⟨S8192, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x2, .f32⟩
  | .hbm, ⟨30, _⟩ => ⟨S8192x2, .f32⟩
  | .hbm, ⟨31, _⟩ => ⟨S16384, .i32⟩
  | .hbm, ⟨32, _⟩ => ⟨S16384, .i32⟩
  | .hbm, ⟨33, _⟩ => ⟨S1x16384, .i32⟩
  | .hbm, ⟨34, _⟩ => ⟨S16384x1, .i32⟩
  | .hbm, ⟨35, _⟩ => ⟨S16384x16384, .i32⟩
  | .hbm, ⟨36, _⟩ => ⟨S16384x16384, .i32⟩
  | .hbm, ⟨37, _⟩ => ⟨S16384x16384, .i1⟩
  | .hbm, ⟨38, _⟩ => ⟨S1x16384, .i32⟩
  | .hbm, ⟨39, _⟩ => ⟨S16384x1, .i32⟩
  | .hbm, ⟨40, _⟩ => ⟨S16384x16384, .i32⟩
  | .hbm, ⟨41, _⟩ => ⟨S16384x16384, .i32⟩
  | .hbm, ⟨42, _⟩ => ⟨S16384x16384, .i1⟩
  | .hbm, ⟨43, _⟩ => ⟨S16384x16384, .i1⟩
  | .hbm, ⟨44, _⟩ => ⟨S16384x16384, .f32⟩
  | .hbm, ⟨45, _⟩ => ⟨S_, .f32⟩
  | .hbm, ⟨46, _⟩ => ⟨S16384, .f32⟩
  | .hbm, ⟨47, _⟩ => ⟨S8192x2, .f32⟩
  | .hbm, ⟨48, _⟩ => ⟨S16384x1, .i32⟩
  | .hbm, ⟨49, _⟩ => ⟨S128, .i32⟩
  | .hbm, ⟨50, _⟩ => ⟨S1x128, .i32⟩
  | .hbm, ⟨51, _⟩ => ⟨S16384x128, .i32⟩
  | .hbm, ⟨52, _⟩ => ⟨S16384x128, .i32⟩
  | .hbm, ⟨53, _⟩ => ⟨S16384x128, .i1⟩
  | .hbm, ⟨54, _⟩ => ⟨S16384x128, .f32⟩
  | .hbm, ⟨55, _⟩ => ⟨S_, .f32⟩
  | .hbm, ⟨56, _⟩ => ⟨S128, .f32⟩
  | .hbm, ⟨57, _⟩ => ⟨S1x128, .f32⟩
  | .hbm, ⟨58, _⟩ => ⟨S8192x2, .f32⟩
  | .hbm, ⟨59, _⟩ => ⟨S_, .f32⟩
  | .hbm, ⟨60, _⟩ => ⟨S8192x10, .f32⟩
  | .hbm, ⟨61, _⟩ => ⟨S8192x2x16, .f32⟩
  | .hbm, ⟨62, _⟩ => ⟨S8192x32, .f32⟩
  | .hbm, ⟨63, _⟩ => ⟨S_, .f32⟩
  | .hbm, ⟨64, _⟩ => ⟨S8192x80, .f32⟩
  | .hbm, ⟨65, _⟩ => ⟨S8192x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_values : Ref sig .tc := ⟨.hbm, 21, rfl⟩
abbrev main_indices : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_4 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_cst_5 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst_6 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_7 : Ref sig .tc := ⟨.hbm, 63, rfl⟩
abbrev main_v50 : Ref sig .tc := ⟨.hbm, 64, rfl⟩
abbrev main_v51 : Ref sig .tc := ⟨.hbm, 65, rfl⟩

abbrev nD : Nat := 1
abbrev τ : Topo := Topo.v7x

variable {F : FTy → Type} [FloatOps F]
-- ==== Route.lean ====
abbrev S8192x1024 : Shape := ⟨2, ![8192, 1024]⟩
abbrev S1024x16 : Shape := ⟨2, ![1024, 16]⟩
abbrev S16 : Shape := ⟨1, ![16]⟩
abbrev S_ : Shape := ⟨0, ![]⟩
abbrev S1024x128 : Shape := ⟨2, ![1024, 128]⟩
abbrev S1 : Shape := ⟨1, ![1]⟩
abbrev S1x128 : Shape := ⟨2, ![1, 128]⟩
abbrev S2 : Shape := ⟨1, ![2]⟩
abbrev S8192x128 : Shape := ⟨2, ![8192, 128]⟩
abbrev S256x1024 : Shape := ⟨2, ![256, 1024]⟩
abbrev S256x128 : Shape := ⟨2, ![256, 128]⟩
abbrev S256 : Shape := ⟨1, ![256]⟩
abbrev S256x1 : Shape := ⟨2, ![256, 1]⟩
abbrev S256x256 : Shape := ⟨2, ![256, 256]⟩
abbrev S128 : Shape := ⟨1, ![128]⟩
abbrev S8192x1 : Shape := ⟨2, ![8192, 1]⟩
abbrev S8192 : Shape := ⟨1, ![8192]⟩
abbrev S1x16 : Shape := ⟨2, ![1, 16]⟩
abbrev S80 : Shape := ⟨1, ![80]⟩
abbrev S80x1 : Shape := ⟨2, ![80, 1]⟩
abbrev S80x16 : Shape := ⟨2, ![80, 16]⟩
abbrev S20480 : Shape := ⟨1, ![20480]⟩
abbrev S1x1024 : Shape := ⟨2, ![1, 1024]⟩
abbrev S20480x1024 : Shape := ⟨2, ![20480, 1024]⟩

abbrev nBuf : Space → Nat
  | .hbm => 138
  | .vmem => 8
  | .smem => 0
  | _ => 0

abbrev hbmTy0_0 (i : Nat) : BufTy := match i % 128 with
  | 0 => ⟨S8192x1024, .f32⟩
  | 1 => ⟨S1024x16, .f32⟩
  | 2 => ⟨S16, .f32⟩
  | 3 => ⟨S_, .f32⟩
  | 4 => ⟨S1024x128, .f32⟩
  | 5 => ⟨S_, .i32⟩
  | 6 => ⟨S1, .i32⟩
  | 7 => ⟨S1024x128, .f32⟩
  | 8 => ⟨S_, .f32⟩
  | 9 => ⟨S1x128, .f32⟩
  | 10 => ⟨S_, .i32⟩
  | 11 => ⟨S1, .i32⟩
  | 12 => ⟨S_, .i32⟩
  | 13 => ⟨S1, .i32⟩
  | 14 => ⟨S2, .i32⟩
  | 15 => ⟨S1x128, .f32⟩
  | 16 => ⟨S8192x128, .f32⟩
  | 17 => ⟨S1x128, .f32⟩
  | 18 => ⟨S8192x1, .f32⟩
  | 19 => ⟨S8192, .f32⟩
  | 20 => ⟨S8192, .i32⟩
  | 21 => ⟨S8192x1, .f32⟩
  | 22 => ⟨S8192, .f32⟩
  | 23 => ⟨S8192, .i32⟩
  | 24 => ⟨S8192x1, .f32⟩
  | 25 => ⟨S8192, .f32⟩
  | 26 => ⟨S8192, .i32⟩
  | 27 => ⟨S8192x1, .f32⟩
  | 28 => ⟨S8192, .f32⟩
  | 29 => ⟨S8192, .i32⟩
  | 30 => ⟨S8192x1, .f32⟩
  | 31 => ⟨S8192, .f32⟩
  | 32 => ⟨S8192x1, .f32⟩
  | 33 => ⟨S8192, .f32⟩
  | 34 => ⟨S1x16, .f32⟩
  | 35 => ⟨S16, .f32⟩
  | 36 => ⟨S16, .i32⟩
  | 37 => ⟨S_, .i32⟩
  | 38 => ⟨S16, .i32⟩
  | 39 => ⟨S16, .i32⟩
  | 40 => ⟨S_, .i32⟩
  | 41 => ⟨S16, .i32⟩
  | 42 => ⟨S16, .i32⟩
  | 43 => ⟨S_, .i32⟩
  | 44 => ⟨S_, .i32⟩
  | 45 => ⟨S16, .i32⟩
  | 46 => ⟨S16, .i32⟩
  | 47 => ⟨S16, .i32⟩
  | 48 => ⟨S_, .i32⟩
  | 49 => ⟨S16, .i32⟩
  | 50 => ⟨S16, .i1⟩
  | 51 => ⟨S16, .i32⟩
  | 52 => ⟨S16, .i32⟩
  | 53 => ⟨S_, .i32⟩
  | 54 => ⟨S16, .i32⟩
  | 55 => ⟨S16, .i1⟩
  | 56 => ⟨S16, .i1⟩
  | 57 => ⟨S_, .i32⟩
  | 58 => ⟨S16, .i32⟩
  | 59 => ⟨S16, .i32⟩
  | 60 => ⟨S16, .i32⟩
  | 61 => ⟨S_, .i32⟩
  | 62 => ⟨S16, .i32⟩
  | 63 => ⟨S16, .i32⟩
  | 64 => ⟨S_, .i32⟩
  | 65 => ⟨S_, .i32⟩
  | 66 => ⟨S16, .i32⟩
  | 67 => ⟨S16, .i32⟩
  | 68 => ⟨S_, .i32⟩
  | 69 => ⟨S8192, .i32⟩
  | 70 => ⟨S8192, .i1⟩
  | 71 => ⟨S_, .i32⟩
  | 72 => ⟨S8192, .i32⟩
  | 73 => ⟨S8192, .i32⟩
  | 74 => ⟨S8192, .i32⟩
  | 75 => ⟨S8192x1, .i32⟩
  | 76 => ⟨S8192, .i32⟩
  | 77 => ⟨S8192, .i32⟩
  | 78 => ⟨S_, .i32⟩
  | 79 => ⟨S8192, .i32⟩
  | 80 => ⟨S8192, .i1⟩
  | 81 => ⟨S_, .i32⟩
  | 82 => ⟨S8192, .i32⟩
  | 83 => ⟨S8192, .i32⟩
  | 84 => ⟨S8192, .i32⟩
  | 85 => ⟨S8192x1, .i32⟩
  | 86 => ⟨S8192, .i32⟩
  | 87 => ⟨S8192, .i32⟩
  | 88 => ⟨S80, .i32⟩
  | 89 => ⟨S_, .i32⟩
  | 90 => ⟨S80, .i32⟩
  | 91 => ⟨S80, .i32⟩
  | 92 => ⟨S80x1, .i32⟩
  | 93 => ⟨S1x16, .i32⟩
  | 94 => ⟨S80x16, .i32⟩
  | 95 => ⟨S80x16, .i32⟩
  | 96 => ⟨S80x16, .i1⟩
  | 97 => ⟨S80x16, .i32⟩
  | 98 => ⟨S_, .i32⟩
  | 99 => ⟨S80, .i32⟩
  | 100 => ⟨S_, .i32⟩
  | 101 => ⟨S80, .i32⟩
  | 102 => ⟨S80, .i32⟩
  | 103 => ⟨S8192, .i32⟩
  | 104 => ⟨S_, .i32⟩
  | 105 => ⟨S20480, .i32⟩
  | 106 => ⟨S_, .i32⟩
  | 107 => ⟨S8192, .i32⟩
  | 108 => ⟨S8192, .i1⟩
  | 109 => ⟨S_, .i32⟩
  | 110 => ⟨S8192, .i32⟩
  | 111 => ⟨S8192, .i32⟩
  | 112 => ⟨S8192, .i32⟩
  | 113 => ⟨S8192x1, .i32⟩
  | 114 => ⟨S20480, .i32⟩
  | 115 => ⟨S_, .i32⟩
  | 116 => ⟨S8192, .i32⟩
  | 117 => ⟨S8192, .i1⟩
  | 118 => ⟨S_, .i32⟩
  | 119 => ⟨S8192, .i32⟩
  | 120 => ⟨S8192, .i32⟩
  | 121 => ⟨S8192, .i32⟩
  | 122 => ⟨S8192x1, .i32⟩
  | 123 => ⟨S20480, .i32⟩
  | 124 => ⟨S_, .i32⟩
  | 125 => ⟨S_, .i32⟩
  | 126 => ⟨S_, .i32⟩
  | 127 => ⟨S_, .i32⟩
  | _ => ⟨S8192x1024, .f32⟩

abbrev hbmTy0_1 (i : Nat) : BufTy := match i % 128 with
  | 0 => ⟨S_, .i32⟩
  | 1 => ⟨S_, .f32⟩
  | 2 => ⟨S_, .f32⟩
  | 3 => ⟨S_, .f32⟩
  | 4 => ⟨S1x1024, .f32⟩
  | 5 => ⟨S1x1024, .f32⟩
  | 6 => ⟨S1x1024, .f32⟩
  | 7 => ⟨S20480x1024, .f32⟩
  | 8 => ⟨S8192x1024, .f32⟩
  | 9 => ⟨S_, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S256x1024, .f32⟩
  | .local _ .vmem, ⟨2, _⟩ => ⟨S1024x128, .f32⟩
  | .local _ .vmem, ⟨3, _⟩ => ⟨S1x128, .f32⟩
  | .local _ .vmem, ⟨4, _⟩ => ⟨S256x128, .f32⟩
  | .local _ .vmem, ⟨5, _⟩ => ⟨S256x128, .f32⟩
  | .local _ .vmem, ⟨6, _⟩ => ⟨S1x128, .f32⟩
  | .local _ .vmem, ⟨7, _⟩ => ⟨S1x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_c_1 : Ref sig .tc := ⟨.hbm, 10, rfl⟩
abbrev main_v4 : Ref sig .tc := ⟨.hbm, 11, rfl⟩
abbrev main_c_2 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_c_3 : Ref sig .tc := ⟨.hbm, 37, rfl⟩
abbrev main_v28 : Ref sig .tc := ⟨.hbm, 38, rfl⟩
abbrev main_v29 : Ref sig .tc := ⟨.hbm, 39, rfl⟩
abbrev main_c_4 : Ref sig .tc := ⟨.hbm, 40, rfl⟩
abbrev main_v30 : Ref sig .tc := ⟨.hbm, 41, rfl⟩
abbrev main_v31 : Ref sig .tc := ⟨.hbm, 42, rfl⟩
abbrev main_c_5 : Ref sig .tc := ⟨.hbm, 43, rfl⟩
abbrev main_call0_v0 : Ref sig .tc := ⟨.hbm, 44, rfl⟩
abbrev main_call0_v1 : Ref sig .tc := ⟨.hbm, 45, rfl⟩
abbrev main_call0_v2 : Ref sig .tc := ⟨.hbm, 46, rfl⟩
abbrev main_call0_v3 : Ref sig .tc := ⟨.hbm, 47, rfl⟩
abbrev main_call0_v4 : Ref sig .tc := ⟨.hbm, 48, rfl⟩
abbrev main_call0_v5 : Ref sig .tc := ⟨.hbm, 49, rfl⟩
abbrev main_call0_v6 : Ref sig .tc := ⟨.hbm, 50, rfl⟩
abbrev main_call0_v7 : Ref sig .tc := ⟨.hbm, 51, rfl⟩
abbrev main_call0_v8 : Ref sig .tc := ⟨.hbm, 52, rfl⟩
abbrev main_call0_c : Ref sig .tc := ⟨.hbm, 53, rfl⟩
abbrev main_call0_v9 : Ref sig .tc := ⟨.hbm, 54, rfl⟩
abbrev main_call0_v10 : Ref sig .tc := ⟨.hbm, 55, rfl⟩
abbrev main_call0_v11 : Ref sig .tc := ⟨.hbm, 56, rfl⟩
abbrev main_call0_c_0 : Ref sig .tc := ⟨.hbm, 57, rfl⟩
abbrev main_call0_v12 : Ref sig .tc := ⟨.hbm, 58, rfl⟩
abbrev main_call0_v13 : Ref sig .tc := ⟨.hbm, 59, rfl⟩
abbrev main_v32 : Ref sig .tc := ⟨.hbm, 60, rfl⟩
abbrev main_c_6 : Ref sig .tc := ⟨.hbm, 61, rfl⟩
abbrev main_v33 : Ref sig .tc := ⟨.hbm, 62, rfl⟩
abbrev main_v34 : Ref sig .tc := ⟨.hbm, 63, rfl⟩
abbrev main_call1_call0_c : Ref sig .tc := ⟨.hbm, 64, rfl⟩
abbrev main_call1_call0_v0 : Ref sig .tc := ⟨.hbm, 65, rfl⟩
abbrev main_v35 : Ref sig .tc := ⟨.hbm, 66, rfl⟩
abbrev main_v36 : Ref sig .tc := ⟨.hbm, 67, rfl⟩
abbrev main_c_7 : Ref sig .tc := ⟨.hbm, 68, rfl⟩
abbrev main_v37 : Ref sig .tc := ⟨.hbm, 69, rfl⟩
abbrev main_v38 : Ref sig .tc := ⟨.hbm, 70, rfl⟩
abbrev main_c_8 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_c_9 : Ref sig .tc := ⟨.hbm, 78, rfl⟩
abbrev main_v45 : Ref sig .tc := ⟨.hbm, 79, rfl⟩
abbrev main_v46 : Ref sig .tc := ⟨.hbm, 80, rfl⟩
abbrev main_c_10 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_c_11 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_c_12 : Ref sig .tc := ⟨.hbm, 98, rfl⟩
abbrev main_v62 : Ref sig .tc := ⟨.hbm, 99, rfl⟩
abbrev main_c_13 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_c_14 : Ref sig .tc := ⟨.hbm, 104, rfl⟩
abbrev main_v66 : Ref sig .tc := ⟨.hbm, 105, rfl⟩
abbrev main_c_15 : Ref sig .tc := ⟨.hbm, 106, rfl⟩
abbrev main_v67 : Ref sig .tc := ⟨.hbm, 107, rfl⟩
abbrev main_v68 : Ref sig .tc := ⟨.hbm, 108, rfl⟩
abbrev main_c_16 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_c_17 : Ref sig .tc := ⟨.hbm, 115, rfl⟩
abbrev main_v74 : Ref sig .tc := ⟨.hbm, 116, rfl⟩
abbrev main_v75 : Ref sig .tc := ⟨.hbm, 117, rfl⟩
abbrev main_c_18 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_c_19 : Ref sig .tc := ⟨.hbm, 124, rfl⟩
abbrev main_v81 : Ref sig .tc := ⟨.hbm, 125, rfl⟩
abbrev main_c_20 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_cst_21 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_cst_22 : Ref sig .tc := ⟨.hbm, 137, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== RouteIdeal.lean ====
variable {F : FTy → Type} [FloatOps F] [Named F]
def κ : String → Option EReal := fun
  | "mask" => some ⊥
  | _ => none
-- ==== RouteRefIdeal.lean ====
abbrev S8192x1024 : Shape := ⟨2, ![8192, 1024]⟩
abbrev S1024x16 : Shape := ⟨2, ![1024, 16]⟩
abbrev S16 : Shape := ⟨1, ![16]⟩
abbrev S8192x16 : Shape := ⟨2, ![8192, 16]⟩
abbrev S1x16 : Shape := ⟨2, ![1, 16]⟩
abbrev S_ : Shape := ⟨0, ![]⟩
abbrev S8192 : Shape := ⟨1, ![8192]⟩
abbrev S8192x1 : Shape := ⟨2, ![8192, 1]⟩
abbrev S8192x2 : Shape := ⟨2, ![8192, 2]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S16384x16 : Shape := ⟨2, ![16384, 16]⟩
abbrev S16x1 : Shape := ⟨2, ![16, 1]⟩
abbrev S16x16 : Shape := ⟨2, ![16, 16]⟩
abbrev S8192x2x1 : Shape := ⟨3, ![8192, 2, 1]⟩
abbrev S80 : Shape := ⟨1, ![80]⟩
abbrev S80x1 : Shape := ⟨2, ![80, 1]⟩
abbrev S80x16 : Shape := ⟨2, ![80, 16]⟩
abbrev S20480 : Shape := ⟨1, ![20480]⟩
abbrev S1x1024 : Shape := ⟨2, ![1, 1024]⟩
abbrev S1024 : Shape := ⟨1, ![1024]⟩

abbrev nBuf : Space → Nat
  | .hbm => 159
  | .vmem => 0
  | .smem => 0
  | _ => 0

abbrev hbmTy0_0 (i : Nat) : BufTy := match i % 128 with
  | 0 => ⟨S8192x1024, .f32⟩
  | 1 => ⟨S1024x16, .f32⟩
  | 2 => ⟨S16, .f32⟩
  | 3 => ⟨S8192x16, .f32⟩
  | 4 => ⟨S1x16, .f32⟩
  | 5 => ⟨S8192x16, .f32⟩
  | 6 => ⟨S8192x16, .f32⟩
  | 7 => ⟨S_, .f32⟩
  | 8 => ⟨S8192, .f32⟩
  | 9 => ⟨S_, .f32⟩
  | 10 => ⟨S8192, .f32⟩
  | 11 => ⟨S8192, .f32⟩
  | 12 => ⟨S8192x1, .f32⟩
  | 13 => ⟨S8192x16, .f32⟩
  | 14 => ⟨S8192x16, .f32⟩
  | 15 => ⟨S8192x16, .f32⟩
  | 16 => ⟨S_, .f32⟩
  | 17 => ⟨S8192, .f32⟩
  | 18 => ⟨S8192x1, .f32⟩
  | 19 => ⟨S8192x16, .f32⟩
  | 20 => ⟨S8192x16, .f32⟩
  | 21 => ⟨S8192x2, .f32⟩
  | 22 => ⟨S8192x2, .i32⟩
  | 23 => ⟨S_, .f32⟩
  | 24 => ⟨S8192, .f32⟩
  | 25 => ⟨S8192x1, .f32⟩
  | 26 => ⟨S_, .f32⟩
  | 27 => ⟨S8192x1, .f32⟩
  | 28 => ⟨S8192x1, .f32⟩
  | 29 => ⟨S8192x2, .f32⟩
  | 30 => ⟨S8192x2, .f32⟩
  | 31 => ⟨S16384, .i32⟩
  | 32 => ⟨S16384, .i32⟩
  | 33 => ⟨S1x16384, .i32⟩
  | 34 => ⟨S16384x1, .i32⟩
  | 35 => ⟨S16384x16384, .i32⟩
  | 36 => ⟨S16384x16384, .i32⟩
  | 37 => ⟨S16384x16384, .i1⟩
  | 38 => ⟨S1x16384, .i32⟩
  | 39 => ⟨S16384x1, .i32⟩
  | 40 => ⟨S16384x16384, .i32⟩
  | 41 => ⟨S16384x16384, .i32⟩
  | 42 => ⟨S16384x16384, .i1⟩
  | 43 => ⟨S16384x16384, .i1⟩
  | 44 => ⟨S16384x16384, .f32⟩
  | 45 => ⟨S_, .f32⟩
  | 46 => ⟨S16384, .f32⟩
  | 47 => ⟨S8192x2, .f32⟩
  | 48 => ⟨S16, .i32⟩
  | 49 => ⟨S16384x1, .i32⟩
  | 50 => ⟨S1x16, .i32⟩
  | 51 => ⟨S16384x16, .i32⟩
  | 52 => ⟨S16384x16, .i32⟩
  | 53 => ⟨S16384x16, .i1⟩
  | 54 => ⟨S16384x16, .f32⟩
  | 55 => ⟨S_, .f32⟩
  | 56 => ⟨S16, .f32⟩
  | 57 => ⟨S16, .i32⟩
  | 58 => ⟨S_, .i32⟩
  | 59 => ⟨S16, .i32⟩
  | 60 => ⟨S16, .i32⟩
  | 61 => ⟨S_, .i32⟩
  | 62 => ⟨S_, .i32⟩
  | 63 => ⟨S16, .i32⟩
  | 64 => ⟨S16, .i32⟩
  | 65 => ⟨S16, .i32⟩
  | 66 => ⟨S_, .i32⟩
  | 67 => ⟨S16, .i32⟩
  | 68 => ⟨S16, .i1⟩
  | 69 => ⟨S16, .i32⟩
  | 70 => ⟨S16, .i32⟩
  | 71 => ⟨S_, .i32⟩
  | 72 => ⟨S16, .i32⟩
  | 73 => ⟨S16, .i1⟩
  | 74 => ⟨S16, .i1⟩
  | 75 => ⟨S_, .i32⟩
  | 76 => ⟨S16, .i32⟩
  | 77 => ⟨S16, .i32⟩
  | 78 => ⟨S16, .i32⟩
  | 79 => ⟨S_, .i32⟩
  | 80 => ⟨S16, .i32⟩
  | 81 => ⟨S16, .i32⟩
  | 82 => ⟨S1x16, .i32⟩
  | 83 => ⟨S16x1, .i32⟩
  | 84 => ⟨S16x16, .i32⟩
  | 85 => ⟨S16x16, .i32⟩
  | 86 => ⟨S16x16, .i1⟩
  | 87 => ⟨S1x16, .i32⟩
  | 88 => ⟨S_, .i32⟩
  | 89 => ⟨S_, .i32⟩
  | 90 => ⟨S16x16, .i32⟩
  | 91 => ⟨S16x16, .i32⟩
  | 92 => ⟨S16x16, .i32⟩
  | 93 => ⟨S_, .i32⟩
  | 94 => ⟨S16, .i32⟩
  | 95 => ⟨S_, .i32⟩
  | 96 => ⟨S8192x2, .i32⟩
  | 97 => ⟨S8192x2, .i1⟩
  | 98 => ⟨S_, .i32⟩
  | 99 => ⟨S8192x2, .i32⟩
  | 100 => ⟨S8192x2, .i32⟩
  | 101 => ⟨S8192x2, .i32⟩
  | 102 => ⟨S8192x2x1, .i32⟩
  | 103 => ⟨S8192x2, .i32⟩
  | 104 => ⟨S8192x2, .i32⟩
  | 105 => ⟨S8192x2, .i32⟩
  | 106 => ⟨S16, .i32⟩
  | 107 => ⟨S1x16, .i32⟩
  | 108 => ⟨S80, .i32⟩
  | 109 => ⟨S80x1, .i32⟩
  | 110 => ⟨S_, .i32⟩
  | 111 => ⟨S80x1, .i32⟩
  | 112 => ⟨S80x1, .i32⟩
  | 113 => ⟨S80x16, .i32⟩
  | 114 => ⟨S80x16, .i32⟩
  | 115 => ⟨S80x16, .i1⟩
  | 116 => ⟨S80x16, .i32⟩
  | 117 => ⟨S_, .i32⟩
  | 118 => ⟨S80, .i32⟩
  | 119 => ⟨S_, .i32⟩
  | 120 => ⟨S80, .i32⟩
  | 121 => ⟨S80, .i32⟩
  | 122 => ⟨S_, .i32⟩
  | 123 => ⟨S20480, .i32⟩
  | 124 => ⟨S16384, .i32⟩
  | 125 => ⟨S8192, .i32⟩
  | 126 => ⟨S8192x2, .i32⟩
  | 127 => ⟨S16384, .i32⟩
  | _ => ⟨S8192x1024, .f32⟩

abbrev hbmTy0_1 (i : Nat) : BufTy := match i % 128 with
  | 0 => ⟨S_, .i32⟩
  | 1 => ⟨S16384, .i32⟩
  | 2 => ⟨S16384, .i1⟩
  | 3 => ⟨S_, .i32⟩
  | 4 => ⟨S16384, .i32⟩
  | 5 => ⟨S16384, .i32⟩
  | 6 => ⟨S16384, .i32⟩
  | 7 => ⟨S16384x1, .i32⟩
  | 8 => ⟨S20480, .i32⟩
  | 9 => ⟨S_, .i32⟩
  | 10 => ⟨S_, .i32⟩
  | 11 => ⟨S_, .i32⟩
  | 12 => ⟨S_, .i32⟩
  | 13 => ⟨S_, .i32⟩
  | 14 => ⟨S_, .f32⟩
  | 15 => ⟨S_, .f32⟩
  | 16 => ⟨S_, .f32⟩
  | 17 => ⟨S1x1024, .f32⟩
  | 18 => ⟨S1024, .f32⟩
  | 19 => ⟨S1024, .f32⟩
  | 20 => ⟨S1024, .f32⟩
  | 21 => ⟨S8192x1024, .f32⟩
  | 22 => ⟨S8192x1, .i32⟩
  | 23 => ⟨S8192, .i32⟩
  | 24 => ⟨S8192x1, .i32⟩
  | 25 => ⟨S8192, .i32⟩
  | 26 => ⟨S8192x1, .f32⟩
  | 27 => ⟨S8192, .f32⟩
  | 28 => ⟨S8192x1, .f32⟩
  | 29 => ⟨S8192, .f32⟩
  | 30 => ⟨S_, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_values : Ref sig .tc := ⟨.hbm, 21, rfl⟩
abbrev main_indices : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_4 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_cst_5 : Ref sig .tc := ⟨.hbm, 55, rfl⟩
abbrev main_v44 : Ref sig .tc := ⟨.hbm, 56, rfl⟩
abbrev main_v45 : Ref sig .tc := ⟨.hbm, 57, rfl⟩
abbrev main_c : Ref sig .tc := ⟨.hbm, 58, rfl⟩
abbrev main_v46 : Ref sig .tc := ⟨.hbm, 59, rfl⟩
abbrev main_v47 : Ref sig .tc := ⟨.hbm, 60, rfl⟩
abbrev main_c_6 : Ref sig .tc := ⟨.hbm, 61, rfl⟩
abbrev main_call0_v0 : Ref sig .tc := ⟨.hbm, 62, rfl⟩
abbrev main_call0_v1 : Ref sig .tc := ⟨.hbm, 63, rfl⟩
abbrev main_call0_v2 : Ref sig .tc := ⟨.hbm, 64, rfl⟩
abbrev main_call0_v3 : Ref sig .tc := ⟨.hbm, 65, rfl⟩
abbrev main_call0_v4 : Ref sig .tc := ⟨.hbm, 66, rfl⟩
abbrev main_call0_v5 : Ref sig .tc := ⟨.hbm, 67, rfl⟩
abbrev main_call0_v6 : Ref sig .tc := ⟨.hbm, 68, rfl⟩
abbrev main_call0_v7 : Ref sig .tc := ⟨.hbm, 69, rfl⟩
abbrev main_call0_v8 : Ref sig .tc := ⟨.hbm, 70, rfl⟩
abbrev main_call0_c : Ref sig .tc := ⟨.hbm, 71, rfl⟩
abbrev main_call0_v9 : Ref sig .tc := ⟨.hbm, 72, rfl⟩
abbrev main_call0_v10 : Ref sig .tc := ⟨.hbm, 73, rfl⟩
abbrev main_call0_v11 : Ref sig .tc := ⟨.hbm, 74, rfl⟩
abbrev main_call0_c_0 : Ref sig .tc := ⟨.hbm, 75, rfl⟩
abbrev main_call0_v12 : Ref sig .tc := ⟨.hbm, 76, rfl⟩
abbrev main_call0_v13 : Ref sig .tc := ⟨.hbm, 77, rfl⟩
abbrev main_v48 : Ref sig .tc := ⟨.hbm, 78, rfl⟩
abbrev main_c_7 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_c_8 : Ref sig .tc := ⟨.hbm, 88, rfl⟩
abbrev main_call1_v0 : Ref sig .tc := ⟨.hbm, 89, rfl⟩
abbrev main_call1_v1 : Ref sig .tc := ⟨.hbm, 90, rfl⟩
abbrev main_call1_v2 : Ref sig .tc := ⟨.hbm, 91, rfl⟩
abbrev main_v57 : Ref sig .tc := ⟨.hbm, 92, rfl⟩
abbrev main_c_9 : Ref sig .tc := ⟨.hbm, 93, rfl⟩
abbrev main_v58 : Ref sig .tc := ⟨.hbm, 94, rfl⟩
abbrev main_c_10 : Ref sig .tc := ⟨.hbm, 95, rfl⟩
abbrev main_v59 : Ref sig .tc := ⟨.hbm, 96, rfl⟩
abbrev main_v60 : Ref sig .tc := ⟨.hbm, 97, rfl⟩
abbrev main_c_11 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_c_12 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_c_13 : Ref sig .tc := ⟨.hbm, 117, rfl⟩
abbrev main_v78 : Ref sig .tc := ⟨.hbm, 118, rfl⟩
abbrev main_c_14 : Ref sig .tc := ⟨.hbm, 119, rfl⟩
abbrev main_v79 : Ref sig .tc := ⟨.hbm, 120, rfl⟩
abbrev main_v80 : Ref sig .tc := ⟨.hbm, 121, rfl⟩
abbrev main_c_15 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_c_16 : Ref sig .tc := ⟨.hbm, 128, rfl⟩
abbrev main_v86 : Ref sig .tc := ⟨.hbm, 129, rfl⟩
abbrev main_v87 : Ref sig .tc := ⟨.hbm, 130, rfl⟩
abbrev main_c_17 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_c_18 : Ref sig .tc := ⟨.hbm, 137, rfl⟩
abbrev main_v93 : Ref sig .tc := ⟨.hbm, 138, rfl⟩
abbrev main_c_19 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_cst_20 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_cst_21 : Ref sig .tc := ⟨.hbm, 158, rfl⟩

abbrev nD : Nat := 1
abbrev τ : Topo := Topo.v7x

variable {F : FTy → Type} [FloatOps F]
-- ==== Proof.Pre.lean ====
/-
  The preconditions, read at an index: every token number of the gather's list is a row of the token array, and every
  position that the combine is given is a row of the expert outputs, and every expert number that the experts' layers are given
  is an expert.
-/
module

public import proofs.«01_k».proof.Proof.Gen.Pre_in_tokens
public import proofs.«01_k».proof.Proof.Gen.Pre_in_rows
public import proofs.«01_k».proof.Proof.Gen.Pre_in_experts
public import Idealize.ShloMosaic.Lib.ReduceAll

@[expose] public section

noncomputable section

namespace Cert.Proof

open Idealize.ShloMosaic

/-- A word at least 0 and below a number below `2 ^ 31`, both as signed words, is below it as a natural. -/
theorem lt_of_range {n : ℕ} (hn : n < 2 ^ 31) (v : BitVec 32)
    (e : IntOp.andi (IntOp.cmpi .sge v 0#32) (IntOp.cmpi .slt v (BitVec.ofNat 32 n)) = 1#1) : v.toNat < n := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow] at e
  omega

instance scalar_subsingleton : Subsingleton (⟨0, ![]⟩ : Shape).Idx := ⟨fun a b => funext fun i => i.elim0⟩

/-- The tokens' precondition says that every token number is below 8192. -/
theorem tokens_lt {F : FTy → Type} [FloatOps F] [Cert.Pre_in_tokens.Facts] (a : FVec F Cert.Pre_in_tokens.S8192x1024 .f32) (t : IVec Cert.Pre_in_tokens.S32x20x32 32)
    (h : Cert.Pre_in_tokens.fn (F := F) a t = fun _ => 1#1) (j : Cert.Pre_in_tokens.S32x20x32.Idx) : (t j).toNat < 8192 :=
  lt_of_range (by decide) (t j) (Host.reduce_andi_all (t := Cert.Pre_in_tokens.S_) _ _ _ _ (fun i => i.elim0) (congrFun h _) j)

/-- The positions' precondition says that every position is below 20480. -/
theorem rows_lt {F : FTy → Type} [FloatOps F] [Cert.Pre_in_rows.Facts] (y : FVec F Cert.Pre_in_rows.S20480x1024 .f32) (p : IVec Cert.Pre_in_rows.S8192x2 32)
    (w : FVec F Cert.Pre_in_rows.S8192x2 .f32) (h : Cert.Pre_in_rows.fn (F := F) y p w = fun _ => 1#1) (j : Cert.Pre_in_rows.S8192x2.Idx) : (p j).toNat < 20480 :=
  lt_of_range (by decide) (p j) (Host.reduce_andi_all (t := Cert.Pre_in_rows.S_) _ _ _ _ (fun i => i.elim0) (congrFun h _) j)

/-- The experts' precondition says that every block's expert is below 16. -/
theorem experts_lt {F : FTy → Type} [FloatOps F] [Cert.Pre_in_experts.Facts] (g : IVec Cert.Pre_in_experts.S80 32) (xs : FVec F Cert.Pre_in_experts.S20480x1024 .f32)
    (w1 : FVec F Cert.Pre_in_experts.S16x1024x1024 .f32) (b1 : FVec F Cert.Pre_in_experts.S16x1024 .f32) (w2 : FVec F Cert.Pre_in_experts.S16x1024x1024 .f32)
    (b2 : FVec F Cert.Pre_in_experts.S16x1024 .f32) (h : Cert.Pre_in_experts.fn (F := F) g xs w1 b1 w2 b2 = fun _ => 1#1) (j : Cert.Pre_in_experts.S80.Idx) : (g j).toNat < 16 :=
  lt_of_range (by decide) (g j) (Host.reduce_andi_all (t := Cert.Pre_in_experts.S_) _ _ _ _ (fun i => i.elim0) (congrFun h _) j)

end Cert.Proof

end
-- ==== Proof.GatherIdealBase.lean ====
/-
  The gather: the program as the launch theorem sees it, the contents each array holds, and what the call hands each
  task. Tile `i` of SparseCore `c` is worker `2 * i + c`; it holds its row of the index list, two shares of the table
  (two gathers are in flight at once) and its twenty blocks of the result, and brings the blocks back at the rows of
  the table that its list names.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Lib.ValueIdxCore
public import proofs.«01_k».proof.Proof.Gen.GatherIdeal
public import proofs.«01_k».proof.Proof.Gen.GatherIdeal.Skeleton

@[expose] public section

noncomputable section

namespace Cert.Proof.GatherIdeal

open Cert.GatherIdeal Cert.GatherIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The buffers -/

variable (m : (ℓ : Loc nD τ sig) → Buf (Elt F) ℓ) (ρ : Dev nD → PrngReg)

/-- The arguments, the table as rows of [2, 128], the index list, the call's result, the result. -/
abbrev aLoc (d : Dev nD) : Loc nD τ sig := (SparseCore.T d).loc main_arg0
abbrev tLoc (d : Dev nD) : Loc nD τ sig := (SparseCore.T d).loc main_arg1
abbrev xLoc (d : Dev nD) : Loc nD τ sig := (SparseCore.T d).loc main_v0
abbrev iLoc (d : Dev nD) : Loc nD τ sig := (SparseCore.T d).loc main_v9
abbrev oLoc (d : Dev nD) : Loc nD τ sig := (SparseCore.T d).loc main_v10
abbrev rLoc (d : Dev nD) : Loc nD τ sig := (SparseCore.T d).loc main_v11

local notation "xV" => (Memref.whole Cert.GatherIdeal.main_v0_scv : Memref Cert.GatherIdeal.sig Kind.scVector Space.hbm Cert.GatherIdeal.S32768x2x128 EltTy.f32)
local notation "iV" => (Memref.whole Cert.GatherIdeal.main_v9_scv : Memref Cert.GatherIdeal.sig Kind.scVector Space.hbm Cert.GatherIdeal.S32x20x128 EltTy.i32)
local notation "oV" => (Memref.whole Cert.GatherIdeal.main_v10_scv : Memref Cert.GatherIdeal.sig Kind.scVector Space.hbm Cert.GatherIdeal.S640x128x2x128 EltTy.f32)
local notation "sV" => (Memref.whole Cert.GatherIdeal.cc0_scratch0 : Memref Cert.GatherIdeal.sig Kind.scVector Space.vmem Cert.GatherIdeal.S20x128 EltTy.i32)
local notation "rV" => (Memref.whole Cert.GatherIdeal.cc0_scratch1 : Memref Cert.GatherIdeal.sig Kind.scVector Space.vmem Cert.GatherIdeal.S128x2x128 EltTy.f32)
local notation "qV" => (Memref.whole Cert.GatherIdeal.cc0_scratch2 : Memref Cert.GatherIdeal.sig Kind.scVector Space.vmem Cert.GatherIdeal.S128x2x128 EltTy.f32)

/-! ## The contents -/

/-- The table and the index list the call is handed, as functions of the program's arguments. -/
def tableOf (a : S8192x1024.Idx → Elt F .f32) : S32768x2x128.Idx → Elt F .f32 :=
  shapeCast S32768x2x128 a shapeCasts_S8192x1024_S32768x2x128
def listOf (t : IVec S32x20x32 32) : IVec S32x20x128 32 :=
  shapeCast S32x20x128 (addi (broadcastInDim S32x20x32x4 ![0, 1, 2, 3] bcast_S32x20x32x1_S32x20x32x4_0_1_2_3
      (muli (broadcastInDim S32x20x32x1 ![0, 1, 2] bcast_S32x20x32_S32x20x32x1_0_1_2 t)
        (broadcastInDim S32x20x32x1 ![] bcast_S_S32x20x32x1 (constantI S_ 32 4#32))))
    (broadcastInDim S32x20x32x4 ![0, 1, 2, 3] bcast_S1x1x1x4_S32x20x32x4_0_1_2_3
      (broadcastInDim S1x1x1x4 ![3] bcast_S4_S1x1x1x4_3 (iotaInDim S4 32 0)))) shapeCasts_S32x20x32x4_S32x20x128

/-- The row of the table that word `w` of an index list names. -/
def rowOfWord (w : BitVec 32) : Fin 32768 := ⟨w.toNat % 32768, Nat.mod_lt _ (by decide)⟩

/-- What the call's result holds: block `b`'s row `j` is the row of the table named by entry `j` of list `b`. -/
def gathered (X : S32768x2x128.Idx → Elt F .f32) (I : IVec S32x20x128 32) : S640x128x2x128.Idx → Elt F .f32 :=
  fun y => X (ix3 (rowOfWord (I (ix3 (⟨(y 0).val / 20, by have h : (y 0).val < 640 := (y 0).isLt; omega⟩ : Fin 32)
    (⟨(y 0).val % 20, Nat.mod_lt _ (by decide)⟩ : Fin 20) (y 1)))) (y 2) (y 3))

abbrev X (d : Dev nD) : Buf (Elt F) (xLoc d) := tableOf (m (aLoc d))
abbrev I (d : Dev nD) : Buf (Elt F) (iLoc d) := (listOf (m (tLoc d)) : IVec S32x20x128 32)
abbrev G (d : Dev nD) : Buf (Elt F) (oLoc d) := gathered (X m d) (I m d)

/-- What the proof asks of the launch memory: every word of the index list is a row of the table. -/
def PreOK : Prop := ∀ (d : Dev nD) (j : S32x20x128.Idx), (listOf (m (tLoc d)) j).toNat < 32768

/-! ## The workers' shares -/

theorem idiv : 32 ∣ S32x20x128.size 0 := ⟨1, rfl⟩
theorem odiv : 640 ∣ S640x128x2x128.size 0 := ⟨1, rfl⟩
abbrev irow (w : Fin 32) : Rect S32x20x128 := Rect.part (s := S32x20x128) (a₀ := 0) idiv w
abbrev orow (b : Fin 640) : Rect S640x128x2x128 := Rect.part (s := S640x128x2x128) (a₀ := 0) odiv b
abbrev iRowSet (w : Fin 32) : Finset S32x20x128.Idx := ((iV).view.slice (irow w)).set
abbrev oRowSet (b : Fin 640) : Finset S640x128x2x128.Idx := ((oV).view.slice (orow b)).set

/-- Worker `w`'s share of the table. -/
abbrev xq (w : Fin 32) : PosShare TreeShare := pieceOf fullShare 32 (by decide) w

/-- Block `c` of worker `w`. -/
def blk (w : Fin 32) (c : Fin 20) : Fin 640 := ⟨w.val * 20 + c.val, by omega⟩

/-- The worker that tile `i` of SparseCore `c` is. -/
def wid (c : Fin 2) (i : Fin 16) : Fin 32 := ⟨2 * i.val + c.val, by omega⟩

variable [FloatOps F]

abbrev iRowPts (d : Dev nD) (w : Fin 32) : sProp 𝕄 := iLoc d ↦[iRowSet w]{fullShare} I m d
abbrev xShPts (d : Dev nD) (w : Fin 32) : sProp 𝕄 := xLoc d ↦{xq w} X m d
abbrev oBlkPts (d : Dev nD) (w : Fin 32) (f : Buf (Elt F) (oLoc d)) : sProp 𝕄 :=
  bigSep Finset.univ fun c : Fin 20 => oLoc d ↦[oRowSet (blk w c)]{fullShare} f

/-- What a worker is handed, and what it brings back. -/
abbrev goW (d : Dev nD) (w : Fin 32) : sProp 𝕄 := iprop(iRowPts m d w ∗ xShPts m d w ∗ oBlkPts d w (m (oLoc d)))
abbrev tdW (d : Dev nD) (w : Fin 32) : sProp 𝕄 := iprop(iRowPts m d w ∗ xShPts m d w ∗ oBlkPts d w (G m d))

instance oBlkPts_storable (d : Dev nD) (w : Fin 32) (f : Buf (Elt F) (oLoc d)) :
    BI.Storable (upEmb : UEmb _ 𝕄) (oBlkPts d w f) := by unfold oBlkPts; infer_instance

abbrev widK (q : Fin 1) (c : Fin ((K (F := F)).nCore q)) (i : Fin ((K (F := F)).nSub q)) : Fin 32 :=
  wid (Fin.cast (by fin_cases q; rfl) c) (Fin.cast (by fin_cases q; rfl) i)

/-- The call hands each worker its share, SparseCore by SparseCore. -/
def P : (K (F := F)).Pay (nD := nD) (Val := Elt F) (Name := ℕ) (U := UU) where
  st := fun q d c => bigSep Finset.univ fun i => goW m d (widK (F := F) q c i)
  dn := fun q d c => bigSep Finset.univ fun i => tdW m d (widK (F := F) q c i)
  go := fun q d c i => goW m d (widK (F := F) q c i)
  td := fun q d c i => tdW m d (widK (F := F) q c i)
  x := fun _ _ => iprop(emp)

instance P_storable : (P (F := F) m).IsStorable where
  st q d c := by unfold P; infer_instance
  dn q d c := by unfold P; infer_instance
  go q d c i := by unfold P; infer_instance
  td q d c i := by unfold P; infer_instance

end Cert.Proof.GatherIdeal

end
-- ==== Proof.GatherIdealTile.lean ====
module

public import proofs.«01_k».proof.Proof.GatherIdealBase

@[expose] public section

noncomputable section

namespace Cert.Proof.GatherIdeal

open Cert.GatherIdeal Cert.GatherIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ
local notation "xV" => (Memref.whole Cert.GatherIdeal.main_v0_scv : Memref Cert.GatherIdeal.sig Kind.scVector Space.hbm Cert.GatherIdeal.S32768x2x128 EltTy.f32)
local notation "iV" => (Memref.whole Cert.GatherIdeal.main_v9_scv : Memref Cert.GatherIdeal.sig Kind.scVector Space.hbm Cert.GatherIdeal.S32x20x128 EltTy.i32)
local notation "oV" => (Memref.whole Cert.GatherIdeal.main_v10_scv : Memref Cert.GatherIdeal.sig Kind.scVector Space.hbm Cert.GatherIdeal.S640x128x2x128 EltTy.f32)
local notation "sV" => (Memref.whole Cert.GatherIdeal.cc0_scratch0 : Memref Cert.GatherIdeal.sig Kind.scVector Space.vmem Cert.GatherIdeal.S20x128 EltTy.i32)
local notation "rV" => (Memref.whole Cert.GatherIdeal.cc0_scratch1 : Memref Cert.GatherIdeal.sig Kind.scVector Space.vmem Cert.GatherIdeal.S128x2x128 EltTy.f32)
local notation "qV" => (Memref.whole Cert.GatherIdeal.cc0_scratch2 : Memref Cert.GatherIdeal.sig Kind.scVector Space.vmem Cert.GatherIdeal.S128x2x128 EltTy.f32)

variable (m : (ℓ : Loc nD τ sig) → Buf (Elt F) ℓ)
variable (d : Dev nD) (L : grid0.Coords)

abbrev cV (L : grid0.Coords) : Fin τ.nSC := (L 0).castLE hcore0
abbrev jV (L : grid0.Coords) : Fin τ.nSub := (L 1).castLE hsub0
/-- The worker at grid point `L`. -/
abbrev wL (L : grid0.Coords) : Fin 32 := wid (L 0) (L 1)

theorem wL_val : (wL L).val = 2 * (L 1).val + (L 0).val := rfl

/-! ## The slices of the task -/

abbrev iRowK (L : grid0.Coords) : Memref sig .scVector .hbm S20x128 .i32 :=
  ((iV).slice (Rect.unit (s := S32x20x128) (k0_off1 L) S1x20x128.size (k0_off1_inb L)) (fun _ => rfl)).squeeze S20x128 squeezes_S1x20x128_S20x128
abbrev oBlkK (L : grid0.Coords) (c : Fin 20) : Memref sig .scVector .hbm S128x2x128 .f32 :=
  ((oV).slice (Rect.unit (s := S640x128x2x128) (k0_off2 L (BitVec.ofNat 32 c.val)) S1x128x2x128.size (k0_off2_inb L c)) (fun _ => rfl)).squeeze S128x2x128
    squeezes_S1x128x2x128_S128x2x128

theorem irowK_eq : Rect.unit (s := S32x20x128) (k0_off1 L) S1x20x128.size (k0_off1_inb L) = irow (wL L) := by
  unfold irow Rect.part Rect.block
  congr 1 <;> funext a
  · rw [k0_off1_eq]
    match a with
    | 0 => simp [Shape.partIx, Shape.partSize, wL_val]
    | 1 => simp [Shape.partIx, Shape.partSize]
    | 2 => simp [Shape.partIx, Shape.partSize]
  · match a with
    | 0 => simp [Shape.partSize]
    | 1 => simp [Shape.partSize]
    | 2 => simp [Shape.partSize]
theorem oblkK_eq (c : Fin 20) : Rect.unit (s := S640x128x2x128) (k0_off2 L (BitVec.ofNat 32 c.val)) S1x128x2x128.size (k0_off2_inb L c)
    = orow (blk (wL L) c) := by
  unfold orow Rect.part Rect.block
  congr 1 <;> funext a
  · rw [k0_off2_eq]
    match a with
    | 0 => simp [Shape.partIx, Shape.partSize, wL_val, blk]; omega
    | 1 => simp [Shape.partIx, Shape.partSize]
    | 2 => simp [Shape.partIx, Shape.partSize]
    | 3 => simp [Shape.partIx, Shape.partSize]
  · match a with
    | 0 => simp [Shape.partSize]
    | 1 => simp [Shape.partSize]
    | 2 => simp [Shape.partSize]
    | 3 => simp [Shape.partSize]

theorem set_iRowK : (iRowK L).view.set = iRowSet (wL L) := by
  show (((iV).view.slice (Rect.unit (s := S32x20x128) (k0_off1 L) S1x20x128.size (k0_off1_inb L))).reshape S20x128 squeezes_S1x20x128_S20x128.numel_eq).set
    = ((iV).view.slice (irow (wL L))).set
  rw [View.set_reshape]
  exact irowK_eq L ▸ rfl
theorem set_oBlkK (c : Fin 20) : (oBlkK L c).view.set = oRowSet (blk (wL L) c) := by
  show (((oV).view.slice (Rect.unit (s := S640x128x2x128) (k0_off2 L (BitVec.ofNat 32 c.val)) S1x128x2x128.size (k0_off2_inb L c))).reshape S128x2x128
    squeezes_S1x128x2x128_S128x2x128.numel_eq).set = ((oV).view.slice (orow (blk (wL L) c))).set
  rw [View.set_reshape]
  exact oblkK_eq L c ▸ rfl

theorem pts_iRowK (f : Buf (Elt F) (iLoc d)) :
    ((iRowK L).view.loc (V d (cV L) (jV L)) ↦[(iRowK L).view.set]{fullShare} f : sProp 𝕄) = iLoc d ↦[iRowSet (wL L)]{fullShare} f := by
  rw [set_iRowK]
theorem pts_oBlkK (c : Fin 20) (f : Buf (Elt F) (oLoc d)) :
    ((oBlkK L c).view.loc (V d (cV L) (jV L)) ↦[(oBlkK L c).view.set]{fullShare} f : sProp 𝕄) = oLoc d ↦[oRowSet (blk (wL L) c)]{fullShare} f := by
  rw [set_oBlkK]
theorem pts_xV (q : PosShare TreeShare) (f : Buf (Elt F) (xLoc d)) :
    ((xV).view.loc (V d (cV L) (jV L)) ↦{q} f : sProp 𝕄) = xLoc d ↦{q} f := rfl
theorem pts_sV (f : Buf (Elt F) ((V d (cV L) (jV L)).loc cc0_scratch0)) :
    ((sV).view.loc (V d (cV L) (jV L)) ↦{fullShare} f : sProp 𝕄) = (V d (cV L) (jV L)).loc cc0_scratch0 ↦{fullShare} f := rfl
theorem pts_rV (f : Buf (Elt F) ((V d (cV L) (jV L)).loc cc0_scratch1)) :
    ((rV).view.loc (V d (cV L) (jV L)) ↦{fullShare} f : sProp 𝕄) = (V d (cV L) (jV L)).loc cc0_scratch1 ↦{fullShare} f := rfl
theorem pts_qV (f : Buf (Elt F) ((V d (cV L) (jV L)).loc cc0_scratch2)) :
    ((qV).view.loc (V d (cV L) (jV L)) ↦{fullShare} f : sProp 𝕄) = (V d (cV L) (jV L)).loc cc0_scratch2 ↦{fullShare} f := rfl

/-! ## The task's own cells and buffers -/

/-- A product over a set, the elements of a list taken out of it one by one. -/
theorem bigSep_list {ι : Type} [DecidableEq ι] (Φ : ι → sProp 𝕄) : ∀ (l : List ι) (s : Finset ι), l.Nodup → (∀ i ∈ l, i ∈ s) →
    bigSep s Φ = l.foldr (fun i R => iprop(Φ i ∗ R)) (bigSep (s \ l.toFinset) Φ)
  | [], s, _, _ => by simp
  | i :: l, s, hn, hs => by
    have hn' := List.nodup_cons.mp hn
    rw [SparseCore.bigSep_erase' (hs i List.mem_cons_self), bigSep_list Φ l (s.erase i) hn'.2
      (fun j hj => Finset.mem_erase.mpr ⟨fun e => hn'.1 (e ▸ hj), hs j (List.mem_cons_of_mem _ hj)⟩)]
    have e : s.erase i \ l.toFinset = s \ (i :: l).toFinset := by
      ext j; simp only [Finset.mem_sdiff, Finset.mem_erase, List.toFinset_cons, Finset.mem_insert]; tauto
    rw [e]; rfl

/-- The semaphores of a task, in the order of the kernel's parameters. -/
def semsList : List (SemLoc sig) :=
  [.dma cc0_scratch3.sem, .dma cc0_scratch4.sem, .dma cc0_scoped0.sem, .dma cc0_scoped1.sem, .dma cc0_scoped2.sem, .dma cc0_scoped3.sem, .dma cc0_scoped4.sem, .dma cc0_scoped5.sem,
    .dma cc0_scoped6.sem, .dma cc0_scoped7.sem, .dma cc0_scoped8.sem, .dma cc0_scoped9.sem, .dma cc0_scoped10.sem, .dma cc0_scoped11.sem, .dma cc0_scoped12.sem, .dma cc0_scoped13.sem,
    .dma cc0_scoped14.sem, .dma cc0_scoped15.sem, .dma cc0_scoped16.sem, .dma cc0_scoped17.sem, .dma cc0_scoped18.sem, .dma cc0_scoped19.sem, .dma cc0_scoped20.sem]

theorem semsList_nodup : semsList.Nodup := by decide
theorem semsList_scoped : ∀ s ∈ semsList, (s : SemLoc sig).isScoped .scVector = true := by decide

/-- The subcore's other semaphores, at zero, and its other buffers. -/
def semsRest (d : Dev nD) (L : grid0.Coords) : sProp 𝕄 :=
  bigSep (ownCells (V d (cV L) (jV L)) \ (semsList.map fun s => ((V d (cV L) (jV L), s) : GSem nD τ sig)).toFinset) fun g => semVal g 0

theorem ownSems0_V : (ownSems0 (V d (cV L) (jV L)) : sProp 𝕄) = (semsList.map fun s => ((V d (cV L) (jV L), s) : GSem nD τ sig)).foldr
    (fun g R => iprop(semVal g 0 ∗ R)) (semsRest d L) := by
  refine bigSep_list (fun g => semVal g 0) _ _ (semsList_nodup.map fun a b h => (Prod.mk.inj h).2) fun g hg => ?_
  obtain ⟨s, hs, rfl⟩ := List.mem_map.mp hg
  exact mem_ownCells.mpr ⟨rfl, semsList_scoped s hs⟩

def refsList : List (Ref sig .scVector) := [cc0_scratch0, cc0_scratch1, cc0_scratch2]
theorem refsList_nodup : refsList.Nodup := by decide

def bufsRest (d : Dev nD) (L : grid0.Coords) : sProp 𝕄 :=
  bigSep (ownRefs (τ := τ) (.scVector (cV L) (jV L)) \ (refsList.map fun b => (Proc.scVector (cV L) (jV L)).devRef b).toFinset)
    fun b => iprop(∃ f, ((d, b) : Loc nD τ sig) ↦{fullShare} f)

theorem ownBufs_V : (ownBufs (V d (cV L) (jV L)) : sProp 𝕄) = (refsList.map fun b => (Proc.scVector (cV L) (jV L)).devRef b).foldr
    (fun b R => iprop((∃ f, ((d, b) : Loc nD τ sig) ↦{fullShare} f) ∗ R))
    (bufsRest d L) := by
  refine bigSep_list (fun b => iprop(∃ f, ((d, b) : Loc nD τ sig) ↦{fullShare} f)) _ _ (refsList_nodup.map (Proc.devRef_injective _)) fun b hb => ?_
  obtain ⟨r, hr, rfl⟩ := List.mem_map.mp hb
  refine SparseCore.Cfg.mem_ownRefs_of_owner ?_
  simp only [refsList, List.mem_cons, List.not_mem_nil, or_false] at hr
  rcases hr with rfl | rfl | rfl <;> rfl

/-! ## The contents the task runs over -/

/-- The worker's own list, as its scratch holds it after the fetch. -/
def fetched (d : Dev nD) (L : grid0.Coords) : Buf (Elt F) ((V d (cV L) (jV L)).loc cc0_scratch0) :=
  (fun y => listOf (m (tLoc d)) (ix3 (wL L) (y 0) (y 1)) : S20x128.Idx → BitVec 32)

/-- Where a unit-stride rectangle's index lies, axis by axis. -/
theorem unit_emb_val {s : Shape} (off size : Fin s.rank → ℕ) (inb) (j : (Rect.unit off size inb).shape.Idx) (a : Fin s.rank) :
    ((Rect.unit off size inb).emb j a).val = off a + (j a).val := by
  rw [Rect.emb_apply]; show off a + 1 * (j a).val = _; omega

theorem squeeze_list (y : S20x128.Idx) :
    Shape.reshapeEquiv squeezes_S1x20x128_S20x128.numel_eq y = (ix3 0 (y 0) (y 1) : S1x20x128.Idx) :=
  Shape.reshapeEquiv_eq_of_rowMajor _ (by
    refine (Shape.rowMajor_val_three _).trans (Eq.trans ?_ (Shape.rowMajor_val_two _).symm)
    show (0 * 20 + (y 0).val) * 128 + (y 1).val = (y 0).val * 128 + (y 1).val
    omega)
theorem squeeze_blk (y : S128x2x128.Idx) :
    Shape.reshapeEquiv squeezes_S1x128x2x128_S128x2x128.numel_eq y = (ix4 0 (y 0) (y 1) (y 2) : S1x128x2x128.Idx) :=
  Shape.reshapeEquiv_eq_of_rowMajor _ (by
    refine (Shape.rowMajor_val_four _).trans (Eq.trans ?_ (Shape.rowMajor_val_three _).symm)
    show ((0 * 128 + (y 0).val) * 2 + (y 1).val) * 128 + (y 2).val = ((y 0).val * 2 + (y 1).val) * 128 + (y 2).val
    omega)
theorem squeeze_row (y : S128.Idx) :
    Shape.reshapeEquiv squeezes_S1x128_S128.numel_eq y = (ix2 0 (y 0) : S1x128.Idx) :=
  Shape.reshapeEquiv_eq_of_rowMajor _ (by
    refine (Shape.rowMajor_val_two _).trans (Eq.trans ?_ (Shape.rowMajor_val_one _).symm)
    show 0 * 128 + (y 0).val = (y 0).val
    omega)

theorem emb_iRowK (y : S20x128.Idx) : ((iRowK L).view.emb y : S32x20x128.Idx) = ix3 (wL L) (y 0) (y 1) := by
  show (Rect.unit (s := S32x20x128) (k0_off1 L) S1x20x128.size (k0_off1_inb L)).emb (Shape.reshapeEquiv squeezes_S1x20x128_S20x128.numel_eq y) = _
  rw [squeeze_list]
  funext a; apply Fin.ext
  refine (unit_emb_val _ _ _ _ _).trans ?_
  refine (congrArg (· + _) (congrFun (k0_off1_eq L) a)).trans ?_
  match a with
  | 0 => rfl
  | 1 => exact Nat.zero_add _
  | 2 => exact Nat.zero_add _
theorem emb_oBlkK (c : Fin 20) (y : S128x2x128.Idx) : ((oBlkK L c).view.emb y : S640x128x2x128.Idx) = ix4 (blk (wL L) c) (y 0) (y 1) (y 2) := by
  show (Rect.unit (s := S640x128x2x128) (k0_off2 L (BitVec.ofNat 32 c.val)) S1x128x2x128.size (k0_off2_inb L c)).emb
    (Shape.reshapeEquiv squeezes_S1x128x2x128_S128x2x128.numel_eq y) = _
  rw [squeeze_blk]
  funext a; apply Fin.ext
  refine (unit_emb_val _ _ _ _ _).trans ?_
  refine (congrArg (· + _) (congrFun (k0_off2_eq L c) a)).trans ?_
  match a with
  | 0 => show 40 * (L 1).val + 20 * (L 0).val + c.val + 0 = (2 * (L 1).val + (L 0).val) * 20 + c.val; omega
  | 1 => exact Nat.zero_add _
  | 2 => exact Nat.zero_add _
  | 3 => exact Nat.zero_add _

theorem write_fetched (fs : Buf (Elt F) ((V d (cV L) (jV L)).loc cc0_scratch0)) (pay : S20x128.Idx → Elt F .i32)
    (hpay : pay = (iRowK L).view.read (Elt F) (I m d)) :
    View.write (Elt F) (sV).view fs pay Finset.univ = fetched m d L := by
  subst hpay
  rw [View.write_whole_univ]
  funext y
  exact ((View.read_apply _ _).trans (cast_eq _ _)).trans (congrArg (I m d) (emb_iRowK L y))

/-- The list slice of a gather: one row of the fetched list. -/
abbrev sRowK (o : Fin 2 → ℕ) (ho : ∀ a, o a + S1x128.size a ≤ S20x128.size a) : Memref sig .scVector .vmem S128 .i32 :=
  ((sV).slice (Rect.unit (s := S20x128) o S1x128.size ho) (fun _ => rfl)).squeeze S128 squeezes_S1x128_S128

theorem inb_fetched (hpre : PreOK m) (o : Fin 2 → ℕ) (ho : ∀ a, o a + S1x128.size a ≤ S20x128.size a) (x : S128.Idx) :
    ((sRowK o ho).view.read (Elt F) (fetched m d L) x).toNat < 32768 := by
  rw [show (sRowK o ho).view.read (Elt F) (fetched m d L) x = fetched m d L ((sRowK o ho).view.emb x) from (View.read_apply _ _).trans (cast_eq _ _)]
  exact hpre d _

theorem emb_sRowK (c : Fin 20) (ho : ∀ a, (![c.val, 0] : Fin 2 → ℕ) a + S1x128.size a ≤ S20x128.size a) (x : S128.Idx) :
    ((sRowK ![c.val, 0] ho).view.emb x : S20x128.Idx) = ix2 c (x 0) := by
  show (Rect.unit (s := S20x128) ![c.val, 0] S1x128.size ho).emb (Shape.reshapeEquiv squeezes_S1x128_S128.numel_eq x) = _
  rw [squeeze_row]
  funext a; apply Fin.ext
  refine (unit_emb_val _ _ _ _ _).trans ?_
  match a with
  | 0 => rfl
  | 1 => exact Nat.zero_add _

/-- The list's `k`-th word in row-major order is its word `k`. -/
theorem rowMajor_symm_S128 (k : Fin S128.numel) : (S128.rowMajor.symm k 0).val = k.val := by
  have h := Shape.rowMajor_val_one (S128.rowMajor.symm k)
  rw [Equiv.apply_symm_apply] at h
  exact h.symm

theorem fetched_apply (j : S20x128.Idx) : (fetched m d L : S20x128.Idx → BitVec 32) j = listOf (m (tLoc d)) (ix3 (wL L) (j 0) (j 1)) := rfl

/-- A word of the fetched list, read through a gather's list slice. -/
theorem read_sRowK (c : Fin 20) (ho : ∀ a, (![c.val, 0] : Fin 2 → ℕ) a + S1x128.size a ≤ S20x128.size a) (x : S128.Idx) :
    (sRowK ![c.val, 0] ho).view.read (Elt F) (fetched m d L) x = listOf (m (tLoc d)) (ix3 (wL L) c (x 0)) := by
  have h : (sRowK ![c.val, 0] ho).view.read (Elt F) (fetched m d L) x = fetched m d L ((sRowK ![c.val, 0] ho).view.emb x) :=
    (View.read_apply _ _).trans (cast_eq _ _)
  refine h.trans ((fetched_apply m d L _).trans ?_)
  rw [emb_sRowK]

theorem emb_xV (hb : ∀ a, (![0, 0, 0] : Fin 3 → ℕ) a + S32768x2x128.size a ≤ S32768x2x128.size a) (x : S32768x2x128.Idx) :
    (((xV).slice (Rect.unit (s := S32768x2x128) ![0, 0, 0] S32768x2x128.size hb) (fun _ => rfl)).view.emb x : S32768x2x128.Idx) = x := by
  show (Rect.unit (s := S32768x2x128) ![0, 0, 0] S32768x2x128.size hb).emb x = x
  funext a; apply Fin.ext
  refine (unit_emb_val _ _ _ _ _).trans ?_
  match a with
  | 0 => exact Nat.zero_add _
  | 1 => exact Nat.zero_add _
  | 2 => exact Nat.zero_add _

/-- What gather `c` of the task delivers: block `c` of the worker's part of the result. -/
theorem gather_val (c : Fin 20) (ho : ∀ a, (![c.val, 0] : Fin 2 → ℕ) a + S1x128.size a ≤ S20x128.size a)
    (hb : ∀ a, (![0, 0, 0] : Fin 3 → ℕ) a + S32768x2x128.size a ≤ S32768x2x128.size a) (hg : S32768x2x128.Gathers 0 S128x2x128)
    (hn : S128.numel = S128x2x128.size hg.axis') (hin : ∀ x, ((sRowK ![c.val, 0] ho).view.read (Elt F) (fetched m d L) x).toNat < S32768x2x128.size hg.axis)
    (y : S128x2x128.Idx) :
    SparseCore.gatherPayload hg (((xV).slice (Rect.unit (s := S32768x2x128) ![0, 0, 0] S32768x2x128.size hb) (fun _ => rfl)).view.read (Elt F) (X m d))
      (SparseCore.rows ((sRowK ![c.val, 0] ho).view.read (Elt F) (fetched m d L)) hn hin) y
    = G m d (ix4 (blk (wL L) c) (y 0) (y 1) (y 2)) := by
  unfold SparseCore.gatherPayload
  refine ((View.read_apply _ _).trans (cast_eq _ _)).trans ?_
  refine congrArg (X m d) ((emb_xV hb _).trans ?_)
  have hw : (⟨(blk (wL L) c).val / 20, by have := (blk (wL L) c).isLt; omega⟩ : Fin 32) = wL L := Fin.ext (by show ((wL L).val * 20 + c.val) / 20 = _; omega)
  have hc : (⟨(blk (wL L) c).val % 20, Nat.mod_lt _ (by decide)⟩ : Fin 20) = c := Fin.ext (by show ((wL L).val * 20 + c.val) % 20 = _; omega)
  funext a; apply Fin.ext
  match a with
  | 0 =>
    refine (congrArg Fin.val (Shape.Gathers.idx_axis hg _ y)).trans ?_
    show ((sRowK ![c.val, 0] ho).view.read (Elt F) (fetched m d L) _).toNat
      = (I m d (ix3 (⟨(blk (wL L) c).val / 20, _⟩ : Fin 32) (⟨(blk (wL L) c).val % 20, _⟩ : Fin 20) (y 0))).toNat % 32768
    rw [hw, hc, Nat.mod_eq_of_lt]
    · rw [read_sRowK]
      refine congrArg (fun k => (I m d (ix3 (wL L) c k)).toNat) (Fin.ext ?_)
      exact rowMajor_symm_S128 _
    · have := hin (ix1 (y 0))
      rw [read_sRowK] at this
      exact this
  | 1 => exact Shape.Gathers.idx_of_ne hg _ y 1 (by decide)
  | 2 => exact Shape.Gathers.idx_of_ne hg _ y 2 (by decide)

/-- A buffer written whole reads what was written last. -/
theorem read_cons_whole {κ : Kind} {sp : Space} {s : Shape} {e : EltTy} (v : View sig κ sp s e) (f : v.ty.Contents (Elt F))
    (w : s.Idx → Elt F e) (l : List (View.Piece (Elt F) s e)) (y : s.Idx) :
    v.read (Elt F) (v.writes (Elt F) f (⟨Rect.whole s, w⟩ :: l)) y = w y := by
  have h := View.read_writes_cons_emb v f (Rect.whole s) w l y
  rwa [Rect.emb_whole_apply] at h

/-- A block of the result written with its own rows holds them. -/
theorem blk_pts (c : Fin 20) (f : Buf (Elt F) (oLoc d)) (w : S128x2x128.Idx → Elt F .f32)
    (hw : ∀ y, w y = G m d (ix4 (blk (wL L) c) (y 0) (y 1) (y 2))) :
    ((oBlkK L c).view.loc (V d (cV L) (jV L)) ↦[(oBlkK L c).view.set]{fullShare}
      (oBlkK L c).view.writes (Elt F) f [⟨Rect.whole S128x2x128, w⟩] : sProp 𝕄) ⊢ oLoc d ↦[oRowSet (blk (wL L) c)]{fullShare} G m d := by
  refine Entails.of_eq ((pointsTo_congr fun i hi => ?_).trans (pts_oBlkK d L c _))
  obtain ⟨y, -, rfl⟩ := Finset.mem_map.mp hi
  have h := read_cons_whole (F := F) (oBlkK L c).view f w [] y
  have h' : (oBlkK L c).view.read (Elt F) ((oBlkK L c).view.writes (Elt F) f [⟨Rect.whole S128x2x128, w⟩]) y
      = (oBlkK L c).view.writes (Elt F) f [⟨Rect.whole S128x2x128, w⟩] ((oBlkK L c).view.emb y) := (View.read_apply _ _).trans (cast_eq _ _)
  have hG : G m d ((oBlkK L c).view.emb y) = G m d (ix4 (blk (wL L) c) (y 0) (y 1) (y 2)) :=
    congrArg (fun j : S640x128x2x128.Idx => G m d j) (emb_oBlkK L c y)
  exact (h'.symm.trans h).trans ((hw y).trans hG.symm)

end Cert.Proof.GatherIdeal

end
-- ==== Proof.GatherIdealRun.lean ====
module

public import proofs.«01_k».proof.Proof.GatherIdealTile

@[expose] public section

noncomputable section

namespace Cert.Proof.GatherIdeal

open Cert.GatherIdeal Cert.GatherIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ
local notation "xV" => (Memref.whole Cert.GatherIdeal.main_v0_scv : Memref Cert.GatherIdeal.sig Kind.scVector Space.hbm Cert.GatherIdeal.S32768x2x128 EltTy.f32)
local notation "iV" => (Memref.whole Cert.GatherIdeal.main_v9_scv : Memref Cert.GatherIdeal.sig Kind.scVector Space.hbm Cert.GatherIdeal.S32x20x128 EltTy.i32)
local notation "oV" => (Memref.whole Cert.GatherIdeal.main_v10_scv : Memref Cert.GatherIdeal.sig Kind.scVector Space.hbm Cert.GatherIdeal.S640x128x2x128 EltTy.f32)
local notation "sV" => (Memref.whole Cert.GatherIdeal.cc0_scratch0 : Memref Cert.GatherIdeal.sig Kind.scVector Space.vmem Cert.GatherIdeal.S20x128 EltTy.i32)
local notation "rV" => (Memref.whole Cert.GatherIdeal.cc0_scratch1 : Memref Cert.GatherIdeal.sig Kind.scVector Space.vmem Cert.GatherIdeal.S128x2x128 EltTy.f32)
local notation "qV" => (Memref.whole Cert.GatherIdeal.cc0_scratch2 : Memref Cert.GatherIdeal.sig Kind.scVector Space.vmem Cert.GatherIdeal.S128x2x128 EltTy.f32)

variable (m : (ℓ : Loc nD τ sig) → Buf (Elt F) ℓ)
variable (d : Dev nD) (L : grid0.Coords)

theorem oBlkPts_list (w : Fin 32) (f : Buf (Elt F) (oLoc d)) : oBlkPts d w f
    = [(0 : Fin 20), 1, 2, 3, 4, 5, 6, 7, 8, 9, 10, 11, 12, 13, 14, 15, 16, 17, 18, 19].foldr
      (fun c R => iprop((oLoc d ↦[oRowSet (blk w c)]{fullShare} f) ∗ R)) (iprop(emp) : sProp 𝕄) :=
  (bigSep_list _ [(0 : Fin 20), 1, 2, 3, 4, 5, 6, 7, 8, 9, 10, 11, 12, 13, 14, 15, 16, 17, 18, 19] _ (by decide) (fun _ _ => Finset.mem_univ _)).trans
    (by rw [show (Finset.univ : Finset (Fin 20)) \ [(0 : Fin 20), 1, 2, 3, 4, 5, 6, 7, 8, 9, 10, 11, 12, 13, 14, 15, 16, 17, 18, 19].toFinset = ∅ from by decide, bigSep_empty]; rfl)

/-- The twenty blocks of the task's part of the result, each as the task's own slice. -/
abbrev oPts (c : Fin 20) (f : Buf (Elt F) (oLoc d)) : sProp 𝕄 :=
  (oBlkK L c).view.loc (V d (cV L) (jV L)) ↦[(oBlkK L c).view.set]{fullShare} f

set_option maxHeartbeats 4000000 in
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp ∗ goW m d (wL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_k L xV (Memref.isWhole_whole _) iV (Memref.isWhole_whole _) oV (Memref.isWhole_whole _) sV (Memref.isWhole_whole _) rV (Memref.isWhole_whole _)
            qV (Memref.isWhole_whole _) cc0_scratch3 cc0_scratch4 cc0_scoped0 cc0_scoped1 cc0_scoped2 cc0_scoped3 cc0_scoped4 cc0_scoped5 cc0_scoped6 cc0_scoped7 cc0_scoped8
            cc0_scoped9 cc0_scoped10 cc0_scoped11 cc0_scoped12 cc0_scoped13 cc0_scoped14 cc0_scoped15 cc0_scoped16 cc0_scoped17 cc0_scoped18 cc0_scoped19 cc0_scoped20)
          fun _ => iprop(tdW m d (wL L) ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_k_eq_skeleton]; unfold cc0_k_skel
  rw [(K (F := F)).scopedBufs_V hF d (cV L) (jV L), SparseCore.Cfg.scopedSems0_V (Val := Elt F) d (cV L) (jV L), ownSems0_V, ownBufs_V]
  simp only [semsList, refsList, List.map_cons, List.map_nil, List.foldr_cons, List.foldr_nil]
  iintro ⟨#Hlv, -, ⟨Hi, Hx, Ho⟩, ⟨⟨%fs, Hs⟩, ⟨%fr, Hr⟩, ⟨%fq, Hq⟩, Hbufs⟩,
    ⟨Ha, Hb, H0, H1, H2, H3, H4, H5, H6, H7, H8, H9, H10, H11, H12, H13, H14, H15, H16, H17, H18, H19, H20, Hsems⟩, HO⟩
  ihave Ho' := (Entails.of_eq (oBlkPts_list d (wL L) (m (oLoc d)))) $$ Ho
  simp only [List.foldr_cons, List.foldr_nil]
  icases Ho' with ⟨Ho0, Ho1, Ho2, Ho3, Ho4, Ho5, Ho6, Ho7, Ho8, Ho9, Ho10, Ho11, Ho12, Ho13, Ho14, Ho15, Ho16, Ho17, Ho18, Ho19, -⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iRowK (F := F) d L _).symm) $$ Hi
  ihave Hs' := (Entails.of_eq (pts_sV (F := F) d L _).symm) $$ Hs
  ihave Hr' := (Entails.of_eq (pts_rV (F := F) d L _).symm) $$ Hr
  ihave Hq' := (Entails.of_eq (pts_qV (F := F) d L _).symm) $$ Hq
  ihave Hxs := (pointsTo_share (PosShare.mem_left_op_right (xq (wL L)))).1 $$ Hx
  icases Hxs with ⟨Hx1, Hx2⟩
  ihave Hx1' := (Entails.of_eq (pts_xV (F := F) d L _ _).symm) $$ Hx1
  ihave Hx2' := (Entails.of_eq (pts_xV (F := F) d L _ _).symm) $$ Hx2
  ihave Hp0 := (Entails.of_eq (pts_oBlkK (F := F) d L 0 _).symm) $$ Ho0
  ihave Hp1 := (Entails.of_eq (pts_oBlkK (F := F) d L 1 _).symm) $$ Ho1
  ihave Hp2 := (Entails.of_eq (pts_oBlkK (F := F) d L 2 _).symm) $$ Ho2
  ihave Hp3 := (Entails.of_eq (pts_oBlkK (F := F) d L 3 _).symm) $$ Ho3
  ihave Hp4 := (Entails.of_eq (pts_oBlkK (F := F) d L 4 _).symm) $$ Ho4
  ihave Hp5 := (Entails.of_eq (pts_oBlkK (F := F) d L 5 _).symm) $$ Ho5
  ihave Hp6 := (Entails.of_eq (pts_oBlkK (F := F) d L 6 _).symm) $$ Ho6
  ihave Hp7 := (Entails.of_eq (pts_oBlkK (F := F) d L 7 _).symm) $$ Ho7
  ihave Hp8 := (Entails.of_eq (pts_oBlkK (F := F) d L 8 _).symm) $$ Ho8
  ihave Hp9 := (Entails.of_eq (pts_oBlkK (F := F) d L 9 _).symm) $$ Ho9
  ihave Hp10 := (Entails.of_eq (pts_oBlkK (F := F) d L 10 _).symm) $$ Ho10
  ihave Hp11 := (Entails.of_eq (pts_oBlkK (F := F) d L 11 _).symm) $$ Ho11
  ihave Hp12 := (Entails.of_eq (pts_oBlkK (F := F) d L 12 _).symm) $$ Ho12
  ihave Hp13 := (Entails.of_eq (pts_oBlkK (F := F) d L 13 _).symm) $$ Ho13
  ihave Hp14 := (Entails.of_eq (pts_oBlkK (F := F) d L 14 _).symm) $$ Ho14
  ihave Hp15 := (Entails.of_eq (pts_oBlkK (F := F) d L 15 _).symm) $$ Ho15
  ihave Hp16 := (Entails.of_eq (pts_oBlkK (F := F) d L 16 _).symm) $$ Ho16
  ihave Hp17 := (Entails.of_eq (pts_oBlkK (F := F) d L 17 _).symm) $$ Ho17
  ihave Hp18 := (Entails.of_eq (pts_oBlkK (F := F) d L 18 _).symm) $$ Ho18
  ihave Hp19 := (Entails.of_eq (pts_oBlkK (F := F) d L 19 _).symm) $$ Ho19
  have hin := inb_fetched m d L hpre
  sl_exec
  ihave Hs'' := (Entails.of_eq (congrArg (fun f => ((sV).view.loc (V d (cV L) (jV L)) ↦{fullShare} f : sProp 𝕄)) (write_fetched m d L fs (tile_body.sl.dma0 m d L) rfl))) $$ Hs'
  sl_exec
  ihave Ho0 := (blk_pts m d L 0 (m (oLoc d)) (tile_body.sl.dma0_1 m d L fr hin) fun y => (read_cons_whole _ _ _ _ _).trans (gather_val m d L 0 _ _ _ _ _ y)) $$ Hp0
  ihave Ho1 := (blk_pts m d L 1 (m (oLoc d)) (tile_body.sl.dma0_2 m d L fq hin) fun y => (read_cons_whole _ _ _ _ _).trans (gather_val m d L 1 _ _ _ _ _ y)) $$ Hp1
  ihave Ho2 := (blk_pts m d L 2 (m (oLoc d)) (tile_body.sl.dma0_3 m d L fr hin) fun y => (read_cons_whole _ _ _ _ _).trans (gather_val m d L 2 _ _ _ _ _ y)) $$ Hp2
  ihave Ho3 := (blk_pts m d L 3 (m (oLoc d)) (tile_body.sl.dma0_4 m d L fq hin) fun y => (read_cons_whole _ _ _ _ _).trans (gather_val m d L 3 _ _ _ _ _ y)) $$ Hp3
  ihave Ho4 := (blk_pts m d L 4 (m (oLoc d)) (tile_body.sl.dma0_5 m d L fr hin) fun y => (read_cons_whole _ _ _ _ _).trans (gather_val m d L 4 _ _ _ _ _ y)) $$ Hp4
  ihave Ho5 := (blk_pts m d L 5 (m (oLoc d)) (tile_body.sl.dma0_6 m d L fq hin) fun y => (read_cons_whole _ _ _ _ _).trans (gather_val m d L 5 _ _ _ _ _ y)) $$ Hp5
  ihave Ho6 := (blk_pts m d L 6 (m (oLoc d)) (tile_body.sl.dma0_7 m d L fr hin) fun y => (read_cons_whole _ _ _ _ _).trans (gather_val m d L 6 _ _ _ _ _ y)) $$ Hp6
  ihave Ho7 := (blk_pts m d L 7 (m (oLoc d)) (tile_body.sl.dma0_8 m d L fq hin) fun y => (read_cons_whole _ _ _ _ _).trans (gather_val m d L 7 _ _ _ _ _ y)) $$ Hp7
  ihave Ho8 := (blk_pts m d L 8 (m (oLoc d)) (tile_body.sl.dma0_9 m d L fr hin) fun y => (read_cons_whole _ _ _ _ _).trans (gather_val m d L 8 _ _ _ _ _ y)) $$ Hp8
  ihave Ho9 := (blk_pts m d L 9 (m (oLoc d)) (tile_body.sl.dma0_10 m d L fq hin) fun y => (read_cons_whole _ _ _ _ _).trans (gather_val m d L 9 _ _ _ _ _ y)) $$ Hp9
  ihave Ho10 := (blk_pts m d L 10 (m (oLoc d)) (tile_body.sl.dma0_11 m d L fr hin) fun y => (read_cons_whole _ _ _ _ _).trans (gather_val m d L 10 _ _ _ _ _ y)) $$ Hp10
  ihave Ho11 := (blk_pts m d L 11 (m (oLoc d)) (tile_body.sl.dma0_12 m d L fq hin) fun y => (read_cons_whole _ _ _ _ _).trans (gather_val m d L 11 _ _ _ _ _ y)) $$ Hp11
  ihave Ho12 := (blk_pts m d L 12 (m (oLoc d)) (tile_body.sl.dma0_13 m d L fr hin) fun y => (read_cons_whole _ _ _ _ _).trans (gather_val m d L 12 _ _ _ _ _ y)) $$ Hp12
  ihave Ho13 := (blk_pts m d L 13 (m (oLoc d)) (tile_body.sl.dma0_14 m d L fq hin) fun y => (read_cons_whole _ _ _ _ _).trans (gather_val m d L 13 _ _ _ _ _ y)) $$ Hp13
  ihave Ho14 := (blk_pts m d L 14 (m (oLoc d)) (tile_body.sl.dma0_15 m d L fr hin) fun y => (read_cons_whole _ _ _ _ _).trans (gather_val m d L 14 _ _ _ _ _ y)) $$ Hp14
  ihave Ho15 := (blk_pts m d L 15 (m (oLoc d)) (tile_body.sl.dma0_16 m d L fq hin) fun y => (read_cons_whole _ _ _ _ _).trans (gather_val m d L 15 _ _ _ _ _ y)) $$ Hp15
  ihave Ho16 := (blk_pts m d L 16 (m (oLoc d)) (tile_body.sl.dma0_17 m d L fr hin) fun y => (read_cons_whole _ _ _ _ _).trans (gather_val m d L 16 _ _ _ _ _ y)) $$ Hp16
  ihave Ho17 := (blk_pts m d L 17 (m (oLoc d)) (tile_body.sl.dma0_18 m d L fq hin) fun y => (read_cons_whole _ _ _ _ _).trans (gather_val m d L 17 _ _ _ _ _ y)) $$ Hp17
  ihave Ho18 := (blk_pts m d L 18 (m (oLoc d)) (tile_body.sl.dma0_19 m d L fr hin) fun y => (read_cons_whole _ _ _ _ _).trans (gather_val m d L 18 _ _ _ _ _ y)) $$ Hp18
  ihave Ho19 := (blk_pts m d L 19 (m (oLoc d)) (tile_body.sl.dma0_20 m d L fq hin) fun y => (read_cons_whole _ _ _ _ _).trans (gather_val m d L 19 _ _ _ _ _ y)) $$ Hp19
  sl_step
  isplitl [Hi' Hx1' Hx2' Ho0 Ho1 Ho2 Ho3 Ho4 Ho5 Ho6 Ho7 Ho8 Ho9 Ho10 Ho11 Ho12 Ho13 Ho14 Ho15 Ho16 Ho17 Ho18 Ho19]
  · isplitl [Hi']; · iapply (Entails.of_eq (pts_iRowK (F := F) d L _)); iexact Hi'
    isplitl [Hx1' Hx2']
    · iapply (pointsTo_share (PosShare.mem_left_op_right (xq (wL L)))).2
      isplitl [Hx1'] <;> iassumption
    iapply (Entails.of_eq (oBlkPts_list d (wL L) (G m d)).symm)
    simp only [List.foldr_cons, List.foldr_nil]
    iframe
  isplitl [Hs'' Hr' Hq' Hbufs]
  · isplitl [Hs'']; · iexists _; iexact Hs''
    isplitl [Hr']; · iexists _; iexact Hr'
    isplitl [Hq']; · iexists _; iexact Hq'
    iexact Hbufs
  isplitl [Ha Hb H0 H1 H2 H3 H4 H5 H6 H7 H8 H9 H10 H11 H12 H13 H14 H15 H16 H17 H18 H19 H20 Hsems]
  · isplitl [Ha]; · iexact Ha
    isplitl [Hb]; · iexact Hb
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    iexact Hsems
  iexists _; isplitr
  swap; · iexact HO
  ipureintro; intro p hp
  repeat (rcases Finset.mem_insert.mp hp with hp | hp; · exact .inr (hp ▸ rfl))
  exact .inl hp

end Cert.Proof.GatherIdeal

end
-- ==== Proof.GatherIdealMain.lean ====
/-
  The gather: @main, the call's workers together, and the run of the whole program.
-/
module

public import Idealize.ShloMosaic.Lib.Pipeline.Frame
public import proofs.«01_k».proof.Proof.GatherIdealRun

@[expose] public section

noncomputable section

namespace Cert.Proof.GatherIdeal

open Cert.GatherIdeal Cert.GatherIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.StableHlo (held seq after reshape_bufs_sub unary_bufs_sub nullary_bufs_sub binary_bufs_sub)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ
local notation "xV" => (Memref.whole Cert.GatherIdeal.main_v0_scv : Memref Cert.GatherIdeal.sig Kind.scVector Space.hbm Cert.GatherIdeal.S32768x2x128 EltTy.f32)
local notation "iV" => (Memref.whole Cert.GatherIdeal.main_v9_scv : Memref Cert.GatherIdeal.sig Kind.scVector Space.hbm Cert.GatherIdeal.S32x20x128 EltTy.i32)
local notation "oV" => (Memref.whole Cert.GatherIdeal.main_v10_scv : Memref Cert.GatherIdeal.sig Kind.scVector Space.hbm Cert.GatherIdeal.S640x128x2x128 EltTy.f32)
local notation "sV" => (Memref.whole Cert.GatherIdeal.cc0_scratch0 : Memref Cert.GatherIdeal.sig Kind.scVector Space.vmem Cert.GatherIdeal.S20x128 EltTy.i32)
local notation "rV" => (Memref.whole Cert.GatherIdeal.cc0_scratch1 : Memref Cert.GatherIdeal.sig Kind.scVector Space.vmem Cert.GatherIdeal.S128x2x128 EltTy.f32)
local notation "qV" => (Memref.whole Cert.GatherIdeal.cc0_scratch2 : Memref Cert.GatherIdeal.sig Kind.scVector Space.vmem Cert.GatherIdeal.S128x2x128 EltTy.f32)

variable (m : (ℓ : Loc nD τ sig) → Buf (Elt F) ℓ) (ρ : Dev nD → PrngReg)

/-! ## The obligation of a task -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_k (coordsV c s) xV (Memref.isWhole_whole _) iV (Memref.isWhole_whole _) oV (Memref.isWhole_whole _)
          sV (Memref.isWhole_whole _) rV (Memref.isWhole_whole _) qV (Memref.isWhole_whole _) cc0_scratch3 cc0_scratch4 cc0_scoped0 cc0_scoped1 cc0_scoped2 cc0_scoped3
          cc0_scoped4 cc0_scoped5 cc0_scoped6 cc0_scoped7 cc0_scoped8 cc0_scoped9 cc0_scoped10 cc0_scoped11 cc0_scoped12 cc0_scoped13 cc0_scoped14 cc0_scoped15
          cc0_scoped16 cc0_scoped17 cc0_scoped18 cc0_scoped19 cc0_scoped20) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF hpre O W hO).trans (wp_mono frame _ _ fun _ => obl_post)

theorem vecSplit : (K (F := F)).VecSplit' (P m) 0 := by
  intro d c
  show (bigSep Finset.univ fun i : Fin ((K (F := F)).nSub 0) => goW m d (widK (F := F) 0 c i)) ⊢ |={Set.univ}=> iprop(
      (bigSep Finset.univ fun i : Fin ((K (F := F)).nSub 0) => goW m d (widK (F := F) 0 c i))
      ∗ ((bigSep Finset.univ fun i : Fin ((K (F := F)).nSub 0) => tdW m d (widK (F := F) 0 c i))
          -∗ bigSep Finset.univ fun i : Fin ((K (F := F)).nSub 0) => tdW m d (widK (F := F) 0 c i)))
  iintro H; imodintro
  isplitl [H]; · iexact H
  iintro H; iexact H

/-! ## The workers together -/

/-- The tiles of the two SparseCores are the workers. -/
def workers : Fin ((K (F := F)).nCore 0) × Fin ((K (F := F)).nSub 0) ≃ Fin 32 :=
  Equiv.ofBijective (fun p => widK (F := F) 0 p.1 p.2) ((Fintype.bijective_iff_injective_and_card _).mpr ⟨fun p p' h => by
    have h' : 2 * p.2.val + p.1.val = 2 * p'.2.val + p'.1.val := congrArg Fin.val h
    have h1 : p.1.val < 2 := p.1.isLt
    have h2 : p'.1.val < 2 := p'.1.isLt
    exact Prod.ext (Fin.ext (by omega)) (Fin.ext (by omega)), rfl⟩)

theorem bigSep_workers (Φ : Fin 32 → sProp 𝕄) :
    (bigSep Finset.univ fun c : Fin ((K (F := F)).nCore 0) => bigSep Finset.univ fun i : Fin ((K (F := F)).nSub 0) => Φ (widK (F := F) 0 c i))
      = bigSep Finset.univ Φ :=
  ((bigSep_univ_equiv (workers (F := F)) Φ).trans (bigSep_univ_prod _)).symm

/-- The blocks of the workers are the result's blocks. -/
def blocks : Fin 32 × Fin 20 ≃ Fin 640 :=
  Equiv.ofBijective (fun p => blk p.1 p.2) ((Fintype.bijective_iff_injective_and_card _).mpr ⟨fun p p' h => by
    have h' : p.1.val * 20 + p.2.val = p'.1.val * 20 + p'.2.val := congrArg Fin.val h
    exact Prod.ext (Fin.ext (by omega)) (Fin.ext (by omega)), by simp⟩)

theorem iRowSet_eq (i : Fin 32) : iRowSet i = (irow i).set := by
  show ((View.whole (main_v9_scv : Ref sig .scVector)).slice (irow i)).set = _
  rw [View.set_slice]; exact Finset.map_refl
theorem oRowSet_eq (i : Fin 640) : oRowSet i = (orow i).set := by
  show ((View.whole (main_v10_scv : Ref sig .scVector)).slice (orow i)).set = _
  rw [View.set_slice]; exact Finset.map_refl
theorem irows_disjoint : ∀ i ∈ (Finset.univ : Finset (Fin 32)), ∀ j ∈ (Finset.univ : Finset (Fin 32)), i ≠ j → Disjoint (iRowSet i) (iRowSet j) :=
  fun i _ j _ h => by rw [iRowSet_eq, iRowSet_eq]; exact Rect.part_disjoint idiv h
theorem orows_disjoint : ∀ i ∈ (Finset.univ : Finset (Fin 640)), ∀ j ∈ (Finset.univ : Finset (Fin 640)), i ≠ j → Disjoint (oRowSet i) (oRowSet j) :=
  fun i _ j _ h => by rw [oRowSet_eq, oRowSet_eq]; exact Rect.part_disjoint odiv h
theorem irows_cover : (Finset.univ : Finset (Fin 32)).biUnion iRowSet = Finset.univ :=
  (Finset.biUnion_congr rfl fun i _ => iRowSet_eq i).trans (Rect.biUnion_part idiv)
theorem orows_cover : (Finset.univ : Finset (Fin 640)).biUnion oRowSet = Finset.univ :=
  (Finset.biUnion_congr rfl fun i _ => oRowSet_eq i).trans (Rect.biUnion_part odiv)

theorem iPts_rows (d : Dev nD) (f : Buf (Elt F) (iLoc d)) :
    (iLoc d ↦{fullShare} f : sProp 𝕄) = bigSep Finset.univ fun w : Fin 32 => iLoc d ↦[iRowSet w]{fullShare} f := by
  rw [← pointsTo_biUnion Finset.univ (ℓ := iLoc d) iRowSet irows_disjoint, irows_cover]; try rfl
theorem oPts_rows (d : Dev nD) (f : Buf (Elt F) (oLoc d)) :
    (oLoc d ↦{fullShare} f : sProp 𝕄) = bigSep Finset.univ fun w : Fin 32 => oBlkPts d w f := by
  refine Eq.trans ?_ ((bigSep_univ_equiv blocks fun b => (oLoc d ↦[oRowSet b]{fullShare} f : sProp 𝕄)).trans (bigSep_univ_prod _))
  rw [← pointsTo_biUnion Finset.univ (ℓ := oLoc d) oRowSet orows_disjoint, orows_cover]; try rfl
theorem xPts_shares (d : Dev nD) (f : Buf (Elt F) (xLoc d)) :
    (xLoc d ↦{fullShare} f : sProp 𝕄) = bigSep Finset.univ fun w : Fin 32 => xLoc d ↦{xq w} f :=
  pointsTo_piecesOf Finset.univ f (by decide) fullShare

theorem st0_eq (d : Dev nD) : (bigSep Finset.univ fun c : Fin ((K (F := F)).nCore 0) => (P m).st 0 d c)
    = iprop((iLoc d ↦{fullShare} I m d) ∗ (xLoc d ↦{fullShare} X m d) ∗ oLoc d ↦{fullShare} m (oLoc d)) :=
  (bigSep_workers fun w => goW m d w).trans (by rw [bigSep_sep', bigSep_sep', iPts_rows, xPts_shares, oPts_rows])
theorem dn0_eq (d : Dev nD) : (bigSep Finset.univ fun c : Fin ((K (F := F)).nCore 0) => (P m).dn 0 d c)
    = iprop((iLoc d ↦{fullShare} I m d) ∗ (xLoc d ↦{fullShare} X m d) ∗ oLoc d ↦{fullShare} G m d) :=
  (bigSep_workers fun w => tdW m d w).trans (by rw [bigSep_sep', bigSep_sep', iPts_rows, xPts_shares, oPts_rows])

/-! ## The launch element of the certificate's ghost state -/

def u₀ : UU := (initOf (K (F := F)).hsCells (K (F := F)).hsToks, 1)

theorem bigSep_emp' {ι : Type} (s : Finset ι) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

abbrev bx : DevRef τ sig := Proc.devRef .tc (main_v0 : Ref sig .tc)
abbrev bi : DevRef τ sig := Proc.devRef .tc (main_v9 : Ref sig .tc)
abbrev bo : DevRef τ sig := Proc.devRef .tc (main_v10 : Ref sig .tc)
abbrev ba : DevRef τ sig := Proc.devRef .tc (main_arg0 : Ref sig .tc)
abbrev bt : DevRef τ sig := Proc.devRef .tc (main_arg1 : Ref sig .tc)
abbrev br : DevRef τ sig := Proc.devRef .tc (main_v11 : Ref sig .tc)

/-- @main's operations before the call. -/
def opsIn : List (HloOp τ sig (Elt F)) :=
  [StableHlo.reshape main_arg0 main_v0 (rfl : (.f32 : EltTy) = .f32) shapeCasts_S8192x1024_S32768x2x128,
    StableHlo.unary main_arg1 main_v1 (broadcastInDim S32x20x32x1 ![0, 1, 2] bcast_S32x20x32_S32x20x32x1_0_1_2 :
      (⟨S32x20x32, .i32⟩ : BufTy).Contents (Elt F) → (⟨S32x20x32x1, .i32⟩ : BufTy).Contents (Elt F)),
    StableHlo.nullary main_c (constantI S_ 32 4#32),
    StableHlo.unary main_c main_v2 (broadcastInDim S32x20x32x1 ![] bcast_S_S32x20x32x1 : (⟨S_, .i32⟩ : BufTy).Contents (Elt F) → (⟨S32x20x32x1, .i32⟩ : BufTy).Contents (Elt F)),
    StableHlo.binary main_v1 main_v2 main_v3 (muli : (⟨S32x20x32x1, .i32⟩ : BufTy).Contents (Elt F) → (⟨S32x20x32x1, .i32⟩ : BufTy).Contents (Elt F) → (⟨S32x20x32x1, .i32⟩ : BufTy).Contents (Elt F)),
    StableHlo.nullary main_v4 (iotaInDim S4 32 0),
    StableHlo.unary main_v4 main_v5 (broadcastInDim S1x1x1x4 ![3] bcast_S4_S1x1x1x4_3 : (⟨S4, .i32⟩ : BufTy).Contents (Elt F) → (⟨S1x1x1x4, .i32⟩ : BufTy).Contents (Elt F)),
    StableHlo.unary main_v3 main_v6 (broadcastInDim S32x20x32x4 ![0, 1, 2, 3] bcast_S32x20x32x1_S32x20x32x4_0_1_2_3 :
      (⟨S32x20x32x1, .i32⟩ : BufTy).Contents (Elt F) → (⟨S32x20x32x4, .i32⟩ : BufTy).Contents (Elt F)),
    StableHlo.unary main_v5 main_v7 (broadcastInDim S32x20x32x4 ![0, 1, 2, 3] bcast_S1x1x1x4_S32x20x32x4_0_1_2_3 :
      (⟨S1x1x1x4, .i32⟩ : BufTy).Contents (Elt F) → (⟨S32x20x32x4, .i32⟩ : BufTy).Contents (Elt F)),
    StableHlo.binary main_v6 main_v7 main_v8 (addi : (⟨S32x20x32x4, .i32⟩ : BufTy).Contents (Elt F) → (⟨S32x20x32x4, .i32⟩ : BufTy).Contents (Elt F) → (⟨S32x20x32x4, .i32⟩ : BufTy).Contents (Elt F)),
    StableHlo.reshape main_v8 main_v9 (rfl : (.i32 : EltTy) = .i32) shapeCasts_S32x20x32x4_S32x20x128]

/-- @main's operation after the call. -/
def opsOut : List (HloOp τ sig (Elt F)) :=
  [StableHlo.reshape main_v10 main_v11 (rfl : (.f32 : EltTy) = .f32) shapeCasts_S640x128x2x128_S20480x1024]

theorem main_eq (d : Dev nD) : main (F := F) d
    = seq opsIn >>= fun _ => (sc (F := F)).run d 0 >>= fun _ => seq opsOut >>= fun _ => pure ⟨⟩ := rfl

abbrev UC : Finset (DevRef τ sig) := Pipeline.ucRefs τ sig

/-- The TensorCore's arrays at the launch, before the call, after it, and at the end. -/
def V0 (d : Dev nD) : Valuation τ sig (Elt F) := fun b => m (d, b)
def V1 (d : Dev nD) : Valuation τ sig (Elt F) := after opsIn (V0 m d)
def V2 (d : Dev nD) : Valuation τ sig (Elt F) := Function.update (V1 m d) bo (G m d)
def V3 (d : Dev nD) : Valuation τ sig (Elt F) := after opsOut (V2 m d)

/-- The result: the gathered rows, as rows of 1024. -/
abbrev R (d : Dev nD) : Buf (Elt F) (rLoc d) := (shapeCast S20480x1024 (gathered (X m d) (I m d)) shapeCasts_S640x128x2x128_S20480x1024 : S20480x1024.Idx → Elt F .f32)

theorem V1_x (d : Dev nD) : V1 m d bx = X m d := by
  unfold V1 opsIn; after_results; rfl
theorem V1_i (d : Dev nD) : V1 m d bi = I m d := by
  unfold V1 opsIn; after_results; rfl
theorem V1_o (d : Dev nD) : V1 m d bo = m (oLoc d) := by
  unfold V1 opsIn; after_results; rfl
theorem V1_a (d : Dev nD) : V1 m d ba = m (aLoc d) := by
  unfold V1 opsIn; after_results; rfl
theorem V1_t (d : Dev nD) : V1 m d bt = m (tLoc d) := by
  unfold V1 opsIn; after_results; rfl
theorem V2_o (d : Dev nD) : V2 m d bo = G m d := Function.update_self _ _ _
theorem V2_ne (d : Dev nD) {b : DevRef τ sig} (h : b ≠ bo) : V2 m d b = V1 m d b := Function.update_of_ne h _ _
theorem V3_a (d : Dev nD) : V3 m d ba = m (aLoc d) :=
  (show V3 m d ba = V2 m d ba by unfold V3 opsOut; after_results).trans ((V2_ne m d (by decide)).trans (V1_a m d))
theorem V3_t (d : Dev nD) : V3 m d bt = m (tLoc d) :=
  (show V3 m d bt = V2 m d bt by unfold V3 opsOut; after_results).trans ((V2_ne m d (by decide)).trans (V1_t m d))
theorem V3_r (d : Dev nD) : V3 m d br = R m d := by
  unfold V3 opsOut; after_results; rw [V2_o]; rfl

theorem mem_UC (r : Ref sig .tc) (h : r.isScoped = false) : Proc.devRef (τ := τ) .tc r ∈ UC :=
  Finset.mem_filter.mpr ⟨Finset.mem_map.mpr ⟨r, Finset.mem_univ _, rfl⟩, by rw [show (Proc.devRef (τ := τ) .tc r).isScoped = r.isScoped from rfl, h]; decide⟩

theorem opsIn_sub : ∀ op ∈ opsIn (F := F), op.bufs ⊆ UC := fun op h =>
  Pipeline.sub_ucRefs op (List.forall_iff_forall_mem.mp (show List.Forall (fun op => op.bufs ⊆ StableHlo.tcRefs τ sig) (opsIn (F := F)) by
    unfold opsIn; exact ⟨reshape_bufs_sub .., unary_bufs_sub .., nullary_bufs_sub .., unary_bufs_sub .., binary_bufs_sub .., nullary_bufs_sub .., unary_bufs_sub ..,
      unary_bufs_sub .., unary_bufs_sub .., binary_bufs_sub .., reshape_bufs_sub ..⟩) op h)
theorem opsIn_fresh : ∀ op ∈ opsIn (F := F), op.fresh = ∅ := List.forall_iff_forall_mem.mp (by simp only [opsIn, List.Forall]; exact ⟨rfl, rfl, rfl, rfl, rfl, rfl, rfl, rfl, rfl, rfl, rfl⟩)
theorem opsOut_sub : ∀ op ∈ opsOut (F := F), op.bufs ⊆ UC := fun op h =>
  Pipeline.sub_ucRefs op (List.forall_iff_forall_mem.mp (show List.Forall (fun op => op.bufs ⊆ StableHlo.tcRefs τ sig) (opsOut (F := F)) by
    unfold opsOut; exact reshape_bufs_sub ..) op h)
theorem opsOut_fresh : ∀ op ∈ opsOut (F := F), op.fresh = ∅ := List.forall_iff_forall_mem.mp (by simp only [opsOut, List.Forall]; rfl)

/-- The arrays the call works on out of all, and the arguments and the result. -/
theorem held_call (d : Dev nD) (W : Valuation τ sig (Elt F)) : (held (T d) UC W : sProp 𝕄)
    = iprop((iLoc d ↦{fullShare} W bi) ∗ (xLoc d ↦{fullShare} W bx) ∗ (oLoc d ↦{fullShare} W bo) ∗ held (T d) (UC \ [bi, bx, bo].toFinset) W) :=
  bigSep_list (fun b => ((d, b) : Loc nD τ sig) ↦{fullShare} W b) [bi, bx, bo] UC (by decide) (by
    simp only [List.forall_mem_cons]
    exact ⟨mem_UC _ rfl, mem_UC _ rfl, mem_UC _ rfl, fun _ h => nomatch h⟩)
theorem held_end (d : Dev nD) (W : Valuation τ sig (Elt F)) : (held (T d) UC W : sProp 𝕄)
    = iprop((aLoc d ↦{fullShare} W ba) ∗ (tLoc d ↦{fullShare} W bt) ∗ (rLoc d ↦{fullShare} W br) ∗ held (T d) (UC \ [ba, bt, br].toFinset) W) :=
  bigSep_list (fun b => ((d, b) : Loc nD τ sig) ↦{fullShare} W b) [ba, bt, br] UC (by decide) (by
    simp only [List.forall_mem_cons]
    exact ⟨mem_UC _ rfl, mem_UC _ rfl, mem_UC _ rfl, fun _ h => nomatch h⟩)

theorem held_V1 (d : Dev nD) : (held (T d) UC (V1 m d) : sProp 𝕄)
    = iprop((iLoc d ↦{fullShare} I m d) ∗ (xLoc d ↦{fullShare} X m d) ∗ (oLoc d ↦{fullShare} m (oLoc d)) ∗ held (T d) (UC \ [bi, bx, bo].toFinset) (V1 m d)) := by
  rw [held_call, V1_i, V1_x, V1_o]
theorem held_V2 (d : Dev nD) : (held (T d) UC (V2 m d) : sProp 𝕄)
    = iprop((iLoc d ↦{fullShare} I m d) ∗ (xLoc d ↦{fullShare} X m d) ∗ (oLoc d ↦{fullShare} G m d) ∗ held (T d) (UC \ [bi, bx, bo].toFinset) (V1 m d)) := by
  rw [held_call, V2_ne m d (show bi ≠ bo by decide), V2_ne m d (show bx ≠ bo by decide), V1_i, V1_x, V2_o,
    StableHlo.held_congr (T d) (V := V2 m d) (V' := V1 m d) fun b hb => V2_ne m d fun e => (Finset.mem_sdiff.mp hb).2 (by rw [e]; decide)]

abbrev FIN (d : Dev nD) : sProp 𝕄 := held (T d) UC (V3 m d)

/-- @main on device `d`'s TensorCore: the operations before the call, the call, the operation after it. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show unscopedBufs d (fun b => m ((SparseCore.T d).loc b)) = held (d.tc : Thread nD τ) UC (V0 m d) from
    Pipeline.unscopedBufs_held (Ix := HIx 1) (Name := ℕ) (U := UU) (Lvl := ℕ) d (V0 m d), main_eq]
  iintro ⟨#Hctx, Hst, ⟨Hb, Hheld, Hts, -⟩, -⟩
  iapply (StableHlo.wp_seq 𝒱 none Set.univ d UC _ opsIn opsIn_sub opsIn_fresh (V0 m d)) $$ [Hb Hheld]
  · isplitl [Hb] <;> iassumption
  iintro ⟨Hb, Hheld⟩
  ihave Hh := (Entails.of_eq (show held (d.tc : Thread nD τ) UC (after opsIn (V0 m d)) = _ from held_V1 m d)) $$ Hheld
  icases Hh with ⟨Hi, Hx, Ho, Hr⟩
  simp only [wp_bind]
  iapply ((K (F := F)).wp_run (D (F := F)) 𝒱 (EH := EH) (P := P m) κ d 0) $$ [Hst Hi Hx Ho Hr Hb Hts]
  isplitr; · iexact Hctx
  isplitl [Hst]; · iexact Hst
  isplitl [Hi Hx Ho]
  · rw [st0_eq]
    isplitl [Hi]; · iexact Hi
    isplitl [Hx]; · iexact Hx
    iexact Ho
  iintro ⟨Hst, Hdn⟩
  ihave Hdn' := (Entails.of_eq (dn0_eq m d)) $$ Hdn
  icases Hdn' with ⟨Hi, Hx, Ho⟩
  ihave Hheld := (Entails.of_eq (show _ = held (d.tc : Thread nD τ) UC (V2 m d) from (held_V2 m d).symm)) $$ [Hi Hx Ho Hr]
  · isplitl [Hi]; · iexact Hi
    isplitl [Hx]; · iexact Hx
    isplitl [Ho]; · iexact Ho
    iexact Hr
  rw [← wp_bind]
  iapply (StableHlo.wp_seq 𝒱 none Set.univ d UC _ opsOut opsOut_sub opsOut_fresh (V2 m d)) $$ [Hb Hheld]
  · isplitl [Hb] <;> iassumption
  iintro ⟨Hb, Hheld⟩
  simp only [wp_pure]
  imodintro
  isplitl [Hst]; · iexact Hst
  isplitl [Hheld]; · iexact Hheld
  isplitl [Hb] <;> iassumption

def fq (d : Dev nD) (s' : Phys nD τ sig (Elt F)) : Prop :=
  s'.mem.mem (aLoc d) = m (aLoc d) ∧ s'.mem.mem (tLoc d) = m (tLoc d) ∧ s'.mem.mem (rLoc d) = R m d

set_option maxRecDepth 16384 in
theorem hfin (d : Dev nD) (s' : Phys nD τ sig (Elt F)) : iprop(FIN m d ∗ SI s') ⊢ (⌜fq m d s'⌝ : sProp 𝕄) := by
  unfold FIN
  rw [held_end, V3_a, V3_t, V3_r]
  iintro ⟨⟨Ha, Ht, Hr, -⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := tLoc d) (I := Finset.univ) (q := fullShare) (f := m (tLoc d)))) $$ [HSI Ht]
  · isplitl [HSI] <;> iassumption
  icases H with ⟨%h2, HSI, -⟩
  ihave H := (SI_pointsTo_agree (st := s') (ℓ := rLoc d) (I := Finset.univ) (q := fullShare) (f := R m d)) $$ [HSI Hr]
  · isplitl [HSI] <;> iassumption
  icases H with %h3
  ipureintro; exact ⟨funext fun i => h1 i (Finset.mem_univ i), funext fun i => h2 i (Finset.mem_univ i), funext fun i => h3 i (Finset.mem_univ i)⟩

/-! ## The program's run -/

def QC : PUnit × MemSt nD τ sig (Elt F) → Prop := fun r =>
  (∀ c : Dev nD, r.2.mem (aLoc c) = m (aLoc c) ∧ r.2.mem (tLoc c) = m (tLoc c) ∧ r.2.mem (rLoc c) = R m c) ∧ r.2.sem = fun _ => 0

theorem run_main [∀ e, Nonempty (Elt F e)] (hpre : PreOK m) :
    θ_run (Cert.GatherIdeal.defs (F := F)) (Cert.GatherIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.GatherIdeal

end
-- ==== Proof.GatherIdealValue.lean ====
/-
  The gather: the index list and the result, read at an index.
-/
module

public import Idealize.ShloMosaic.Lib.Pipeline.Value
public import proofs.«01_k».proof.Proof.GatherIdealMain
public import proofs.«01_k».proof.Proof.Pre

@[expose] public section

noncomputable section

namespace Cert.Proof.GatherIdeal

open Cert.GatherIdeal Cert.GatherIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.StableHlo (held seq after)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

/-- The index list's entry `j` of list `c` of worker `w`: quarter `j % 4` of the row of token `j / 4`. -/
theorem listOf_apply (t : IVec S32x20x32 32) (w : Fin 32) (c : Fin 20) (j : Fin 128) :
    listOf t (ix3 w c j) = t (ix3 w c (⟨j.val / 4, by omega⟩ : Fin 32)) * 4#32 + BitVec.ofNat 32 (j.val % 4) := by
  unfold listOf
  refine (shapeCast_apply _ _ (ix3 w c j) (ix4 w c (⟨j.val / 4, by omega⟩ : Fin 32) (⟨j.val % 4, by omega⟩ : Fin 4)) ?_).trans ?_
  · rw [Shape.rowMajor_val_three, Shape.rowMajor_val_four]
    show ((w.val * 20 + c.val) * 32 + j.val / 4) * 4 + j.val % 4 = (w.val * 20 + c.val) * 128 + j.val
    omega
  · refine congrArg₂ (· + ·) (congrArg (· * 4#32) ?_) rfl
    refine broadcastInDim_apply _ _ _ _ _ fun a => ?_
    match a with
    | ⟨0, _⟩ => rfl
    | ⟨1, _⟩ => rfl
    | ⟨2, _⟩ => rfl

theorem listOf_toNat (t : IVec S32x20x32 32) (ht : ∀ j, (t j).toNat < 8192) (w : Fin 32) (c : Fin 20) (j : Fin 128) :
    (listOf t (ix3 w c j)).toNat = (t (ix3 w c (⟨j.val / 4, by omega⟩ : Fin 32))).toNat * 4 + j.val % 4 := by
  have h := ht (ix3 w c (⟨j.val / 4, by omega⟩ : Fin 32))
  rw [listOf_apply, BitVec.toNat_add, BitVec.toNat_mul, BitVec.toNat_ofNat, BitVec.toNat_ofNat]
  omega

theorem listOf_lt (t : IVec S32x20x32 32) (ht : ∀ j, (t j).toNat < 8192) (i : S32x20x128.Idx) : (listOf t i).toNat < 32768 := by
  obtain ⟨w, c, j, rfl⟩ : ∃ (w : Fin 32) (c : Fin 20) (j : Fin 128), i = ix3 w c j := ⟨i 0, i 1, i 2, eq_ix3 i⟩
  rw [listOf_toNat t ht]
  have h := ht (ix3 w c (⟨j.val / 4, by omega⟩ : Fin 32))
  omega

/-- The table's row `4 r + q` is quarter `q` of row `r` of the token array. -/
theorem tableOf_apply (a : S8192x1024.Idx → Elt F .f32) (r : Fin 32768) (s : Fin 2) (l : Fin 128) :
    tableOf a (ix3 r s l) = a (ix2 (⟨r.val / 4, by omega⟩ : Fin 8192) (⟨r.val % 4 * 256 + s.val * 128 + l.val, by omega⟩ : Fin 1024)) := by
  unfold tableOf
  refine shapeCast_apply _ _ _ _ ?_
  rw [Shape.rowMajor_val_three, Shape.rowMajor_val_two]
  show r.val / 4 * 1024 + (r.val % 4 * 256 + s.val * 128 + l.val) = (r.val * 2 + s.val) * 128 + l.val
  omega

/-- THE RESULT at row `p`, column `x`: the row of the token array that entry `p` of the list names. -/
theorem result_apply (a : S8192x1024.Idx → Elt F .f32) (t : IVec S32x20x32 32) (ht : ∀ j, (t j).toNat < 8192) (p : Fin 20480) (x : Fin 1024) :
    shapeCast S20480x1024 (gathered (tableOf a) (listOf t)) shapeCasts_S640x128x2x128_S20480x1024 (ix2 p x)
      = a (ix2 (⟨(t (ix3 (⟨p.val / 640, by omega⟩ : Fin 32) (⟨p.val / 32 % 20, by omega⟩ : Fin 20) (⟨p.val % 32, by omega⟩ : Fin 32))).toNat, ht _⟩ : Fin 8192) x) := by
  refine (shapeCast_apply _ _ (ix2 p x) (ix4 (⟨p.val / 32, by omega⟩ : Fin 640) (⟨p.val % 32 * 4 + x.val / 256, by omega⟩ : Fin 128)
    (⟨x.val / 128 % 2, by omega⟩ : Fin 2) (⟨x.val % 128, by omega⟩ : Fin 128)) ?_).trans ?_
  · rw [Shape.rowMajor_val_four, Shape.rowMajor_val_two]
    show (((p.val / 32) * 128 + (p.val % 32 * 4 + x.val / 256)) * 2 + x.val / 128 % 2) * 128 + x.val % 128 = p.val * 1024 + x.val
    omega
  · have hp := p.isLt
    have hx := x.isLt
    show tableOf a (ix3 (rowOfWord (listOf t (ix3 (⟨p.val / 32 / 20, _⟩ : Fin 32) (⟨p.val / 32 % 20, _⟩ : Fin 20) (⟨p.val % 32 * 4 + x.val / 256, _⟩ : Fin 128))))
      (⟨x.val / 128 % 2, _⟩ : Fin 2) (⟨x.val % 128, _⟩ : Fin 128)) = _
    rw [tableOf_apply]
    have hw := listOf_toNat t ht (⟨p.val / 32 / 20, by omega⟩ : Fin 32) (⟨p.val / 32 % 20, by omega⟩ : Fin 20) (⟨p.val % 32 * 4 + x.val / 256, by omega⟩ : Fin 128)
    have hi : (ix3 (⟨p.val / 32 / 20, by omega⟩ : Fin 32) (⟨p.val / 32 % 20, by omega⟩ : Fin 20) (⟨(p.val % 32 * 4 + x.val / 256) / 4, by omega⟩ : Fin 32) : S32x20x32.Idx)
        = ix3 (⟨p.val / 640, by omega⟩ : Fin 32) (⟨p.val / 32 % 20, by omega⟩ : Fin 20) (⟨p.val % 32, by omega⟩ : Fin 32) := by
      congr 1 <;> exact Fin.ext (by simp only []; omega)
    have hl := ht (ix3 (⟨p.val / 640, by omega⟩ : Fin 32) (⟨p.val / 32 % 20, by omega⟩ : Fin 20) (⟨p.val % 32, by omega⟩ : Fin 32))
    simp only [hi] at hw
    refine congrArg a ?_
    congr 1 <;> refine Fin.ext ?_ <;> simp only [rowOfWord, hw] <;> omega

theorem preOK (m : (ℓ : Loc nD τ sig) → Buf (Elt F) ℓ) (h : ∀ (d : Dev nD) j, ((m (tLoc d) : IVec S32x20x32 32) j).toNat < 8192) : PreOK m :=
  fun d j => listOf_lt _ (h d) j

/-- The program runs, its arguments unchanged, and every counter ends at zero. -/
theorem frame : Cert.quiescent_GatherIdeal := fun m ρ hpre =>
  (θ_run Cert.GatherIdeal.defs _ _).mono (fun _ h => ⟨fun c => ⟨(h.1 c).1, (h.1 c).2.1⟩, h.2⟩)
    (run_main (F := Ideal) m ρ (preOK m fun d => tokens_lt _ _ (hpre d)))

end Cert.Proof.GatherIdeal

end
-- ==== Proof.GatherAlg.lean ====
/-
  The gather: the program's run and the reference's end with equal results.
-/
module

public import Idealize.ShloMosaic.Lib.Routing.Ops
public import proofs.«01_k».proof.Proof.Gen.GatherRefIdeal.Run
public import proofs.«01_k».proof.Proof.GatherIdealValue

@[expose] public section

noncomputable section

namespace Cert.Proof.GatherAlg

open Idealize.ShloMosaic Idealize.ShloMosaic.ValueIdx Idealize.SL.Sem
open Cert.GatherRefIdeal Cert.GatherRefIdeal.Gen

variable {α : Type}

/-- The reference's row numbers: the list flat, a negative number counted from the end. -/
abbrev rows (t : IVec S32x20x32 32) : IVec S20480x1 32 :=
  broadcastInDim S20480x1 ![0] bcast_S20480_S20480x1_0 (select (cmpi .slt (shapeCast _ t shapeCasts_S32x20x32_S20480)
    (broadcastInDim S20480 ![] bcast_S_S20480 (constantI S_ 32 0#32))) (addi (shapeCast _ t shapeCasts_S32x20x32_S20480)
    (broadcastInDim S20480 ![] bcast_S_S20480 (constantI S_ 32 8192#32))) (shapeCast _ t shapeCasts_S32x20x32_S20480))

theorem flat_apply (t : IVec S32x20x32 32) (p : Fin 20480) : shapeCast S20480 t shapeCasts_S32x20x32_S20480 (ix1 p)
    = t (ix3 (⟨p.val / 640, by omega⟩ : Fin 32) (⟨p.val / 32 % 20, by omega⟩ : Fin 20) (⟨p.val % 32, by omega⟩ : Fin 32)) := by
  refine shapeCast_apply _ _ _ _ ?_
  rw [Shape.rowMajor_val_three, Shape.rowMajor_val_one]
  show (p.val / 640 * 20 + p.val / 32 % 20) * 32 + p.val % 32 = p.val
  omega

/-- A number that is not negative is kept. -/
theorem rows_apply (t : IVec S32x20x32 32) (ht : ∀ j, (t j).toNat < 8192) (p : Fin 20480) : rows t (ix2 p (0 : Fin 1))
    = t (ix3 (⟨p.val / 640, by omega⟩ : Fin 32) (⟨p.val / 32 % 20, by omega⟩ : Fin 20) (⟨p.val % 32, by omega⟩ : Fin 32)) := by
  refine (broadcastInDim_apply _ _ _ _ (ix1 p) fun a => ?_).trans ?_
  · match a with
    | ⟨0, _⟩ => rfl
  · have h := ht (ix3 (⟨p.val / 640, by omega⟩ : Fin 32) (⟨p.val / 32 % 20, by omega⟩ : Fin 20) (⟨p.val % 32, by omega⟩ : Fin 32))
    rw [← flat_apply t p] at h ⊢
    show (if IntOp.cmpi .slt (shapeCast S20480 t shapeCasts_S32x20x32_S20480 (ix1 p)) 0#32 = 1#1 then _ else _) = _
    rw [if_neg]
    have h0 : ¬ (shapeCast S20480 t shapeCasts_S32x20x32_S20480 (ix1 p)).toInt < (0#32).toInt := by
      rw [BitVec.toInt_eq_toNat_cond, if_pos (by omega)]; simp
    simp only [IntOp.cmpi, BitVec.slt_eq_decide, decide_eq_false h0]
    decide

/-- The reference's result at row `p`, column `x`. -/
theorem ref_apply (a : S8192x1024.Idx → α) (t : IVec S32x20x32 32) (ht : ∀ j, (t j).toNat < 8192) (p : Fin 20480) (x : Fin 1024) :
    Host.gather gather_S8192x1024_S20480x1_S20480x1024_1_0_n_n_0_1_11024 a (rows t) (ix2 p x)
      = a (ix2 (⟨(t (ix3 (⟨p.val / 640, by omega⟩ : Fin 32) (⟨p.val / 32 % 20, by omega⟩ : Fin 20) (⟨p.val % 32, by omega⟩ : Fin 32))).toNat, ht _⟩ : Fin 8192) x) :=
  Routing.gather_row (nb := 8192) (B := 1024) (n := 20480) gather_S8192x1024_S20480x1_S20480x1024_1_0_n_n_0_1_11024 rfl rfl rfl rfl rfl a (rows t) p x _
    ((rows_apply t ht p).trans (by simp)) (by decide)

/-- The two results agree. -/
theorem value_eq (a : S8192x1024.Idx → Elt Ideal .f32) (t : IVec S32x20x32 32) (ht : ∀ j, (t j).toNat < 8192) :
    Host.gather gather_S8192x1024_S20480x1_S20480x1024_1_0_n_n_0_1_11024 a (rows t)
      = shapeCast S20480x1024 (GatherIdeal.gathered (F := Ideal) (GatherIdeal.tableOf (F := Ideal) a) (GatherIdeal.listOf t))
          Cert.GatherIdeal.Gen.shapeCasts_S640x128x2x128_S20480x1024 := by
  funext i
  obtain ⟨p, x, rfl⟩ : ∃ (p : Fin 20480) (x : Fin 1024), i = ix2 p x := ⟨i 0, i 1, eq_ix2 i⟩
  rw [ref_apply a t ht]
  exact (GatherIdeal.result_apply (F := Ideal) a t ht p x).symm

theorem algebraic : Cert.algebraic_GatherIdeal_GatherRefIdeal := by
  intro m g m' g' hpre hm
  have ht : ∀ (d : Dev Cert.GatherIdeal.nD) j, ((m (GatherIdeal.tLoc d) : IVec S32x20x32 32) j).toNat < 8192 := fun d => tokens_lt _ _ (hpre d)
  refine ⟨fun c => GatherIdeal.R m c, ?_, ?_⟩
  · exact (θ_run _ _ _).mono (fun _ h c => ⟨(h.1 c).2.2, (h.1 c).1, (h.1 c).2.1⟩) (GatherIdeal.run_main (F := Ideal) m g (GatherIdeal.preOK m ht))
  · refine (θ_run _ _ _).mono (fun _ h c => ⟨(h c).1.trans ?_, (h c).2⟩) (Cert.GatherRefIdeal.Value.run (F := Ideal) m' g')
    rw [(hm c).1, (hm c).2]
    exact value_eq _ _ (ht c)

end Cert.Proof.GatherAlg

end
-- ==== Proof.Common.lean ====
/-
  What the proofs of the two kernels share: products taken apart along a list, unit-stride rectangles and whole
  writes read at an index.
-/
module

public import Idealize.ShloMosaic.Lib.SparseCore.Quiescent
public import Idealize.ShloMosaic.Lib.Writes
public import Idealize.ShloMosaic.Lib.ValueIdxCore

@[expose] public section

noncomputable section

namespace Cert.Proof

open Idealize.ShloMosaic
open Idealize.SL Idealize.SL.RA Idealize.SL.BI
open scoped Idealize.SL.BI
open Idealize.SL.BI.BIBase Idealize.SL.BI.Laws Idealize.SL.ProofMode Idealize.SL.Sem

/-- A product over a set, the elements of a list taken out of it one by one. -/
theorem bigSep_list {M : Type} [RA.URA M] {ι : Type} [DecidableEq ι] (Φ : ι → sProp M) : ∀ (l : List ι) (s : Finset ι), l.Nodup → (∀ i ∈ l, i ∈ s) →
    bigSep s Φ = l.foldr (fun i R => iprop(Φ i ∗ R)) (bigSep (s \ l.toFinset) Φ)
  | [], s, _, _ => by simp
  | i :: l, s, hn, hs => by
    have hn' := List.nodup_cons.mp hn
    rw [SparseCore.bigSep_erase' (hs i List.mem_cons_self), bigSep_list Φ l (s.erase i) hn'.2
      (fun j hj => Finset.mem_erase.mpr ⟨fun e => hn'.1 (e ▸ hj), hs j (List.mem_cons_of_mem _ hj)⟩)]
    have e : s.erase i \ l.toFinset = s \ (i :: l).toFinset := by
      ext j; simp only [Finset.mem_sdiff, Finset.mem_erase, List.toFinset_cons, Finset.mem_insert]; tauto
    rw [e]; rfl

/-- Where a unit-stride rectangle's index lies, axis by axis. -/
theorem unit_emb_val {s : Shape} (off size : Fin s.rank → ℕ) (inb) (j : (Rect.unit off size inb).shape.Idx) (a : Fin s.rank) :
    ((Rect.unit off size inb).emb j a).val = off a + (j a).val := by
  rw [Rect.emb_apply]; show off a + 1 * (j a).val = _; omega

/-- A buffer written whole reads what was written last. -/
theorem read_cons_whole {sig : RefSig} {Val : EltTy → Type} {κ : Kind} {sp : Space} {s : Shape} {e : EltTy} (v : View sig κ sp s e)
    (f : v.ty.Contents Val) (w : s.Idx → Val e) (l : List (View.Piece Val s e)) (y : s.Idx) :
    v.read Val (v.writes Val f (⟨Rect.whole s, w⟩ :: l)) y = w y := by
  have h := View.read_writes_cons_emb v f (Rect.whole s) w l y
  rwa [Rect.emb_whole_apply] at h

end Cert.Proof

end
-- ==== Proof.CombineIdealBase.lean ====
/-
  The combine: the program as the launch theorem sees it, the contents each array holds, and what the call hands each
  task. Tile `i` of SparseCore `c` is worker `2 * i + c`; it holds its sixteen rows of the position list, its rows of
  the two weights, two shares of the table (two gathers are in flight at once) and its sixteen blocks of the result,
  and brings the blocks back at the weighted sums of the rows of the table that its list names.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Lib.ValueIdxCore
public import proofs.«01_k».proof.Proof.Gen.CombineIdeal
public import proofs.«01_k».proof.Proof.Gen.CombineIdeal.Skeleton
public import proofs.«01_k».proof.Proof.Common

@[expose] public section

noncomputable section

namespace Cert.Proof.CombineIdeal

open Cert.CombineIdeal Cert.CombineIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The buffers -/

variable (m : (ℓ : Loc nD τ sig) → Buf (Elt F) ℓ) (ρ : Dev nD → PrngReg)

/-- The arguments, the table as rows of [2, 128], the position list, the two weights, the call's result. -/
abbrev yLoc (d : Dev nD) : Loc nD τ sig := (SparseCore.T d).loc main_arg0
abbrev pLoc (d : Dev nD) : Loc nD τ sig := (SparseCore.T d).loc main_arg1
abbrev wLoc (d : Dev nD) : Loc nD τ sig := (SparseCore.T d).loc main_arg2
abbrev xLoc (d : Dev nD) : Loc nD τ sig := (SparseCore.T d).loc main_v5
abbrev iLoc (d : Dev nD) : Loc nD τ sig := (SparseCore.T d).loc main_v14
abbrev aLoc (d : Dev nD) : Loc nD τ sig := (SparseCore.T d).loc main_v2
abbrev bLoc (d : Dev nD) : Loc nD τ sig := (SparseCore.T d).loc main_v4
abbrev oLoc (d : Dev nD) : Loc nD τ sig := (SparseCore.T d).loc main_v15

local notation "xV" => (Memref.whole Cert.CombineIdeal.main_v5_scv : Memref Cert.CombineIdeal.sig Kind.scVector Space.hbm Cert.CombineIdeal.S81920x2x128 EltTy.f32)
local notation "iV" => (Memref.whole Cert.CombineIdeal.main_v14_scv : Memref Cert.CombineIdeal.sig Kind.scVector Space.hbm Cert.CombineIdeal.S512x128 EltTy.i32)
local notation "aV" => (Memref.whole Cert.CombineIdeal.main_v2_scv : Memref Cert.CombineIdeal.sig Kind.scVector Space.hbm Cert.CombineIdeal.S8192x16 EltTy.f32)
local notation "bV" => (Memref.whole Cert.CombineIdeal.main_v4_scv : Memref Cert.CombineIdeal.sig Kind.scVector Space.hbm Cert.CombineIdeal.S8192x16 EltTy.f32)
local notation "oV" => (Memref.whole Cert.CombineIdeal.main_v15_scv : Memref Cert.CombineIdeal.sig Kind.scVector Space.hbm Cert.CombineIdeal.S8192x1024 EltTy.f32)
local notation "sV" => (Memref.whole Cert.CombineIdeal.cc0_scratch0 : Memref Cert.CombineIdeal.sig Kind.scVector Space.vmem Cert.CombineIdeal.S16x128 EltTy.i32)
local notation "uV" => (Memref.whole Cert.CombineIdeal.cc0_scratch1 : Memref Cert.CombineIdeal.sig Kind.scVector Space.vmem Cert.CombineIdeal.S256x16 EltTy.f32)
local notation "vV" => (Memref.whole Cert.CombineIdeal.cc0_scratch2 : Memref Cert.CombineIdeal.sig Kind.scVector Space.vmem Cert.CombineIdeal.S256x16 EltTy.f32)
local notation "rV" => (Memref.whole Cert.CombineIdeal.cc0_scratch3 : Memref Cert.CombineIdeal.sig Kind.scVector Space.vmem Cert.CombineIdeal.S128x2x128 EltTy.f32)
local notation "qV" => (Memref.whole Cert.CombineIdeal.cc0_scratch4 : Memref Cert.CombineIdeal.sig Kind.scVector Space.vmem Cert.CombineIdeal.S128x2x128 EltTy.f32)
local notation "zV" => (Memref.whole Cert.CombineIdeal.cc0_scratch5 : Memref Cert.CombineIdeal.sig Kind.scVector Space.vmem Cert.CombineIdeal.S16x1024 EltTy.f32)

/-! ## The contents -/

/-- The table, the position list and the two weights that the call is handed, as functions of the arguments. -/
def tableOf (y : S20480x1024.Idx → Elt F .f32) : S81920x2x128.Idx → Elt F .f32 :=
  shapeCast S81920x2x128 y shapeCasts_S20480x1024_S81920x2x128
def listOf (p : IVec S8192x2 32) : IVec S512x128 32 :=
  shapeCast S512x128 (addi (broadcastInDim S512x32x4 ![0, 1, 2] bcast_S512x32x1_S512x32x4_0_1_2
      (muli (broadcastInDim S512x32x1 ![0, 1] bcast_S512x32_S512x32x1_0_1 (shapeCast S512x32 p shapeCasts_S8192x2_S512x32))
        (broadcastInDim S512x32x1 ![] bcast_S_S512x32x1 (constantI S_ 32 4#32))))
    (broadcastInDim S512x32x4 ![0, 1, 2] bcast_S1x1x4_S512x32x4_0_1_2
      (broadcastInDim S1x1x4 ![2] bcast_S4_S1x1x4_2 (iotaInDim S4 32 0)))) shapeCasts_S512x32x4_S512x128
def weightA (w : S8192x2.Idx → Elt F .f32) : S8192x16.Idx → Elt F .f32 :=
  broadcastInDim S8192x16 ![0, 1] bcast_S8192x1_S8192x16_0_1 (extractStridedSlice S8192x1 ![0, 0] w slices_S8192x2_S8192x1_0_0)
def weightB (w : S8192x2.Idx → Elt F .f32) : S8192x16.Idx → Elt F .f32 :=
  broadcastInDim S8192x16 ![0, 1] bcast_S8192x1_S8192x16_0_1 (extractStridedSlice S8192x1 ![0, 1] w slices_S8192x2_S8192x1_0_1)

/-- The row of the table that word `w` of a position list names. -/
def rowOfWord (w : BitVec 32) : Fin 81920 := ⟨w.toNat % 81920, Nat.mod_lt _ (by decide)⟩

/-- The rows of the table that list `r` names, one for each of its entries. -/
def fetchedRows (X : S81920x2x128.Idx → Elt F .f32) (I : IVec S512x128 32) (r : Fin 512) : S128x2x128.Idx → Elt F .f32 :=
  fun y => X (ix3 (rowOfWord (I (ix2 r (y 0)))) (y 1) (y 2))

/-- The weighted sum at row `i`, column `x` of sixteen tokens with weights `A` and `B`: `R` holds, for each token, the
    four quarters of its first row and then the four quarters of its second row. -/
def sumAt [FloatOps F] (A B : Fin 16 → Fin 16 → Elt F .f32) (R : S128x2x128.Idx → Elt F .f32) (i : Fin 16) (x : Fin 1024) : Elt F .f32 :=
  FloatOps.addf (φ := .f32)
    (FloatOps.mulf (φ := .f32) (A i ⟨x.val % 16, by omega⟩) (R (ix3 (⟨8 * i.val + x.val / 256, by omega⟩ : Fin 128) (⟨x.val / 128 % 2, by omega⟩ : Fin 2) (⟨x.val % 128, by omega⟩ : Fin 128))))
    (FloatOps.mulf (φ := .f32) (B i ⟨x.val % 16, by omega⟩) (R (ix3 (⟨8 * i.val + 4 + x.val / 256, by omega⟩ : Fin 128) (⟨x.val / 128 % 2, by omega⟩ : Fin 2) (⟨x.val % 128, by omega⟩ : Fin 128))))

/-- Rows `16 r`, … of a weight. -/
def sixteen (A : S8192x16.Idx → Elt F .f32) (r : Fin 512) : Fin 16 → Fin 16 → Elt F .f32 :=
  fun i l => A (ix2 (⟨16 * r.val + i.val, by omega⟩ : Fin 8192) l)

/-- What the call's result holds. -/
def combined [FloatOps F] (X : S81920x2x128.Idx → Elt F .f32) (I : IVec S512x128 32) (A B : S8192x16.Idx → Elt F .f32) : S8192x1024.Idx → Elt F .f32 :=
  fun y => sumAt (sixteen A ⟨(y 0).val / 16, by have h : (y 0).val < 8192 := (y 0).isLt; omega⟩) (sixteen B ⟨(y 0).val / 16, by have h : (y 0).val < 8192 := (y 0).isLt; omega⟩)
    (fetchedRows X I ⟨(y 0).val / 16, by have h : (y 0).val < 8192 := (y 0).isLt; omega⟩) ⟨(y 0).val % 16, by omega⟩ (y 1)

abbrev X (d : Dev nD) : Buf (Elt F) (xLoc d) := tableOf (m (yLoc d))
abbrev I (d : Dev nD) : Buf (Elt F) (iLoc d) := (listOf (m (pLoc d)) : IVec S512x128 32)
abbrev A (d : Dev nD) : Buf (Elt F) (aLoc d) := weightA (m (wLoc d))
abbrev B (d : Dev nD) : Buf (Elt F) (bLoc d) := weightB (m (wLoc d))
abbrev G [FloatOps F] (d : Dev nD) : Buf (Elt F) (oLoc d) := combined (X m d) (I m d) (A m d) (B m d)

/-- What the proof asks of the launch memory: every word of the position list is a row of the table. -/
def PreOK : Prop := ∀ (d : Dev nD) (j : S512x128.Idx), (listOf (m (pLoc d)) j).toNat < 81920

/-! ## The workers' shares -/

theorem idiv : 32 ∣ S512x128.size 0 := ⟨16, rfl⟩
theorem wdiv : 32 ∣ S8192x16.size 0 := ⟨256, rfl⟩
theorem odiv : 512 ∣ S8192x1024.size 0 := ⟨16, rfl⟩
abbrev irow (w : Fin 32) : Rect S512x128 := Rect.part (s := S512x128) (a₀ := 0) idiv w
abbrev wrow (w : Fin 32) : Rect S8192x16 := Rect.part (s := S8192x16) (a₀ := 0) wdiv w
abbrev orow (b : Fin 512) : Rect S8192x1024 := Rect.part (s := S8192x1024) (a₀ := 0) odiv b
abbrev iRowSet (w : Fin 32) : Finset S512x128.Idx := ((iV).view.slice (irow w)).set
abbrev aRowSet (w : Fin 32) : Finset S8192x16.Idx := ((aV).view.slice (wrow w)).set
abbrev bRowSet (w : Fin 32) : Finset S8192x16.Idx := ((bV).view.slice (wrow w)).set
abbrev oRowSet (b : Fin 512) : Finset S8192x1024.Idx := ((oV).view.slice (orow b)).set

/-- Worker `w`'s share of the table. -/
abbrev xq (w : Fin 32) : PosShare TreeShare := pieceOf fullShare 32 (by decide) w

/-- Block `c` of worker `w`. -/
def blk (w : Fin 32) (c : Fin 16) : Fin 512 := ⟨w.val * 16 + c.val, by omega⟩

/-- The worker that tile `i` of SparseCore `c` is. -/
def wid (c : Fin 2) (i : Fin 16) : Fin 32 := ⟨2 * i.val + c.val, by omega⟩

variable [FloatOps F]

abbrev iRowPts (d : Dev nD) (w : Fin 32) : sProp 𝕄 := iLoc d ↦[iRowSet w]{fullShare} I m d
abbrev aRowPts (d : Dev nD) (w : Fin 32) : sProp 𝕄 := aLoc d ↦[aRowSet w]{fullShare} A m d
abbrev bRowPts (d : Dev nD) (w : Fin 32) : sProp 𝕄 := bLoc d ↦[bRowSet w]{fullShare} B m d
abbrev xShPts (d : Dev nD) (w : Fin 32) : sProp 𝕄 := xLoc d ↦{xq w} X m d
abbrev oBlkPts (d : Dev nD) (w : Fin 32) (f : Buf (Elt F) (oLoc d)) : sProp 𝕄 :=
  bigSep Finset.univ fun c : Fin 16 => oLoc d ↦[oRowSet (blk w c)]{fullShare} f

/-- What a worker is handed, and what it brings back. -/
abbrev goW (d : Dev nD) (w : Fin 32) : sProp 𝕄 :=
  iprop(iRowPts m d w ∗ aRowPts m d w ∗ bRowPts m d w ∗ xShPts m d w ∗ oBlkPts d w (m (oLoc d)))
abbrev tdW (d : Dev nD) (w : Fin 32) : sProp 𝕄 :=
  iprop(iRowPts m d w ∗ aRowPts m d w ∗ bRowPts m d w ∗ xShPts m d w ∗ oBlkPts d w (G m d))

instance oBlkPts_storable (d : Dev nD) (w : Fin 32) (f : Buf (Elt F) (oLoc d)) :
    BI.Storable (upEmb : UEmb _ 𝕄) (oBlkPts d w f) := by unfold oBlkPts; infer_instance

abbrev widK (q : Fin 1) (c : Fin ((K (F := F)).nCore q)) (i : Fin ((K (F := F)).nSub q)) : Fin 32 :=
  wid (Fin.cast (by fin_cases q; rfl) c) (Fin.cast (by fin_cases q; rfl) i)

/-- The call hands each worker its share, SparseCore by SparseCore. -/
def P : (K (F := F)).Pay (nD := nD) (Val := Elt F) (Name := ℕ) (U := UU) where
  st := fun q d c => bigSep Finset.univ fun i => goW m d (widK (F := F) q c i)
  dn := fun q d c => bigSep Finset.univ fun i => tdW m d (widK (F := F) q c i)
  go := fun q d c i => goW m d (widK (F := F) q c i)
  td := fun q d c i => tdW m d (widK (F := F) q c i)
  x := fun _ _ => iprop(emp)

instance P_storable : (P (F := F) m).IsStorable where
  st q d c := by unfold P; infer_instance
  dn q d c := by unfold P; infer_instance
  go q d c i := by unfold P; infer_instance
  td q d c i := by unfold P; infer_instance

end Cert.Proof.CombineIdeal

end
-- ==== Proof.CombineIdealLoop.lean ====
module

public import Idealize.ShloMosaic.Lib.Pipeline.Value
public import proofs.«01_k».proof.Proof.CombineIdealBase

@[expose] public section

noncomputable section

namespace Cert.Proof.CombineIdeal

open Cert.CombineIdeal Cert.CombineIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ
local notation "xV" => (Memref.whole Cert.CombineIdeal.main_v5_scv : Memref Cert.CombineIdeal.sig Kind.scVector Space.hbm Cert.CombineIdeal.S81920x2x128 EltTy.f32)
local notation "iV" => (Memref.whole Cert.CombineIdeal.main_v14_scv : Memref Cert.CombineIdeal.sig Kind.scVector Space.hbm Cert.CombineIdeal.S512x128 EltTy.i32)
local notation "aV" => (Memref.whole Cert.CombineIdeal.main_v2_scv : Memref Cert.CombineIdeal.sig Kind.scVector Space.hbm Cert.CombineIdeal.S8192x16 EltTy.f32)
local notation "bV" => (Memref.whole Cert.CombineIdeal.main_v4_scv : Memref Cert.CombineIdeal.sig Kind.scVector Space.hbm Cert.CombineIdeal.S8192x16 EltTy.f32)
local notation "oV" => (Memref.whole Cert.CombineIdeal.main_v15_scv : Memref Cert.CombineIdeal.sig Kind.scVector Space.hbm Cert.CombineIdeal.S8192x1024 EltTy.f32)
local notation "sV" => (Memref.whole Cert.CombineIdeal.cc0_scratch0 : Memref Cert.CombineIdeal.sig Kind.scVector Space.vmem Cert.CombineIdeal.S16x128 EltTy.i32)
local notation "uV" => (Memref.whole Cert.CombineIdeal.cc0_scratch1 : Memref Cert.CombineIdeal.sig Kind.scVector Space.vmem Cert.CombineIdeal.S256x16 EltTy.f32)
local notation "vV" => (Memref.whole Cert.CombineIdeal.cc0_scratch2 : Memref Cert.CombineIdeal.sig Kind.scVector Space.vmem Cert.CombineIdeal.S256x16 EltTy.f32)
local notation "rV" => (Memref.whole Cert.CombineIdeal.cc0_scratch3 : Memref Cert.CombineIdeal.sig Kind.scVector Space.vmem Cert.CombineIdeal.S128x2x128 EltTy.f32)
local notation "qV" => (Memref.whole Cert.CombineIdeal.cc0_scratch4 : Memref Cert.CombineIdeal.sig Kind.scVector Space.vmem Cert.CombineIdeal.S128x2x128 EltTy.f32)
local notation "zV" => (Memref.whole Cert.CombineIdeal.cc0_scratch5 : Memref Cert.CombineIdeal.sig Kind.scVector Space.vmem Cert.CombineIdeal.S16x1024 EltTy.f32)

variable (m : (ℓ : Loc nD τ sig) → Buf (Elt F) ℓ)
variable (d : Dev nD) (L : grid0.Coords)

abbrev cV (L : grid0.Coords) : Fin τ.nSC := (L 0).castLE hcore0
abbrev jV (L : grid0.Coords) : Fin τ.nSub := (L 1).castLE hsub0

/-- One step of a token's loop: sixteen columns of one row of the sum. -/
abbrev step (L : grid0.Coords) (rM : Memref sig .scVector .vmem S128x2x128 .f32) (i : Fin k0_t1_loop.trips) (a b : Vec F S1x16 .f32) (k : Fin k0_t2_loop.trips) :
    Prog (TpuEff nD τ sig (Elt F) Λ₀ (.scVector (cV L) (jV L))) (BitVec 32) := do
  let x ← Prog.lift (.load rM (Rect.unit (s := S128x2x128) (k0_off4 i k) S1x1x16.size (k0_off4_inb i k)).toLoadRect (View.loadsAt_vmem h_S1x1x16))
  let y ← Prog.lift (.load rM (Rect.unit (s := S128x2x128) (k0_off5 i k) S1x1x16.size (k0_off5_inb i k)).toLoadRect (View.loadsAt_vmem h_S1x1x16))
  let _ ← Prog.lift (.load zV (Rect.unit (s := S16x1024) (k0_off6 i k) S1x16.size (k0_off6_inb i k)).toLoadRect (View.loadsAt_vmem h_S1x16))
  Prog.lift (.store zV (Rect.unit (s := S16x1024) (k0_off6 i k) S1x16.size (k0_off6_inb i k)) (k0_pay1 a b x y) Finset.univ (View.stores_vmem_bits_univ h_S1x16 rfl) (.inl rfl))
  pure 0#32

/-! ## The offsets of a step -/

theorem off4_eq : ∀ (i : Fin k0_t1_loop.trips) (k : Fin k0_t2_loop.trips), k0_off4 i k = ![8 * i.val + k.val / 16, k.val / 8 % 2, 16 * (k.val % 8)] := by decide +kernel
theorem off5_eq : ∀ (i : Fin k0_t1_loop.trips) (k : Fin k0_t2_loop.trips), k0_off5 i k = ![8 * i.val + 4 + k.val / 16, k.val / 8 % 2, 16 * (k.val % 8)] := by decide +kernel

/-! ## What a step computes -/

theorem pay_apply (a b : Vec F S1x16 .f32) (x y : Vec F S1x1x16 .f32) (l : Fin 16) :
    k0_pay1 a b x y (ix2 (0 : Fin 1) l) = FloatOps.addf (φ := .f32) (FloatOps.mulf (φ := .f32) (a (ix2 (0 : Fin 1) l)) (x (ix3 (0 : Fin 1) (0 : Fin 1) l)))
      (FloatOps.mulf (φ := .f32) (b (ix2 (0 : Fin 1) l)) (y (ix3 (0 : Fin 1) (0 : Fin 1) l))) := by
  have h2 (v : Vec F S1x16 .f32) : shapeCast S16 v shapeCasts_S1x16_S16 (ix1 l) = v (ix2 (0 : Fin 1) l) :=
    shapeCast_apply _ _ _ _ (by rw [Shape.rowMajor_val_two, Shape.rowMajor_val_one]; show 0 * 16 + l.val = l.val; omega)
  have h3 (v : Vec F S1x1x16 .f32) : shapeCast S16 v shapeCasts_S1x1x16_S16 (ix1 l) = v (ix3 (0 : Fin 1) (0 : Fin 1) l) :=
    shapeCast_apply _ _ _ _ (by rw [Shape.rowMajor_val_three, Shape.rowMajor_val_one]; show (0 * 1 + 0) * 16 + l.val = l.val; omega)
  unfold k0_pay1
  refine (shapeCast_apply _ _ _ (ix1 l) (by rw [Shape.rowMajor_val_two, Shape.rowMajor_val_one]; show l.val = 0 * 16 + l.val; omega)).trans ?_
  show FloatOps.addf (φ := .f32) (FloatOps.mulf (φ := .f32) (shapeCast S16 a shapeCasts_S1x16_S16 (ix1 l)) (shapeCast S16 x shapeCasts_S1x1x16_S16 (ix1 l)))
    (FloatOps.mulf (φ := .f32) (shapeCast S16 b shapeCasts_S1x16_S16 (ix1 l)) (shapeCast S16 y shapeCasts_S1x1x16_S16 (ix1 l))) = _
  rw [h2, h2, h3, h3]

/-- The rows before `i` hold the sum, and the first `16 k` columns of row `i`. -/
def Done (C : Fin 16 → Fin 1024 → Elt F .f32) (i k : ℕ) (z : S16x1024.Idx → Elt F .f32) : Prop :=
  ∀ (r : Fin 16) (x : Fin 1024), (r.val < i ∨ r.val = i ∧ x.val < 16 * k) → z (ix2 r x) = C r x

theorem done_zero (C : Fin 16 → Fin 1024 → Elt F .f32) (z : S16x1024.Idx → Elt F .f32) : Done C 0 0 z :=
  fun r x h => absurd h (by omega)

theorem done_row (C : Fin 16 → Fin 1024 → Elt F .f32) (i : ℕ) (z : S16x1024.Idx → Elt F .f32) (h : Done C i 64 z) : Done C (i + 1) 0 z :=
  fun r x hr => h r x (by have := x.isLt; omega)

theorem done_step (rM : Memref sig .scVector .vmem S128x2x128 .f32) (f : Buf (Elt F) (rM.view.loc (V d (cV L) (jV L)))) (i : Fin k0_t1_loop.trips) (k : Fin k0_t2_loop.trips)
    (A B : Fin 16 → Fin 16 → Elt F .f32) (a b : Vec F S1x16 .f32) (ha : ∀ l, a (ix2 (0 : Fin 1) l) = A (⟨i.val, i.isLt⟩ : Fin 16) l) (hb : ∀ l, b (ix2 (0 : Fin 1) l) = B (⟨i.val, i.isLt⟩ : Fin 16) l)
    (z : Buf (Elt F) ((zV).view.loc (V d (cV L) (jV L)))) (hz : Done (sumAt A B (rM.view.read (Elt F) f)) i.val k.val z) :
    Done (sumAt A B (rM.view.read (Elt F) f)) i.val (k.val + 1) ((zV).view.writes (Elt F) z [⟨Rect.unit (s := S16x1024) (k0_off6 i k) S1x16.size (k0_off6_inb i k),
      k0_pay1 a b (View.readAt (Elt F) rM.view (Rect.unit (s := S128x2x128) (k0_off4 i k) S1x1x16.size (k0_off4_inb i k)).toLoadRect f)
        (View.readAt (Elt F) rM.view (Rect.unit (s := S128x2x128) (k0_off5 i k) S1x1x16.size (k0_off5_inb i k)).toLoadRect f)⟩]) := by
  intro r x hr
  have hi : i.val < 16 := i.isLt
  have hk : k.val < 64 := k.isLt
  by_cases h : r.val = i.val ∧ 16 * k.val ≤ x.val
  · have hx : x.val < 16 * (k.val + 1) := by omega
    refine (View.read_writes_cons_hit_of_coords (zV).view z _ _ [] (ix2 (0 : Fin 1) (⟨x.val - 16 * k.val, by omega⟩ : Fin 16)) (ix2 r x) fun a' => ?_).trans ?_
    · show (ix2 r x a').val = k0_off6 i k a' + 1 * _
      refine Eq.trans ?_ (congrArg (· + 1 * _) (congrFun (k0_off6_eq i k) a').symm)
      match a' with
      | 0 => show r.val = i.val + 1 * 0; omega
      | 1 => show x.val = 16 * k.val + 1 * (x.val - 16 * k.val); omega
    · rw [pay_apply, ha, hb]
      have e4 : (Rect.unit (s := S128x2x128) (k0_off4 i k) S1x1x16.size (k0_off4_inb i k)).emb (ix3 (0 : Fin 1) (0 : Fin 1) (⟨x.val - 16 * k.val, by omega⟩ : Fin 16))
          = (ix3 (⟨8 * r.val + x.val / 256, by omega⟩ : Fin 128) (⟨x.val / 128 % 2, by omega⟩ : Fin 2) (⟨x.val % 128, by omega⟩ : Fin 128) : S128x2x128.Idx) := by
        funext a'; apply Fin.ext
        refine (unit_emb_val _ _ _ _ _).trans ((congrArg (· + _) (congrFun (off4_eq i k) a')).trans ?_)
        match a' with
        | 0 => show 8 * i.val + k.val / 16 + 0 = 8 * r.val + x.val / 256; omega
        | 1 => show k.val / 8 % 2 + 0 = x.val / 128 % 2; omega
        | 2 => show 16 * (k.val % 8) + (x.val - 16 * k.val) = x.val % 128; omega
      have e5 : (Rect.unit (s := S128x2x128) (k0_off5 i k) S1x1x16.size (k0_off5_inb i k)).emb (ix3 (0 : Fin 1) (0 : Fin 1) (⟨x.val - 16 * k.val, by omega⟩ : Fin 16))
          = (ix3 (⟨8 * r.val + 4 + x.val / 256, by omega⟩ : Fin 128) (⟨x.val / 128 % 2, by omega⟩ : Fin 2) (⟨x.val % 128, by omega⟩ : Fin 128) : S128x2x128.Idx) := by
        funext a'; apply Fin.ext
        refine (unit_emb_val _ _ _ _ _).trans ((congrArg (· + _) (congrFun (off5_eq i k) a')).trans ?_)
        match a' with
        | 0 => show 8 * i.val + 4 + k.val / 16 + 0 = 8 * r.val + 4 + x.val / 256; omega
        | 1 => show k.val / 8 % 2 + 0 = x.val / 128 % 2; omega
        | 2 => show 16 * (k.val % 8) + (x.val - 16 * k.val) = x.val % 128; omega
      show FloatOps.addf (φ := .f32) (FloatOps.mulf (φ := .f32) _ (rM.view.read (Elt F) f ((Rect.unit (s := S128x2x128) (k0_off4 i k) S1x1x16.size (k0_off4_inb i k)).emb _)))
        (FloatOps.mulf (φ := .f32) _ (rM.view.read (Elt F) f ((Rect.unit (s := S128x2x128) (k0_off5 i k) S1x1x16.size (k0_off5_inb i k)).emb _))) = _
      rw [e4, e5]
      unfold sumAt
      have er : (⟨i.val, i.isLt⟩ : Fin 16) = r := Fin.ext h.1.symm
      have el : (⟨x.val - 16 * k.val, by omega⟩ : Fin 16) = ⟨x.val % 16, by omega⟩ := Fin.ext (by show x.val - 16 * k.val = x.val % 16; omega)
      rw [er, el]
  · refine Eq.trans ?_ (hz r x (by omega))
    by_cases h' : r.val = i.val
    · exact View.read_writes_cons_miss_of_axis (zV).view z _ [] (ix2 r x) 1 (16 * k.val) 16 (congrFun (k0_off6_eq i k) 1) rfl rfl (Or.inl (by show x.val < _; omega))
    · exact View.read_writes_cons_miss_of_axis (zV).view z _ [] (ix2 r x) 0 i.val 1 (congrFun (k0_off6_eq i k) 0) rfl rfl (by show r.val < _ ∨ _ ≤ r.val; omega)

theorem step_wp (rM : Memref sig .scVector .vmem S128x2x128 .f32) (f : Buf (Elt F) (rM.view.loc (V d (cV L) (jV L)))) (i : Fin k0_t1_loop.trips) (k : Fin k0_t2_loop.trips)
    (A B : Fin 16 → Fin 16 → Elt F .f32) (a b : Vec F S1x16 .f32) (ha : ∀ l, a (ix2 (0 : Fin 1) l) = A (⟨i.val, i.isLt⟩ : Fin 16) l) (hb : ∀ l, b (ix2 (0 : Fin 1) l) = B (⟨i.val, i.isLt⟩ : Fin 16) l) :
    iprop((rM.view.loc (V d (cV L) (jV L)) ↦[rM.view.set]{fullShare} f)
        ∗ ∃ z, ⌜Done (sumAt A B (rM.view.read (Elt F) f)) i.val k.val z⌝ ∗ ((zV).view.loc (V d (cV L) (jV L)) ↦{fullShare} z) : sProp 𝕄)
      ⊢ wp frame (wpE (defs₀ (F := F)) 𝒱₀ (V d (cV L) (jV L)) none) Set.univ (step L rM i a b k) fun _ =>
        iprop((rM.view.loc (V d (cV L) (jV L)) ↦[rM.view.set]{fullShare} f)
          ∗ ∃ z, ⌜Done (sumAt A B (rM.view.read (Elt F) f)) i.val (k.val + 1) z⌝ ∗ ((zV).view.loc (V d (cV L) (jV L)) ↦{fullShare} z)) := by
  iintro ⟨Hr, %z, %hz, Hz⟩
  sl_exec
  sl_step
  isplitl [Hr]; · iexact Hr
  iexists _
  isplitr [Hz]
  swap; · iexact Hz
  ipureintro
  exact done_step d L rM f i k A B a b ha hb z hz

/-- One token of a chunk: its two weights are read, and its row is summed. -/
abbrev trip (L : grid0.Coords) (rM : Memref sig .scVector .vmem S128x2x128 .f32) (o : Fin k0_t1_loop.trips → Fin 2 → ℕ) (ho : ∀ i a, o i a + S1x16.size a ≤ S256x16.size a)
    (i : Fin k0_t1_loop.trips) : Prog (TpuEff nD τ sig (Elt F) Λ₀ (.scVector (cV L) (jV L))) (BitVec 32) := do
  let a : Vec F S1x16 .f32 ← Prog.lift (.load uV (Rect.unit (s := S256x16) (o i) S1x16.size (ho i)).toLoadRect (View.loadsAt_vmem h_S1x16))
  let b : Vec F S1x16 .f32 ← Prog.lift (.load vV (Rect.unit (s := S256x16) (o i) S1x16.size (ho i)).toLoadRect (View.loadsAt_vmem h_S1x16))
  let _ ← Scf.Loop.for k0_t2_loop k0_t2_ok 0#32 (fun k (_ : BitVec 32) => step L rM i a b k)
  pure 0#32

/-- Rows `16 n`, … of a weight's scratch. -/
def rowsOf (n : Fin 16) (W : S256x16.Idx → Elt F .f32) : Fin 16 → Fin 16 → Elt F .f32 :=
  fun i l => W (ix2 (⟨16 * n.val + i.val, by omega⟩ : Fin 256) l)

/-- What chunk `n` computes from its rows `R`. -/
abbrev chunk (n : Fin 16) (W W' : S256x16.Idx → Elt F .f32) (R : S128x2x128.Idx → Elt F .f32) : Fin 16 → Fin 1024 → Elt F .f32 :=
  sumAt (rowsOf n W) (rowsOf n W') R

/-- Before token `t` of chunk `n`. -/
abbrev inv (n : Fin 16) (rM : Memref sig .scVector .vmem S128x2x128 .f32) (W : Buf (Elt F) ((uV).view.loc (V d (cV L) (jV L)))) (W' : Buf (Elt F) ((vV).view.loc (V d (cV L) (jV L))))
    (f : Buf (Elt F) (rM.view.loc (V d (cV L) (jV L)))) (t : ℕ) : sProp 𝕄 :=
  iprop(((uV).view.loc (V d (cV L) (jV L)) ↦{fullShare} W) ∗ ((vV).view.loc (V d (cV L) (jV L)) ↦{fullShare} W') ∗ (rM.view.loc (V d (cV L) (jV L)) ↦[rM.view.set]{fullShare} f)
    ∗ ∃ z, ⌜Done (chunk n W W' (rM.view.read (Elt F) f)) t 0 z⌝ ∗ ((zV).view.loc (V d (cV L) (jV L)) ↦{fullShare} z))

theorem emb_row (n : Fin 16) (i : Fin k0_t1_loop.trips) (o : Fin 2 → ℕ) (ho : ∀ a, o a + S1x16.size a ≤ S256x16.size a) (e : o = ![i.val + 16 * n.val, 0]) (l : Fin 16) :
    ((Rect.unit (s := S256x16) o S1x16.size ho).emb (ix2 (0 : Fin 1) l) : S256x16.Idx)
      = ix2 (⟨16 * n.val + i.val, by have h : i.val < 16 := i.isLt; omega⟩ : Fin 256) l := by
  subst e
  funext a; apply Fin.ext
  refine (unit_emb_val _ _ _ _ _).trans ?_
  match a with
  | 0 => show i.val + 16 * n.val + 0 = 16 * n.val + i.val; omega
  | 1 => exact Nat.zero_add _

theorem trip_wp (n : Fin 16) (rM : Memref sig .scVector .vmem S128x2x128 .f32) (W : Buf (Elt F) ((uV).view.loc (V d (cV L) (jV L)))) (W' : Buf (Elt F) ((vV).view.loc (V d (cV L) (jV L))))
    (f : Buf (Elt F) (rM.view.loc (V d (cV L) (jV L)))) (o : Fin k0_t1_loop.trips → Fin 2 → ℕ) (ho : ∀ i a, o i a + S1x16.size a ≤ S256x16.size a)
    (e : ∀ i, o i = ![i.val + 16 * n.val, 0]) (i : Fin k0_t1_loop.trips) :
    inv d L n rM W W' f i.val
      ⊢ wp frame (wpE (defs₀ (F := F)) 𝒱₀ (V d (cV L) (jV L)) none) Set.univ (trip L rM o ho i) fun _ => inv d L n rM W W' f (i.val + 1) := by
  iintro ⟨Hu, Hv, Hr, %z, %hz, Hz⟩
  sl_exec
  sl_for (fun k _ => iprop((rM.view.loc (V d (cV L) (jV L)) ↦[rM.view.set]{fullShare} f)
    ∗ ∃ z, ⌜Done (chunk n W W' (rM.view.read (Elt F) f)) i.val k z⌝ ∗ ((zV).view.loc (V d (cV L) (jV L)) ↦{fullShare} z) : sProp 𝕄)) $$ [Hr Hz]
  case region =>
    intro k _
    exact step_wp d L rM f i k (rowsOf n W) (rowsOf n W') _ _ (fun l => congrArg W (emb_row n i (o i) (ho i) (e i) l)) fun l => congrArg W' (emb_row n i (o i) (ho i) (e i) l)
  · isplitl [Hr]; · iexact Hr
    iexists z; isplitr [Hz]
    swap; · iexact Hz
    ipureintro; exact hz
  iintro %acc ⟨Hr, %z', %hz', Hz⟩
  sl_exec
  sl_step
  isplitl [Hu]; · iexact Hu
  isplitl [Hv]; · iexact Hv
  isplitl [Hr]; · iexact Hr
  iexists z'; isplitr [Hz]
  swap; · iexact Hz
  ipureintro
  exact done_row _ _ _ hz'

/-- Before token `t` of chunk `n`, the rows in a buffer of the task's own. -/
abbrev invW (n : Fin 16) (rM : Memref sig .scVector .vmem S128x2x128 .f32) (W : Buf (Elt F) ((uV).view.loc (V d (cV L) (jV L)))) (W' : Buf (Elt F) ((vV).view.loc (V d (cV L) (jV L))))
    (f : Buf (Elt F) (rM.view.loc (V d (cV L) (jV L)))) (t : ℕ) : sProp 𝕄 :=
  iprop(((uV).view.loc (V d (cV L) (jV L)) ↦{fullShare} W) ∗ ((vV).view.loc (V d (cV L) (jV L)) ↦{fullShare} W') ∗ (rM.view.loc (V d (cV L) (jV L)) ↦{fullShare} f)
    ∗ ∃ z, ⌜Done (chunk n W W' (rM.view.read (Elt F) f)) t 0 z⌝ ∗ ((zV).view.loc (V d (cV L) (jV L)) ↦{fullShare} z))

theorem tripW_wp (n : Fin 16) (rM : Memref sig .scVector .vmem S128x2x128 .f32) (hr : rM.view.set = Finset.univ) (W : Buf (Elt F) ((uV).view.loc (V d (cV L) (jV L))))
    (W' : Buf (Elt F) ((vV).view.loc (V d (cV L) (jV L)))) (f : Buf (Elt F) (rM.view.loc (V d (cV L) (jV L)))) (o : Fin k0_t1_loop.trips → Fin 2 → ℕ)
    (ho : ∀ i a, o i a + S1x16.size a ≤ S256x16.size a) (e : ∀ i, o i = ![i.val + 16 * n.val, 0]) (i : Fin k0_t1_loop.trips) :
    invW d L n rM W W' f i.val
      ⊢ wp frame (wpE (defs₀ (F := F)) 𝒱₀ (V d (cV L) (jV L)) none) Set.univ (trip L rM o ho i) fun _ => invW d L n rM W W' f (i.val + 1) := by
  have h := trip_wp d L n rM W W' f o ho e i
  unfold inv at h
  rw [hr] at h
  exact h

end Cert.Proof.CombineIdeal

end
-- ==== Proof.CombineIdealTile.lean ====
module

public import proofs.«01_k».proof.Proof.CombineIdealLoop

@[expose] public section

noncomputable section

namespace Cert.Proof.CombineIdeal

open Cert.CombineIdeal Cert.CombineIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ
local notation "xV" => (Memref.whole Cert.CombineIdeal.main_v5_scv : Memref Cert.CombineIdeal.sig Kind.scVector Space.hbm Cert.CombineIdeal.S81920x2x128 EltTy.f32)
local notation "iV" => (Memref.whole Cert.CombineIdeal.main_v14_scv : Memref Cert.CombineIdeal.sig Kind.scVector Space.hbm Cert.CombineIdeal.S512x128 EltTy.i32)
local notation "aV" => (Memref.whole Cert.CombineIdeal.main_v2_scv : Memref Cert.CombineIdeal.sig Kind.scVector Space.hbm Cert.CombineIdeal.S8192x16 EltTy.f32)
local notation "bV" => (Memref.whole Cert.CombineIdeal.main_v4_scv : Memref Cert.CombineIdeal.sig Kind.scVector Space.hbm Cert.CombineIdeal.S8192x16 EltTy.f32)
local notation "oV" => (Memref.whole Cert.CombineIdeal.main_v15_scv : Memref Cert.CombineIdeal.sig Kind.scVector Space.hbm Cert.CombineIdeal.S8192x1024 EltTy.f32)
local notation "sV" => (Memref.whole Cert.CombineIdeal.cc0_scratch0 : Memref Cert.CombineIdeal.sig Kind.scVector Space.vmem Cert.CombineIdeal.S16x128 EltTy.i32)
local notation "uV" => (Memref.whole Cert.CombineIdeal.cc0_scratch1 : Memref Cert.CombineIdeal.sig Kind.scVector Space.vmem Cert.CombineIdeal.S256x16 EltTy.f32)
local notation "vV" => (Memref.whole Cert.CombineIdeal.cc0_scratch2 : Memref Cert.CombineIdeal.sig Kind.scVector Space.vmem Cert.CombineIdeal.S256x16 EltTy.f32)
local notation "rV" => (Memref.whole Cert.CombineIdeal.cc0_scratch3 : Memref Cert.CombineIdeal.sig Kind.scVector Space.vmem Cert.CombineIdeal.S128x2x128 EltTy.f32)
local notation "qV" => (Memref.whole Cert.CombineIdeal.cc0_scratch4 : Memref Cert.CombineIdeal.sig Kind.scVector Space.vmem Cert.CombineIdeal.S128x2x128 EltTy.f32)
local notation "zV" => (Memref.whole Cert.CombineIdeal.cc0_scratch5 : Memref Cert.CombineIdeal.sig Kind.scVector Space.vmem Cert.CombineIdeal.S16x1024 EltTy.f32)

variable (m : (ℓ : Loc nD τ sig) → Buf (Elt F) ℓ)
variable (d : Dev nD) (L : grid0.Coords)

/-- The worker at grid point `L`. -/
abbrev wL (L : grid0.Coords) : Fin 32 := wid (L 0) (L 1)

theorem wL_val : (wL L).val = 2 * (L 1).val + (L 0).val := rfl

/-! ## The slices of the task -/

abbrev iRowK (L : grid0.Coords) : Memref sig .scVector .hbm S16x128 .i32 :=
  (iV).slice (Rect.unit (s := S512x128) (k0_off1 L) S16x128.size (k0_off1_inb L)) (fun _ => rfl)
abbrev aRowK (L : grid0.Coords) : Memref sig .scVector .hbm S256x16 .f32 :=
  (aV).slice (Rect.unit (s := S8192x16) (k0_off2 L) S256x16.size (k0_off2_inb L)) (fun _ => rfl)
abbrev bRowK (L : grid0.Coords) : Memref sig .scVector .hbm S256x16 .f32 :=
  (bV).slice (Rect.unit (s := S8192x16) (k0_off2 L) S256x16.size (k0_off2_inb L)) (fun _ => rfl)
abbrev oBlkK (L : grid0.Coords) (c : Fin 16) : Memref sig .scVector .hbm S16x1024 .f32 :=
  (oV).slice (Rect.unit (s := S8192x1024) (k0_off7 L (BitVec.ofNat 32 c.val)) S16x1024.size (k0_off7_inb L c)) (fun _ => rfl)

theorem irowK_eq : Rect.unit (s := S512x128) (k0_off1 L) S16x128.size (k0_off1_inb L) = irow (wL L) := by
  unfold irow Rect.part Rect.block
  congr 1 <;> funext a
  · rw [k0_off1_eq]
    match a with
    | 0 => simp [Shape.partIx, Shape.partSize, wL_val]; omega
    | 1 => simp [Shape.partIx, Shape.partSize]
  · match a with
    | 0 => simp [Shape.partSize]
    | 1 => simp [Shape.partSize]
theorem wrowK_eq : Rect.unit (s := S8192x16) (k0_off2 L) S256x16.size (k0_off2_inb L) = wrow (wL L) := by
  unfold wrow Rect.part Rect.block
  congr 1 <;> funext a
  · rw [k0_off2_eq]
    match a with
    | 0 => simp [Shape.partIx, Shape.partSize, wL_val]; omega
    | 1 => simp [Shape.partIx, Shape.partSize]
  · match a with
    | 0 => simp [Shape.partSize]
    | 1 => simp [Shape.partSize]
theorem oblkK_eq (c : Fin 16) : Rect.unit (s := S8192x1024) (k0_off7 L (BitVec.ofNat 32 c.val)) S16x1024.size (k0_off7_inb L c)
    = orow (blk (wL L) c) := by
  unfold orow Rect.part Rect.block
  congr 1 <;> funext a
  · rw [k0_off7_eq]
    match a with
    | 0 => simp [Shape.partIx, Shape.partSize, wL_val, blk]; omega
    | 1 => simp [Shape.partIx, Shape.partSize]
  · match a with
    | 0 => simp [Shape.partSize]
    | 1 => simp [Shape.partSize]

theorem set_iRowK : (iRowK L).view.set = iRowSet (wL L) := by
  show ((iV).view.slice (Rect.unit (s := S512x128) (k0_off1 L) S16x128.size (k0_off1_inb L))).set = ((iV).view.slice (irow (wL L))).set
  exact irowK_eq L ▸ rfl
theorem set_aRowK : (aRowK L).view.set = aRowSet (wL L) := by
  show ((aV).view.slice (Rect.unit (s := S8192x16) (k0_off2 L) S256x16.size (k0_off2_inb L))).set = ((aV).view.slice (wrow (wL L))).set
  exact wrowK_eq L ▸ rfl
theorem set_bRowK : (bRowK L).view.set = bRowSet (wL L) := by
  show ((bV).view.slice (Rect.unit (s := S8192x16) (k0_off2 L) S256x16.size (k0_off2_inb L))).set = ((bV).view.slice (wrow (wL L))).set
  exact wrowK_eq L ▸ rfl
theorem set_oBlkK (c : Fin 16) : (oBlkK L c).view.set = oRowSet (blk (wL L) c) := by
  show ((oV).view.slice (Rect.unit (s := S8192x1024) (k0_off7 L (BitVec.ofNat 32 c.val)) S16x1024.size (k0_off7_inb L c))).set
    = ((oV).view.slice (orow (blk (wL L) c))).set
  exact oblkK_eq L c ▸ rfl

theorem pts_iRowK (f : Buf (Elt F) (iLoc d)) :
    ((iRowK L).view.loc (V d (cV L) (jV L)) ↦[(iRowK L).view.set]{fullShare} f : sProp 𝕄) = iLoc d ↦[iRowSet (wL L)]{fullShare} f := by
  rw [set_iRowK]
theorem pts_aRowK (f : Buf (Elt F) (aLoc d)) :
    ((aRowK L).view.loc (V d (cV L) (jV L)) ↦[(aRowK L).view.set]{fullShare} f : sProp 𝕄) = aLoc d ↦[aRowSet (wL L)]{fullShare} f := by
  rw [set_aRowK]
theorem pts_bRowK (f : Buf (Elt F) (bLoc d)) :
    ((bRowK L).view.loc (V d (cV L) (jV L)) ↦[(bRowK L).view.set]{fullShare} f : sProp 𝕄) = bLoc d ↦[bRowSet (wL L)]{fullShare} f := by
  rw [set_bRowK]
theorem pts_oBlkK (c : Fin 16) (f : Buf (Elt F) (oLoc d)) :
    ((oBlkK L c).view.loc (V d (cV L) (jV L)) ↦[(oBlkK L c).view.set]{fullShare} f : sProp 𝕄) = oLoc d ↦[oRowSet (blk (wL L) c)]{fullShare} f := by
  rw [set_oBlkK]
theorem pts_xV (q : PosShare TreeShare) (f : Buf (Elt F) (xLoc d)) :
    ((xV).view.loc (V d (cV L) (jV L)) ↦{q} f : sProp 𝕄) = xLoc d ↦{q} f := rfl
theorem pts_scratch (r : Ref sig .scVector) (f : Buf (Elt F) ((V d (cV L) (jV L)).loc r)) :
    ((Memref.whole r).view.loc (V d (cV L) (jV L)) ↦{fullShare} f : sProp 𝕄) = (V d (cV L) (jV L)).loc r ↦{fullShare} f := rfl

/-! ## The task's own cells and buffers -/

/-- The semaphores of a task, in the order of the kernel's parameters. -/
def semsList : List (SemLoc sig) :=
  [.dma cc0_scratch6.sem, .dma cc0_scratch7.sem, .dma cc0_scoped0.sem, .dma cc0_scoped1.sem, .dma cc0_scoped2.sem, .dma cc0_scoped3.sem, .dma cc0_scoped4.sem, .dma cc0_scoped5.sem,
    .dma cc0_scoped6.sem, .dma cc0_scoped7.sem, .dma cc0_scoped8.sem, .dma cc0_scoped9.sem, .dma cc0_scoped10.sem, .dma cc0_scoped11.sem, .dma cc0_scoped12.sem, .dma cc0_scoped13.sem,
    .dma cc0_scoped14.sem, .dma cc0_scoped15.sem, .dma cc0_scoped16.sem, .dma cc0_scoped17.sem, .dma cc0_scoped18.sem]

theorem semsList_nodup : semsList.Nodup := by decide
theorem semsList_scoped : ∀ s ∈ semsList, (s : SemLoc sig).isScoped .scVector = true := by decide

/-- The subcore's other semaphores, at zero, and its other buffers. -/
def semsRest (d : Dev nD) (L : grid0.Coords) : sProp 𝕄 :=
  bigSep (ownCells (V d (cV L) (jV L)) \ (semsList.map fun s => ((V d (cV L) (jV L), s) : GSem nD τ sig)).toFinset) fun g => semVal g 0

theorem ownSems0_V : (ownSems0 (V d (cV L) (jV L)) : sProp 𝕄) = (semsList.map fun s => ((V d (cV L) (jV L), s) : GSem nD τ sig)).foldr
    (fun g R => iprop(semVal g 0 ∗ R)) (semsRest d L) := by
  refine bigSep_list (fun g => semVal g 0) _ _ (semsList_nodup.map fun a b h => (Prod.mk.inj h).2) fun g hg => ?_
  obtain ⟨s, hs, rfl⟩ := List.mem_map.mp hg
  exact mem_ownCells.mpr ⟨rfl, semsList_scoped s hs⟩

def refsList : List (Ref sig .scVector) := [cc0_scratch0, cc0_scratch1, cc0_scratch2, cc0_scratch3, cc0_scratch4, cc0_scratch5]
theorem refsList_nodup : refsList.Nodup := by decide

def bufsRest (d : Dev nD) (L : grid0.Coords) : sProp 𝕄 :=
  bigSep (ownRefs (τ := τ) (.scVector (cV L) (jV L)) \ (refsList.map fun b => (Proc.scVector (cV L) (jV L)).devRef b).toFinset)
    fun b => iprop(∃ f, ((d, b) : Loc nD τ sig) ↦{fullShare} f)

theorem ownBufs_V : (ownBufs (V d (cV L) (jV L)) : sProp 𝕄) = (refsList.map fun b => (Proc.scVector (cV L) (jV L)).devRef b).foldr
    (fun b R => iprop((∃ f, ((d, b) : Loc nD τ sig) ↦{fullShare} f) ∗ R))
    (bufsRest d L) := by
  refine bigSep_list (fun b => iprop(∃ f, ((d, b) : Loc nD τ sig) ↦{fullShare} f)) _ _ (refsList_nodup.map (Proc.devRef_injective _)) fun b hb => ?_
  obtain ⟨r, hr, rfl⟩ := List.mem_map.mp hb
  refine SparseCore.Cfg.mem_ownRefs_of_owner ?_
  simp only [refsList, List.mem_cons, List.not_mem_nil, or_false] at hr
  rcases hr with rfl | rfl | rfl | rfl | rfl | rfl <;> rfl

/-! ## The contents the task runs over -/

/-- The worker's own lists and weights, as its scratch holds them after the fetches. -/
def fetched (d : Dev nD) (L : grid0.Coords) : Buf (Elt F) ((V d (cV L) (jV L)).loc cc0_scratch0) :=
  (fun y => listOf (m (pLoc d)) (ix2 (blk (wL L) (y 0)) (y 1)) : S16x128.Idx → BitVec 32)
/-- Token `i` of worker `w`. -/
def token (w : Fin 32) (i : Fin 256) : Fin 8192 := ⟨w.val * 256 + i.val, by omega⟩
def fetchedA (d : Dev nD) (L : grid0.Coords) : Buf (Elt F) ((V d (cV L) (jV L)).loc cc0_scratch1) :=
  (fun y => A m d (ix2 (token (wL L) (y 0)) (y 1)) : S256x16.Idx → Elt F .f32)
def fetchedB (d : Dev nD) (L : grid0.Coords) : Buf (Elt F) ((V d (cV L) (jV L)).loc cc0_scratch2) :=
  (fun y => B m d (ix2 (token (wL L) (y 0)) (y 1)) : S256x16.Idx → Elt F .f32)
/-- The rows that list `c` of the worker names. -/
def rowsAt (d : Dev nD) (L : grid0.Coords) (c : Fin 16) : S128x2x128.Idx → Elt F .f32 := fetchedRows (X m d) (I m d) (blk (wL L) c)

theorem squeeze_row (y : S128.Idx) :
    Shape.reshapeEquiv squeezes_S1x128_S128.numel_eq y = (ix2 0 (y 0) : S1x128.Idx) :=
  Shape.reshapeEquiv_eq_of_rowMajor _ (by
    refine (Shape.rowMajor_val_two _).trans (Eq.trans ?_ (Shape.rowMajor_val_one _).symm)
    show 0 * 128 + (y 0).val = (y 0).val
    omega)

theorem emb_iRowK (y : S16x128.Idx) : ((iRowK L).view.emb y : S512x128.Idx) = ix2 (blk (wL L) (y 0)) (y 1) := by
  show (Rect.unit (s := S512x128) (k0_off1 L) S16x128.size (k0_off1_inb L)).emb y = _
  funext a; apply Fin.ext
  refine (unit_emb_val _ _ _ _ _).trans ?_
  refine (congrArg (· + _) (congrFun (k0_off1_eq L) a)).trans ?_
  match a with
  | 0 => show 32 * (L 1).val + 16 * (L 0).val + (y 0).val = (2 * (L 1).val + (L 0).val) * 16 + (y 0).val; omega
  | 1 => exact Nat.zero_add _
theorem emb_aRowK (y : S256x16.Idx) : ((Rect.unit (s := S8192x16) (k0_off2 L) S256x16.size (k0_off2_inb L)).emb y : S8192x16.Idx) = ix2 (token (wL L) (y 0)) (y 1) := by
  funext a; apply Fin.ext
  refine (unit_emb_val _ _ _ _ _).trans ?_
  refine (congrArg (· + _) (congrFun (k0_off2_eq L) a)).trans ?_
  match a with
  | 0 => show 512 * (L 1).val + 256 * (L 0).val + (y 0).val = (2 * (L 1).val + (L 0).val) * 256 + (y 0).val; omega
  | 1 => exact Nat.zero_add _
/-- Row `i` of block `b`. -/
def rowIn (b : Fin 512) (i : Fin 16) : Fin 8192 := ⟨b.val * 16 + i.val, by omega⟩
theorem emb_oBlkK (c : Fin 16) (y : S16x1024.Idx) : ((oBlkK L c).view.emb y : S8192x1024.Idx) = ix2 (rowIn (blk (wL L) c) (y 0)) (y 1) := by
  show (Rect.unit (s := S8192x1024) (k0_off7 L (BitVec.ofNat 32 c.val)) S16x1024.size (k0_off7_inb L c)).emb y = _
  funext a; apply Fin.ext
  refine (unit_emb_val _ _ _ _ _).trans ?_
  refine (congrArg (· + _) (congrFun (k0_off7_eq L c) a)).trans ?_
  match a with
  | 0 => show 512 * (L 1).val + 256 * (L 0).val + 16 * c.val + (y 0).val = ((2 * (L 1).val + (L 0).val) * 16 + c.val) * 16 + (y 0).val; omega
  | 1 => exact Nat.zero_add _

theorem write_fetched (fs : Buf (Elt F) ((V d (cV L) (jV L)).loc cc0_scratch0)) (pay : S16x128.Idx → Elt F .i32)
    (hpay : pay = (iRowK L).view.read (Elt F) (I m d)) :
    View.write (Elt F) (sV).view fs pay Finset.univ = fetched m d L := by
  subst hpay
  rw [View.write_whole_univ]
  funext y
  exact ((View.read_apply _ _).trans (cast_eq _ _)).trans (congrArg (I m d) (emb_iRowK L y))
theorem write_fetchedA (fs : Buf (Elt F) ((V d (cV L) (jV L)).loc cc0_scratch1)) (pay : S256x16.Idx → Elt F .f32)
    (hpay : pay = (aRowK L).view.read (Elt F) (A m d)) :
    View.write (Elt F) (uV).view fs pay Finset.univ = fetchedA m d L := by
  subst hpay
  rw [View.write_whole_univ]
  funext y
  exact ((View.read_apply _ _).trans (cast_eq _ _)).trans (congrArg (A m d) (emb_aRowK L y))
theorem write_fetchedB (fs : Buf (Elt F) ((V d (cV L) (jV L)).loc cc0_scratch2)) (pay : S256x16.Idx → Elt F .f32)
    (hpay : pay = (bRowK L).view.read (Elt F) (B m d)) :
    View.write (Elt F) (vV).view fs pay Finset.univ = fetchedB m d L := by
  subst hpay
  rw [View.write_whole_univ]
  funext y
  exact ((View.read_apply _ _).trans (cast_eq _ _)).trans (congrArg (B m d) (emb_aRowK L y))

/-- The list slice of a gather: one row of the fetched lists. -/
abbrev sRowK (o : Fin 2 → ℕ) (ho : ∀ a, o a + S1x128.size a ≤ S16x128.size a) : Memref sig .scVector .vmem S128 .i32 :=
  ((sV).slice (Rect.unit (s := S16x128) o S1x128.size ho) (fun _ => rfl)).squeeze S128 squeezes_S1x128_S128

theorem inb_fetched (hpre : PreOK m) (o : Fin 2 → ℕ) (ho : ∀ a, o a + S1x128.size a ≤ S16x128.size a) (x : S128.Idx) :
    ((sRowK o ho).view.read (Elt F) (fetched m d L) x).toNat < 81920 := by
  rw [show (sRowK o ho).view.read (Elt F) (fetched m d L) x = fetched m d L ((sRowK o ho).view.emb x) from (View.read_apply _ _).trans (cast_eq _ _)]
  exact hpre d _

theorem emb_sRowK (c : Fin 16) (ho : ∀ a, (![c.val, 0] : Fin 2 → ℕ) a + S1x128.size a ≤ S16x128.size a) (x : S128.Idx) :
    ((sRowK ![c.val, 0] ho).view.emb x : S16x128.Idx) = ix2 c (x 0) := by
  show (Rect.unit (s := S16x128) ![c.val, 0] S1x128.size ho).emb (Shape.reshapeEquiv squeezes_S1x128_S128.numel_eq x) = _
  rw [squeeze_row]
  funext a; apply Fin.ext
  refine (unit_emb_val _ _ _ _ _).trans ?_
  match a with
  | 0 => rfl
  | 1 => exact Nat.zero_add _

/-- The list's `k`-th word in row-major order is its word `k`. -/
theorem rowMajor_symm_S128 (k : Fin S128.numel) : (S128.rowMajor.symm k 0).val = k.val := by
  have h := Shape.rowMajor_val_one (S128.rowMajor.symm k)
  rw [Equiv.apply_symm_apply] at h
  exact h.symm

theorem fetched_apply (j : S16x128.Idx) : (fetched m d L : S16x128.Idx → BitVec 32) j = listOf (m (pLoc d)) (ix2 (blk (wL L) (j 0)) (j 1)) := rfl

/-- A word of the fetched lists, read through a gather's list slice. -/
theorem read_sRowK (c : Fin 16) (ho : ∀ a, (![c.val, 0] : Fin 2 → ℕ) a + S1x128.size a ≤ S16x128.size a) (x : S128.Idx) :
    (sRowK ![c.val, 0] ho).view.read (Elt F) (fetched m d L) x = listOf (m (pLoc d)) (ix2 (blk (wL L) c) (x 0)) := by
  have h : (sRowK ![c.val, 0] ho).view.read (Elt F) (fetched m d L) x = fetched m d L ((sRowK ![c.val, 0] ho).view.emb x) :=
    (View.read_apply _ _).trans (cast_eq _ _)
  refine h.trans ((fetched_apply m d L _).trans ?_)
  rw [emb_sRowK]

theorem emb_xV (hb : ∀ a, (![0, 0, 0] : Fin 3 → ℕ) a + S81920x2x128.size a ≤ S81920x2x128.size a) (x : S81920x2x128.Idx) :
    (((xV).slice (Rect.unit (s := S81920x2x128) ![0, 0, 0] S81920x2x128.size hb) (fun _ => rfl)).view.emb x : S81920x2x128.Idx) = x := by
  show (Rect.unit (s := S81920x2x128) ![0, 0, 0] S81920x2x128.size hb).emb x = x
  funext a; apply Fin.ext
  refine (unit_emb_val _ _ _ _ _).trans ?_
  match a with
  | 0 => exact Nat.zero_add _
  | 1 => exact Nat.zero_add _
  | 2 => exact Nat.zero_add _

/-- What gather `c` of the task delivers: the rows that the worker's list `c` names. -/
theorem gather_val (c : Fin 16) (ho : ∀ a, (![c.val, 0] : Fin 2 → ℕ) a + S1x128.size a ≤ S16x128.size a)
    (hb : ∀ a, (![0, 0, 0] : Fin 3 → ℕ) a + S81920x2x128.size a ≤ S81920x2x128.size a) (hg : S81920x2x128.Gathers 0 S128x2x128)
    (hn : S128.numel = S128x2x128.size hg.axis') (hin : ∀ x, ((sRowK ![c.val, 0] ho).view.read (Elt F) (fetched m d L) x).toNat < S81920x2x128.size hg.axis)
    (y : S128x2x128.Idx) :
    SparseCore.gatherPayload hg (((xV).slice (Rect.unit (s := S81920x2x128) ![0, 0, 0] S81920x2x128.size hb) (fun _ => rfl)).view.read (Elt F) (X m d))
      (SparseCore.rows ((sRowK ![c.val, 0] ho).view.read (Elt F) (fetched m d L)) hn hin) y
    = rowsAt m d L c y := by
  unfold SparseCore.gatherPayload
  refine ((View.read_apply _ _).trans (cast_eq _ _)).trans ?_
  refine congrArg (X m d) ((emb_xV hb _).trans ?_)
  funext a; apply Fin.ext
  match a with
  | 0 =>
    refine (congrArg Fin.val (Shape.Gathers.idx_axis hg _ y)).trans ?_
    show ((sRowK ![c.val, 0] ho).view.read (Elt F) (fetched m d L) _).toNat
      = (I m d (ix2 (blk (wL L) c) (y 0))).toNat % 81920
    rw [Nat.mod_eq_of_lt]
    · rw [read_sRowK]
      refine congrArg (fun k => (I m d (ix2 (blk (wL L) c) k)).toNat) (Fin.ext ?_)
      exact rowMajor_symm_S128 _
    · have := hin (ix1 (y 0))
      rw [read_sRowK] at this
      exact this
  | 1 => exact Shape.Gathers.idx_of_ne hg _ y 1 (by decide)
  | 2 => exact Shape.Gathers.idx_of_ne hg _ y 2 (by decide)

/-- A buffer that a gather has filled with the rows that list `c` names. -/
theorem rows_pts (r : Ref sig .scVector) (f f' : Buf (Elt F) ((Memref.whole r).view.loc (V d (cV L) (jV L)))) (h : f = f') :
    ((Memref.whole r).view.loc (V d (cV L) (jV L)) ↦{fullShare} f : sProp 𝕄) ⊢ (Memref.whole r).view.loc (V d (cV L) (jV L)) ↦{fullShare} f' := by
  rw [h]

/-- The two row buffers, filled by a gather of the rows that list `c` names. -/
theorem filled_r (c : Fin 16) (w : S128x2x128.Idx → Elt F .f32) (g : Buf (Elt F) ((rV).view.loc (V d (cV L) (jV L)))) (hw : ∀ y, w y = rowsAt m d L c y) :
    ((rV).view.loc (V d (cV L) (jV L)) ↦{fullShare} (rV).view.writes (Elt F) g [⟨Rect.whole S128x2x128, w⟩] : sProp 𝕄)
      ⊢ (rV).view.loc (V d (cV L) (jV L)) ↦{fullShare} rowsAt m d L c :=
  rows_pts d L cc0_scratch3 _ _ (funext fun y => (((View.read_apply _ _).trans (cast_eq _ _)).symm.trans (read_cons_whole (rV).view g w [] y)).trans (hw y))
theorem filled_q (c : Fin 16) (w : S128x2x128.Idx → Elt F .f32) (g : Buf (Elt F) ((qV).view.loc (V d (cV L) (jV L)))) (hw : ∀ y, w y = rowsAt m d L c y) :
    ((qV).view.loc (V d (cV L) (jV L)) ↦{fullShare} (qV).view.writes (Elt F) g [⟨Rect.whole S128x2x128, w⟩] : sProp 𝕄)
      ⊢ (qV).view.loc (V d (cV L) (jV L)) ↦{fullShare} rowsAt m d L c :=
  rows_pts d L cc0_scratch4 _ _ (funext fun y => (((View.read_apply _ _).trans (cast_eq _ _)).symm.trans (read_cons_whole (qV).view g w [] y)).trans (hw y))

/-- What chunk `c` of the task computes is block `c` of the worker's part of the result. -/
theorem chunk_val (c : Fin 16) (i : Fin 16) (x : Fin 1024) :
    chunk c (fetchedA m d L) (fetchedB m d L) (rowsAt m d L c) i x = G m d (ix2 (rowIn (blk (wL L) c) i) x) := by
  have hb : (⟨(rowIn (blk (wL L) c) i).val / 16, by have := (rowIn (blk (wL L) c) i).isLt; omega⟩ : Fin 512) = blk (wL L) c :=
    Fin.ext (by show ((blk (wL L) c).val * 16 + i.val) / 16 = _; omega)
  have hi : (⟨(rowIn (blk (wL L) c) i).val % 16, Nat.mod_lt _ (by decide)⟩ : Fin 16) = i := Fin.ext (by show ((blk (wL L) c).val * 16 + i.val) % 16 = _; omega)
  have hA : rowsOf c (fetchedA m d L) = sixteen (A m d) (blk (wL L) c) := by
    funext i l
    refine congrArg (fun k => A m d (ix2 k l)) (Fin.ext ?_)
    show (wL L).val * 256 + (16 * c.val + i.val) = 16 * ((wL L).val * 16 + c.val) + i.val
    omega
  have hB : rowsOf c (fetchedB m d L) = sixteen (B m d) (blk (wL L) c) := by
    funext i l
    refine congrArg (fun k => B m d (ix2 k l)) (Fin.ext ?_)
    show (wL L).val * 256 + (16 * c.val + i.val) = 16 * ((wL L).val * 16 + c.val) + i.val
    omega
  show _ = sumAt (sixteen (A m d) (⟨(rowIn (blk (wL L) c) i).val / 16, _⟩ : Fin 512)) (sixteen (B m d) (⟨(rowIn (blk (wL L) c) i).val / 16, _⟩ : Fin 512))
    (fetchedRows (X m d) (I m d) (⟨(rowIn (blk (wL L) c) i).val / 16, _⟩ : Fin 512)) (⟨(rowIn (blk (wL L) c) i).val % 16, _⟩ : Fin 16) x
  rw [hb, hi, ← hA, ← hB]
  rfl

/-- The staging buffer after the last token of chunk `c`. -/
theorem chunk_pay (c : Fin 16) (z : Buf (Elt F) ((zV).view.loc (V d (cV L) (jV L)))) (R : S128x2x128.Idx → Elt F .f32) (hR : R = rowsAt m d L c)
    (hz : Done (chunk c (fetchedA m d L) (fetchedB m d L) R) 16 0 z) (y : S16x1024.Idx) :
    (zV).view.read (Elt F) z y = G m d (ix2 (rowIn (blk (wL L) c) (y 0)) (y 1)) := by
  subst hR
  refine Eq.trans ?_ ((hz (y 0) (y 1) (Or.inl (y 0).isLt)).trans (chunk_val m d L c (y 0) (y 1)))
  refine ((View.read_apply _ _).trans (cast_eq _ _)).trans (congrArg z ?_)
  funext a
  match a with
  | 0 => rfl
  | 1 => rfl

/-- A block of the result written with its own rows holds them. -/
theorem blk_pts (c : Fin 16) (f : Buf (Elt F) (oLoc d)) (w : S16x1024.Idx → Elt F .f32)
    (hw : ∀ y, w y = G m d (ix2 (rowIn (blk (wL L) c) (y 0)) (y 1))) :
    ((oBlkK L c).view.loc (V d (cV L) (jV L)) ↦[(oBlkK L c).view.set]{fullShare}
      (oBlkK L c).view.writes (Elt F) f [⟨Rect.whole S16x1024, w⟩] : sProp 𝕄) ⊢ oLoc d ↦[oRowSet (blk (wL L) c)]{fullShare} G m d := by
  refine Entails.of_eq ((pointsTo_congr fun i hi => ?_).trans (pts_oBlkK d L c _))
  obtain ⟨y, -, rfl⟩ := Finset.mem_map.mp hi
  have h := read_cons_whole (oBlkK L c).view f w [] y
  have h' : (oBlkK L c).view.read (Elt F) ((oBlkK L c).view.writes (Elt F) f [⟨Rect.whole S16x1024, w⟩]) y
      = (oBlkK L c).view.writes (Elt F) f [⟨Rect.whole S16x1024, w⟩] ((oBlkK L c).view.emb y) := (View.read_apply _ _).trans (cast_eq _ _)
  have hG : G m d ((oBlkK L c).view.emb y) = G m d (ix2 (rowIn (blk (wL L) c) (y 0)) (y 1)) :=
    congrArg (fun j : S8192x1024.Idx => G m d j) (emb_oBlkK L c y)
  exact (h'.symm.trans h).trans ((hw y).trans hG.symm)

end Cert.Proof.CombineIdeal

end
-- ==== Proof.CombineIdealRun.lean ====
module

public import proofs.«01_k».proof.Proof.CombineIdealTile

@[expose] public section

noncomputable section

namespace Cert.Proof.CombineIdeal

open Cert.CombineIdeal Cert.CombineIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ
local notation "xV" => (Memref.whole Cert.CombineIdeal.main_v5_scv : Memref Cert.CombineIdeal.sig Kind.scVector Space.hbm Cert.CombineIdeal.S81920x2x128 EltTy.f32)
local notation "iV" => (Memref.whole Cert.CombineIdeal.main_v14_scv : Memref Cert.CombineIdeal.sig Kind.scVector Space.hbm Cert.CombineIdeal.S512x128 EltTy.i32)
local notation "aV" => (Memref.whole Cert.CombineIdeal.main_v2_scv : Memref Cert.CombineIdeal.sig Kind.scVector Space.hbm Cert.CombineIdeal.S8192x16 EltTy.f32)
local notation "bV" => (Memref.whole Cert.CombineIdeal.main_v4_scv : Memref Cert.CombineIdeal.sig Kind.scVector Space.hbm Cert.CombineIdeal.S8192x16 EltTy.f32)
local notation "oV" => (Memref.whole Cert.CombineIdeal.main_v15_scv : Memref Cert.CombineIdeal.sig Kind.scVector Space.hbm Cert.CombineIdeal.S8192x1024 EltTy.f32)
local notation "sV" => (Memref.whole Cert.CombineIdeal.cc0_scratch0 : Memref Cert.CombineIdeal.sig Kind.scVector Space.vmem Cert.CombineIdeal.S16x128 EltTy.i32)
local notation "uV" => (Memref.whole Cert.CombineIdeal.cc0_scratch1 : Memref Cert.CombineIdeal.sig Kind.scVector Space.vmem Cert.CombineIdeal.S256x16 EltTy.f32)
local notation "vV" => (Memref.whole Cert.CombineIdeal.cc0_scratch2 : Memref Cert.CombineIdeal.sig Kind.scVector Space.vmem Cert.CombineIdeal.S256x16 EltTy.f32)
local notation "rV" => (Memref.whole Cert.CombineIdeal.cc0_scratch3 : Memref Cert.CombineIdeal.sig Kind.scVector Space.vmem Cert.CombineIdeal.S128x2x128 EltTy.f32)
local notation "qV" => (Memref.whole Cert.CombineIdeal.cc0_scratch4 : Memref Cert.CombineIdeal.sig Kind.scVector Space.vmem Cert.CombineIdeal.S128x2x128 EltTy.f32)
local notation "zV" => (Memref.whole Cert.CombineIdeal.cc0_scratch5 : Memref Cert.CombineIdeal.sig Kind.scVector Space.vmem Cert.CombineIdeal.S16x1024 EltTy.f32)

variable (m : (ℓ : Loc nD τ sig) → Buf (Elt F) ℓ)
variable (d : Dev nD) (L : grid0.Coords)

theorem oBlkPts_list (w : Fin 32) (f : Buf (Elt F) (oLoc d)) : oBlkPts d w f
    = [(0 : Fin 16), 1, 2, 3, 4, 5, 6, 7, 8, 9, 10, 11, 12, 13, 14, 15].foldr
      (fun c R => iprop((oLoc d ↦[oRowSet (blk w c)]{fullShare} f) ∗ R)) (iprop(emp) : sProp 𝕄) :=
  (bigSep_list _ [(0 : Fin 16), 1, 2, 3, 4, 5, 6, 7, 8, 9, 10, 11, 12, 13, 14, 15] _ (by decide) (fun _ _ => Finset.mem_univ _)).trans
    (by rw [show (Finset.univ : Finset (Fin 16)) \ [(0 : Fin 16), 1, 2, 3, 4, 5, 6, 7, 8, 9, 10, 11, 12, 13, 14, 15].toFinset = ∅ from by decide, bigSep_empty]; rfl)

set_option maxHeartbeats 4000000 in
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp ∗ goW m d (wL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_k L xV (Memref.isWhole_whole _) iV (Memref.isWhole_whole _) aV (Memref.isWhole_whole _) bV (Memref.isWhole_whole _) oV (Memref.isWhole_whole _)
            sV (Memref.isWhole_whole _) uV (Memref.isWhole_whole _) vV (Memref.isWhole_whole _) rV (Memref.isWhole_whole _) qV (Memref.isWhole_whole _) zV (Memref.isWhole_whole _)
            cc0_scratch6 cc0_scratch7 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18)
          fun _ => iprop(tdW m d (wL L) ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_k_eq_skeleton]; unfold cc0_k_skel
  rw [(K (F := F)).scopedBufs_V hF d (cV L) (jV L), SparseCore.Cfg.scopedSems0_V (Val := Elt F) d (cV L) (jV L), ownSems0_V, ownBufs_V]
  simp only [semsList, refsList, List.map_cons, List.map_nil, List.foldr_cons, List.foldr_nil]
  iintro ⟨#Hlv, -, ⟨Hi, Hwa, Hwb, Hx, Ho⟩, ⟨⟨%fs, Hs⟩, ⟨%fu, Hu⟩, ⟨%fv, Hv⟩, ⟨%fr, Hr⟩, ⟨%fq, Hq⟩, ⟨%fz, Hz⟩, Hbufs⟩,
    ⟨Ha, Hb, H0, H1, H2, H3, H4, H5, H6, H7, H8, H9, H10, H11, H12, H13, H14, H15, H16, H17, H18, Hsems⟩, HO⟩
  ihave Ho' := (Entails.of_eq (oBlkPts_list d (wL L) (m (oLoc d)))) $$ Ho
  simp only [List.foldr_cons, List.foldr_nil]
  icases Ho' with ⟨Ho0, Ho1, Ho2, Ho3, Ho4, Ho5, Ho6, Ho7, Ho8, Ho9, Ho10, Ho11, Ho12, Ho13, Ho14, Ho15, -⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iRowK (F := F) d L _).symm) $$ Hi
  ihave Hwa' := (Entails.of_eq (pts_aRowK (F := F) d L _).symm) $$ Hwa
  ihave Hwb' := (Entails.of_eq (pts_bRowK (F := F) d L _).symm) $$ Hwb
  ihave Hs' := (Entails.of_eq (pts_scratch (F := F) d L cc0_scratch0 _).symm) $$ Hs
  ihave Hu' := (Entails.of_eq (pts_scratch (F := F) d L cc0_scratch1 _).symm) $$ Hu
  ihave Hv' := (Entails.of_eq (pts_scratch (F := F) d L cc0_scratch2 _).symm) $$ Hv
  ihave Hr' := (Entails.of_eq (pts_scratch (F := F) d L cc0_scratch3 _).symm) $$ Hr
  ihave Hq' := (Entails.of_eq (pts_scratch (F := F) d L cc0_scratch4 _).symm) $$ Hq
  ihave Hz' := (Entails.of_eq (pts_scratch (F := F) d L cc0_scratch5 _).symm) $$ Hz
  ihave Hxs := (pointsTo_share (PosShare.mem_left_op_right (xq (wL L)))).1 $$ Hx
  icases Hxs with ⟨Hx1, Hx2⟩
  ihave Hx1' := (Entails.of_eq (pts_xV (F := F) d L _ _).symm) $$ Hx1
  ihave Hx2' := (Entails.of_eq (pts_xV (F := F) d L _ _).symm) $$ Hx2
  ihave Hp0 := (Entails.of_eq (pts_oBlkK (F := F) d L 0 _).symm) $$ Ho0
  ihave Hp1 := (Entails.of_eq (pts_oBlkK (F := F) d L 1 _).symm) $$ Ho1
  ihave Hp2 := (Entails.of_eq (pts_oBlkK (F := F) d L 2 _).symm) $$ Ho2
  ihave Hp3 := (Entails.of_eq (pts_oBlkK (F := F) d L 3 _).symm) $$ Ho3
  ihave Hp4 := (Entails.of_eq (pts_oBlkK (F := F) d L 4 _).symm) $$ Ho4
  ihave Hp5 := (Entails.of_eq (pts_oBlkK (F := F) d L 5 _).symm) $$ Ho5
  ihave Hp6 := (Entails.of_eq (pts_oBlkK (F := F) d L 6 _).symm) $$ Ho6
  ihave Hp7 := (Entails.of_eq (pts_oBlkK (F := F) d L 7 _).symm) $$ Ho7
  ihave Hp8 := (Entails.of_eq (pts_oBlkK (F := F) d L 8 _).symm) $$ Ho8
  ihave Hp9 := (Entails.of_eq (pts_oBlkK (F := F) d L 9 _).symm) $$ Ho9
  ihave Hp10 := (Entails.of_eq (pts_oBlkK (F := F) d L 10 _).symm) $$ Ho10
  ihave Hp11 := (Entails.of_eq (pts_oBlkK (F := F) d L 11 _).symm) $$ Ho11
  ihave Hp12 := (Entails.of_eq (pts_oBlkK (F := F) d L 12 _).symm) $$ Ho12
  ihave Hp13 := (Entails.of_eq (pts_oBlkK (F := F) d L 13 _).symm) $$ Ho13
  ihave Hp14 := (Entails.of_eq (pts_oBlkK (F := F) d L 14 _).symm) $$ Ho14
  ihave Hp15 := (Entails.of_eq (pts_oBlkK (F := F) d L 15 _).symm) $$ Ho15
  have hin := inb_fetched m d L hpre
  sl_exec
  ihave Hs := (rows_pts d L cc0_scratch0 _ _ (write_fetched m d L fs (tile_body.sl.dma0 m d L) rfl)) $$ Hs'
  ihave Hu := (rows_pts d L cc0_scratch1 _ _ (write_fetchedA m d L fu (tile_body.sl.dma0_1 m d L) rfl)) $$ Hu'
  ihave Hv := (rows_pts d L cc0_scratch2 _ _ (write_fetchedB m d L fv (tile_body.sl.dma0_2 m d L) rfl)) $$ Hv'
  sl_exec
  ihave Hr := (filled_r m d L 0 (tile_body.sl.gather0 m d L hin) _ fun y => gather_val m d L 0 _ _ _ _ _ y) $$ Hr'
  sl_for (fun t _ => invW d L 0 rV (fetchedA m d L) (fetchedB m d L) (rowsAt m d L 0) t) $$ [Hu Hv Hr Hz']
  case region => intro t _; exact tripW_wp d L 0 rV (View.set_whole _) _ _ _ k0_off3 k0_off3_inb k0_off3_eq t
  · isplitl [Hu]; · iexact Hu
    isplitl [Hv]; · iexact Hv
    isplitl [Hr]; · iexact Hr
    iexists _; isplitr [Hz']
    swap; · iexact Hz'
    ipureintro; exact done_zero _ _
  iintro %_ ⟨Hu, Hv, Hr', %z0, %hz0, Hz'⟩
  sl_exec
  ihave Hq := (filled_q m d L 1 (tile_body.sl.gather1 m d L hin) _ fun y => gather_val m d L 1 _ _ _ _ _ y) $$ Hq'
  sl_for (fun t _ => invW d L 1 qV (fetchedA m d L) (fetchedB m d L) (rowsAt m d L 1) t) $$ [Hu Hv Hq Hz']
  case region => intro t _; exact tripW_wp d L 1 qV (View.set_whole _) _ _ _ k0_off8 k0_off8_inb k0_off8_eq t
  · isplitl [Hu]; · iexact Hu
    isplitl [Hv]; · iexact Hv
    isplitl [Hq]; · iexact Hq
    iexists _; isplitr [Hz']
    swap; · iexact Hz'
    ipureintro; exact done_zero _ _
  iintro %_ ⟨Hu, Hv, Hq', %z1, %hz1, Hz'⟩
  sl_exec
  ihave Hr := (filled_r m d L 2 (tile_body.sl.gather1_1 m d L hin) _ fun y => gather_val m d L 2 _ _ _ _ _ y) $$ Hr'
  sl_for (fun t _ => invW d L 2 rV (fetchedA m d L) (fetchedB m d L) (rowsAt m d L 2) t) $$ [Hu Hv Hr Hz']
  case region => intro t _; exact tripW_wp d L 2 rV (View.set_whole _) _ _ _ k0_off12 k0_off12_inb k0_off12_eq t
  · isplitl [Hu]; · iexact Hu
    isplitl [Hv]; · iexact Hv
    isplitl [Hr]; · iexact Hr
    iexists _; isplitr [Hz']
    swap; · iexact Hz'
    ipureintro; exact done_zero _ _
  iintro %_ ⟨Hu, Hv, Hr', %z2, %hz2, Hz'⟩
  sl_exec
  ihave Hq := (filled_q m d L 3 (tile_body.sl.gather1_2 m d L hin) _ fun y => gather_val m d L 3 _ _ _ _ _ y) $$ Hq'
  sl_for (fun t _ => invW d L 3 qV (fetchedA m d L) (fetchedB m d L) (rowsAt m d L 3) t) $$ [Hu Hv Hq Hz']
  case region => intro t _; exact tripW_wp d L 3 qV (View.set_whole _) _ _ _ k0_off16 k0_off16_inb k0_off16_eq t
  · isplitl [Hu]; · iexact Hu
    isplitl [Hv]; · iexact Hv
    isplitl [Hq]; · iexact Hq
    iexists _; isplitr [Hz']
    swap; · iexact Hz'
    ipureintro; exact done_zero _ _
  iintro %_ ⟨Hu, Hv, Hq', %z3, %hz3, Hz'⟩
  sl_exec
  ihave Hr := (filled_r m d L 4 (tile_body.sl.gather1_3 m d L hin) _ fun y => gather_val m d L 4 _ _ _ _ _ y) $$ Hr'
  sl_for (fun t _ => invW d L 4 rV (fetchedA m d L) (fetchedB m d L) (rowsAt m d L 4) t) $$ [Hu Hv Hr Hz']
  case region => intro t _; exact tripW_wp d L 4 rV (View.set_whole _) _ _ _ k0_off20 k0_off20_inb k0_off20_eq t
  · isplitl [Hu]; · iexact Hu
    isplitl [Hv]; · iexact Hv
    isplitl [Hr]; · iexact Hr
    iexists _; isplitr [Hz']
    swap; · iexact Hz'
    ipureintro; exact done_zero _ _
  iintro %_ ⟨Hu, Hv, Hr', %z4, %hz4, Hz'⟩
  sl_exec
  ihave Hq := (filled_q m d L 5 (tile_body.sl.gather1_4 m d L hin) _ fun y => gather_val m d L 5 _ _ _ _ _ y) $$ Hq'
  sl_for (fun t _ => invW d L 5 qV (fetchedA m d L) (fetchedB m d L) (rowsAt m d L 5) t) $$ [Hu Hv Hq Hz']
  case region => intro t _; exact tripW_wp d L 5 qV (View.set_whole _) _ _ _ k0_off24 k0_off24_inb k0_off24_eq t
  · isplitl [Hu]; · iexact Hu
    isplitl [Hv]; · iexact Hv
    isplitl [Hq]; · iexact Hq
    iexists _; isplitr [Hz']
    swap; · iexact Hz'
    ipureintro; exact done_zero _ _
  iintro %_ ⟨Hu, Hv, Hq', %z5, %hz5, Hz'⟩
  sl_exec
  ihave Hr := (filled_r m d L 6 (tile_body.sl.gather1_5 m d L hin) _ fun y => gather_val m d L 6 _ _ _ _ _ y) $$ Hr'
  sl_for (fun t _ => invW d L 6 rV (fetchedA m d L) (fetchedB m d L) (rowsAt m d L 6) t) $$ [Hu Hv Hr Hz']
  case region => intro t _; exact tripW_wp d L 6 rV (View.set_whole _) _ _ _ k0_off28 k0_off28_inb k0_off28_eq t
  · isplitl [Hu]; · iexact Hu
    isplitl [Hv]; · iexact Hv
    isplitl [Hr]; · iexact Hr
    iexists _; isplitr [Hz']
    swap; · iexact Hz'
    ipureintro; exact done_zero _ _
  iintro %_ ⟨Hu, Hv, Hr', %z6, %hz6, Hz'⟩
  sl_exec
  ihave Hq := (filled_q m d L 7 (tile_body.sl.gather1_6 m d L hin) _ fun y => gather_val m d L 7 _ _ _ _ _ y) $$ Hq'
  sl_for (fun t _ => invW d L 7 qV (fetchedA m d L) (fetchedB m d L) (rowsAt m d L 7) t) $$ [Hu Hv Hq Hz']
  case region => intro t _; exact tripW_wp d L 7 qV (View.set_whole _) _ _ _ k0_off32 k0_off32_inb k0_off32_eq t
  · isplitl [Hu]; · iexact Hu
    isplitl [Hv]; · iexact Hv
    isplitl [Hq]; · iexact Hq
    iexists _; isplitr [Hz']
    swap; · iexact Hz'
    ipureintro; exact done_zero _ _
  iintro %_ ⟨Hu, Hv, Hq', %z7, %hz7, Hz'⟩
  sl_exec
  ihave Hr := (filled_r m d L 8 (tile_body.sl.gather1_7 m d L hin) _ fun y => gather_val m d L 8 _ _ _ _ _ y) $$ Hr'
  sl_for (fun t _ => invW d L 8 rV (fetchedA m d L) (fetchedB m d L) (rowsAt m d L 8) t) $$ [Hu Hv Hr Hz']
  case region => intro t _; exact tripW_wp d L 8 rV (View.set_whole _) _ _ _ k0_off36 k0_off36_inb k0_off36_eq t
  · isplitl [Hu]; · iexact Hu
    isplitl [Hv]; · iexact Hv
    isplitl [Hr]; · iexact Hr
    iexists _; isplitr [Hz']
    swap; · iexact Hz'
    ipureintro; exact done_zero _ _
  iintro %_ ⟨Hu, Hv, Hr', %z8, %hz8, Hz'⟩
  sl_exec
  ihave Hq := (filled_q m d L 9 (tile_body.sl.gather1_8 m d L hin) _ fun y => gather_val m d L 9 _ _ _ _ _ y) $$ Hq'
  sl_for (fun t _ => invW d L 9 qV (fetchedA m d L) (fetchedB m d L) (rowsAt m d L 9) t) $$ [Hu Hv Hq Hz']
  case region => intro t _; exact tripW_wp d L 9 qV (View.set_whole _) _ _ _ k0_off40 k0_off40_inb k0_off40_eq t
  · isplitl [Hu]; · iexact Hu
    isplitl [Hv]; · iexact Hv
    isplitl [Hq]; · iexact Hq
    iexists _; isplitr [Hz']
    swap; · iexact Hz'
    ipureintro; exact done_zero _ _
  iintro %_ ⟨Hu, Hv, Hq', %z9, %hz9, Hz'⟩
  sl_exec
  ihave Hr := (filled_r m d L 10 (tile_body.sl.gather1_9 m d L hin) _ fun y => gather_val m d L 10 _ _ _ _ _ y) $$ Hr'
  sl_for (fun t _ => invW d L 10 rV (fetchedA m d L) (fetchedB m d L) (rowsAt m d L 10) t) $$ [Hu Hv Hr Hz']
  case region => intro t _; exact tripW_wp d L 10 rV (View.set_whole _) _ _ _ k0_off44 k0_off44_inb k0_off44_eq t
  · isplitl [Hu]; · iexact Hu
    isplitl [Hv]; · iexact Hv
    isplitl [Hr]; · iexact Hr
    iexists _; isplitr [Hz']
    swap; · iexact Hz'
    ipureintro; exact done_zero _ _
  iintro %_ ⟨Hu, Hv, Hr', %z10, %hz10, Hz'⟩
  sl_exec
  ihave Hq := (filled_q m d L 11 (tile_body.sl.gather1_10 m d L hin) _ fun y => gather_val m d L 11 _ _ _ _ _ y) $$ Hq'
  sl_for (fun t _ => invW d L 11 qV (fetchedA m d L) (fetchedB m d L) (rowsAt m d L 11) t) $$ [Hu Hv Hq Hz']
  case region => intro t _; exact tripW_wp d L 11 qV (View.set_whole _) _ _ _ k0_off48 k0_off48_inb k0_off48_eq t
  · isplitl [Hu]; · iexact Hu
    isplitl [Hv]; · iexact Hv
    isplitl [Hq]; · iexact Hq
    iexists _; isplitr [Hz']
    swap; · iexact Hz'
    ipureintro; exact done_zero _ _
  iintro %_ ⟨Hu, Hv, Hq', %z11, %hz11, Hz'⟩
  sl_exec
  ihave Hr := (filled_r m d L 12 (tile_body.sl.gather1_11 m d L hin) _ fun y => gather_val m d L 12 _ _ _ _ _ y) $$ Hr'
  sl_for (fun t _ => invW d L 12 rV (fetchedA m d L) (fetchedB m d L) (rowsAt m d L 12) t) $$ [Hu Hv Hr Hz']
  case region => intro t _; exact tripW_wp d L 12 rV (View.set_whole _) _ _ _ k0_off52 k0_off52_inb k0_off52_eq t
  · isplitl [Hu]; · iexact Hu
    isplitl [Hv]; · iexact Hv
    isplitl [Hr]; · iexact Hr
    iexists _; isplitr [Hz']
    swap; · iexact Hz'
    ipureintro; exact done_zero _ _
  iintro %_ ⟨Hu, Hv, Hr', %z12, %hz12, Hz'⟩
  sl_exec
  ihave Hq := (filled_q m d L 13 (tile_body.sl.gather1_12 m d L hin) _ fun y => gather_val m d L 13 _ _ _ _ _ y) $$ Hq'
  sl_for (fun t _ => invW d L 13 qV (fetchedA m d L) (fetchedB m d L) (rowsAt m d L 13) t) $$ [Hu Hv Hq Hz']
  case region => intro t _; exact tripW_wp d L 13 qV (View.set_whole _) _ _ _ k0_off56 k0_off56_inb k0_off56_eq t
  · isplitl [Hu]; · iexact Hu
    isplitl [Hv]; · iexact Hv
    isplitl [Hq]; · iexact Hq
    iexists _; isplitr [Hz']
    swap; · iexact Hz'
    ipureintro; exact done_zero _ _
  iintro %_ ⟨Hu, Hv, Hq', %z13, %hz13, Hz'⟩
  sl_exec
  ihave Hr := (filled_r m d L 14 (tile_body.sl.gather1_13 m d L hin) _ fun y => gather_val m d L 14 _ _ _ _ _ y) $$ Hr'
  sl_for (fun t _ => invW d L 14 rV (fetchedA m d L) (fetchedB m d L) (rowsAt m d L 14) t) $$ [Hu Hv Hr Hz']
  case region => intro t _; exact tripW_wp d L 14 rV (View.set_whole _) _ _ _ k0_off60 k0_off60_inb k0_off60_eq t
  · isplitl [Hu]; · iexact Hu
    isplitl [Hv]; · iexact Hv
    isplitl [Hr]; · iexact Hr
    iexists _; isplitr [Hz']
    swap; · iexact Hz'
    ipureintro; exact done_zero _ _
  iintro %_ ⟨Hu, Hv, Hr', %z14, %hz14, Hz'⟩
  sl_exec
  ihave Hq := (filled_q m d L 15 (tile_body.sl.gather1_14 m d L hin) _ fun y => gather_val m d L 15 _ _ _ _ _ y) $$ Hq'
  sl_for (fun t _ => invW d L 15 qV (fetchedA m d L) (fetchedB m d L) (rowsAt m d L 15) t) $$ [Hu Hv Hq Hz']
  case region => intro t _; exact tripW_wp d L 15 qV (View.set_whole _) _ _ _ k0_off64 k0_off64_inb k0_off64_eq t
  · isplitl [Hu]; · iexact Hu
    isplitl [Hv]; · iexact Hv
    isplitl [Hq]; · iexact Hq
    iexists _; isplitr [Hz']
    swap; · iexact Hz'
    ipureintro; exact done_zero _ _
  iintro %_ ⟨Hu, Hv, Hq', %z15, %hz15, Hz'⟩
  sl_exec
  ihave Ho0 := (blk_pts m d L 0 _ (tile_body.sl.dma0_3 z0) (chunk_pay m d L 0 z0 _ rfl hz0)) $$ Hp0
  ihave Ho1 := (blk_pts m d L 1 _ (tile_body.sl.dma0_4 z1) (chunk_pay m d L 1 z1 _ rfl hz1)) $$ Hp1
  ihave Ho2 := (blk_pts m d L 2 _ (tile_body.sl.dma0_5 z2) (chunk_pay m d L 2 z2 _ rfl hz2)) $$ Hp2
  ihave Ho3 := (blk_pts m d L 3 _ (tile_body.sl.dma0_6 z3) (chunk_pay m d L 3 z3 _ rfl hz3)) $$ Hp3
  ihave Ho4 := (blk_pts m d L 4 _ (tile_body.sl.dma0_7 z4) (chunk_pay m d L 4 z4 _ rfl hz4)) $$ Hp4
  ihave Ho5 := (blk_pts m d L 5 _ (tile_body.sl.dma0_8 z5) (chunk_pay m d L 5 z5 _ rfl hz5)) $$ Hp5
  ihave Ho6 := (blk_pts m d L 6 _ (tile_body.sl.dma0_9 z6) (chunk_pay m d L 6 z6 _ rfl hz6)) $$ Hp6
  ihave Ho7 := (blk_pts m d L 7 _ (tile_body.sl.dma0_10 z7) (chunk_pay m d L 7 z7 _ rfl hz7)) $$ Hp7
  ihave Ho8 := (blk_pts m d L 8 _ (tile_body.sl.dma0_11 z8) (chunk_pay m d L 8 z8 _ rfl hz8)) $$ Hp8
  ihave Ho9 := (blk_pts m d L 9 _ (tile_body.sl.dma0_12 z9) (chunk_pay m d L 9 z9 _ rfl hz9)) $$ Hp9
  ihave Ho10 := (blk_pts m d L 10 _ (tile_body.sl.dma0_13 z10) (chunk_pay m d L 10 z10 _ rfl hz10)) $$ Hp10
  ihave Ho11 := (blk_pts m d L 11 _ (tile_body.sl.dma0_14 z11) (chunk_pay m d L 11 z11 _ rfl hz11)) $$ Hp11
  ihave Ho12 := (blk_pts m d L 12 _ (tile_body.sl.dma0_15 z12) (chunk_pay m d L 12 z12 _ rfl hz12)) $$ Hp12
  ihave Ho13 := (blk_pts m d L 13 _ (tile_body.sl.dma0_16 z13) (chunk_pay m d L 13 z13 _ rfl hz13)) $$ Hp13
  ihave Ho14 := (blk_pts m d L 14 _ (tile_body.sl.dma0_17 z14) (chunk_pay m d L 14 z14 _ rfl hz14)) $$ Hp14
  ihave Ho15 := (blk_pts m d L 15 _ (tile_body.sl.dma0_18 z15) (chunk_pay m d L 15 z15 _ rfl hz15)) $$ Hp15
  sl_step
  isplitl [Hi' Hwa' Hwb' Hx1' Hx2' Ho0 Ho1 Ho2 Ho3 Ho4 Ho5 Ho6 Ho7 Ho8 Ho9 Ho10 Ho11 Ho12 Ho13 Ho14 Ho15]
  · isplitl [Hi']; · iapply (Entails.of_eq (pts_iRowK (F := F) d L _)); iexact Hi'
    isplitl [Hwa']; · iapply (Entails.of_eq (pts_aRowK (F := F) d L _)); iexact Hwa'
    isplitl [Hwb']; · iapply (Entails.of_eq (pts_bRowK (F := F) d L _)); iexact Hwb'
    isplitl [Hx1' Hx2']
    · iapply (pointsTo_share (PosShare.mem_left_op_right (xq (wL L)))).2
      isplitl [Hx1'] <;> iassumption
    iapply (Entails.of_eq (oBlkPts_list d (wL L) (G m d)).symm)
    simp only [List.foldr_cons, List.foldr_nil]
    iframe
  isplitl [Hs Hu Hv Hr' Hq' Hz' Hbufs]
  · isplitl [Hs]; · iexists _; iexact Hs
    isplitl [Hu]; · iexists _; iexact Hu
    isplitl [Hv]; · iexists _; iexact Hv
    isplitl [Hr']; · iexists _; iexact Hr'
    isplitl [Hq']; · iexists _; iexact Hq'
    isplitl [Hz']; · iexists _; iexact Hz'
    iexact Hbufs
  isplitl [Ha Hb H0 H1 H2 H3 H4 H5 H6 H7 H8 H9 H10 H11 H12 H13 H14 H15 H16 H17 H18 Hsems]
  · isplitl [Ha]; · iexact Ha
    isplitl [Hb]; · iexact Hb
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iexact Hsems
  iexists _; isplitr
  swap; · iexact HO
  ipureintro; intro p hp
  repeat (rcases Finset.mem_insert.mp hp with hp | hp; · exact .inr (hp ▸ rfl))
  exact .inl hp

end Cert.Proof.CombineIdeal

end
-- ==== Proof.CombineIdealMain.lean ====
/-
  The combine: @main, the call's workers together, and the run of the whole program.
-/
module

public import Idealize.ShloMosaic.Lib.Pipeline.Frame
public import proofs.«01_k».proof.Proof.CombineIdealRun

@[expose] public section

noncomputable section

namespace Cert.Proof.CombineIdeal

open Cert.CombineIdeal Cert.CombineIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.StableHlo (held seq after reshape_bufs_sub unary_bufs_sub nullary_bufs_sub binary_bufs_sub)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ
local notation "xV" => (Memref.whole Cert.CombineIdeal.main_v5_scv : Memref Cert.CombineIdeal.sig Kind.scVector Space.hbm Cert.CombineIdeal.S81920x2x128 EltTy.f32)
local notation "iV" => (Memref.whole Cert.CombineIdeal.main_v14_scv : Memref Cert.CombineIdeal.sig Kind.scVector Space.hbm Cert.CombineIdeal.S512x128 EltTy.i32)
local notation "aV" => (Memref.whole Cert.CombineIdeal.main_v2_scv : Memref Cert.CombineIdeal.sig Kind.scVector Space.hbm Cert.CombineIdeal.S8192x16 EltTy.f32)
local notation "bV" => (Memref.whole Cert.CombineIdeal.main_v4_scv : Memref Cert.CombineIdeal.sig Kind.scVector Space.hbm Cert.CombineIdeal.S8192x16 EltTy.f32)
local notation "oV" => (Memref.whole Cert.CombineIdeal.main_v15_scv : Memref Cert.CombineIdeal.sig Kind.scVector Space.hbm Cert.CombineIdeal.S8192x1024 EltTy.f32)
local notation "sV" => (Memref.whole Cert.CombineIdeal.cc0_scratch0 : Memref Cert.CombineIdeal.sig Kind.scVector Space.vmem Cert.CombineIdeal.S16x128 EltTy.i32)
local notation "uV" => (Memref.whole Cert.CombineIdeal.cc0_scratch1 : Memref Cert.CombineIdeal.sig Kind.scVector Space.vmem Cert.CombineIdeal.S256x16 EltTy.f32)
local notation "vV" => (Memref.whole Cert.CombineIdeal.cc0_scratch2 : Memref Cert.CombineIdeal.sig Kind.scVector Space.vmem Cert.CombineIdeal.S256x16 EltTy.f32)
local notation "rV" => (Memref.whole Cert.CombineIdeal.cc0_scratch3 : Memref Cert.CombineIdeal.sig Kind.scVector Space.vmem Cert.CombineIdeal.S128x2x128 EltTy.f32)
local notation "qV" => (Memref.whole Cert.CombineIdeal.cc0_scratch4 : Memref Cert.CombineIdeal.sig Kind.scVector Space.vmem Cert.CombineIdeal.S128x2x128 EltTy.f32)
local notation "zV" => (Memref.whole Cert.CombineIdeal.cc0_scratch5 : Memref Cert.CombineIdeal.sig Kind.scVector Space.vmem Cert.CombineIdeal.S16x1024 EltTy.f32)

variable (m : (ℓ : Loc nD τ sig) → Buf (Elt F) ℓ) (ρ : Dev nD → PrngReg)

/-! ## The obligation of a task -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_k (coordsV c s) xV (Memref.isWhole_whole _) iV (Memref.isWhole_whole _) aV (Memref.isWhole_whole _)
          bV (Memref.isWhole_whole _) oV (Memref.isWhole_whole _) sV (Memref.isWhole_whole _) uV (Memref.isWhole_whole _) vV (Memref.isWhole_whole _) rV (Memref.isWhole_whole _)
          qV (Memref.isWhole_whole _) zV (Memref.isWhole_whole _) cc0_scratch6 cc0_scratch7 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF hpre O W hO).trans (wp_mono frame _ _ fun _ => obl_post)

theorem vecSplit : (K (F := F)).VecSplit' (P m) 0 := by
  intro d c
  show (bigSep Finset.univ fun i : Fin ((K (F := F)).nSub 0) => goW m d (widK (F := F) 0 c i)) ⊢ |={Set.univ}=> iprop(
      (bigSep Finset.univ fun i : Fin ((K (F := F)).nSub 0) => goW m d (widK (F := F) 0 c i))
      ∗ ((bigSep Finset.univ fun i : Fin ((K (F := F)).nSub 0) => tdW m d (widK (F := F) 0 c i))
          -∗ bigSep Finset.univ fun i : Fin ((K (F := F)).nSub 0) => tdW m d (widK (F := F) 0 c i)))
  iintro H; imodintro
  isplitl [H]; · iexact H
  iintro H; iexact H

/-! ## The workers together -/

/-- The tiles of the two SparseCores are the workers. -/
def workers : Fin ((K (F := F)).nCore 0) × Fin ((K (F := F)).nSub 0) ≃ Fin 32 :=
  Equiv.ofBijective (fun p => widK (F := F) 0 p.1 p.2) ((Fintype.bijective_iff_injective_and_card _).mpr ⟨fun p p' h => by
    have h' : 2 * p.2.val + p.1.val = 2 * p'.2.val + p'.1.val := congrArg Fin.val h
    have h1 : p.1.val < 2 := p.1.isLt
    have h2 : p'.1.val < 2 := p'.1.isLt
    exact Prod.ext (Fin.ext (by omega)) (Fin.ext (by omega)), rfl⟩)

theorem bigSep_workers (Φ : Fin 32 → sProp 𝕄) :
    (bigSep Finset.univ fun c : Fin ((K (F := F)).nCore 0) => bigSep Finset.univ fun i : Fin ((K (F := F)).nSub 0) => Φ (widK (F := F) 0 c i))
      = bigSep Finset.univ Φ :=
  ((bigSep_univ_equiv (workers (F := F)) Φ).trans (bigSep_univ_prod _)).symm

/-- The blocks of the workers are the result's blocks. -/
def blocks : Fin 32 × Fin 16 ≃ Fin 512 :=
  Equiv.ofBijective (fun p => blk p.1 p.2) ((Fintype.bijective_iff_injective_and_card _).mpr ⟨fun p p' h => by
    have h' : p.1.val * 16 + p.2.val = p'.1.val * 16 + p'.2.val := congrArg Fin.val h
    exact Prod.ext (Fin.ext (by omega)) (Fin.ext (by omega)), by simp⟩)

theorem iRowSet_eq (i : Fin 32) : iRowSet i = (irow i).set := by
  show ((View.whole (main_v14_scv : Ref sig .scVector)).slice (irow i)).set = _
  rw [View.set_slice]; exact Finset.map_refl
theorem aRowSet_eq (i : Fin 32) : aRowSet i = (wrow i).set := by
  show ((View.whole (main_v2_scv : Ref sig .scVector)).slice (wrow i)).set = _
  rw [View.set_slice]; exact Finset.map_refl
theorem bRowSet_eq (i : Fin 32) : bRowSet i = (wrow i).set := by
  show ((View.whole (main_v4_scv : Ref sig .scVector)).slice (wrow i)).set = _
  rw [View.set_slice]; exact Finset.map_refl
theorem oRowSet_eq (i : Fin 512) : oRowSet i = (orow i).set := by
  show ((View.whole (main_v15_scv : Ref sig .scVector)).slice (orow i)).set = _
  rw [View.set_slice]; exact Finset.map_refl
theorem irows_disjoint : ∀ i ∈ (Finset.univ : Finset (Fin 32)), ∀ j ∈ (Finset.univ : Finset (Fin 32)), i ≠ j → Disjoint (iRowSet i) (iRowSet j) :=
  fun i _ j _ h => by rw [iRowSet_eq, iRowSet_eq]; exact Rect.part_disjoint idiv h
theorem arows_disjoint : ∀ i ∈ (Finset.univ : Finset (Fin 32)), ∀ j ∈ (Finset.univ : Finset (Fin 32)), i ≠ j → Disjoint (aRowSet i) (aRowSet j) :=
  fun i _ j _ h => by rw [aRowSet_eq, aRowSet_eq]; exact Rect.part_disjoint wdiv h
theorem brows_disjoint : ∀ i ∈ (Finset.univ : Finset (Fin 32)), ∀ j ∈ (Finset.univ : Finset (Fin 32)), i ≠ j → Disjoint (bRowSet i) (bRowSet j) :=
  fun i _ j _ h => by rw [bRowSet_eq, bRowSet_eq]; exact Rect.part_disjoint wdiv h
theorem orows_disjoint : ∀ i ∈ (Finset.univ : Finset (Fin 512)), ∀ j ∈ (Finset.univ : Finset (Fin 512)), i ≠ j → Disjoint (oRowSet i) (oRowSet j) :=
  fun i _ j _ h => by rw [oRowSet_eq, oRowSet_eq]; exact Rect.part_disjoint odiv h
theorem irows_cover : (Finset.univ : Finset (Fin 32)).biUnion iRowSet = Finset.univ :=
  (Finset.biUnion_congr rfl fun i _ => iRowSet_eq i).trans (Rect.biUnion_part idiv)
theorem arows_cover : (Finset.univ : Finset (Fin 32)).biUnion aRowSet = Finset.univ :=
  (Finset.biUnion_congr rfl fun i _ => aRowSet_eq i).trans (Rect.biUnion_part wdiv)
theorem brows_cover : (Finset.univ : Finset (Fin 32)).biUnion bRowSet = Finset.univ :=
  (Finset.biUnion_congr rfl fun i _ => bRowSet_eq i).trans (Rect.biUnion_part wdiv)
theorem orows_cover : (Finset.univ : Finset (Fin 512)).biUnion oRowSet = Finset.univ :=
  (Finset.biUnion_congr rfl fun i _ => oRowSet_eq i).trans (Rect.biUnion_part odiv)

theorem iPts_rows (d : Dev nD) (f : Buf (Elt F) (iLoc d)) :
    (iLoc d ↦{fullShare} f : sProp 𝕄) = bigSep Finset.univ fun w : Fin 32 => iLoc d ↦[iRowSet w]{fullShare} f := by
  rw [← pointsTo_biUnion Finset.univ (ℓ := iLoc d) iRowSet irows_disjoint, irows_cover]; try rfl
theorem aPts_rows (d : Dev nD) (f : Buf (Elt F) (aLoc d)) :
    (aLoc d ↦{fullShare} f : sProp 𝕄) = bigSep Finset.univ fun w : Fin 32 => aLoc d ↦[aRowSet w]{fullShare} f := by
  rw [← pointsTo_biUnion Finset.univ (ℓ := aLoc d) aRowSet arows_disjoint, arows_cover]; try rfl
theorem bPts_rows (d : Dev nD) (f : Buf (Elt F) (bLoc d)) :
    (bLoc d ↦{fullShare} f : sProp 𝕄) = bigSep Finset.univ fun w : Fin 32 => bLoc d ↦[bRowSet w]{fullShare} f := by
  rw [← pointsTo_biUnion Finset.univ (ℓ := bLoc d) bRowSet brows_disjoint, brows_cover]; try rfl
theorem oPts_rows (d : Dev nD) (f : Buf (Elt F) (oLoc d)) :
    (oLoc d ↦{fullShare} f : sProp 𝕄) = bigSep Finset.univ fun w : Fin 32 => oBlkPts d w f := by
  refine Eq.trans ?_ ((bigSep_univ_equiv blocks fun b => (oLoc d ↦[oRowSet b]{fullShare} f : sProp 𝕄)).trans (bigSep_univ_prod _))
  rw [← pointsTo_biUnion Finset.univ (ℓ := oLoc d) oRowSet orows_disjoint, orows_cover]; try rfl
theorem xPts_shares (d : Dev nD) (f : Buf (Elt F) (xLoc d)) :
    (xLoc d ↦{fullShare} f : sProp 𝕄) = bigSep Finset.univ fun w : Fin 32 => xLoc d ↦{xq w} f :=
  pointsTo_piecesOf Finset.univ f (by decide) fullShare

theorem st0_eq (d : Dev nD) : (bigSep Finset.univ fun c : Fin ((K (F := F)).nCore 0) => (P m).st 0 d c)
    = iprop((iLoc d ↦{fullShare} I m d) ∗ (aLoc d ↦{fullShare} A m d) ∗ (bLoc d ↦{fullShare} B m d) ∗ (xLoc d ↦{fullShare} X m d) ∗ oLoc d ↦{fullShare} m (oLoc d)) :=
  (bigSep_workers fun w => goW m d w).trans (by rw [bigSep_sep', bigSep_sep', bigSep_sep', bigSep_sep', iPts_rows, aPts_rows, bPts_rows, xPts_shares, oPts_rows])
theorem dn0_eq (d : Dev nD) : (bigSep Finset.univ fun c : Fin ((K (F := F)).nCore 0) => (P m).dn 0 d c)
    = iprop((iLoc d ↦{fullShare} I m d) ∗ (aLoc d ↦{fullShare} A m d) ∗ (bLoc d ↦{fullShare} B m d) ∗ (xLoc d ↦{fullShare} X m d) ∗ oLoc d ↦{fullShare} G m d) :=
  (bigSep_workers fun w => tdW m d w).trans (by rw [bigSep_sep', bigSep_sep', bigSep_sep', bigSep_sep', iPts_rows, aPts_rows, bPts_rows, xPts_shares, oPts_rows])

/-! ## The launch element of the certificate's ghost state -/

def u₀ : UU := (initOf (K (F := F)).hsCells (K (F := F)).hsToks, 1)

theorem bigSep_emp' {ι : Type} (s : Finset ι) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

abbrev bx : DevRef τ sig := Proc.devRef .tc (main_v5 : Ref sig .tc)
abbrev bi : DevRef τ sig := Proc.devRef .tc (main_v14 : Ref sig .tc)
abbrev ba : DevRef τ sig := Proc.devRef .tc (main_v2 : Ref sig .tc)
abbrev bb : DevRef τ sig := Proc.devRef .tc (main_v4 : Ref sig .tc)
abbrev bo : DevRef τ sig := Proc.devRef .tc (main_v15 : Ref sig .tc)
abbrev b0 : DevRef τ sig := Proc.devRef .tc (main_arg0 : Ref sig .tc)
abbrev bp : DevRef τ sig := Proc.devRef .tc (main_arg1 : Ref sig .tc)
abbrev bw : DevRef τ sig := Proc.devRef .tc (main_arg2 : Ref sig .tc)

/-- @main's operations before the call. -/
def opsIn : List (HloOp τ sig (Elt F)) :=
  [StableHlo.reshape main_arg1 main_v0 (rfl : (.i32 : EltTy) = .i32) shapeCasts_S8192x2_S512x32,
    StableHlo.unary main_arg2 main_v1 ((extractStridedSlice S8192x1 ![0, 0] · slices_S8192x2_S8192x1_0_0) : (⟨S8192x2, .f32⟩ : BufTy).Contents (Elt F) → (⟨S8192x1, .f32⟩ : BufTy).Contents (Elt F)),
    StableHlo.unary main_v1 main_v2 (broadcastInDim S8192x16 ![0, 1] bcast_S8192x1_S8192x16_0_1 : (⟨S8192x1, .f32⟩ : BufTy).Contents (Elt F) → (⟨S8192x16, .f32⟩ : BufTy).Contents (Elt F)),
    StableHlo.unary main_arg2 main_v3 ((extractStridedSlice S8192x1 ![0, 1] · slices_S8192x2_S8192x1_0_1) : (⟨S8192x2, .f32⟩ : BufTy).Contents (Elt F) → (⟨S8192x1, .f32⟩ : BufTy).Contents (Elt F)),
    StableHlo.unary main_v3 main_v4 (broadcastInDim S8192x16 ![0, 1] bcast_S8192x1_S8192x16_0_1 : (⟨S8192x1, .f32⟩ : BufTy).Contents (Elt F) → (⟨S8192x16, .f32⟩ : BufTy).Contents (Elt F)),
    StableHlo.reshape main_arg0 main_v5 (rfl : (.f32 : EltTy) = .f32) shapeCasts_S20480x1024_S81920x2x128,
    StableHlo.unary main_v0 main_v6 (broadcastInDim S512x32x1 ![0, 1] bcast_S512x32_S512x32x1_0_1 : (⟨S512x32, .i32⟩ : BufTy).Contents (Elt F) → (⟨S512x32x1, .i32⟩ : BufTy).Contents (Elt F)),
    StableHlo.nullary main_c (constantI S_ 32 4#32),
    StableHlo.unary main_c main_v7 (broadcastInDim S512x32x1 ![] bcast_S_S512x32x1 : (⟨S_, .i32⟩ : BufTy).Contents (Elt F) → (⟨S512x32x1, .i32⟩ : BufTy).Contents (Elt F)),
    StableHlo.binary main_v6 main_v7 main_v8 (muli : (⟨S512x32x1, .i32⟩ : BufTy).Contents (Elt F) → (⟨S512x32x1, .i32⟩ : BufTy).Contents (Elt F) → (⟨S512x32x1, .i32⟩ : BufTy).Contents (Elt F)),
    StableHlo.nullary main_v9 (iotaInDim S4 32 0),
    StableHlo.unary main_v9 main_v10 (broadcastInDim S1x1x4 ![2] bcast_S4_S1x1x4_2 : (⟨S4, .i32⟩ : BufTy).Contents (Elt F) → (⟨S1x1x4, .i32⟩ : BufTy).Contents (Elt F)),
    StableHlo.unary main_v8 main_v11 (broadcastInDim S512x32x4 ![0, 1, 2] bcast_S512x32x1_S512x32x4_0_1_2 : (⟨S512x32x1, .i32⟩ : BufTy).Contents (Elt F) → (⟨S512x32x4, .i32⟩ : BufTy).Contents (Elt F)),
    StableHlo.unary main_v10 main_v12 (broadcastInDim S512x32x4 ![0, 1, 2] bcast_S1x1x4_S512x32x4_0_1_2 : (⟨S1x1x4, .i32⟩ : BufTy).Contents (Elt F) → (⟨S512x32x4, .i32⟩ : BufTy).Contents (Elt F)),
    StableHlo.binary main_v11 main_v12 main_v13 (addi : (⟨S512x32x4, .i32⟩ : BufTy).Contents (Elt F) → (⟨S512x32x4, .i32⟩ : BufTy).Contents (Elt F) → (⟨S512x32x4, .i32⟩ : BufTy).Contents (Elt F)),
    StableHlo.reshape main_v13 main_v14 (rfl : (.i32 : EltTy) = .i32) shapeCasts_S512x32x4_S512x128]

theorem main_eq (d : Dev nD) : main (F := F) d
    = seq opsIn >>= fun _ => (sc (F := F)).run d 0 >>= fun _ => pure ⟨⟩ := rfl

abbrev UC : Finset (DevRef τ sig) := Pipeline.ucRefs τ sig

/-- The TensorCore's arrays at the launch, before the call, and after it. -/
def V0 (d : Dev nD) : Valuation τ sig (Elt F) := fun b => m (d, b)
def V1 (d : Dev nD) : Valuation τ sig (Elt F) := after opsIn (V0 m d)
def V2 (d : Dev nD) : Valuation τ sig (Elt F) := Function.update (V1 m d) bo (G m d)

theorem V1_x (d : Dev nD) : V1 m d bx = X m d := by
  unfold V1 opsIn; after_results; rfl
theorem V1_i (d : Dev nD) : V1 m d bi = I m d := by
  unfold V1 opsIn; after_results; rfl
theorem V1_a (d : Dev nD) : V1 m d ba = A m d := by
  unfold V1 opsIn; after_results; rfl
theorem V1_b (d : Dev nD) : V1 m d bb = B m d := by
  unfold V1 opsIn; after_results; rfl
theorem V1_o (d : Dev nD) : V1 m d bo = m (oLoc d) := by
  unfold V1 opsIn; after_results; rfl
theorem V1_0 (d : Dev nD) : V1 m d b0 = m (yLoc d) := by
  unfold V1 opsIn; after_results; rfl
theorem V1_p (d : Dev nD) : V1 m d bp = m (pLoc d) := by
  unfold V1 opsIn; after_results; rfl
theorem V1_w (d : Dev nD) : V1 m d bw = m (wLoc d) := by
  unfold V1 opsIn; after_results; rfl
theorem V2_o (d : Dev nD) : V2 m d bo = G m d := Function.update_self _ _ _
theorem V2_ne (d : Dev nD) {b : DevRef τ sig} (h : b ≠ bo) : V2 m d b = V1 m d b := Function.update_of_ne h _ _

theorem mem_UC (r : Ref sig .tc) (h : r.isScoped = false) : Proc.devRef (τ := τ) .tc r ∈ UC :=
  Finset.mem_filter.mpr ⟨Finset.mem_map.mpr ⟨r, Finset.mem_univ _, rfl⟩, by rw [show (Proc.devRef (τ := τ) .tc r).isScoped = r.isScoped from rfl, h]; decide⟩

theorem opsIn_sub : ∀ op ∈ opsIn (F := F), op.bufs ⊆ UC := fun op h =>
  Pipeline.sub_ucRefs op (List.forall_iff_forall_mem.mp (show List.Forall (fun op => op.bufs ⊆ StableHlo.tcRefs τ sig) (opsIn (F := F)) by
    unfold opsIn; exact ⟨reshape_bufs_sub .., unary_bufs_sub .., unary_bufs_sub .., unary_bufs_sub .., unary_bufs_sub .., reshape_bufs_sub .., unary_bufs_sub .., nullary_bufs_sub .., unary_bufs_sub .., binary_bufs_sub .., nullary_bufs_sub .., unary_bufs_sub .., unary_bufs_sub .., unary_bufs_sub .., binary_bufs_sub .., reshape_bufs_sub ..⟩) op h)
theorem opsIn_fresh : ∀ op ∈ opsIn (F := F), op.fresh = ∅ := List.forall_iff_forall_mem.mp (by simp only [opsIn, List.Forall]; exact ⟨rfl, rfl, rfl, rfl, rfl, rfl, rfl, rfl, rfl, rfl, rfl, rfl, rfl, rfl, rfl, rfl⟩)

/-- The arrays the call works on out of all, and the arguments and the result. -/
theorem held_call (d : Dev nD) (W : Valuation τ sig (Elt F)) : (held (T d) UC W : sProp 𝕄)
    = iprop((iLoc d ↦{fullShare} W bi) ∗ (aLoc d ↦{fullShare} W ba) ∗ (bLoc d ↦{fullShare} W bb) ∗ (xLoc d ↦{fullShare} W bx) ∗ (oLoc d ↦{fullShare} W bo)
      ∗ held (T d) (UC \ [bi, ba, bb, bx, bo].toFinset) W) :=
  bigSep_list (fun b => ((d, b) : Loc nD τ sig) ↦{fullShare} W b) [bi, ba, bb, bx, bo] UC (by decide) (by
    simp only [List.forall_mem_cons]
    exact ⟨mem_UC _ rfl, mem_UC _ rfl, mem_UC _ rfl, mem_UC _ rfl, mem_UC _ rfl, fun _ h => nomatch h⟩)
theorem held_end (d : Dev nD) (W : Valuation τ sig (Elt F)) : (held (T d) UC W : sProp 𝕄)
    = iprop((yLoc d ↦{fullShare} W b0) ∗ (pLoc d ↦{fullShare} W bp) ∗ (wLoc d ↦{fullShare} W bw) ∗ (oLoc d ↦{fullShare} W bo)
      ∗ held (T d) (UC \ [b0, bp, bw, bo].toFinset) W) :=
  bigSep_list (fun b => ((d, b) : Loc nD τ sig) ↦{fullShare} W b) [b0, bp, bw, bo] UC (by decide) (by
    simp only [List.forall_mem_cons]
    exact ⟨mem_UC _ rfl, mem_UC _ rfl, mem_UC _ rfl, mem_UC _ rfl, fun _ h => nomatch h⟩)

/-- What the call leaves of the arrays, and does not touch. -/
abbrev others (d : Dev nD) : sProp 𝕄 := held (T d) (UC \ [bi, ba, bb, bx, bo].toFinset) (V1 m d)

theorem held_V1 (d : Dev nD) : (held (T d) UC (V1 m d) : sProp 𝕄)
    = iprop((iLoc d ↦{fullShare} I m d) ∗ (aLoc d ↦{fullShare} A m d) ∗ (bLoc d ↦{fullShare} B m d) ∗ (xLoc d ↦{fullShare} X m d) ∗ (oLoc d ↦{fullShare} m (oLoc d)) ∗ others m d) := by
  rw [held_call, V1_i, V1_a, V1_b, V1_x, V1_o]
theorem held_V2 (d : Dev nD) : (held (T d) UC (V2 m d) : sProp 𝕄)
    = iprop((iLoc d ↦{fullShare} I m d) ∗ (aLoc d ↦{fullShare} A m d) ∗ (bLoc d ↦{fullShare} B m d) ∗ (xLoc d ↦{fullShare} X m d) ∗ (oLoc d ↦{fullShare} G m d) ∗ others m d) := by
  rw [held_call, V2_ne m d (show bi ≠ bo by decide), V2_ne m d (show ba ≠ bo by decide), V2_ne m d (show bb ≠ bo by decide), V2_ne m d (show bx ≠ bo by decide), V1_i, V1_a, V1_b, V1_x, V2_o,
    StableHlo.held_congr (T d) (V := V2 m d) (V' := V1 m d) fun b hb => V2_ne m d fun e => (Finset.mem_sdiff.mp hb).2 (by rw [e]; decide)]

abbrev FIN (d : Dev nD) : sProp 𝕄 := held (T d) UC (V2 m d)

/-- @main on device `d`'s TensorCore: the operations before the call, and the call. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show unscopedBufs d (fun b => m ((SparseCore.T d).loc b)) = held (d.tc : Thread nD τ) UC (V0 m d) from
    Pipeline.unscopedBufs_held (Ix := HIx 1) (Name := ℕ) (U := UU) (Lvl := ℕ) d (V0 m d), main_eq]
  iintro ⟨#Hctx, Hst, ⟨Hb, Hheld, Hts, -⟩, -⟩
  iapply (StableHlo.wp_seq 𝒱 none Set.univ d UC _ opsIn opsIn_sub opsIn_fresh (V0 m d)) $$ [Hb Hheld]
  · isplitl [Hb] <;> iassumption
  iintro ⟨Hb, Hheld⟩
  ihave Hh := (Entails.of_eq (show held (d.tc : Thread nD τ) UC (after opsIn (V0 m d)) = _ from held_V1 m d)) $$ Hheld
  icases Hh with ⟨Hi, Ha, Hw, Hx, Ho, Hr⟩
  simp only [wp_bind]
  iapply ((K (F := F)).wp_run (D (F := F)) 𝒱 (EH := EH) (P := P m) κ d 0) $$ [Hst Hi Ha Hw Hx Ho Hr Hb Hts]
  isplitr; · iexact Hctx
  isplitl [Hst]; · iexact Hst
  isplitl [Hi Ha Hw Hx Ho]
  · rw [st0_eq]
    isplitl [Hi]; · iexact Hi
    isplitl [Ha]; · iexact Ha
    isplitl [Hw]; · iexact Hw
    isplitl [Hx]; · iexact Hx
    iexact Ho
  iintro ⟨Hst, Hdn⟩
  ihave Hdn' := (Entails.of_eq (dn0_eq m d)) $$ Hdn
  icases Hdn' with ⟨Hi, Ha, Hw, Hx, Ho⟩
  ihave Hheld := (Entails.of_eq (show _ = held (d.tc : Thread nD τ) UC (V2 m d) from (held_V2 m d).symm)) $$ [Hi Ha Hw Hx Ho Hr]
  · isplitl [Hi]; · iexact Hi
    isplitl [Ha]; · iexact Ha
    isplitl [Hw]; · iexact Hw
    isplitl [Hx]; · iexact Hx
    isplitl [Ho]; · iexact Ho
    iexact Hr
  simp only [wp_pure]
  imodintro
  isplitl [Hst]; · iexact Hst
  isplitl [Hheld]; · iexact Hheld
  isplitl [Hb] <;> iassumption

def fq (d : Dev nD) (s' : Phys nD τ sig (Elt F)) : Prop :=
  s'.mem.mem (yLoc d) = m (yLoc d) ∧ s'.mem.mem (pLoc d) = m (pLoc d) ∧ s'.mem.mem (wLoc d) = m (wLoc d) ∧ s'.mem.mem (oLoc d) = G m d

set_option maxRecDepth 16384 in
theorem hfin (d : Dev nD) (s' : Phys nD τ sig (Elt F)) : iprop(FIN m d ∗ SI s') ⊢ (⌜fq m d s'⌝ : sProp 𝕄) := by
  unfold FIN
  rw [held_end, V2_ne m d (show b0 ≠ bo by decide), V2_ne m d (show bp ≠ bo by decide), V2_ne m d (show bw ≠ bo by decide), V1_0, V1_p, V1_w, V2_o]
  iintro ⟨⟨Hy, Hp, Hw, Ho, -⟩, HSI⟩
  ihave H := (persistent_entails_right (SI_pointsTo_agree (st := s') (ℓ := yLoc d) (I := Finset.univ) (q := fullShare) (f := m (yLoc d)))) $$ [HSI Hy]
  · isplitl [HSI] <;> iassumption
  icases H with ⟨%h1, HSI, -⟩
  ihave H := (persistent_entails_right (SI_pointsTo_agree (st := s') (ℓ := pLoc d) (I := Finset.univ) (q := fullShare) (f := m (pLoc d)))) $$ [HSI Hp]
  · isplitl [HSI] <;> iassumption
  icases H with ⟨%h2, HSI, -⟩
  ihave H := (persistent_entails_right (SI_pointsTo_agree (st := s') (ℓ := wLoc d) (I := Finset.univ) (q := fullShare) (f := m (wLoc d)))) $$ [HSI Hw]
  · isplitl [HSI] <;> iassumption
  icases H with ⟨%h3, HSI, -⟩
  ihave H := (SI_pointsTo_agree (st := s') (ℓ := oLoc d) (I := Finset.univ) (q := fullShare) (f := G m d)) $$ [HSI Ho]
  · isplitl [HSI] <;> iassumption
  icases H with %h4
  ipureintro
  exact ⟨funext fun i => h1 i (Finset.mem_univ i), funext fun i => h2 i (Finset.mem_univ i), funext fun i => h3 i (Finset.mem_univ i), funext fun i => h4 i (Finset.mem_univ i)⟩

/-! ## The program's run -/

def QC : PUnit × MemSt nD τ sig (Elt F) → Prop := fun r =>
  (∀ c : Dev nD, r.2.mem (yLoc c) = m (yLoc c) ∧ r.2.mem (pLoc c) = m (pLoc c) ∧ r.2.mem (wLoc c) = m (wLoc c) ∧ r.2.mem (oLoc c) = G m c) ∧ r.2.sem = fun _ => 0

theorem run_main [∀ e, Nonempty (Elt F e)] (hpre : PreOK m) :
    θ_run (Cert.CombineIdeal.defs (F := F)) (Cert.CombineIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.CombineIdeal

end
-- ==== Proof.CombineIdealValue.lean ====
/-
  The combine: the position list, the weights and the result, read at an index.
-/
module

public import Idealize.ShloMosaic.Lib.Pipeline.Value
public import proofs.«01_k».proof.Proof.CombineIdealMain
public import proofs.«01_k».proof.Proof.Pre

@[expose] public section

noncomputable section

namespace Cert.Proof.CombineIdeal

open Cert.CombineIdeal Cert.CombineIdeal.Gen

open Idealize.ShloMosaic Idealize.SL.Sem
open Idealize.ShloMosaic.ValueIdx

variable {F : FTy → Type} [FloatOps F]

/-- The position list's entry `j` of list `r`: quarter `j % 4` of the row at choice `j / 4 % 2` of token `16 r + j / 8`. -/
theorem listOf_apply (p : IVec S8192x2 32) (r : Fin 512) (j : Fin 128) :
    listOf p (ix2 r j) = p (ix2 (⟨16 * r.val + j.val / 8, by omega⟩ : Fin 8192) (⟨j.val / 4 % 2, by omega⟩ : Fin 2)) * 4#32 + BitVec.ofNat 32 (j.val % 4) := by
  unfold listOf
  refine (shapeCast_apply _ _ (ix2 r j) (ix3 r (⟨j.val / 4, by omega⟩ : Fin 32) (⟨j.val % 4, by omega⟩ : Fin 4)) ?_).trans ?_
  · rw [Shape.rowMajor_val_two, Shape.rowMajor_val_three]
    show (r.val * 32 + j.val / 4) * 4 + j.val % 4 = r.val * 128 + j.val
    omega
  · refine congrArg₂ (· + ·) ?_ rfl
    refine (broadcastInDim_apply _ _ _ _ (ix3 r (⟨j.val / 4, by omega⟩ : Fin 32) (0 : Fin 1)) fun a => ?_).trans (congrArg (· * 4#32) ?_)
    · match a with
      | ⟨0, _⟩ => rfl
      | ⟨1, _⟩ => rfl
      | ⟨2, _⟩ => rfl
    · refine (broadcastInDim_apply _ _ _ _ (ix2 r (⟨j.val / 4, by omega⟩ : Fin 32)) fun a => ?_).trans ?_
      · match a with
        | ⟨0, _⟩ => rfl
        | ⟨1, _⟩ => rfl
      · refine shapeCast_apply _ _ _ _ ?_
        rw [Shape.rowMajor_val_two, Shape.rowMajor_val_two]
        show (16 * r.val + j.val / 8) * 2 + j.val / 4 % 2 = r.val * 32 + j.val / 4
        omega

theorem listOf_toNat (p : IVec S8192x2 32) (hp : ∀ j, (p j).toNat < 20480) (r : Fin 512) (j : Fin 128) :
    (listOf p (ix2 r j)).toNat = (p (ix2 (⟨16 * r.val + j.val / 8, by omega⟩ : Fin 8192) (⟨j.val / 4 % 2, by omega⟩ : Fin 2))).toNat * 4 + j.val % 4 := by
  have h := hp (ix2 (⟨16 * r.val + j.val / 8, by omega⟩ : Fin 8192) (⟨j.val / 4 % 2, by omega⟩ : Fin 2))
  rw [listOf_apply, BitVec.toNat_add, BitVec.toNat_mul, BitVec.toNat_ofNat, BitVec.toNat_ofNat]
  omega

theorem listOf_lt (p : IVec S8192x2 32) (hp : ∀ j, (p j).toNat < 20480) (i : S512x128.Idx) : (listOf p i).toNat < 81920 := by
  obtain ⟨r, j, rfl⟩ : ∃ (r : Fin 512) (j : Fin 128), i = ix2 r j := ⟨i 0, i 1, eq_ix2 i⟩
  rw [listOf_toNat p hp]
  have h := hp (ix2 (⟨16 * r.val + j.val / 8, by omega⟩ : Fin 8192) (⟨j.val / 4 % 2, by omega⟩ : Fin 2))
  omega

/-- The table's row `4 r + q` is quarter `q` of row `r` of the expert outputs. -/
theorem tableOf_apply (y : S20480x1024.Idx → Elt F .f32) (r : Fin 81920) (s : Fin 2) (l : Fin 128) :
    tableOf y (ix3 r s l) = y (ix2 (⟨r.val / 4, by omega⟩ : Fin 20480) (⟨r.val % 4 * 256 + s.val * 128 + l.val, by omega⟩ : Fin 1024)) := by
  unfold tableOf
  refine shapeCast_apply _ _ _ _ ?_
  rw [Shape.rowMajor_val_three, Shape.rowMajor_val_two]
  show r.val / 4 * 1024 + (r.val % 4 * 256 + s.val * 128 + l.val) = (r.val * 2 + s.val) * 128 + l.val
  omega

/-- Every lane of a token's weight is the weight. -/
theorem weightA_apply (w : S8192x2.Idx → Elt F .f32) (t : Fin 8192) (l : Fin 16) : weightA w (ix2 t l) = w (ix2 t (0 : Fin 2)) := by
  refine (broadcastInDim_apply _ _ _ _ (ix2 t (0 : Fin 1)) fun a => ?_).trans (extractStridedSlice_apply _ _ _ _ _ fun a => ?_)
  · match a with
    | ⟨0, _⟩ => rfl
    | ⟨1, _⟩ => rfl
  · match a with
    | ⟨0, _⟩ => exact (Nat.zero_add _).symm
    | ⟨1, _⟩ => rfl
theorem weightB_apply (w : S8192x2.Idx → Elt F .f32) (t : Fin 8192) (l : Fin 16) : weightB w (ix2 t l) = w (ix2 t (1 : Fin 2)) := by
  refine (broadcastInDim_apply _ _ _ _ (ix2 t (0 : Fin 1)) fun a => ?_).trans (extractStridedSlice_apply _ _ _ _ _ fun a => ?_)
  · match a with
    | ⟨0, _⟩ => rfl
    | ⟨1, _⟩ => rfl
  · match a with
    | ⟨0, _⟩ => exact (Nat.zero_add _).symm
    | ⟨1, _⟩ => rfl

/-- What list `r` fetches at choice `k` of its token `i`, column `x`. -/
theorem quarter_apply (y : S20480x1024.Idx → Elt F .f32) (p : IVec S8192x2 32) (hp : ∀ j, (p j).toNat < 20480) (t : Fin 8192) (k : Fin 2) (x : Fin 1024)
    (h : 8 * (t.val % 16) + 4 * k.val + x.val / 256 < 128) (h0 : t.val / 16 < 512) (h1 : x.val / 128 % 2 < 2) (h2 : x.val % 128 < 128) :
    fetchedRows (tableOf y) (listOf p) ⟨t.val / 16, h0⟩ (ix3 (⟨8 * (t.val % 16) + 4 * k.val + x.val / 256, h⟩ : Fin 128) (⟨x.val / 128 % 2, h1⟩ : Fin 2) (⟨x.val % 128, h2⟩ : Fin 128))
      = y (ix2 (⟨(p (ix2 t k)).toNat, hp _⟩ : Fin 20480) x) := by
  have hx := x.isLt
  have hk := k.isLt
  show tableOf y (ix3 (rowOfWord (listOf p (ix2 (⟨t.val / 16, h0⟩ : Fin 512) (⟨8 * (t.val % 16) + 4 * k.val + x.val / 256, h⟩ : Fin 128)))) (⟨x.val / 128 % 2, h1⟩ : Fin 2) (⟨x.val % 128, h2⟩ : Fin 128)) = _
  rw [tableOf_apply]
  have hw := listOf_toNat p hp (⟨t.val / 16, h0⟩ : Fin 512) (⟨8 * (t.val % 16) + 4 * k.val + x.val / 256, h⟩ : Fin 128)
  have hi : (ix2 (⟨16 * (t.val / 16) + (8 * (t.val % 16) + 4 * k.val + x.val / 256) / 8, by omega⟩ : Fin 8192)
      (⟨(8 * (t.val % 16) + 4 * k.val + x.val / 256) / 4 % 2, by omega⟩ : Fin 2) : S8192x2.Idx) = ix2 t k := by
    congr 1 <;> exact Fin.ext (by simp only []; omega)
  have hl := hp (ix2 t k)
  simp only [hi] at hw
  refine congrArg y ?_
  congr 1 <;> refine Fin.ext ?_ <;> simp only [rowOfWord, hw] <;> omega

/-- THE RESULT at token `t`, column `x`: the sum of the token's two rows, each times its weight. -/
theorem result_apply (y : S20480x1024.Idx → Elt F .f32) (p : IVec S8192x2 32) (w : S8192x2.Idx → Elt F .f32) (hp : ∀ j, (p j).toNat < 20480) (t : Fin 8192) (x : Fin 1024) :
    combined (tableOf y) (listOf p) (weightA w) (weightB w) (ix2 t x)
      = FloatOps.addf (φ := .f32) (FloatOps.mulf (φ := .f32) (w (ix2 t (0 : Fin 2))) (y (ix2 (⟨(p (ix2 t (0 : Fin 2))).toNat, hp _⟩ : Fin 20480) x)))
          (FloatOps.mulf (φ := .f32) (w (ix2 t (1 : Fin 2))) (y (ix2 (⟨(p (ix2 t (1 : Fin 2))).toNat, hp _⟩ : Fin 20480) x))) := by
  have ht : (⟨16 * (t.val / 16) + t.val % 16, by omega⟩ : Fin 8192) = t := Fin.ext (Nat.div_add_mod _ _)
  have hx := x.isLt
  have hA (l : Fin 16) : sixteen (weightA w) ⟨t.val / 16, by omega⟩ ⟨t.val % 16, by omega⟩ l = w (ix2 t (0 : Fin 2)) := by
    show weightA w (ix2 (⟨16 * (t.val / 16) + t.val % 16, _⟩ : Fin 8192) l) = _
    rw [ht, weightA_apply]
  have hB (l : Fin 16) : sixteen (weightB w) ⟨t.val / 16, by omega⟩ ⟨t.val % 16, by omega⟩ l = w (ix2 t (1 : Fin 2)) := by
    show weightB w (ix2 (⟨16 * (t.val / 16) + t.val % 16, _⟩ : Fin 8192) l) = _
    rw [ht, weightB_apply]
  exact congrArg₂ (FloatOps.addf (φ := .f32))
    (congrArg₂ (FloatOps.mulf (φ := .f32)) (hA _) (quarter_apply y p hp t 0 x (by simp; omega) (by omega) (by omega) (by omega)))
    (congrArg₂ (FloatOps.mulf (φ := .f32)) (hB _) (quarter_apply y p hp t 1 x (by simp; omega) (by omega) (by omega) (by omega)))

theorem preOK (m : (ℓ : Loc nD τ sig) → Buf (Elt F) ℓ) (h : ∀ (d : Dev nD) j, ((m (pLoc d) : IVec S8192x2 32) j).toNat < 20480) : PreOK m :=
  fun d j => listOf_lt _ (h d) j

/-- The program runs, its arguments unchanged, and every counter ends at zero. -/
theorem frame : Cert.quiescent_CombineIdeal := fun m ρ hpre =>
  (θ_run Cert.CombineIdeal.defs _ _).mono (fun _ h => ⟨fun c => ⟨(h.1 c).1, (h.1 c).2.1, (h.1 c).2.2.1⟩, h.2⟩)
    (run_main (F := Ideal) m ρ (preOK m fun d => rows_lt _ _ _ (hpre d)))

end Cert.Proof.CombineIdeal

end
-- ==== Proof.CombineAlg.lean ====
/-
  The combine: the program's run and the reference's end with equal results.
-/
module

public import Idealize.ShloMosaic.Lib.Routing.Ops
public import proofs.«01_k».proof.Proof.Gen.CombineRefIdeal.Run
public import proofs.«01_k».proof.Proof.CombineIdealValue

@[expose] public section

noncomputable section

namespace Cert.Proof.CombineAlg

open Idealize.ShloMosaic Idealize.ShloMosaic.ValueIdx Idealize.SL.Sem
open Cert.CombineRefIdeal Cert.CombineRefIdeal.Gen

variable {α : Type}

/-- The reference's row numbers: a column of the positions, a negative number counted from the end. -/
abbrev rows (c : IVec S8192x1 32) : IVec S8192x1 32 :=
  broadcastInDim S8192x1 ![0] bcast_S8192_S8192x1_0 (select (cmpi .slt (shapeCast _ c shapeCasts_S8192x1_S8192)
    (broadcastInDim S8192 ![] bcast_S_S8192 (constantI S_ 32 0#32))) (addi (shapeCast _ c shapeCasts_S8192x1_S8192)
    (broadcastInDim S8192 ![] bcast_S_S8192 (constantI S_ 32 20480#32))) (shapeCast _ c shapeCasts_S8192x1_S8192))

/-- Column 0 and column 1 of a pair of columns. -/
theorem col0_apply (p : S8192x2.Idx → α) (t : Fin 8192) : extractStridedSlice S8192x1 ![0, 0] p slices_S8192x2_S8192x1_0_0 (ix2 t (0 : Fin 1)) = p (ix2 t (0 : Fin 2)) :=
  extractStridedSlice_apply _ _ _ _ _ fun a => match a with
    | ⟨0, _⟩ => (Nat.zero_add _).symm
    | ⟨1, _⟩ => rfl
theorem col1_apply (p : S8192x2.Idx → α) (t : Fin 8192) : extractStridedSlice S8192x1 ![0, 1] p slices_S8192x2_S8192x1_0_1 (ix2 t (0 : Fin 1)) = p (ix2 t (1 : Fin 2)) :=
  extractStridedSlice_apply _ _ _ _ _ fun a => match a with
    | ⟨0, _⟩ => (Nat.zero_add _).symm
    | ⟨1, _⟩ => rfl

theorem flat_apply (c : IVec S8192x1 32) (t : Fin 8192) : shapeCast S8192 c shapeCasts_S8192x1_S8192 (ix1 t) = c (ix2 t (0 : Fin 1)) := by
  refine shapeCast_apply _ _ _ _ ?_
  rw [Shape.rowMajor_val_two, Shape.rowMajor_val_one]
  show t.val * 1 + 0 = t.val
  omega

/-- A number that is not negative is kept. -/
theorem rows_apply (c : IVec S8192x1 32) (t : Fin 8192) (h : (c (ix2 t (0 : Fin 1))).toNat < 20480) : rows c (ix2 t (0 : Fin 1)) = c (ix2 t (0 : Fin 1)) := by
  refine (broadcastInDim_apply _ _ _ _ (ix1 t) fun a => ?_).trans ?_
  · match a with
    | ⟨0, _⟩ => rfl
  · rw [← flat_apply c t] at h ⊢
    show (if IntOp.cmpi .slt (shapeCast S8192 c shapeCasts_S8192x1_S8192 (ix1 t)) 0#32 = 1#1 then _ else _) = _
    rw [if_neg]
    have h0 : ¬ (shapeCast S8192 c shapeCasts_S8192x1_S8192 (ix1 t)).toInt < (0#32).toInt := by
      rw [BitVec.toInt_eq_toNat_cond, if_pos (by omega)]; simp
    simp only [IntOp.cmpi, BitVec.slt_eq_decide, decide_eq_false h0]
    decide

/-- The row that the reference takes for token `t`. -/
theorem gather_apply (y : S20480x1024.Idx → α) (c : IVec S8192x1 32) (t : Fin 8192) (x : Fin 1024) (v : BitVec 32) (hc : c (ix2 t (0 : Fin 1)) = v) (h : v.toNat < 20480) :
    Host.gather gather_S20480x1024_S8192x1_S8192x1024_1_0_n_n_0_1_11024 y (rows c) (ix2 t x) = y (ix2 (⟨v.toNat, h⟩ : Fin 20480) x) := by
  subst hc
  exact Routing.gather_row (nb := 20480) (B := 1024) (n := 8192) gather_S20480x1024_S8192x1_S8192x1024_1_0_n_n_0_1_11024 rfl rfl rfl rfl rfl y (rows c) t x _
    ((rows_apply c t h).trans (by simp)) (by decide)

/-- A token's weight, the same in every column. -/
theorem wide_apply (c : S8192x1.Idx → α) (t : Fin 8192) (x : Fin 1024) : broadcastInDim S8192x1024 ![0, 1] bcast_S8192x1_S8192x1024_0_1 c (ix2 t x) = c (ix2 t (0 : Fin 1)) :=
  broadcastInDim_apply _ _ _ _ _ fun a => match a with
    | ⟨0, _⟩ => rfl
    | ⟨1, _⟩ => rfl

/-- The two results agree. -/
theorem value_eq (y : S20480x1024.Idx → Elt Ideal .f32) (p : IVec S8192x2 32) (w : S8192x2.Idx → Elt Ideal .f32) (hp : ∀ j, (p j).toNat < 20480) :
    (addf (mulf (broadcastInDim S8192x1024 ![0, 1] bcast_S8192x1_S8192x1024_0_1 (extractStridedSlice S8192x1 ![0, 0] w slices_S8192x2_S8192x1_0_0))
        (Host.gather gather_S20480x1024_S8192x1_S8192x1024_1_0_n_n_0_1_11024 y (rows (extractStridedSlice S8192x1 ![0, 0] p slices_S8192x2_S8192x1_0_0))))
      (mulf (broadcastInDim S8192x1024 ![0, 1] bcast_S8192x1_S8192x1024_0_1 (extractStridedSlice S8192x1 ![0, 1] w slices_S8192x2_S8192x1_0_1))
        (Host.gather gather_S20480x1024_S8192x1_S8192x1024_1_0_n_n_0_1_11024 y (rows (extractStridedSlice S8192x1 ![0, 1] p slices_S8192x2_S8192x1_0_1)))) : FVec Ideal S8192x1024 .f32)
      = CombineIdeal.combined (F := Ideal) (CombineIdeal.tableOf (F := Ideal) y) (CombineIdeal.listOf p) (CombineIdeal.weightA (F := Ideal) w) (CombineIdeal.weightB (F := Ideal) w) := by
  funext i
  obtain ⟨t, x, rfl⟩ : ∃ (t : Fin 8192) (x : Fin 1024), i = ix2 t x := ⟨i 0, i 1, eq_ix2 i⟩
  rw [CombineIdeal.result_apply (F := Ideal) y p w hp t x]
  exact congrArg₂ (FloatOps.addf (F := Ideal) (φ := .f32))
    (congrArg₂ (FloatOps.mulf (F := Ideal) (φ := .f32)) ((wide_apply _ t x).trans (col0_apply w t)) (gather_apply y _ t x _ (col0_apply p t) (hp _)))
    (congrArg₂ (FloatOps.mulf (F := Ideal) (φ := .f32)) ((wide_apply _ t x).trans (col1_apply w t)) (gather_apply y _ t x _ (col1_apply p t) (hp _)))

theorem algebraic : Cert.algebraic_CombineIdeal_CombineRefIdeal := by
  intro m g m' g' hpre hm
  have hp : ∀ (d : Dev Cert.CombineIdeal.nD) j, ((m (CombineIdeal.pLoc d) : IVec S8192x2 32) j).toNat < 20480 := fun d => rows_lt _ _ _ (hpre d)
  refine ⟨fun c => CombineIdeal.G m c, ?_, ?_⟩
  · exact (θ_run _ _ _).mono (fun _ h c => ⟨(h.1 c).2.2.2, (h.1 c).1, (h.1 c).2.1, (h.1 c).2.2.1⟩) (CombineIdeal.run_main (F := Ideal) m g (CombineIdeal.preOK m hp))
  · refine (θ_run _ _ _).mono (fun _ h c => ⟨(h c).1.trans ?_, (h c).2⟩) (Cert.CombineRefIdeal.Value.run (F := Ideal) m' g')
    rw [(hm c).1, (hm c).2.1, (hm c).2.2]
    exact value_eq _ _ _ (hp c)

end Cert.Proof.CombineAlg

end
-- ==== Proof.FfnIdealOk.lean ====
/-
  The experts' layers: with every block's expert an expert, every block of the weights that the call fetches lies in its array.
-/
module

public import proofs.«01_k».proof.Defs
public import proofs.«01_k».proof.Proof.Gen.FfnIdeal.Frame
public import proofs.«01_k».proof.Proof.Pre
public import Idealize.ShloMosaic.Lib.ValueIdxCore
public import Idealize.ShloMosaic.Lib.Pipeline.Value

@[expose] public section

noncomputable section

namespace Cert.Proof.FfnIdeal

open Cert.FfnIdeal Cert.FfnIdeal.Gen
open Idealize.ShloMosaic Idealize.ShloMosaic.TcCoe Idealize.SL.Sem
open Idealize.ShloMosaic.ValueIdx

variable {F : FTy → Type} [FloatOps F]

/-- The expert that a grid point's index maps read from the table: the point's own entry. -/
theorem expert_read (pf : pre0.Contents (Elt F)) (i : grid0.Coords) (h1 : S1.numel = 1) (inb) :
    pf.at 0 (Rect.unit (s := S80) ![(Scalar.indexCast (BitVec.ofNat 32 (i 0).val)).toNat] S1.size inb) h1 = pf 0 (ix1 (⟨(i 0).val, (i 0).isLt⟩ : Fin 80)) := by
  refine congrArg (pf 0) (funext fun a => ?_)
  match a with
  | ⟨0, _⟩ =>
    have hi : (i 0).val < 80 := (i 0).isLt
    apply Fin.ext
    show (Scalar.indexCast (BitVec.ofNat 32 (i 0).val)).toNat + 1 * 0 = (i 0).val
    rw [Scalar.indexCast, BitVec.toNat_ofNat]
    omega

/-- The side condition of the call's windows. -/
theorem ok_of_lt (m : (ℓ : Loc nD τ sig) → Buf (Elt F) ℓ) (hg : ∀ j, (m (((0 : Dev nD) : Thread nD τ).loc main_arg0) j : BitVec 32).toNat < 16) : Ok m := by
  have ht : ∀ j, (tbl m 0 j : BitVec 32).toNat < 16 := fun j => by
    show (V m 0 main_arg0 j : BitVec 32).toNat < 16
    rw [V_main_arg0]; exact hg j
  have key : ∀ (i : grid0.Coords) (h1 : S1.numel = 1) (inb),
      ((tbl m).at 0 (Rect.unit (s := S80) ![(Scalar.indexCast (BitVec.ofNat 32 (i 0).val)).toNat] S1.size inb) h1 : BitVec 32).toNat < 16 := fun i h1 inb => by
    rw [expert_read]; exact ht _
  refine ⟨fun i => ⟨fun a => ?_, Or.inl rfl⟩, fun i => ⟨fun a => ?_, Or.inl rfl⟩, fun i => ⟨fun a => ?_, Or.inl rfl⟩, fun i => ⟨fun a => ?_, Or.inl rfl⟩⟩
  all_goals
    match a with
    | ⟨0, _⟩ => exact (Nat.mul_one _).trans_le (key i _ _)
    | ⟨1, _⟩ => exact Nat.le_refl _
    | ⟨2, _⟩ => exact Nat.le_refl 1024

theorem frame : Cert.quiescent_FfnIdeal := fun m ρ hpre => Cert.FfnIdeal.Gen.frame m ρ (ok_of_lt m (experts_lt _ _ _ _ _ _ (hpre 0)))

end Cert.Proof.FfnIdeal

end
-- ==== Proof.FfnIdealValue.lean ====
/-
  The experts' layers: what the call's body leaves in the result, read at an index of the argument arrays.
-/
module

public import Idealize.ShloMosaic.Lib.MatmulPlain
public import Idealize.ShloMosaic.Lib.Pipeline.ValueKit
public import proofs.«01_k».proof.Proof.FfnIdealOk

@[expose] public section

noncomputable section

namespace Cert.Proof.FfnIdeal

open Cert.FfnIdeal Cert.FfnIdeal.Gen
open Idealize.ShloMosaic hiding ix1 ix2 ix3
open Idealize.ShloMosaic.TcCoe Idealize.SL.Sem
open Idealize.ShloMosaic.ValueIdx
open scoped BigOperators

/-- A layer's product, its bias row added. -/
abbrev dense (X : S256x1024.Idx → Elt Ideal .f32) (W : S1x1024x1024.Idx → Elt Ideal .f32) (b : S1x1x1024.Idx → Elt Ideal .f32) : FVec Ideal S256x1024 .f32 :=
  addf (matmul dot_S256x1024_S1024x1024_S256x1024_1_0_0_1_n_n none (φ₁ := .f32) (φ₂ := .f32) X (shapeCast S1024x1024 W shapeCasts_S1x1024x1024_S1024x1024) (constant S256x1024 .f32 0x00000000#32))
    (broadcastTo S256x1024 (shapeCast S1x1024 b shapeCasts_S1x1x1024_S1x1024) broadcasts_S1x1024_S256x1024)

theorem dense_apply (X : S256x1024.Idx → Elt Ideal .f32) (W : S1x1024x1024.Idx → Elt Ideal .f32) (b : S1x1x1024.Idx → Elt Ideal .f32) (r : Fin 256) (x : Fin 1024) :
    dense X W b (ix2 r x) = ((∑ d : Fin 1024, X (ix2 r d) * W (ix3 (0 : Fin 1) d x)) + b (ix3 (0 : Fin 1) (0 : Fin 1) x) : EReal) := by
  refine congrArg₂ (fun u v : EReal => u + v) ?_ ?_
  · refine (Ideal.matmul_plain_apply (M := 256) (K := 1024) (N := 1024) (φ₁ := .f32) (φ₂ := .f32) none X (shapeCast S1024x1024 W shapeCasts_S1x1024x1024_S1024x1024) _ r x).trans ?_
    refine (congrArg₂ (fun u v : EReal => u + v) (Ideal.ofBits_zero_f32) rfl).trans ((zero_add _).trans ?_)
    refine Finset.sum_congr rfl fun d _ => congrArg (fun v : EReal => X (ix2 r d) * v) ?_
    refine shapeCast_apply _ _ _ _ ?_
    rw [Shape.rowMajor_val_two, Shape.rowMajor_val_three]
    show (0 * 1024 + d.val) * 1024 + x.val = d.val * 1024 + x.val
    omega
  · refine (broadcastTo_apply _ _ (ix2 r x) (ix2 (0 : Fin 1) x) fun a => ?_).trans (shapeCast_apply _ _ _ _ ?_)
    · match a with
      | ⟨0, _⟩ => rfl
      | ⟨1, _⟩ => rfl
    · rw [Shape.rowMajor_val_two, Shape.rowMajor_val_three]
      rfl

/-- What the body leaves in the result's block, of the blocks that it reads. -/
theorem out_eq (c : Dev nD) (i : grid0.Coords) (arg2 : Memref sig .tc .vmem S256x1024 .f32) (harg2 : arg2.IsWhole)
    (arg3 : Memref sig .tc .vmem S1x1024x1024 .f32) (harg3 : arg3.IsWhole) (arg4 : Memref sig .tc .vmem S1x1x1024 .f32) (harg4 : arg4.IsWhole)
    (arg5 : Memref sig .tc .vmem S1x1024x1024 .f32) (harg5 : arg5.IsWhole) (arg6 : Memref sig .tc .vmem S1x1x1024 .f32) (harg6 : arg6.IsWhole)
    (arg7 : Memref sig .tc .vmem S256x1024 .f32) (harg7 : arg7.IsWhole) (x0 : Vec Ideal S256x1024 .f32) (x1 : Vec Ideal S1x1024x1024 .f32)
    (x2 : Vec Ideal S1x1x1024 .f32) (x3 : Vec Ideal S1x1024x1024 .f32) (x4 : Vec Ideal S1x1x1024 .f32) (xt0 : TbBuf0 (F := Ideal) c tbM0_0) :
    out0_A_5 c i arg2 harg2 arg3 harg3 arg4 harg4 arg5 harg5 arg6 harg6 arg7 harg7 x0 x1 x2 x3 x4 xt0 = k0_pay1 x0 x1 x2 x3 x4 := by
  frame_out

/-- The block of the result: the two layers on the blocks of the rows, the weights and the biases. -/
theorem pay_apply (v0 : Vec Ideal S256x1024 .f32) (v1 : Vec Ideal S1x1024x1024 .f32) (v4 : Vec Ideal S1x1x1024 .f32) (v10 : Vec Ideal S1x1024x1024 .f32)
    (v13 : Vec Ideal S1x1x1024 .f32) (r : Fin 256) (x : Fin 1024) :
    k0_pay1 v0 v1 v4 v10 v13 (ix2 r x)
      = ((∑ k : Fin 1024, max ((∑ d : Fin 1024, v0 (ix2 r d) * v1 (ix3 (0 : Fin 1) d k)) + v4 (ix3 (0 : Fin 1) (0 : Fin 1) k)) 0 * v10 (ix3 (0 : Fin 1) k x))
          + v13 (ix3 (0 : Fin 1) (0 : Fin 1) x) : EReal) := by
  refine (dense_apply (maximumf (dense v0 v1 v4) (broadcast S256x1024 (Scalar.ofBits .f32 0x00000000#32))) v10 v13 r x).trans ?_
  refine congrArg (fun u : EReal => u + v13 (ix3 (0 : Fin 1) (0 : Fin 1) x)) (Finset.sum_congr rfl fun k _ => congrArg (fun u : EReal => u * v10 (ix3 (0 : Fin 1) k x)) ?_)
  exact congrArg₂ (fun u v : EReal => max u v) (dense_apply v0 v1 v4 r k) Ideal.ofBits_zero_f32

theorem coords_val (t : Fin grid0.N) : (grid0.coords t 0).val = t.val := (by decide +kernel : ∀ t : Fin grid0.N, (grid0.coords t 0).val = t.val) t

variable (m : (ℓ : Loc nD τ sig) → Buf (Elt Ideal) ℓ) (hO : Ok m)

/-- A bias as the call is given it: its row, with an axis of one element. -/
theorem row_apply {α : Type} (b : S16x1024.Idx → α) (e : Fin 16) (x : Fin 1024) : shapeCast S16x1x1024 b shapeCasts_S16x1024_S16x1x1024 (ix3 e (0 : Fin 1) x) = b (ix2 e x) := by
  refine shapeCast_apply _ _ _ _ ?_
  rw [Shape.rowMajor_val_two, Shape.rowMajor_val_three]
  show e.val * 1024 + x.val = (e.val * 1 + 0) * 1024 + x.val
  omega
theorem V_main_v0 (c : Dev nD) : V m c main_v0 = shapeCast S16x1x1024 (m ((c : Thread nD τ).loc main_arg3)) shapeCasts_S16x1024_S16x1x1024 := by
  show StableHlo.after hostOps0 _ _ = _
  after_results_simp; rfl
theorem V_main_v1 (c : Dev nD) : V m c main_v1 = shapeCast S16x1x1024 (m ((c : Thread nD τ).loc main_arg5)) shapeCasts_S16x1024_S16x1x1024 := by
  show StableHlo.after hostOps0 _ _ = _
  after_results_simp; rfl

/-- The expert of grid point `t`. -/
theorem expert_at (t : Fin grid0.N) (h1 : S1.numel = 1) (inb) :
    (tbl m).at 0 (Rect.unit (s := S80) ![(Scalar.indexCast (BitVec.ofNat 32 (grid0.coords t 0).val)).toNat] S1.size inb) h1
      = m (((0 : Dev nD) : Thread nD τ).loc main_arg0) (ix1 (⟨t.val, t.isLt⟩ : Fin 80)) := by
  refine (expert_read (tbl m) (grid0.coords t) h1 inb).trans ?_
  refine (congrFun (V_main_arg0 m 0) _).trans (congrArg _ ?_)
  exact congrArg ix1 (Fin.ext (coords_val t))

/-- The rows that grid point `t` reads. -/
theorem iblk0 (c : Dev nD) (t : Fin (cfgM m hO).N) (p : Fin 20480) (r : Fin 256) (hp : p.val = 256 * t.val + r.val) (d : Fin 1024) :
    iblk m hO c 0 t (ix2 r d) = m ((c : Thread nD τ).loc main_arg1) (ix2 p d) := by
  blk_simp [iblk]
  refine (congrFun (V_main_arg1 m c) _).trans (congrArg _ (funext fun a => Fin.ext ?_))
  refine (Pipeline.Window.rect_emb_val ((cfgM m hO).win 0) t (ix2 r d) a rfl).trans ?_
  match a with
  | ⟨0, _⟩ =>
    have ht : t.val < 80 := t.isLt
    show (BitVec.ofNat 32 (grid0.coords t 0).val).toNat * 256 + r.val = p.val
    rw [coords_val, BitVec.toNat_ofNat]
    omega
  | ⟨1, _⟩ => exact Nat.zero_add d.val

/-- The weights and the biases that grid point `t` reads: its expert's. -/
theorem iblk1 (c : Dev nD) (t : Fin (cfgM m hO).N) (e : Fin 16) (he : e.val = (m (((0 : Dev nD) : Thread nD τ).loc main_arg0) (ix1 (⟨t.val, t.isLt⟩ : Fin 80)) : BitVec 32).toNat)
    (r : Fin 1024) (d : Fin 1024) : iblk m hO c 1 t (ix3 (0 : Fin 1) r d) = m ((c : Thread nD τ).loc main_arg2) (ix3 e r d) := by
  blk_simp [iblk]
  refine (congrFun (V_main_arg2 m c) _).trans (congrArg _ (funext fun a => Fin.ext ?_))
  refine (Pipeline.Window.rect_emb_val ((cfgM m hO).win 1) t (ix3 (0 : Fin 1) r d) a rfl).trans ?_
  match a with
  | ⟨0, _⟩ => exact (Nat.mul_one _).trans ((congrArg BitVec.toNat (expert_at m t _ _)).trans he.symm)
  | ⟨1, _⟩ => exact Nat.zero_add r.val
  | ⟨2, _⟩ => exact Nat.zero_add d.val
theorem iblk3 (c : Dev nD) (t : Fin (cfgM m hO).N) (e : Fin 16) (he : e.val = (m (((0 : Dev nD) : Thread nD τ).loc main_arg0) (ix1 (⟨t.val, t.isLt⟩ : Fin 80)) : BitVec 32).toNat)
    (r : Fin 1024) (d : Fin 1024) : iblk m hO c 3 t (ix3 (0 : Fin 1) r d) = m ((c : Thread nD τ).loc main_arg4) (ix3 e r d) := by
  blk_simp [iblk]
  refine (congrFun (V_main_arg4 m c) _).trans (congrArg _ (funext fun a => Fin.ext ?_))
  refine (Pipeline.Window.rect_emb_val ((cfgM m hO).win 3) t (ix3 (0 : Fin 1) r d) a rfl).trans ?_
  match a with
  | ⟨0, _⟩ => exact (Nat.mul_one _).trans ((congrArg BitVec.toNat (expert_at m t _ _)).trans he.symm)
  | ⟨1, _⟩ => exact Nat.zero_add r.val
  | ⟨2, _⟩ => exact Nat.zero_add d.val
theorem iblk2 (c : Dev nD) (t : Fin (cfgM m hO).N) (e : Fin 16) (he : e.val = (m (((0 : Dev nD) : Thread nD τ).loc main_arg0) (ix1 (⟨t.val, t.isLt⟩ : Fin 80)) : BitVec 32).toNat)
    (d : Fin 1024) : iblk m hO c 2 t (ix3 (0 : Fin 1) (0 : Fin 1) d) = m ((c : Thread nD τ).loc main_arg3) (ix2 e d) := by
  blk_simp [iblk]
  refine ((congrFun (V_main_v0 m c) _).trans (congrArg _ (funext fun a => Fin.ext ?_))).trans (row_apply (m ((c : Thread nD τ).loc main_arg3)) e d)
  refine (Pipeline.Window.rect_emb_val ((cfgM m hO).win 2) t (ix3 (0 : Fin 1) (0 : Fin 1) d) a rfl).trans ?_
  match a with
  | ⟨0, _⟩ => exact (Nat.mul_one _).trans ((congrArg BitVec.toNat (expert_at m t _ _)).trans he.symm)
  | ⟨1, _⟩ => rfl
  | ⟨2, _⟩ => exact Nat.zero_add d.val
theorem iblk4 (c : Dev nD) (t : Fin (cfgM m hO).N) (e : Fin 16) (he : e.val = (m (((0 : Dev nD) : Thread nD τ).loc main_arg0) (ix1 (⟨t.val, t.isLt⟩ : Fin 80)) : BitVec 32).toNat)
    (d : Fin 1024) : iblk m hO c 4 t (ix3 (0 : Fin 1) (0 : Fin 1) d) = m ((c : Thread nD τ).loc main_arg5) (ix2 e d) := by
  blk_simp [iblk]
  refine ((congrFun (V_main_v1 m c) _).trans (congrArg _ (funext fun a => Fin.ext ?_))).trans (row_apply (m ((c : Thread nD τ).loc main_arg5)) e d)
  refine (Pipeline.Window.rect_emb_val ((cfgM m hO).win 4) t (ix3 (0 : Fin 1) (0 : Fin 1) d) a rfl).trans ?_
  match a with
  | ⟨0, _⟩ => exact (Nat.mul_one _).trans ((congrArg BitVec.toNat (expert_at m t _ _)).trans he.symm)
  | ⟨1, _⟩ => rfl
  | ⟨2, _⟩ => exact Nat.zero_add d.val

/-- The two layers of the expert of row `p`'s block, at row `p` and column `x`. -/
def layers (xs : S20480x1024.Idx → EReal) (w1 : S16x1024x1024.Idx → EReal) (b1 : S16x1024.Idx → EReal) (w2 : S16x1024x1024.Idx → EReal)
    (b2 : S16x1024.Idx → EReal) (e : Fin 20480 → Fin 16) (p : Fin 20480) (x : Fin 1024) : EReal :=
  (∑ k : Fin 1024, max ((∑ d : Fin 1024, xs (ix2 p d) * w1 (ix3 (e p) d k)) + b1 (ix2 (e p) k)) 0 * w2 (ix3 (e p) k x)) + b2 (ix2 (e p) x)

/-- The expert of row `p`'s block. -/
def expert (g : IVec S80 32) (hg : ∀ j, (g j).toNat < 16) (p : Fin 20480) : Fin 16 := ⟨(g (ix1 (⟨p.val / 256, by omega⟩ : Fin 80))).toNat, hg _⟩

/-- The result array. -/
def G (hg : ∀ j, (m (((0 : Dev nD) : Thread nD τ).loc main_arg0) j : BitVec 32).toNat < 16) (c : Dev nD) : Buf (Elt Ideal) ((c : Thread nD τ).loc main_v2) :=
  fun i => layers (m ((c : Thread nD τ).loc main_arg1)) (m ((c : Thread nD τ).loc main_arg2)) (m ((c : Thread nD τ).loc main_arg3))
    (m ((c : Thread nD τ).loc main_arg4)) (m ((c : Thread nD τ).loc main_arg5)) (expert (m (((0 : Dev nD) : Thread nD τ).loc main_arg0)) hg) (i 0) (i 1)

theorem body_eq (c : Dev nD) (t : Fin (cfgM m hO).N) :
    outsAt0 m hO c t = k0_pay1 (iblk m hO c 0 t) (iblk m hO c 1 t) (iblk m hO c 2 t) (iblk m hO c 3 t) (iblk m hO c 4 t) := by
  unfold outsAt0
  exact out_eq _ _ _ _ _ _ _ _ _ _ _ _ _ _ _ _ _ _ _ _

theorem after_apply (hg : ∀ j, (m (((0 : Dev nD) : Thread nD τ).loc main_arg0) j : BitVec 32).toNat < 16) (c : Dev nD) (t : Fin (cfgM m hO).N)
    (p : Fin 20480) (r : Fin 256) (hp : p.val = 256 * t.val + r.val) (x : Fin 1024) : outsAt0 m hO c t (ix2 r x) = G m hg c (ix2 p x) := by
  have he : (expert (m (((0 : Dev nD) : Thread nD τ).loc main_arg0)) hg p).val
      = (m (((0 : Dev nD) : Thread nD τ).loc main_arg0) (ix1 (⟨t.val, t.isLt⟩ : Fin 80)) : BitVec 32).toNat := by
    refine congrArg (fun q : Fin 80 => (m (((0 : Dev nD) : Thread nD τ).loc main_arg0) (ix1 q) : BitVec 32).toNat) (Fin.ext ?_)
    show p.val / 256 = t.val
    omega
  rw [body_eq]
  refine (pay_apply _ _ _ _ _ r x).trans ?_
  show _ = layers _ _ _ _ _ _ p x
  unfold layers
  refine congrArg₂ (fun u v : EReal => u + v) (Finset.sum_congr rfl fun k _ => congrArg₂ (fun u v : EReal => u * v) (congrArg (fun u : EReal => max u 0)
    (congrArg₂ (fun u v : EReal => u + v) (Finset.sum_congr rfl fun d _ => congrArg₂ (fun u v : EReal => u * v) ?_ ?_) ?_)) ?_) ?_
  · exact iblk0 m hO c t p r hp d
  · exact iblk1 m hO c t _ he d k
  · exact iblk2 m hO c t _ he k
  · exact iblk3 m hO c t _ he k x
  · exact iblk4 m hO c t _ he x

theorem exists_ix2 {a b : ℕ} (i : (⟨2, ![a, b]⟩ : Shape).Idx) : ∃ (p : Fin a) (x : Fin b), i = ix2 p x := ⟨i 0, i 1, ValueIdx.eq_ix2 i⟩

/-- The result array after the run. -/
theorem final (hg : ∀ j, (m (((0 : Dev nD) : Thread nD τ).loc main_arg0) j : BitVec 32).toNat < 16) (c : Dev nD) :
    (dats m hO 0 c).arrAt 5 (cfgM m hO).N = G m hg c := by
  refine (dats m hO 0 c).arrAt_eq_of_emb 5 (G m hg c) (fun t hf y => ?_) fun i => ?_
  · have ht : t.val < 80 := t.isLt
    obtain ⟨r, x, rfl⟩ := exists_ix2 (a := 256) (b := 1024) y
    refine (congrFun (after0_5 m hO c t) (ix2 r x)).trans ?_
    refine (after_apply m hO hg c t (⟨256 * t.val + r.val, by omega⟩ : Fin 20480) r rfl x).trans (congrArg (G m hg c) (funext fun a => Fin.ext ?_))
    refine Eq.trans ?_ (Pipeline.Window.rect_emb_val ((cfgM m hO).win 5) t (ix2 r x) a rfl).symm
    match a with
    | ⟨0, _⟩ =>
      show 256 * t.val + r.val = (BitVec.ofNat 32 (grid0.coords t 0).val).toNat * 256 + r.val
      rw [coords_val, BitVec.toNat_ofNat]
      omega
    | ⟨1, _⟩ => exact (Nat.zero_add x.val).symm
  · obtain ⟨p, x, rfl⟩ := exists_ix2 (a := 20480) (b := 1024) i
    have ht : p.val / 256 < 80 := by omega
    have key : ∀ t : Fin (cfgM m hO).N, t.val = p.val / 256 → ix2 p x ∈ (((cfgM m hO).win 5).blk t).view.set := fun t e => by
      refine (((cfgM m hO).win 5).emb_mem_blk_iff t (ix2 p x) rfl).mpr fun a => ?_
      match a with
      | ⟨0, _⟩ =>
        show (BitVec.ofNat 32 (grid0.coords t 0).val).toNat * 256 ≤ p.val ∧ p.val < (BitVec.ofNat 32 (grid0.coords t 0).val).toNat * 256 + 256
        rw [coords_val, BitVec.toNat_ofNat]
        omega
      | ⟨1, _⟩ =>
        show 0 * 1024 ≤ x.val ∧ x.val < 0 * 1024 + 1024
        omega
    exact ⟨(⟨p.val / 256, ht⟩ : Fin 80), flush0_5 (adm m hO) _, key _ rfl⟩

/-- The run's result is `G`, and the arguments are unchanged. -/
theorem run_value (ρ : Dev nD → PrngReg) (hg : ∀ j, (m (((0 : Dev nD) : Thread nD τ).loc main_arg0) j : BitVec 32).toNat < 16) :
    θ_run defs (onTc (τ := τ) (main (F := Ideal))) ⟨m, fun _ => 0, ρ⟩ (fun r => ∀ c : Dev nD, r.2.mem ((c.tc : Thread nD τ).loc main_v2) = G m hg c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  have hO := ok_of_lt m hg
  (θ_run defs _ _).mono (fun _ h c => ⟨((h.1 c).1 5).trans (final m hO hg c), h.2 c⟩) (θ_run_and (run_main m ρ hO) (unchanged m ρ hO))

end Cert.Proof.FfnIdeal

end
-- ==== Proof.FfnAlg.lean ====
/-
  The experts' layers: the program's run and the reference's end with equal results.
-/
module

public import Idealize.ShloMosaic.Lib.Routing.Ops
public import proofs.«01_k».proof.Proof.Gen.FfnRefIdeal.Run
public import proofs.«01_k».proof.Proof.FfnIdealValue

@[expose] public section

noncomputable section

namespace Cert.Proof.FfnAlg

open Idealize.ShloMosaic hiding ix1 ix2 ix3
open Idealize.ShloMosaic.ValueIdx Idealize.SL.Sem
open Cert.FfnRefIdeal Cert.FfnRefIdeal.Gen
open scoped BigOperators

variable {α : Type}

/-- Each row's expert: its block's. -/
abbrev experts (g : IVec S80 32) : IVec S20480 32 := shapeCast S20480 (broadcastInDim S80x256 ![0] bcast_S80_S80x256_0 g) shapeCasts_S80x256_S20480

/-- The reference's expert numbers, a negative number counted from the end. -/
abbrev rows (g : IVec S80 32) : IVec S20480x1 32 :=
  broadcastInDim S20480x1 ![0] bcast_S20480_S20480x1_0 (select (cmpi .slt (experts g) (broadcastInDim S20480 ![] bcast_S_S20480 (constantI S_ 32 0#32)))
    (addi (experts g) (broadcastInDim S20480 ![] bcast_S_S20480 (constantI S_ 32 16#32))) (experts g))

theorem experts_apply (g : IVec S80 32) (p : Fin 20480) : experts g (ix1 p) = g (ix1 (⟨p.val / 256, by omega⟩ : Fin 80)) := by
  refine (shapeCast_apply _ _ (ix1 p) (ix2 (⟨p.val / 256, by omega⟩ : Fin 80) (⟨p.val % 256, by omega⟩ : Fin 256)) ?_).trans (broadcastInDim_apply _ _ _ _ _ fun a => ?_)
  · rw [Shape.rowMajor_val_two, Shape.rowMajor_val_one]
    show p.val / 256 * 256 + p.val % 256 = p.val
    omega
  · match a with
    | ⟨0, _⟩ => rfl

/-- A number that is not negative is kept. -/
theorem rows_apply (g : IVec S80 32) (p : Fin 20480) (h : (g (ix1 (⟨p.val / 256, by omega⟩ : Fin 80))).toNat < 16) :
    rows g (ix2 p (0 : Fin 1)) = g (ix1 (⟨p.val / 256, by omega⟩ : Fin 80)) := by
  refine (broadcastInDim_apply _ _ _ _ (ix1 p) fun a => ?_).trans ?_
  · match a with
    | ⟨0, _⟩ => rfl
  · rw [← experts_apply g p] at h ⊢
    show (if IntOp.cmpi .slt (experts g (ix1 p)) 0#32 = 1#1 then _ else _) = _
    rw [if_neg]
    have h0 : ¬ (experts g (ix1 p)).toInt < (0#32).toInt := by
      rw [BitVec.toInt_eq_toNat_cond, if_pos (by omega)]; simp
    simp only [IntOp.cmpi, BitVec.slt_eq_decide, decide_eq_false h0]
    decide

/-- The bias row that the reference takes. -/
theorem bias_apply (b : S16x1024.Idx → α) (idx : IVec S20480x1 32) (p : Fin 20480) (x : Fin 1024) (e : Fin 16) (h : idx (ix2 p (0 : Fin 1)) = BitVec.ofNat 32 e.val) :
    Host.gather gather_S16x1024_S20480x1_S20480x1024_1_0_n_n_0_1_11024 b idx (ix2 p x) = b (ix2 e x) :=
  Routing.gather_row (nb := 16) (B := 1024) (n := 20480) gather_S16x1024_S20480x1_S20480x1024_1_0_n_n_0_1_11024 rfl rfl rfl rfl rfl b idx p x e h (by decide)

/-- The weights that the reference takes. -/
theorem weights_apply (w : S16x1024x1024.Idx → α) (idx : IVec S20480x1 32) (p : Fin 20480) (r x : Fin 1024) (e : Fin 16) (h : idx (ix2 p (0 : Fin 1)) = BitVec.ofNat 32 e.val) :
    Host.gather gather_S16x1024x1024_S20480x1_S20480x1024x1024_12_0_n_n_0_1_110241024 w idx (ix3 p r x) = w (ix3 e r x) := by
  unfold Host.gather
  refine congrArg w (funext fun a => Fin.ext ?_)
  match a with
  | ⟨0, _⟩ =>
    have hsi : GatherDims.siIdx gather_S16x1024x1024_S20480x1_S20480x1024x1024_12_0_n_n_0_1_110241024 (ix3 p r x) ⟨0, Nat.one_pos⟩ = ix2 p (0 : Fin 1) := by
      funext b
      match b with
      | ⟨0, _⟩ => rfl
      | ⟨1, _⟩ => rfl
    show min (idx (GatherDims.siIdx gather_S16x1024x1024_S20480x1_S20480x1024x1024_12_0_n_n_0_1_110241024 (ix3 p r x) ⟨0, Nat.one_pos⟩)).toInt.toNat (16 - 1) + 0 + 0 = e.val
    rw [hsi, h, BitVec.toInt_eq_toNat_cond, BitVec.toNat_ofNat]
    have he := e.isLt
    rw [if_pos (by omega)]
    omega
  | ⟨1, _⟩ =>
    show 0 + 0 + r.val = r.val
    omega
  | ⟨2, _⟩ =>
    show 0 + 0 + x.val = x.val
    omega

/-- The reference's product: each row with its own matrix. -/
theorem dot_apply (X : S20480x1024.Idx → EReal) (W : S20480x1024x1024.Idx → EReal) (p : Fin 20480) (x : Fin 1024) :
    Host.dotGeneral (F := Ideal) (φ₁ := .f32) (φ₂ := .f32) dot_S20480x1024_S20480x1024x1024_S20480x1024_1_1_n_2_0_0 none X W (ix2 p x)
      = ∑ k : Fin 1024, X (ix2 p k) * W (ix3 p k x) := by
  show FloatOps.dotGeneral (F := Ideal) (φ₁ := .f32) (φ₂ := .f32) _ none _ X W (ix2 p x) = _
  rw [Ideal.dotGeneral_apply, ← Equiv.sum_comp (contrEquiv1 dot_S20480x1024_S20480x1024x1024_S20480x1024_1_1_n_2_0_0 1024 rfl rfl).symm]
  refine Finset.sum_congr rfl fun k _ => ?_
  have hk := contrEquiv1_symm_val dot_S20480x1024_S20480x1024x1024_S20480x1024_1_1_n_2_0_0 1024 rfl rfl k
  refine congrArg₂ (fun u v : EReal => u * v) (congrArg X (funext fun a => Fin.ext ?_)) (congrArg W (funext fun a => Fin.ext ?_))
  · match a with
    | ⟨0, _⟩ => rfl
    | ⟨1, _⟩ => exact hk
  · match a with
    | ⟨0, _⟩ => rfl
    | ⟨1, _⟩ => exact hk
    | ⟨2, _⟩ => rfl

/-- The two results agree. -/
theorem value_eq (g : IVec S80 32) (xs : S20480x1024.Idx → EReal) (w1 : S16x1024x1024.Idx → EReal) (b1 : S16x1024.Idx → EReal) (w2 : S16x1024x1024.Idx → EReal)
    (b2 : S16x1024.Idx → EReal) (hg : ∀ j, (g j).toNat < 16) :
    (addf (Host.dotGeneral (F := Ideal) (φ₁ := .f32) (φ₂ := .f32) dot_S20480x1024_S20480x1024x1024_S20480x1024_1_1_n_2_0_0 none
        (maximumf (addf (Host.dotGeneral (F := Ideal) (φ₁ := .f32) (φ₂ := .f32) dot_S20480x1024_S20480x1024x1024_S20480x1024_1_1_n_2_0_0 none xs
            (Host.gather gather_S16x1024x1024_S20480x1_S20480x1024x1024_12_0_n_n_0_1_110241024 w1 (rows g)))
          (Host.gather gather_S16x1024_S20480x1_S20480x1024_1_0_n_n_0_1_11024 b1 (rows g)))
          (broadcastInDim S20480x1024 ![] bcast_S_S20480x1024 (constant S_ .f32 0x00000000#32)))
        (Host.gather gather_S16x1024x1024_S20480x1_S20480x1024x1024_12_0_n_n_0_1_110241024 w2 (rows g)))
      (Host.gather gather_S16x1024_S20480x1_S20480x1024_1_0_n_n_0_1_11024 b2 (rows g)) : FVec Ideal S20480x1024 .f32)
      = fun i => FfnIdeal.layers xs w1 b1 w2 b2 (FfnIdeal.expert g hg) (i 0) (i 1) := by
  funext i
  obtain ⟨p, x, rfl⟩ := FfnIdeal.exists_ix2 (a := 20480) (b := 1024) i
  show _ = FfnIdeal.layers xs w1 b1 w2 b2 (FfnIdeal.expert g hg) p x
  have hr : rows g (ix2 p (0 : Fin 1)) = BitVec.ofNat 32 (FfnIdeal.expert g hg p).val := (rows_apply g p (hg _)).trans (by unfold FfnIdeal.expert; simp)
  unfold FfnIdeal.layers
  refine congrArg₂ (fun u v : EReal => u + v) ((dot_apply _ _ p x).trans (Finset.sum_congr rfl fun k _ => congrArg₂ (fun u v : EReal => u * v) ?_ ?_)) (bias_apply b2 _ p x _ hr)
  · refine congrArg₂ (fun u v : EReal => max u v) (congrArg₂ (fun u v : EReal => u + v) ((dot_apply _ _ p k).trans (Finset.sum_congr rfl fun d _ => ?_)) (bias_apply b1 _ p k _ hr)) Ideal.ofBits_zero_f32
    exact congrArg (fun v : EReal => xs (ix2 p d) * v) (weights_apply w1 _ p d k _ hr)
  · exact weights_apply w2 _ p k x _ hr

theorem algebraic : Cert.algebraic_FfnIdeal_FfnRefIdeal := by
  intro m g m' g' hpre hm
  have hg := fun j => experts_lt _ _ _ _ _ _ (hpre 0) j
  refine ⟨fun c => FfnIdeal.G m hg c, FfnIdeal.run_value m g hg, ?_⟩
  refine (θ_run _ _ _).mono (fun _ h c => ⟨(h c).1.trans ?_, (h c).2⟩) (Cert.FfnRefIdeal.Value.run (F := Ideal) m' g')
  obtain rfl : c = 0 := Subsingleton.elim _ _
  rw [(hm 0).1, (hm 0).2.1, (hm 0).2.2.1, (hm 0).2.2.2.1, (hm 0).2.2.2.2.1, (hm 0).2.2.2.2.2]
  exact value_eq _ _ _ _ _ _ hg

end Cert.Proof.FfnAlg

end
-- ==== Proof.GateMath.lean ====
module

public import Idealize.ShloMosaic.Lib.Pointwise
public import Idealize.ShloMosaic.Lib.PlanTiles.StableSort
public import Idealize.ShloMosaic.Lib.SortFacts

@[expose] public section

/-!
# The router's choice, as mathematics

A row of scores over sixteen experts; the two greatest, earlier experts first among equals; and what a search over 128 lanes of which
only the first sixteen hold scores finds.
-/

noncomputable section

namespace Cert.Proof.GateMath

open Idealize.ShloMosaic

/-- `a` stands before `b` in the order of descending score, earlier experts first among equals. -/
def Leads (s : Fin 16 → EReal) (a b : Fin 16) : Prop := s b < s a ∨ (s a = s b ∧ a < b)

/-- What holds of every two entries of the sorted list, in their order, holds of the sorted positions. -/
theorem sortedFrom_of_pairwise {n : ℕ} (before : Fin n → Fin n → Bool) (R : Fin n → Fin n → Prop)
    (h : (sortPositions n before).Pairwise R) (i j : Fin n) (hij : i < j) : R (sortedFrom before i) (sortedFrom before j) :=
  List.pairwise_iff_get.mp h (i.cast (length_sortPositions n before).symm) (j.cast (length_sortPositions n before).symm) hij

/-- The expert whose score is the `k`-th greatest. -/
@[irreducible] def pick (s : Fin 16 → EReal) (k : Fin 16) : Fin 16 := sortedFrom (fun a b => decide (s b < s a)) k

/-- How many experts score less: a natural number that orders the experts as their scores do. -/
def height (s : Fin 16 → EReal) (a : Fin 16) : ℕ := (Finset.univ.filter fun e => s e < s a).card

theorem height_lt_iff (s : Fin 16 → EReal) (a b : Fin 16) : height s b < height s a ↔ s b < s a := by
  constructor
  · intro h
    by_contra hle
    refine absurd (Finset.card_le_card ?_) (not_le.mpr h)
    intro e he
    rw [Finset.mem_filter] at he ⊢
    exact ⟨he.1, lt_of_lt_of_le he.2 (not_lt.mp hle)⟩
  · intro h
    refine Finset.card_lt_card ⟨?_, ?_⟩
    · intro e he
      rw [Finset.mem_filter] at he ⊢
      exact ⟨he.1, he.2.trans h⟩
    · intro hs
      have hb : b ∈ Finset.univ.filter fun e => s e < s b := hs (Finset.mem_filter.mpr ⟨Finset.mem_univ _, h⟩)
      exact lt_irrefl _ (Finset.mem_filter.mp hb).2

theorem height_eq (s : Fin 16 → EReal) (a b : Fin 16) (h : height s a = height s b) : s a = s b := by
  refine le_antisymm (not_lt.mp fun hlt => ?_) (not_lt.mp fun hlt => ?_)
  · exact absurd ((height_lt_iff s a b).mpr hlt) (by omega)
  · exact absurd ((height_lt_iff s b a).mpr hlt) (by omega)

theorem pick_leads (s : Fin 16 → EReal) (i j : Fin 16) (h : i < j) : Leads s (pick s i) (pick s j) := by
  have hb : (fun a b : Fin 16 => decide (s b < s a)) = fun a b => decide (height s b < height s a) := by
    funext a b
    exact decide_eq_decide.mpr (height_lt_iff s a b).symm
  have hp := Idealize.ShloMosaic.PlanTiles.pairwise_stableSort_lex (height s) (· < ·) (List.finRange 16)
    (List.pairwise_lt_finRange 16)
  rw [← hb] at hp
  have hp' := sortedFrom_of_pairwise _ _ hp i j h
  unfold pick
  rcases hp' with hlt | ⟨heq, hlt⟩
  · exact .inl ((height_lt_iff s _ _).mp hlt)
  · exact .inr ⟨height_eq s _ _ heq, hlt⟩

/-- The two chosen experts. -/
def first (s : Fin 16 → EReal) : Fin 16 := pick s 0
def second (s : Fin 16 → EReal) : Fin 16 := pick s 1

theorem pick_injective (s : Fin 16 → EReal) : Function.Injective (pick s) := by
  unfold pick; exact sortedFrom_injective _

theorem exists_pick (s : Fin 16 → EReal) (e : Fin 16) : ∃ k, pick s k = e := by
  unfold pick; exact sortedFrom_surjective _ e

theorem first_ne_second (s : Fin 16 → EReal) : first s ≠ second s := by
  unfold first second
  intro h
  have h01 : (0 : Fin 16) = 1 := pick_injective s h
  exact absurd h01 (by decide)

theorem first_leads (s : Fin 16 → EReal) (e : Fin 16) (h : e ≠ first s) : Leads s (first s) e := by
  obtain ⟨k, rfl⟩ := exists_pick s e
  unfold first at h ⊢
  have hk0 : k.val ≠ 0 := fun hk => h (congrArg (pick s) (Fin.ext hk))
  exact pick_leads s 0 k (Nat.pos_of_ne_zero hk0)

theorem second_leads (s : Fin 16 → EReal) (e : Fin 16) (h0 : e ≠ first s) (h1 : e ≠ second s) : Leads s (second s) e := by
  obtain ⟨k, rfl⟩ := exists_pick s e
  unfold first at h0
  unfold second at h1 ⊢
  have hk0 : k.val ≠ 0 := fun hk => h0 (congrArg (pick s) (Fin.ext hk))
  have hk1 : k.val ≠ 1 := fun hk => h1 (congrArg (pick s) (Fin.ext hk))
  exact pick_leads s 1 k (show (1 : ℕ) < k.val by omega)

theorem Leads.le {s : Fin 16 → EReal} {a b : Fin 16} (h : Leads s a b) : s b ≤ s a := h.elim le_of_lt fun h => h.1.ge

theorem Leads.first {s : Fin 16 → EReal} {a b : Fin 16} (h : Leads s a b) (he : s b = s a) : a ≤ b :=
  h.elim (fun hl => absurd he hl.ne) fun h => h.2.le

/-- A greatest value that is attained is the fold of `max`. -/
theorem fold_max_eq {ι : Type} [Fintype ι] (z : EReal) (hz : z = ⊥) (f : ι → EReal) (a : ι) (h : ∀ x, f x ≤ f a) :
    Finset.fold max z f Finset.univ = f a := by
  subst hz
  exact le_antisymm ((Finset.fold_max_le _).mpr ⟨bot_le, fun x _ => h x⟩) ((Finset.le_fold_max _).mpr (.inr ⟨a, Finset.mem_univ a, le_rfl⟩))

theorem lane_inj (a b : Fin 128) : BitVec.ofNat 32 a.val = BitVec.ofNat 32 b.val ↔ a = b := by
  constructor
  · intro h
    have := congrArg BitVec.toNat h
    simp only [BitVec.toNat_ofNat] at this
    apply Fin.ext
    omega
  · rintro rfl; rfl

theorem toInt_lane (a : Fin 128) : (BitVec.ofNat 32 a.val).toInt = a.val := by
  rw [BitVec.toInt_eq_toNat_cond, BitVec.toNat_ofNat]
  have : a.val % 2 ^ 32 = a.val := Nat.mod_eq_of_lt (by omega)
  rw [this, if_pos (by omega)]

theorem toInt_minsi (x y : BitVec 32) : (IntOp.minsi x y).toInt = min x.toInt y.toInt := by
  unfold IntOp.minsi
  rw [BitVec.slt]
  by_cases h : x.toInt < y.toInt
  · rw [if_pos (decide_eq_true h)]; omega
  · rw [if_neg (by simpa using h)]; omega

/-- The first lane with a property: the fold of `minsi` over the lanes' numbers, 128 where the property fails. -/
theorem fold_min_eq (f : Fin 128 → BitVec 32) (Q : Fin 128 → Prop) (a : Fin 128) (ha : Q a) (hQ : ∀ x, Q x → a ≤ x)
    (hf : ∀ x, Q x → f x = BitVec.ofNat 32 x.val) (hn : ∀ x, ¬ Q x → f x = 128#32) :
    Finset.fold IntOp.minsi 2147483647#32 f Finset.univ = BitVec.ofNat 32 a.val := by
  apply BitVec.eq_of_toInt_eq
  rw [← Finset.fold_hom (op := IntOp.minsi) (op' := min) (m := BitVec.toInt) toInt_minsi, toInt_lane]
  refine le_antisymm ((Finset.fold_min_le _).mpr (.inr ⟨a, Finset.mem_univ a, ?_⟩)) ((Finset.le_fold_min _).mpr ⟨?_, fun x _ => ?_⟩)
  · show (f a).toInt ≤ _
    rw [hf a ha, toInt_lane]
  · have : (2147483647#32).toInt = 2147483647 := by decide
    omega
  · show _ ≤ (f x).toInt
    by_cases hx : Q x
    · rw [hf x hx, toInt_lane]
      exact_mod_cast hQ x hx
    · rw [hn x hx]
      have : (128#32).toInt = 128 := by decide
      omega

/-- A row of sixteen scores in 128 lanes, zero in the lanes after. -/
def wide (s : Fin 16 → EReal) (l : Fin 128) : EReal := if h : l.val < 16 then s ⟨l.val, h⟩ else 0

/-- An expert's lane. -/
def lane (e : Fin 16) : Fin 128 := ⟨e.val, by omega⟩

theorem wide_lane (s : Fin 16 → EReal) (e : Fin 16) : wide s (lane e) = s e := dif_pos e.isLt

theorem lane_eq (l : Fin 128) (h : l.val < 16) : l = lane ⟨l.val, h⟩ := rfl

theorem lane_inj' (a b : Fin 16) : lane a = lane b ↔ a = b := by
  constructor
  · intro h; exact Fin.ext (congrArg (fun x : Fin 128 => x.val) h)
  · rintro rfl; rfl

variable (s : Fin 16 → EReal) (hs : ∀ e, 0 ≤ s e)

theorem wide_of_not (l : Fin 128) (h : ¬ l.val < 16) : wide s l = 0 := dif_neg h

include hs in
theorem wide_le (l : Fin 128) : wide s l ≤ wide s (lane (first s)) := by
  rw [wide_lane]
  by_cases h : l.val < 16
  · rw [lane_eq l h, wide_lane]
    by_cases he : (⟨l.val, h⟩ : Fin 16) = first s
    · rw [he]
    · exact (first_leads s _ he).le
  · rw [wide_of_not s l h]; exact hs _

/-- The row with the first choice taken out. -/
def rest (z : EReal) (l : Fin 128) : EReal := if l = lane (first s) then z else wide s l

theorem rest_lane (z : EReal) (e : Fin 16) (h : e ≠ first s) : rest s z (lane e) = s e := by
  unfold rest
  rw [if_neg (fun hl => h ((lane_inj' _ _).mp hl)), wide_lane]

include hs in
theorem rest_le (z : EReal) (hz : z < 0) (l : Fin 128) : rest s z l ≤ rest s z (lane (second s)) := by
  rw [rest_lane s z _ (first_ne_second s).symm]
  by_cases hl : l = lane (first s)
  · rw [rest, if_pos hl]; exact hz.le.trans (hs _)
  · rw [rest, if_neg hl]
    by_cases h : l.val < 16
    · rw [lane_eq l h, wide_lane]
      by_cases he : (⟨l.val, h⟩ : Fin 16) = second s
      · rw [he]
      · refine (second_leads s _ (fun h0 => hl ?_) he).le
        rw [lane_eq l h, h0]
    · rw [wide_of_not s l h]; exact hs _

theorem first_first (l : Fin 128) (h : l.val < 16) (he : wide s l = s (first s)) : lane (first s) ≤ l := by
  rw [lane_eq l h, wide_lane] at he
  by_cases hf : (⟨l.val, h⟩ : Fin 16) = first s
  · rw [lane_eq l h, hf]
  · have hle := Fin.le_def.mp ((first_leads s _ hf).first he)
    exact Fin.le_def.mpr hle

include hs in
theorem second_first (z : EReal) (hz : z < 0) (l : Fin 128) (h : l.val < 16) (he : rest s z l = s (second s)) : lane (second s) ≤ l := by
  by_cases hl : l = lane (first s)
  · rw [rest, if_pos hl] at he
    have h2 := hs (second s)
    rw [← he] at h2
    exact absurd h2 (not_le.mpr hz)
  · rw [rest, if_neg hl, lane_eq l h, wide_lane] at he
    by_cases hf : (⟨l.val, h⟩ : Fin 16) = second s
    · rw [lane_eq l h, hf]
    · have h0 : (⟨l.val, h⟩ : Fin 16) ≠ first s := fun h0 => hl (by rw [lane_eq l h, h0])
      have hle := Fin.le_def.mp ((second_leads s _ h0 hf).first he)
      exact Fin.le_def.mpr hle

/-- A row's logits, one per expert. -/
def logit {D : ℕ} (x : Fin D → EReal) (W : Fin D → Fin 16 → EReal) (b : Fin 16 → EReal) (e : Fin 16) : EReal := ∑ d, x d * W d e + b e

/-- The greatest of sixteen numbers. -/
def peak (z : Fin 16 → EReal) : EReal := Finset.fold max ⊥ z Finset.univ

/-- The softmax of sixteen numbers, the greatest taken off first. -/
def softmax (z : Fin 16 → EReal) (e : Fin 16) : EReal := Ideal.div (Ideal.exp (z e - peak z)) (∑ e', Ideal.exp (z e' - peak z))

theorem exp_nonneg (x : EReal) : 0 ≤ Ideal.exp x := by
  induction x with
  | bot => exact le_rfl
  | coe r => exact EReal.coe_nonneg.mpr (Real.exp_pos r).le
  | top => exact le_top

theorem exp_pos (x : EReal) (h : x ≠ ⊥) : 0 < Ideal.exp x := by
  induction x with
  | bot => exact absurd rfl h
  | coe r => exact EReal.coe_pos.mpr (Real.exp_pos r)
  | top => exact EReal.zero_lt_top

theorem div_nonneg (x y : EReal) (hx : 0 ≤ x) (hy : 0 ≤ y) (h : y = 0 → 0 < x) : 0 ≤ Ideal.div x y := by
  unfold Ideal.div
  by_cases hy0 : y = 0
  · rw [if_pos hy0, if_pos (h hy0)]; exact le_top
  · rw [if_neg hy0]
    exact mul_nonneg hx (EReal.inv_nonneg_of_nonneg hy)

/-- A number that is neither infinity. -/
def Fin' (x : EReal) : Prop := x ≠ ⊥ ∧ x ≠ ⊤

theorem Fin'.add {x y : EReal} (hx : Fin' x) (hy : Fin' y) : Fin' (x + y) := by
  lift x to ℝ using ⟨hx.2, hx.1⟩
  lift y to ℝ using ⟨hy.2, hy.1⟩
  rw [← EReal.coe_add]
  exact ⟨EReal.coe_ne_bot _, EReal.coe_ne_top _⟩

theorem Fin'.mul {x y : EReal} (hx : Fin' x) (hy : Fin' y) : Fin' (x * y) := by
  lift x to ℝ using ⟨hx.2, hx.1⟩
  lift y to ℝ using ⟨hy.2, hy.1⟩
  rw [← EReal.coe_mul]
  exact ⟨EReal.coe_ne_bot _, EReal.coe_ne_top _⟩

theorem Fin'.sum {ι : Type} (s : Finset ι) (f : ι → EReal) (h : ∀ i, Fin' (f i)) : Fin' (∑ i ∈ s, f i) := by
  classical
  induction s using Finset.induction_on with
  | empty => rw [Finset.sum_empty]; exact ⟨EReal.zero_ne_bot, EReal.zero_ne_top⟩
  | insert a s ha ih => rw [Finset.sum_insert ha]; exact (h a).add ih

theorem logit_fin {D : ℕ} (x : Fin D → EReal) (W : Fin D → Fin 16 → EReal) (b : Fin 16 → EReal) (hx : ∀ d, Fin' (x d)) (hW : ∀ d e, Fin' (W d e))
    (hb : ∀ e, Fin' (b e)) (e : Fin 16) : Fin' (logit x W b e) := (Fin'.sum _ _ fun d => (hx d).mul (hW d e)).add (hb e)

theorem peak_mem (z : Fin 16 → EReal) : ∃ e, peak z = z e := by
  obtain ⟨e, _, he⟩ := Finset.exists_max_image Finset.univ z ⟨0, Finset.mem_univ _⟩
  exact ⟨e, fold_max_eq ⊥ rfl z e fun x => he x (Finset.mem_univ x)⟩

/-- The softmax's denominator is not zero when the numbers are finite. -/
theorem softmax_sum_pos (z : Fin 16 → EReal) (hz : ∀ e, Fin' (z e)) : 0 < ∑ e, Ideal.exp (z e - peak z) := by
  obtain ⟨e0, he0⟩ := peak_mem z
  refine lt_of_lt_of_le (exp_pos (z e0 - peak z) ?_) (Finset.single_le_sum (f := fun e' => Ideal.exp (z e' - peak z)) (fun i _ => exp_nonneg _) (Finset.mem_univ e0))
  rw [he0, EReal.sub_self (hz e0).2 (hz e0).1]
  exact EReal.zero_ne_bot

/-- Of finite numbers the softmax is at least zero. -/
theorem softmax_nonneg (z : Fin 16 → EReal) (hz : ∀ e, Fin' (z e)) (e : Fin 16) : 0 ≤ softmax z e :=
  div_nonneg _ _ (exp_nonneg _) (softmax_sum_pos z hz).le fun h0 => absurd h0 (ne_of_gt (softmax_sum_pos z hz))

/-- What a one-bit word counts. -/
theorem sitofp_bit (b : BitVec 1) : (FloatOps.sitofp .f32 (BitVec.setWidth 32 b) : Ideal .f32) = if b = 1#1 then (1 : EReal) else 0 := by
  rcases BitVec.eq_zero_or_eq_one b with rfl | rfl
  · show (((BitVec.setWidth 32 0#1).toInt : ℝ) : EReal) = _
    rw [if_neg (by decide), show (BitVec.setWidth 32 0#1).toInt = 0 by decide]; simp
  · show (((BitVec.setWidth 32 1#1).toInt : ℝ) : EReal) = _
    rw [if_pos rfl, show (BitVec.setWidth 32 1#1).toInt = 1 by decide]; simp

theorem uitofp_bit (b : BitVec 1) : (FloatOps.uitofp .f32 b : Ideal .f32) = if b = 1#1 then (1 : EReal) else 0 := by
  rcases BitVec.eq_zero_or_eq_one b with rfl | rfl
  · show (((0#1 : BitVec 1).toNat : ℝ) : EReal) = _
    rw [if_neg (by decide)]; simp
  · show (((1#1 : BitVec 1).toNat : ℝ) : EReal) = _
    rw [if_pos rfl]; simp

/-- How a row's two choices fill the lane `n`. -/
def put (s : Fin 16 → EReal) (n : ℕ) : EReal := (if (first s).val = n then 1 else 0) + (if (second s).val = n then 1 else 0)

end Cert.Proof.GateMath

end
-- ==== Proof.GatePay.lean ====
module

public import Idealize.ShloMosaic.Lib.Pointwise
public import proofs.«01_k».proof.Proof.Gen.GateIdeal.Skeleton
public import proofs.«01_k».proof.Proof.GateMath

@[expose] public section

/-!
# What a block of the router computes

The named values of the router's body, read at an index, for a block of 256 rows whose scores are known.
-/

noncomputable section

namespace Cert.Proof.GatePay

open Cert.GateIdeal Cert.GateIdeal.Gen Cert.Proof.GateMath
open Idealize.ShloMosaic

theorem select_def {α : Type} (c : BitVec 1) (x y : α) : Scalar.select c x y = if c = 1#1 then x else y := rfl

theorem ofBool_one (p : Bool) : BitVec.ofBool p = 1#1 ↔ p = true := by cases p <;> decide

theorem andi_one (p q : BitVec 1) : IntOp.andi p q = 1#1 ↔ p = 1#1 ∧ q = 1#1 := by
  rcases BitVec.eq_zero_or_eq_one p with rfl | rfl <;> rcases BitVec.eq_zero_or_eq_one q with rfl | rfl <;> decide

theorem cmpi_eq_one (x y : BitVec 32) : IntOp.cmpi .eq x y = 1#1 ↔ x = y := by
  unfold IntOp.cmpi
  rw [ofBool_one]
  exact beq_iff_eq

theorem toInt_small (n : ℕ) (h : n < 2 ^ 31) : (BitVec.ofNat 32 n).toInt = n := by
  rw [BitVec.toInt_eq_toNat_cond, BitVec.toNat_ofNat]
  have : n % 2 ^ 32 = n := Nat.mod_eq_of_lt (by omega)
  rw [this, if_pos (by omega)]

theorem small_inj (n k : ℕ) (hn : n < 2 ^ 31) (hk : k < 2 ^ 31) : BitVec.ofNat 32 n = BitVec.ofNat 32 k ↔ n = k := by
  constructor
  · intro h
    have := congrArg BitVec.toInt h
    rw [toInt_small n hn, toInt_small k hk] at this
    exact_mod_cast this
  · rintro rfl; rfl

theorem cmpi_slt_one (n k : ℕ) (hn : n < 2 ^ 31) (hk : k < 2 ^ 31) : IntOp.cmpi .slt (BitVec.ofNat 32 n) (BitVec.ofNat 32 k) = 1#1 ↔ n < k := by
  unfold IntOp.cmpi
  rw [ofBool_one]
  show (BitVec.ofNat 32 n).slt (BitVec.ofNat 32 k) = true ↔ _
  rw [BitVec.slt_eq_decide, decide_eq_true_eq, toInt_small n hn, toInt_small k hk]
  exact_mod_cast Iff.rfl

theorem cmpi_sge_one (n k : ℕ) (hn : n < 2 ^ 31) (hk : k < 2 ^ 31) : IntOp.cmpi .sge (BitVec.ofNat 32 n) (BitVec.ofNat 32 k) = 1#1 ↔ k ≤ n := by
  unfold IntOp.cmpi
  rw [ofBool_one]
  show (BitVec.ofNat 32 k).sle (BitVec.ofNat 32 n) = true ↔ _
  rw [BitVec.sle_eq_decide, decide_eq_true_eq, toInt_small n hn, toInt_small k hk]
  exact_mod_cast Iff.rfl

theorem lane_lt (l : Fin 128) : IntOp.cmpi .slt (BitVec.ofNat 32 l.val) 16#32 = 1#1 ↔ l.val < 16 :=
  cmpi_slt_one l.val 16 (by omega) (by decide)

theorem mask_eq : (Named.named (F := Ideal) (φ := .f32) κ "mask" 0xF149F2CA#32 : EReal) = ⊥ :=
  IdealRules.named_const.ideal_named_scalar _ _ _ _ rfl

theorem ninf_eq : Ideal.ofBits .f32 0xFF800000#32 = ⊥ := by simp [Ideal.ofBits, Ideal.ieee]

theorem neg_one_lt : Ideal.ofBits .f32 0xBF800000#32 < 0 := by
  have h : Ideal.ofBits .f32 0xBF800000#32 = ((-(1 : ℝ)) : EReal) := by
    simp [Ideal.ofBits, Ideal.ieee, -EReal.coe_mul, -EReal.coe_neg]; norm_num
  rw [h]
  exact EReal.coe_neg'.mpr (by norm_num)

theorem exists_lane (l : Fin 128) (h : l.val < 16) : ∃ e, l = lane e := ⟨⟨l.val, h⟩, rfl⟩

/-- The numbers from 16 on do not count in a sum over the lanes that is zero there. -/
theorem sum_lanes (f : Fin 16 → EReal) : ∑ l : Fin 128, (if h : l.val < 16 then f ⟨l.val, h⟩ else 0) = ∑ e, f e := by
  rw [← Finset.sum_subset (Finset.subset_univ (Finset.univ.map ⟨lane, fun a b h => (lane_inj' a b).mp h⟩))]
  · rw [Finset.sum_map]
    refine Finset.sum_congr rfl fun e _ => ?_
    exact dif_pos e.isLt
  · intro l _ hl
    refine dif_neg fun h => hl ?_
    rw [Finset.mem_map]
    exact ⟨⟨l.val, h⟩, Finset.mem_univ _, rfl⟩

section
variable (v3 : Vec Ideal S256x1024 .f32) (v4 : Vec Ideal S1024x128 .f32) (v7 : Vec Ideal S1x128 .f32)
  (W : Fin 1024 → Fin 16 → EReal) (b : Fin 16 → EReal)
  (hW : ∀ d e, v4 (ix2 d (lane e)) = W d e) (hb : ∀ e, v7 (ix2 0 (lane e)) = b e)

/-- A row's logits in the lanes, the lanes without an expert at minus infinity. -/
def masked (z : Fin 16 → EReal) (l : Fin 128) : EReal := if h : l.val < 16 then z ⟨l.val, h⟩ else ⊥

theorem masked_lane (z : Fin 16 → EReal) (e : Fin 16) : masked z (lane e) = z e := dif_pos e.isLt

theorem fold_masked (z : Fin 16 → EReal) : Finset.fold max ⊥ (masked z) Finset.univ = peak z := by
  obtain ⟨e, _, he⟩ := Finset.exists_max_image Finset.univ z ⟨0, Finset.mem_univ _⟩
  have h1 : peak z = z e := fold_max_eq ⊥ rfl z e fun x => he x (Finset.mem_univ x)
  have h2 : masked z (lane e) = z e := dif_pos e.isLt
  rw [fold_max_eq ⊥ rfl (masked z) (lane e), h2, h1]
  intro l
  rw [h2]
  unfold masked
  split
  · exact he _ (Finset.mem_univ _)
  · exact bot_le

include hW hb in
/-- The scores of a row: the softmax of its logits, zero in the lanes without an expert. -/
theorem pay4_eq (r : Fin 256) (z : Fin 16 → EReal) (hz : ∀ e, z e = logit (fun d => v3 (ix2 r d)) W b e) (hf : ∀ e, Fin' (z e)) (l : Fin 128) :
    k0_pay4 (F := Ideal) v3 v4 v7 (ix2 r l) = wide (softmax z) l := by
  pointwise [k0_pay4, k0_pay3]
  have hm : ∀ x : Fin 128, Scalar.select (IntOp.cmpi .slt (BitVec.ofNat 32 x.val) 16#32)
      (∑ d, v3 (ix2 r d) * v4 (ix2 d x) + v7 (ix2 0 x)) (Named.named (F := Ideal) (φ := .f32) κ "mask" 0xF149F2CA#32 : EReal) = masked z x := by
    intro x
    rw [select_def, mask_eq]
    by_cases h : x.val < 16
    · rw [if_pos ((lane_lt x).mpr h)]
      obtain ⟨e, rfl⟩ := exists_lane x h
      rw [masked_lane, hz, hb]
      refine congrArg (· + _) (Finset.sum_congr rfl fun d _ => ?_)
      rw [hW]
    · rw [if_neg (fun hc => h ((lane_lt x).mp hc)), masked, dif_neg h]
  have hx : ∀ x : Fin 128, Scalar.select (IntOp.cmpi .slt (BitVec.ofNat 32 x.val) 16#32) (Ideal.exp (masked z x - peak z)) (0 : EReal)
      = if h : x.val < 16 then Ideal.exp (z ⟨x.val, h⟩ - peak z) else 0 := by
    intro x
    rw [select_def]
    by_cases h : x.val < 16
    · rw [if_pos ((lane_lt x).mpr h), dif_pos h]
      unfold masked
      rw [dif_pos h]
    · rw [if_neg (fun hc => h ((lane_lt x).mp hc)), dif_neg h]
  rw [select_def]
  simp only [hm, hx, ninf_eq, fold_masked]
  rw [sum_lanes fun e => Ideal.exp (z e - peak z)]
  by_cases h : l.val < 16
  · obtain ⟨e, rfl⟩ := exists_lane l h
    rw [if_pos ((lane_lt _).mpr h), masked_lane, wide_lane]
    rfl
  · rw [if_neg (fun hc => h ((lane_lt l).mp hc)), wide_of_not _ _ h, Ideal.div, if_neg (ne_of_gt (softmax_sum_pos z hf)), zero_mul]

variable (s : Fin 256 → Fin 16 → EReal) (hs : ∀ r e, 0 ≤ s r e) (h4 : ∀ r l, k0_pay4 (F := Ideal) v3 v4 v7 (ix2 r l) = wide (s r) l)

include hs h4 in
/-- A row's greatest score. -/
theorem pay5_eq (r : Fin 256) : k0_pay5 (F := Ideal) v3 v4 v7 (ix2 r 0) = s r (first (s r)) := by
  pointwise [k0_pay5]
  simp only [h4]
  rw [fold_max_eq _ ninf_eq _ (lane (first (s r))) (wide_le (s r) (hs r)), wide_lane]

include hs h4 in
/-- The expert that has it. -/
theorem pay6_eq (r : Fin 256) : k0_pay6 (F := Ideal) v3 v4 v7 (ix2 r 0) = BitVec.ofNat 32 (first (s r)).val := by
  pointwise [k0_pay6, k0_pay3]
  simp only [h4, pay5_eq v3 v4 v7 s hs h4]
  refine fold_min_eq _ (fun x => wide (s r) x = s r (first (s r)) ∧ x.val < 16) (lane (first (s r))) ⟨wide_lane _ _, (first (s r)).isLt⟩
    (fun x hx => first_first (s r) x hx.2 hx.1) (fun x hx => ?_) (fun x hx => ?_)
  · rw [select_def, if_pos]
    rw [andi_one, ofBool_one, decide_eq_true_eq, lane_lt]
    exact hx
  · rw [select_def, if_neg]
    rw [andi_one, ofBool_one, decide_eq_true_eq, lane_lt]
    exact hx

include hs h4 in
/-- The scores with the first choice taken out. -/
theorem pay7_eq (r : Fin 256) (l : Fin 128) : k0_pay7 (F := Ideal) v3 v4 v7 (ix2 r l) = rest (s r) (Ideal.ofBits .f32 0xBF800000#32) l := by
  pointwise [k0_pay7]
  rw [select_def, h4, pay6_eq v3 v4 v7 s hs h4]
  unfold rest
  refine if_congr ?_ rfl rfl
  rw [cmpi_eq_one]
  exact lane_inj l (lane (first (s r)))

end

section
variable (s : Fin 256 → Fin 16 → EReal) (hs : ∀ r e, 0 ≤ s r e) (v11 : IVec S256x128 32) (v13 : IVec S256x128 1) (v28 : FVec Ideal S256x1 .f32)
  (v35 : IVec S256x1 32) (v39 : FVec Ideal S256x128 .f32)
  (h11 : ∀ r l, v11 (ix2 r l) = BitVec.ofNat 32 l.val) (h13 : ∀ r l, v13 (ix2 r l) = IntOp.cmpi .slt (BitVec.ofNat 32 l.val) 16#32)
  (h28 : ∀ r, v28 (ix2 r 0) = s r (first (s r)))
  (h35 : ∀ r, v35 (ix2 r 0) = BitVec.ofNat 32 (first (s r)).val)
  (h39 : ∀ r l, v39 (ix2 r l) = rest (s r) (Ideal.ofBits .f32 0xBF800000#32) l)

include hs h39 in
/-- The second greatest score. -/
theorem pay8_eq (r : Fin 256) : k0_pay8 (F := Ideal) v39 (ix2 r 0) = s r (second (s r)) := by
  pointwise [k0_pay8]
  simp only [h39]
  rw [fold_max_eq _ ninf_eq _ (lane (second (s r))) (rest_le (s r) (hs r) _ neg_one_lt), rest_lane _ _ _ (first_ne_second (s r)).symm]

include hs h11 h13 h39 in
/-- The expert that has it. -/
theorem pay9_eq (r : Fin 256) : k0_pay9 (F := Ideal) v11 v13 v39 (ix2 r 0) = BitVec.ofNat 32 (second (s r)).val := by
  pointwise [k0_pay9]
  simp only [h39, h11, h13, pay8_eq s hs v39 h39]
  refine fold_min_eq _ (fun x => rest (s r) (Ideal.ofBits .f32 0xBF800000#32) x = s r (second (s r)) ∧ x.val < 16) (lane (second (s r)))
    ⟨rest_lane _ _ _ (first_ne_second (s r)).symm, (second (s r)).isLt⟩ (fun x hx => second_first (s r) (hs r) _ neg_one_lt x hx.2 hx.1) (fun x hx => ?_) (fun x hx => ?_)
  · rw [select_def, if_pos]
    rw [andi_one, ofBool_one, decide_eq_true_eq, lane_lt]
    exact hx
  · rw [select_def, if_neg]
    rw [andi_one, ofBool_one, decide_eq_true_eq, lane_lt]
    exact hx

/-- The two weights: each score over the sum of the two, a small number added. -/
def weight (s : Fin 16 → EReal) (e : Fin 16) : EReal := Ideal.div (s e) (s (first s) + s (second s) + Ideal.ofBits .f32 0x322BCC77#32)

include hs h28 h39 in
theorem pay11_eq (r : Fin 256) : k0_pay11 (F := Ideal) v28 v39 (ix2 r 0) = weight (s r) (first (s r)) := by
  pointwise [k0_pay11, k0_pay10]
  rw [h28, pay8_eq s hs v39 h39]
  rfl

include hs h28 h39 in
theorem pay12_eq (r : Fin 256) : k0_pay12 (F := Ideal) v28 v39 (ix2 r 0) = weight (s r) (second (s r)) := by
  pointwise [k0_pay12, k0_pay10]
  rw [h28, pay8_eq s hs v39 h39]
  rfl

include h11 h35 in
theorem pay13_eq (r : Fin 256) (l : Fin 128) : k0_pay13 (F := Ideal) v11 v35 (ix2 r l) = if (first (s r)).val = l.val then (1 : EReal) else 0 := by
  pointwise [k0_pay13]
  rw [sitofp_bit, h11, h35]
  refine if_congr ?_ rfl rfl
  rw [cmpi_eq_one, small_inj _ _ (by omega) (by omega)]
  exact eq_comm

include hs h11 h13 h39 in
theorem pay14_eq (r : Fin 256) (l : Fin 128) : k0_pay14 (F := Ideal) v11 v13 v39 (ix2 r l) = if (second (s r)).val = l.val then (1 : EReal) else 0 := by
  pointwise [k0_pay14]
  rw [sitofp_bit, h11, pay9_eq s hs v11 v13 v39 h11 h13 h39]
  refine if_congr ?_ rfl rfl
  rw [cmpi_eq_one, small_inj _ _ (by omega) (by omega)]
  exact eq_comm

include hs h11 h13 h35 h39 in
theorem pay15_eq (r : Fin 256) (l : Fin 128) : k0_pay15 (F := Ideal) v11 v13 v35 v39 (ix2 r l) = put (s r) l.val := by
  pointwise [k0_pay15]
  rw [pay13_eq s v11 v35 h11 h35, pay14_eq s hs v11 v13 v39 h11 h13 h39]
  rfl

/-- How often the lane `n` is chosen by the block's rows before row `k`. -/
def within (s : Fin 256 → Fin 16 → EReal) (k n : ℕ) : EReal := ∑ x : Fin 256, if x.val < k then put (s x) n else 0

include hs h11 h13 h35 h39 in
theorem pay16_eq (r : Fin 256) (l : Fin 128) : k0_pay16 (F := Ideal) v11 v13 v35 v39 (ix2 r l) = within s r.val l.val := by
  pointwise [k0_pay16]
  refine Finset.sum_congr rfl fun x _ => ?_
  rw [sitofp_bit, pay15_eq s hs v11 v13 v35 v39 h11 h13 h35 h39]
  by_cases h : x.val < r.val
  · rw [if_pos h, if_pos ((cmpi_slt_one _ _ (by omega) (by omega)).mpr h), one_mul]
  · rw [if_neg h, if_neg (fun hc => h ((cmpi_slt_one _ _ (by omega) (by omega)).mp hc)), zero_mul]

variable (v69 : Vec Ideal S1x128 .f32) (base : ℕ → EReal) (h69 : ∀ l, v69 (ix2 0 l) = base l.val)

theorem sum_hit (f : Fin 128 → EReal) (e : Fin 16) : ∑ x, f x * (if e.val = x.val then (1 : EReal) else 0) = f (lane e) := by
  rw [Finset.sum_eq_single (lane e)]
  · rw [if_pos (show e.val = (lane e).val from rfl), mul_one]
  · intro x _ hx
    rw [if_neg (fun h => hx (Fin.ext h.symm)), mul_zero]
  · intro h
    exact absurd (Finset.mem_univ _) h

include hs h11 h13 h35 h39 h69 in
theorem pay17_eq (r : Fin 256) : k0_pay17 (F := Ideal) v11 v13 v35 v39 v69 (ix2 r 0) = within s r.val (first (s r)).val + base (first (s r)).val := by
  pointwise [k0_pay17]
  simp only [pay13_eq s v11 v35 h11 h35, pay16_eq s hs v11 v13 v35 v39 h11 h13 h35 h39]
  rw [sum_hit, h69]
  rfl

include hs h11 h13 h35 h39 h69 in
theorem pay18_eq (r : Fin 256) : k0_pay18 (F := Ideal) v11 v13 v35 v39 v69 (ix2 r 0) = within s r.val (second (s r)).val + base (second (s r)).val := by
  pointwise [k0_pay18]
  simp only [pay13_eq s v11 v35 h11 h35, pay14_eq s hs v11 v13 v39 h11 h13 h39, pay16_eq s hs v11 v13 v35 v39 h11 h13 h35 h39]
  rw [sum_hit, h69, if_neg (show ¬ (first (s r)).val = (lane (second (s r))).val from fun h => first_ne_second (s r) (Fin.ext h)), add_zero]
  rfl

include hs h11 h13 h35 h39 h69 in
theorem pay19_eq (l : Fin 128) : k0_pay19 (F := Ideal) v11 v13 v35 v39 v69 (ix2 0 l) = base l.val + ∑ x, put (s x) l.val := by
  pointwise [k0_pay19]
  simp only [pay15_eq s hs v11 v13 v35 v39 h11 h13 h35 h39]
  rw [h69]

end

/-- An expert's number as a float. -/
def number (e : Fin 16) : EReal := ((e.val : ℝ) : EReal)

theorem sitofp_expert (e : Fin 16) : (FloatOps.sitofp .f32 (BitVec.ofNat 32 e.val) : Ideal .f32) = number e := by
  show (((BitVec.ofNat 32 e.val).toInt : ℝ) : EReal) = _
  rw [toInt_small _ (by omega)]
  rfl

/-- A row of the record: the two experts, the two ranks and the two weights, and each weight sixteen times over. -/
def record (a b r1 r2 w1 w2 : EReal) (l : ℕ) : EReal :=
  if l = 0 then a else if l = 1 then b else if l = 2 then r1 else if l = 3 then r2 else if l = 4 then w1 else if l = 5 then w2
  else if 16 ≤ l ∧ l < 32 then w1 else if 32 ≤ l ∧ l < 48 then w2 else 0

theorem pay1_eq (v11 : IVec S256x128 32) (v35 v48 : IVec S256x1 32) (v52 v53 v74 v80 : FVec Ideal S256x1 .f32)
    (h11 : ∀ r l, v11 (ix2 r l) = BitVec.ofNat 32 l.val) (r : Fin 256) (l : Fin 128) (a b : Fin 16) (h35 : v35 (ix2 r 0) = BitVec.ofNat 32 a.val)
    (h48 : v48 (ix2 r 0) = BitVec.ofNat 32 b.val) :
    k0_pay1 (F := Ideal) v11 v52 v53 (k0_pay20 v11 v35 v48 v52 v74 v80) (k0_pay21 v11) (k0_pay22 v53) k0_pay23 (ix2 r l)
      = record (number a) (number b) (v74 (ix2 r 0)) (v80 (ix2 r 0)) (v52 (ix2 r 0)) (v53 (ix2 r 0)) l.val := by
  pointwise [k0_pay1, k0_pay20, k0_pay21, k0_pay22, k0_pay23]
  have hl : l.val < 2 ^ 31 := by omega
  have he (n : ℕ) (hn : n < 2 ^ 31) : IntOp.cmpi .eq (BitVec.ofNat 32 l.val) (BitVec.ofNat 32 n) = 1#1 ↔ l.val = n := by
    rw [cmpi_eq_one, small_inj _ _ hl hn]
  simp only [select_def, h11, h35, h48, sitofp_expert, andi_one, he 0 (by decide), he 1 (by decide), he 2 (by decide), he 3 (by decide), he 4 (by decide),
    he 5 (by decide), cmpi_sge_one l.val 16 hl (by decide), cmpi_sge_one l.val 32 hl (by decide), cmpi_slt_one l.val 32 hl (by decide),
    cmpi_slt_one l.val 48 hl (by decide)]
  unfold record
  have h := l.isLt
  generalize l.val = n at h
  split_ifs <;> first | omega | simp

end Cert.Proof.GatePay

end
-- ==== Proof.GateVal.lean ====
/-
  The gate's body: what a point leaves in its two results and in the running counts, read at an index of the argument arrays.
-/
module

public import Idealize.ShloMosaic.Lib.Pipeline.ValueKit
public import Idealize.ShloMosaic.Lib.Routing.OpsSet
public import proofs.«01_k».proof.Proof.Gen.GateIdeal.Value
public import proofs.«01_k».proof.Proof.GatePay

@[expose] public section

noncomputable section

namespace Cert.Proof.GateVal

open Cert.GateIdeal Cert.GateIdeal.Gen
open Idealize.ShloMosaic
open Idealize.ShloMosaic.TcCoe Idealize.SL.Sem
open Cert.Proof.GateMath Cert.Proof.GatePay
open scoped BigOperators

/-- Every lane's own number. -/
abbrev lanes : IVec S256x128 32 := iota .tc S256x128 32 [1] iota_S256x128_d1_w32

/-- The block of records, of the blocks that the body reads and of the counts so far. -/
abbrev metaOf (x0 : Vec Ideal S256x1024 .f32) (x1 : Vec Ideal S1024x128 .f32) (x2 : Vec Ideal S1x128 .f32) (b : Vec Ideal S1x128 .f32) : Vec Ideal S256x128 .f32 :=
  k0_pay1 lanes (k0_pay11 (k0_pay5 x0 x1 x2) (k0_pay7 x0 x1 x2)) (k0_pay12 (k0_pay5 x0 x1 x2) (k0_pay7 x0 x1 x2))
    (k0_pay20 lanes (k0_pay6 x0 x1 x2) (k0_pay9 lanes k0_pay3 (k0_pay7 x0 x1 x2)) (k0_pay11 (k0_pay5 x0 x1 x2) (k0_pay7 x0 x1 x2))
      (k0_pay17 lanes k0_pay3 (k0_pay6 x0 x1 x2) (k0_pay7 x0 x1 x2) b) (k0_pay18 lanes k0_pay3 (k0_pay6 x0 x1 x2) (k0_pay7 x0 x1 x2) b))
    (k0_pay21 lanes) (k0_pay22 (k0_pay12 (k0_pay5 x0 x1 x2) (k0_pay7 x0 x1 x2))) k0_pay23

/-- The counts after the block, of the counts before it. -/
abbrev baseOf (x0 : Vec Ideal S256x1024 .f32) (x1 : Vec Ideal S1024x128 .f32) (x2 : Vec Ideal S1x128 .f32) (b : Vec Ideal S1x128 .f32) : Vec Ideal S1x128 .f32 :=
  k0_pay19 lanes k0_pay3 (k0_pay6 x0 x1 x2) (k0_pay7 x0 x1 x2) b

theorem out0_A_3_eq (c : Dev nD) (i : grid0.Coords) (arg1 : Memref sig .tc .vmem S256x1024 .f32) (harg1 : arg1.IsWhole) (arg2 : Memref sig .tc .vmem S1024x128 .f32) (harg2 : arg2.IsWhole) (arg3 : Memref sig .tc .vmem S1x128 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S1x128 .f32) (harg6 : arg6.IsWhole) (hc0 : cond0_0 i)
    (x0 : Vec Ideal S256x1024 .f32) (x1 : Vec Ideal S1024x128 .f32) (x2 : Vec Ideal S1x128 .f32) :
    out0_A_3 c i arg1 harg1 arg2 harg2 arg3 harg3 arg4 harg4 arg5 harg5 arg6 harg6 hc0 x0 x1 x2 = metaOf x0 x1 x2 (k0_pay2 (F := Ideal)) := by
  frame_out

theorem out0_A_4_eq (c : Dev nD) (i : grid0.Coords) (arg1 : Memref sig .tc .vmem S256x1024 .f32) (harg1 : arg1.IsWhole) (arg2 : Memref sig .tc .vmem S1024x128 .f32) (harg2 : arg2.IsWhole) (arg3 : Memref sig .tc .vmem S1x128 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S1x128 .f32) (harg6 : arg6.IsWhole) (hc0 : cond0_0 i)
    (x0 : Vec Ideal S256x1024 .f32) (x1 : Vec Ideal S1024x128 .f32) (x2 : Vec Ideal S1x128 .f32) :
    out0_A_4 c i arg1 harg1 arg2 harg2 arg3 harg3 arg4 harg4 arg5 harg5 arg6 harg6 hc0 x0 x1 x2 = baseOf x0 x1 x2 (k0_pay2 (F := Ideal)) := by
  frame_out

theorem sout0_A_0_eq (c : Dev nD) (i : grid0.Coords) (arg1 : Memref sig .tc .vmem S256x1024 .f32) (harg1 : arg1.IsWhole) (arg2 : Memref sig .tc .vmem S1024x128 .f32) (harg2 : arg2.IsWhole) (arg3 : Memref sig .tc .vmem S1x128 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S1x128 .f32) (harg6 : arg6.IsWhole) (hc0 : cond0_0 i)
    (x0 : Vec Ideal S256x1024 .f32) (x1 : Vec Ideal S1024x128 .f32) (x2 : Vec Ideal S1x128 .f32) :
    sout0_A_0 c i arg1 harg1 arg2 harg2 arg3 harg3 arg4 harg4 arg5 harg5 arg6 harg6 hc0 x0 x1 x2 = baseOf x0 x1 x2 (k0_pay2 (F := Ideal)) := by
  frame_out

theorem out0_B_3_eq (c : Dev nD) (i : grid0.Coords) (arg1 : Memref sig .tc .vmem S256x1024 .f32) (harg1 : arg1.IsWhole) (arg2 : Memref sig .tc .vmem S1024x128 .f32) (harg2 : arg2.IsWhole) (arg3 : Memref sig .tc .vmem S1x128 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S1x128 .f32) (harg6 : arg6.IsWhole) (hc0 : ¬cond0_0 i)
    (x0 : Vec Ideal S256x1024 .f32) (x1 : Vec Ideal S1024x128 .f32) (x2 : Vec Ideal S1x128 .f32) (xs0 : Vec Ideal S1x128 .f32) :
    out0_B_3 c i arg1 harg1 arg2 harg2 arg3 harg3 arg4 harg4 arg5 harg5 arg6 harg6 hc0 x0 x1 x2 xs0 = metaOf x0 x1 x2 xs0 := by
  frame_out

theorem out0_B_4_eq (c : Dev nD) (i : grid0.Coords) (arg1 : Memref sig .tc .vmem S256x1024 .f32) (harg1 : arg1.IsWhole) (arg2 : Memref sig .tc .vmem S1024x128 .f32) (harg2 : arg2.IsWhole) (arg3 : Memref sig .tc .vmem S1x128 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S1x128 .f32) (harg6 : arg6.IsWhole) (hc0 : ¬cond0_0 i)
    (x0 : Vec Ideal S256x1024 .f32) (x1 : Vec Ideal S1024x128 .f32) (x2 : Vec Ideal S1x128 .f32) (xs0 : Vec Ideal S1x128 .f32) :
    out0_B_4 c i arg1 harg1 arg2 harg2 arg3 harg3 arg4 harg4 arg5 harg5 arg6 harg6 hc0 x0 x1 x2 xs0 = baseOf x0 x1 x2 xs0 := by
  frame_out

theorem sout0_B_0_eq (c : Dev nD) (i : grid0.Coords) (arg1 : Memref sig .tc .vmem S256x1024 .f32) (harg1 : arg1.IsWhole) (arg2 : Memref sig .tc .vmem S1024x128 .f32) (harg2 : arg2.IsWhole) (arg3 : Memref sig .tc .vmem S1x128 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S1x128 .f32) (harg6 : arg6.IsWhole) (hc0 : ¬cond0_0 i)
    (x0 : Vec Ideal S256x1024 .f32) (x1 : Vec Ideal S1024x128 .f32) (x2 : Vec Ideal S1x128 .f32) (xs0 : Vec Ideal S1x128 .f32) :
    sout0_B_0 c i arg1 harg1 arg2 harg2 arg3 harg3 arg4 harg4 arg5 harg5 arg6 harg6 hc0 x0 x1 x2 xs0 = baseOf x0 x1 x2 xs0 := by
  frame_out

/-! ## The padded weights and biases -/

theorem start_zero {s si u : Shape} {w : ℕ} (d : ScatterDims s si u) (idx : IVec si w) (h : ∀ x, (idx x).toInt = 0) (j : u.Idx) (a) : d.start j idx a = 0 := by
  unfold ScatterDims.start
  split
  · exact h _
  · rfl

theorem pad_weights {α : Type} (x : S1024x128.Idx → α) (idx : IVec S1 32) (h : ∀ x, (idx x).toInt = 0) (u : S1024x16.Idx → α) (d : Fin 1024) (e : Fin 16) :
    Host.scatter scatter_S1024x128_S1_S1024x16_01_n_1_0 (fun _ b => b) x idx u (ix2 d (lane e)) = u (ix2 d e) := by
  have hw : ∀ (j : S1024x16.Idx) (a : Fin 2), scatter_S1024x128_S1_S1024x16_01_n_1_0.window j a = (j a).val := fun j a => by
    match a with
    | ⟨0, _⟩ => rfl
    | ⟨1, _⟩ => rfl
  refine Routing.scatter_set_hit _ x idx u _ _ (fun k hk => congrArg u ?_) (ix2 d e) ?_
  · rw [Routing.resultIdx?_eq_some] at hk
    funext a
    apply Fin.ext
    have q := hk a
    rw [start_zero _ _ h, hw] at q
    match a with
    | ⟨0, _⟩ => exact Int.ofNat.inj ((zero_add _).symm.trans q)
    | ⟨1, _⟩ => exact Int.ofNat.inj ((zero_add _).symm.trans q)
  · rw [Routing.resultIdx?_eq_some]
    intro a
    rw [start_zero _ _ h, hw]
    match a with
    | ⟨0, _⟩ => exact zero_add _
    | ⟨1, _⟩ => exact zero_add _

theorem pad_biases {α : Type} (x : S1x128.Idx → α) (idx : IVec S2 32) (h : ∀ x, (idx x).toInt = 0) (u : S16.Idx → α) (e : Fin 16) :
    Host.scatter scatter_S1x128_S2_S16_0_0_01_0 (fun _ b => b) x idx u (ix2 0 (lane e)) = u (ix1 e) := by
  have hw0 : ∀ j : S16.Idx, scatter_S1x128_S2_S16_0_0_01_0.window j 0 = 0 := fun j => rfl
  have hw1 : ∀ j : S16.Idx, scatter_S1x128_S2_S16_0_0_01_0.window j 1 = (j 0).val := fun j => rfl
  refine Routing.scatter_set_hit _ x idx u _ _ (fun k hk => congrArg u ?_) (ix1 e) ?_
  · rw [Routing.resultIdx?_eq_some] at hk
    have q := hk 1
    rw [start_zero _ _ h, hw1] at q
    funext a
    apply Fin.ext
    match a with
    | ⟨0, _⟩ => exact Int.ofNat.inj ((zero_add _).symm.trans q)
  · rw [Routing.resultIdx?_eq_some]
    intro a
    rw [start_zero _ _ h]
    match a with
    | ⟨0, _⟩ => exact congrArg (fun n : ℕ => (0 : ℤ) + n) (hw0 _)
    | ⟨1, _⟩ => exact (congrArg (fun n : ℕ => (0 : ℤ) + n) (hw1 _)).trans (zero_add _)

variable (m : (ℓ : Loc nD τ sig) → Buf (Elt Ideal) ℓ)

theorem V_main_v2 (c : Dev nD) : V m c main_v2 = Host.scatter scatter_S1024x128_S1_S1024x16_01_n_1_0 (fun _ b => b)
    (broadcastInDim S1024x128 ![] bcast_S_S1024x128 (constant (F := Ideal) S_ .f32 0x00000000#32)) (broadcastInDim S1 ![] bcast_S_S1 (constantI S_ 32 0#32))
    (m ((c : Thread nD τ).loc main_arg1)) := by
  show StableHlo.after hostOps0 _ _ = _
  after_results_simp
theorem V_main_v7 (c : Dev nD) : V m c main_v7 = Host.scatter scatter_S1x128_S2_S16_0_0_01_0 (fun _ b => b)
    (broadcastInDim S1x128 ![] bcast_S_S1x128 (constant (F := Ideal) S_ .f32 0x00000000#32))
    (concatenate S2 0 [⟨S1, broadcastInDim S1 ![] bcast_S_S1 (constantI S_ 32 0#32)⟩, ⟨S1, broadcastInDim S1 ![] bcast_S_S1 (constantI S_ 32 0#32)⟩] concatenates_S1_S1_S2_d0)
    (m ((c : Thread nD τ).loc main_arg2)) := by
  show StableHlo.after hostOps0 _ _ = _
  after_results_simp; rfl

theorem coords_val (t : Fin grid0.N) : (grid0.coords t 0).val = t.val := (by decide +kernel : ∀ t : Fin grid0.N, (grid0.coords t 0).val = t.val) t

/-- The rows that grid point `t` reads. -/
theorem iblk0 (c : Dev nD) (t : Fin cfg0.N) (p : Fin 8192) (r : Fin 256) (hp : p.val = 256 * t.val + r.val) (d : Fin 1024) :
    iblk m c 0 t (ix2 r d) = m ((c : Thread nD τ).loc main_arg0) (ix2 p d) := by
  blk_simp [iblk]
  refine (congrFun (V_main_arg0 m c) _).trans (congrArg _ (funext fun a => Fin.ext ?_))
  refine (Pipeline.Window.rect_emb_val (cfg0.win 0) t (ix2 r d) a rfl).trans ?_
  match a with
  | ⟨0, _⟩ =>
    have ht : t.val < 32 := t.isLt
    show (BitVec.ofNat 32 (grid0.coords t 0).val).toNat * 256 + r.val = p.val
    rw [coords_val, BitVec.toNat_ofNat]
    omega
  | ⟨1, _⟩ => exact Nat.zero_add d.val

/-- The weights that every grid point reads. -/
theorem iblk1 (c : Dev nD) (t : Fin cfg0.N) (d : Fin 1024) (e : Fin 16) : iblk m c 1 t (ix2 d (lane e)) = m ((c : Thread nD τ).loc main_arg1) (ix2 d e) := by
  blk_simp [iblk]
  refine ((congrFun (V_main_v2 m c) _).trans (congrArg _ (funext fun a => Fin.ext ?_))).trans (pad_weights _ _ (fun _ => rfl) (m ((c : Thread nD τ).loc main_arg1)) d e)
  refine (Pipeline.Window.rect_emb_val (cfg0.win 1) t (ix2 d (lane e)) a rfl).trans ?_
  match a with
  | ⟨0, _⟩ => exact Nat.zero_add d.val
  | ⟨1, _⟩ => exact Nat.zero_add (lane e).val

theorem pair_zero : ∀ x, (concatenate S2 0 [⟨S1, broadcastInDim S1 ![] bcast_S_S1 (constantI S_ 32 0#32)⟩, ⟨S1, broadcastInDim S1 ![] bcast_S_S1 (constantI S_ 32 0#32)⟩] concatenates_S1_S1_S2_d0 x).toInt = 0 := by
  refine concatenate_forall (P := fun v : BitVec 32 => v.toInt = 0) S2 0 _ _ fun q hq i => ?_
  simp only [List.mem_cons, List.not_mem_nil, or_false, or_self] at hq
  subst hq
  rfl

/-- The biases that every grid point reads. -/
theorem iblk2 (c : Dev nD) (t : Fin cfg0.N) (e : Fin 16) : iblk m c 2 t (ix2 0 (lane e)) = m ((c : Thread nD τ).loc main_arg2) (ix1 e) := by
  blk_simp [iblk]
  refine ((congrFun (V_main_v7 m c) _).trans (congrArg _ (funext fun a => Fin.ext ?_))).trans (pad_biases _ _ pair_zero (m ((c : Thread nD τ).loc main_arg2)) e)
  refine (Pipeline.Window.rect_emb_val (cfg0.win 2) t (ix2 0 (lane e)) a rfl).trans ?_
  match a with
  | ⟨0, _⟩ => rfl
  | ⟨1, _⟩ => exact Nat.zero_add (lane e).val

end Cert.Proof.GateVal
-- ==== Proof.GateFold.lean ====
/-
  The gate's results at an index: every token's record, and the count of every expert, of the tokens' scores.
-/
module

public import proofs.«01_k».proof.Proof.GateVal

@[expose] public section

noncomputable section

namespace Cert.Proof.GateFold

open Cert.GateIdeal Cert.GateIdeal.Gen Cert.GateIdeal.Value
open Idealize.ShloMosaic
open Idealize.ShloMosaic.TcCoe Idealize.SL.Sem
open Cert.Proof.GateMath Cert.Proof.GatePay Cert.Proof.GateVal
open scoped BigOperators

/-- How often the first `k` tokens choose expert `n`. -/
def tally (S : ℕ → Fin 16 → EReal) (k n : ℕ) : EReal := ∑ x ∈ Finset.range k, put (S x) n

theorem tally_add (S : ℕ → Fin 16 → EReal) (a k n : ℕ) : tally S (a + k) n = tally S a n + ∑ x ∈ Finset.range k, put (S (a + x)) n := Finset.sum_range_add _ _ _

theorem within_eq (S : ℕ → Fin 16 → EReal) (a k n : ℕ) (h : k ≤ 256) :
    within (fun r => S (a + r.val)) k n = ∑ x ∈ Finset.range k, put (S (a + x)) n := by
  unfold within
  rw [Fin.sum_univ_eq_sum_range (fun x => if x < k then put (S (a + x)) n else 0) 256, ← Finset.sum_filter]
  refine Finset.sum_congr (Finset.ext fun x => ?_) fun _ _ => rfl
  rw [Finset.mem_filter, Finset.mem_range, Finset.mem_range]
  omega

/-- A token's record, of all the scores. -/
def entry (S : ℕ → Fin 16 → EReal) (t l : ℕ) : EReal :=
  record (number (first (S t))) (number (second (S t))) (tally S t (first (S t)).val) (tally S t (second (S t)).val)
    (weight (S t) (first (S t))) (weight (S t) (second (S t))) l

section
variable (x0 : Vec Ideal S256x1024 .f32) (x1 : Vec Ideal S1024x128 .f32) (x2 : Vec Ideal S1x128 .f32) (b : Vec Ideal S1x128 .f32)
  (W : Fin 1024 → Fin 16 → EReal) (bias : Fin 16 → EReal) (X : ℕ → Fin 1024 → EReal) (a : ℕ)
  (hW : ∀ d e, x1 (ix2 d (lane e)) = W d e) (hb : ∀ e, x2 (ix2 0 (lane e)) = bias e) (hX : ∀ r d, x0 (ix2 r d) = X (a + r.val) d)
  (hf : ∀ t e, Fin' (logit (X t) W bias e))

/-- Every token's scores. -/
def scores (W : Fin 1024 → Fin 16 → EReal) (bias : Fin 16 → EReal) (X : ℕ → Fin 1024 → EReal) (t : ℕ) : Fin 16 → EReal := softmax fun e => logit (X t) W bias e

include hf in
theorem scores_nonneg (t : ℕ) (e : Fin 16) : 0 ≤ scores W bias X t e := softmax_nonneg _ (hf t) e

include hW hb hX hf in
theorem scores_at (r : Fin 256) (l : Fin 128) : k0_pay4 (F := Ideal) x0 x1 x2 (ix2 r l) = wide (scores W bias X (a + r.val)) l := by
  refine pay4_eq x0 x1 x2 W bias hW hb r _ (fun e => ?_) (hf _) l
  rw [funext (hX r)]

theorem lanes_at (r : Fin 256) (l : Fin 128) : lanes (ix2 r l) = BitVec.ofNat 32 l.val := by pointwise

theorem lt_at (r : Fin 256) (l : Fin 128) : k0_pay3 (ix2 r l) = IntOp.cmpi .slt (BitVec.ofNat 32 l.val) 16#32 := by pointwise [k0_pay3]

variable (hbase : ∀ l, b (ix2 0 l) = tally (scores W bias X) a l.val)

include hW hb hX hf hbase in
theorem base_at (l : Fin 128) : baseOf x0 x1 x2 b (ix2 0 l) = tally (scores W bias X) (a + 256) l.val := by
  have hs := fun (r : Fin 256) e => scores_nonneg W bias X hf (a + r.val) e
  have h4 := scores_at x0 x1 x2 W bias X a hW hb hX hf
  refine (pay19_eq (fun r : Fin 256 => scores W bias X (a + r.val)) hs lanes k0_pay3 _ _ lanes_at lt_at (pay6_eq x0 x1 x2 _ hs h4) (pay7_eq x0 x1 x2 _ hs h4) b _ hbase l).trans ?_
  rw [tally_add]
  exact congrArg _ (Fin.sum_univ_eq_sum_range (fun x => put (scores W bias X (a + x)) l.val) 256)

include hW hb hX hf hbase in
theorem meta_at (r : Fin 256) (l : Fin 128) : metaOf x0 x1 x2 b (ix2 r l) = entry (scores W bias X) (a + r.val) l.val := by
  have hs := fun (r : Fin 256) e => scores_nonneg W bias X hf (a + r.val) e
  have h4 := scores_at x0 x1 x2 W bias X a hW hb hX hf
  have h5 := pay5_eq x0 x1 x2 _ hs h4
  have h6 := pay6_eq x0 x1 x2 _ hs h4
  have h7 := pay7_eq x0 x1 x2 _ hs h4
  refine (pay1_eq lanes _ _ _ _ _ _ lanes_at r l (first (scores W bias X (a + r.val))) (second (scores W bias X (a + r.val))) (h6 r)
    (pay9_eq _ hs lanes k0_pay3 _ lanes_at lt_at h7 r)).trans ?_
  rw [pay17_eq _ hs lanes k0_pay3 _ _ lanes_at lt_at h6 h7 b _ hbase, pay18_eq _ hs lanes k0_pay3 _ _ lanes_at lt_at h6 h7 b _ hbase,
    pay11_eq _ hs _ _ h5 h7, pay12_eq _ hs _ _ h5 h7, within_eq _ _ _ _ (by omega), within_eq _ _ _ _ (by omega)]
  unfold entry
  rw [tally_add, tally_add, add_comm (tally _ _ _), add_comm (tally _ _ _)]

end

theorem zero_at (W : Fin 1024 → Fin 16 → EReal) (bias : Fin 16 → EReal) (X : ℕ → Fin 1024 → EReal) (l : Fin 128) :
    k0_pay2 (F := Ideal) (ix2 0 l) = tally (scores W bias X) 0 l.val := by
  pointwise [k0_pay2]
  rfl

variable (m : (ℓ : Loc nD τ sig) → Buf (Elt Ideal) ℓ)

/-- The weights, the biases and the tokens' rows that the call is given, the rows over all the natural numbers. -/
def Wof (c : Dev nD) (d : Fin 1024) (e : Fin 16) : EReal := m ((c : Thread nD τ).loc main_arg1) (ix2 d e)
def Bof (c : Dev nD) (e : Fin 16) : EReal := m ((c : Thread nD τ).loc main_arg2) (ix1 e)
def Xof (c : Dev nD) (t : ℕ) (d : Fin 1024) : EReal := m ((c : Thread nD τ).loc main_arg0) (ix2 (Fin.ofNat 8192 t) d)

/-- The scores of the call's tokens. -/
def Sof (c : Dev nD) : ℕ → Fin 16 → EReal := scores (Wof m c) (Bof m c) (Xof m c)

variable (c : Dev nD) (hf : ∀ t e, Fin' (logit (Xof m c t) (Wof m c) (Bof m c) e))

theorem rows_at (t : Fin cfg0.N) (r : Fin 256) (d : Fin 1024) : iblk m c 0 t (ix2 r d) = Xof m c (256 * t.val + r.val) d := by
  have ht : t.val < 32 := t.isLt
  exact iblk0 m c t (Fin.ofNat 8192 (256 * t.val + r.val)) r (Nat.mod_eq_of_lt (by omega)) d

include hf in
/-- What a grid point leaves. -/
theorem point (n : ℕ) (hn : n < cfg0.N) :
    (∀ r l, (outsAt0 m c n hn).1 (ix2 r l) = entry (Sof m c) (256 * n + r.val) l.val)
      ∧ (∀ l, (outsAt0 m c n hn).2.1 (ix2 0 l) = tally (Sof m c) (256 * n + 256) l.val)
      ∧ ∀ l, (outsAt0 m c n hn).2.2 (ix2 0 l) = tally (Sof m c) (256 * n + 256) l.val := by
  induction n with
  | zero =>
    have e := outsAt0_A m c ⟨0, hn⟩ (Nat.zero_mod _)
    rw [out0_A_3_eq, out0_A_4_eq, sout0_A_0_eq] at e
    rw [e]
    have hb := base_at _ _ _ _ (Wof m c) (Bof m c) (Xof m c) _ (iblk1 m c ⟨0, hn⟩) (iblk2 m c ⟨0, hn⟩) (rows_at m c ⟨0, hn⟩) hf (zero_at (Wof m c) (Bof m c) (Xof m c))
    exact ⟨meta_at _ _ _ _ (Wof m c) (Bof m c) (Xof m c) _ (iblk1 m c ⟨0, hn⟩) (iblk2 m c ⟨0, hn⟩) (rows_at m c ⟨0, hn⟩) hf (zero_at (Wof m c) (Bof m c) (Xof m c)), hb, hb⟩
  | succ n ih =>
    have hN : n + 1 < 32 := hn
    have e := outsAt0_B m c ⟨n + 1, hn⟩ (show ¬ (n + 1) % 32 = 0 by omega)
    rw [out0_B_3_eq, out0_B_4_eq, sout0_B_0_eq] at e
    rw [e]
    have hl := (ih (by omega)).2.2
    have hb := base_at _ _ _ _ (Wof m c) (Bof m c) (Xof m c) _ (iblk1 m c ⟨n + 1, hn⟩) (iblk2 m c ⟨n + 1, hn⟩) (rows_at m c ⟨n + 1, hn⟩) hf hl
    exact ⟨meta_at _ _ _ _ (Wof m c) (Bof m c) (Xof m c) _ (iblk1 m c ⟨n + 1, hn⟩) (iblk2 m c ⟨n + 1, hn⟩) (rows_at m c ⟨n + 1, hn⟩) hf hl, hb, hb⟩

include hf in
theorem G3_at (t : Fin 8192) (l : Fin 128) : G3 m c (ix2 t l) = entry (Sof m c) t.val l.val := by
  have hp : pt3Of (ix2 t l) = t.val / 256 := by
    show 1 * (t.val / 256 - 0) + 1 * (l.val / 128 - 0) = _
    omega
  unfold G3
  have hn : t.val / 256 < cfg0.N := by
    show t.val / 256 < 32
    omega
  rw [dif_pos (hp.symm ▸ hn : pt3Of (ix2 t l) < cfg0.N), ← outsAt0_sweep m c (pt3Of (ix2 t l)) (hp.symm ▸ hn)]
  have hl : loc3Of (ix2 t l) = ix2 (⟨t.val % 256, Nat.mod_lt _ (by decide)⟩ : Fin 256) l := by
    funext a
    apply Fin.ext
    match a with
    | ⟨0, _⟩ => rfl
    | ⟨1, _⟩ => exact Nat.mod_eq_of_lt l.isLt
  rw [hl]
  refine ((point m c hf _ _).1 _ l).trans ?_
  rw [hp]
  show entry _ (256 * (t.val / 256) + t.val % 256) _ = _
  rw [Nat.div_add_mod]

include hf in
theorem G4_at (l : Fin 128) : G4 m c (ix2 0 l) = tally (Sof m c) 8192 l.val := by
  rw [G4_last, ← outsAt0_sweep m c 31 (by decide)]
  exact (point m c hf 31 (by decide)).2.1 l

end Cert.Proof.GateFold
-- ==== Proof.GateRef.lean ====
/-
  The gate's reference at an index: the same records and counts, of the same scores.
-/
module

public import Idealize.ShloMosaic.Lib.Pointwise
public import Idealize.ShloMosaic.Lib.SortFacts
public import proofs.«01_k».proof.Proof.Gen.GateRefIdeal.Run
public import proofs.«01_k».proof.Proof.GateFold

@[expose] public section

noncomputable section

namespace Cert.Proof.GateRef

open Cert.GateRefIdeal Cert.GateRefIdeal.Gen
open Idealize.ShloMosaic
open Idealize.ShloMosaic.TcCoe
open Cert.Proof.GateMath Cert.Proof.GatePay Cert.Proof.GateFold
open scoped BigOperators

/-- The logits: the product with the weights, the biases added. -/
def zOf (X : FVec Ideal S8192x1024 .f32) (W : FVec Ideal S1024x16 .f32) (b : FVec Ideal S16 .f32) : FVec Ideal S8192x16 .f32 :=
  addf (Host.dotGeneral dot_S8192x1024_S1024x16_S8192x16_1_0_0_1_n_n none X W)
    (broadcastInDim S8192x16 ![0, 1] bcast_S1x16_S8192x16_0_1 (broadcastInDim S1x16 ![1] bcast_S16_S1x16_1 b))

/-- The exponentials of the logits, each row's greatest subtracted. -/
def eOf (z : FVec Ideal S8192x16 .f32) : FVec Ideal S8192x16 .f32 :=
  Host.exp (subf z (broadcastInDim S8192x16 ![0, 1] bcast_S8192x1_S8192x16_0_1 (broadcastInDim S8192x1 ![0] bcast_S8192_S8192x1_0
    (maximumf (broadcastInDim S8192 ![] bcast_S_S8192 (constant S_ .f32 0xFF800000#32)) (Host.reduce FloatOps.maximumf z (constant S_ .f32 0xFF800000#32) reducesTo_S8192x16_S8192_d1 h_S_)))))

/-- The softmax of the logits. -/
def pOf (z : FVec Ideal S8192x16 .f32) : FVec Ideal S8192x16 .f32 :=
  Host.divf (eOf z) (broadcastInDim S8192x16 ![0, 1] bcast_S8192x1_S8192x16_0_1 (broadcastInDim S8192x1 ![0] bcast_S8192_S8192x1_0
    (Host.reduceAdd (eOf z) (constant S_ .f32 0x00000000#32) reducesTo_S8192x16_S8192_d1 h_S_)))

/-- The two greatest scores and their experts. -/
def topOf (p : FVec Ideal S8192x16 .f32) : FVec Ideal S8192x2 .f32 × IVec S8192x2 32 :=
  Host.topK S8192x2 1 (FloatOps.cmpfTotal .gt) p sliceFits_S8192x16_S8192x2

/-- The two weights. -/
def wOf (v : FVec Ideal S8192x2 .f32) : FVec Ideal S8192x2 .f32 :=
  Host.divf v (broadcastInDim S8192x2 ![0, 1] bcast_S8192x1_S8192x2_0_1
    (addf (broadcastInDim S8192x1 ![0] bcast_S8192_S8192x1_0 (Host.reduceAdd v (constant S_ .f32 0x00000000#32) reducesTo_S8192x2_S8192_d1 h_S_))
      (broadcastInDim S8192x1 ![] bcast_S_S8192x1 (constant S_ .f32 0x322BCC77#32))))

/-- The experts in one row. -/
def slotsOf (i : IVec S8192x2 32) : IVec S16384 32 := shapeCast _ i shapeCasts_S8192x2_S16384

/-- Which slots come before which with the same expert. -/
def beforeOf (s : IVec S16384 32) : IVec S16384x16384 1 :=
  andi (cmpi .eq (broadcastInDim S16384x16384 ![0, 1] bcast_S1x16384_S16384x16384_0_1 (broadcastInDim S1x16384 ![1] bcast_S16384_S1x16384_1 s))
      (broadcastInDim S16384x16384 ![0, 1] bcast_S16384x1_S16384x16384_0_1 (broadcastInDim S16384x1 ![0] bcast_S16384_S16384x1_0 s)))
    (cmpi .slt (broadcastInDim S16384x16384 ![0, 1] bcast_S1x16384_S16384x16384_0_1 (broadcastInDim S1x16384 ![1] bcast_S16384_S1x16384_1 (iotaInDim S16384 32 0)))
      (broadcastInDim S16384x16384 ![0, 1] bcast_S16384x1_S16384x16384_0_1 (broadcastInDim S16384x1 ![0] bcast_S16384_S16384x1_0 (iotaInDim S16384 32 0))))

/-- How many. -/
def flatRankOf (s : IVec S16384 32) : FVec Ideal S16384 .f32 :=
  Host.reduceAdd (uitofp .f32 (beforeOf s)) (constant S_ .f32 0x00000000#32) reducesTo_S16384x16384_S16384_d1 h_S_

def rankOf (s : IVec S16384 32) : FVec Ideal S8192x2 .f32 := shapeCast _ (flatRankOf s) shapeCasts_S16384_S8192x2

/-- How many slots every lane's number has. -/
def countOf (s : IVec S16384 32) : FVec Ideal S1x128 .f32 :=
  broadcastInDim S1x128 ![1] bcast_S128_S1x128_1 (Host.reduceAdd (uitofp .f32 (cmpi .eq
    (broadcastInDim S16384x128 ![0, 1] bcast_S16384x1_S16384x128_0_1 (broadcastInDim S16384x1 ![0] bcast_S16384_S16384x1_0 s))
    (broadcastInDim S16384x128 ![0, 1] bcast_S1x128_S16384x128_0_1 (broadcastInDim S1x128 ![1] bcast_S128_S1x128_1 (iotaInDim S128 32 0)))))
    (constant S_ .f32 0x00000000#32) reducesTo_S16384x128_S128_d0 h_S_)

/-- The weights repeated. -/
def repeatOf (w : FVec Ideal S8192x2 .f32) : FVec Ideal S8192x32 .f32 := shapeCast _ (broadcastInDim S8192x2x16 ![0, 1] bcast_S8192x2_S8192x2x16_0_1 w) shapeCasts_S8192x2x16_S8192x32

/-- The records. -/
def metaOf (i : IVec S8192x2 32) (r w : FVec Ideal S8192x2 .f32) (u : FVec Ideal S8192x32 .f32) : FVec Ideal S8192x128 .f32 :=
  concatenate S8192x128 1 [⟨S8192x2, sitofp .f32 i⟩, ⟨S8192x2, r⟩, ⟨S8192x2, w⟩, ⟨S8192x10, broadcastInDim S8192x10 ![] bcast_S_S8192x10 (constant (F := Ideal) S_ .f32 0x00000000#32)⟩,
    ⟨S8192x32, u⟩, ⟨S8192x80, broadcastInDim S8192x80 ![] bcast_S_S8192x80 (constant (F := Ideal) S_ .f32 0x00000000#32)⟩]
    concatenates_S8192x2_S8192x2_S8192x2_S8192x10_S8192x32_S8192x80_S8192x128_d1

section
variable (m : (ℓ : Loc nD τ sig) → Buf (Elt Ideal) ℓ) (c : Dev nD)

abbrev tops : FVec Ideal S8192x2 .f32 × IVec S8192x2 32 :=
  topOf (pOf (zOf (m ((c.tc : Thread nD τ).loc main_arg0)) (m ((c.tc : Thread nD τ).loc main_arg1)) (m ((c.tc : Thread nD τ).loc main_arg2))))

set_option maxRecDepth 8192 in
theorem res_eq : Value.res_main_v51 m c = metaOf (tops m c).2 (rankOf (slotsOf (tops m c).2)) (wOf (tops m c).1) (repeatOf (wOf (tops m c).1)) := rfl
end

theorem zOf_at (X : FVec Ideal S8192x1024 .f32) (W : FVec Ideal S1024x16 .f32) (b : FVec Ideal S16 .f32) (t : Fin 8192) (e : Fin 16) :
    zOf X W b (ix2 t e) = logit (fun d => X (ix2 t d)) (fun d e => W (ix2 d e)) (fun e => b (ix1 e)) e := by
  pointwise [zOf]
  rfl

theorem eOf_at (z : FVec Ideal S8192x16 .f32) (t : Fin 8192) (e : Fin 16) : eOf z (ix2 t e) = Ideal.exp (z (ix2 t e) - peak fun e => z (ix2 t e)) := by
  pointwise [eOf]
  rw [ninf_eq, max_eq_right bot_le]
  rfl

theorem pOf_at (z : FVec Ideal S8192x16 .f32) (t : Fin 8192) (e : Fin 16) : pOf z (ix2 t e) = softmax (fun e => z (ix2 t e)) e := by
  pointwise [pOf]
  simp only [eOf_at]
  rfl

theorem cmp_before (x y : EReal) : (FloatOps.cmpfTotal (F := Ideal) (φ := .f32) .gt x y == 1#1) = decide (y < x) := by
  show (BitVec.ofBool (decide (y < x)) == 1#1) = decide (y < x)
  cases decide (y < x) <;> rfl

theorem along_at (t : Fin 8192) (q k : Fin 16) (h : 1 < S8192x16.rank) : (ix2 t q : S8192x16.Idx).along ⟨1, h⟩ k = ix2 t k := by
  funext a
  match a with
  | ⟨0, _⟩ => rfl
  | ⟨1, _⟩ => rfl

theorem sort2_at {α β : Type} (cmp : α × β → α × β → BitVec 1) (x : S8192x16.Idx → α) (y : S8192x16.Idx → β) (t : Fin 8192) (q : Fin 16) :
    (Host.sort2 S8192x16 1 cmp x y).1 (ix2 t q) = x (ix2 t (sortedFrom (fun k k' => cmp (x (ix2 t k), y (ix2 t k)) (x (ix2 t k'), y (ix2 t k')) == 1#1) q))
      ∧ (Host.sort2 S8192x16 1 cmp x y).2 (ix2 t q) = y (ix2 t (sortedFrom (fun k k' => cmp (x (ix2 t k), y (ix2 t k)) (x (ix2 t k'), y (ix2 t k')) == 1#1) q)) := by
  have h : 1 < S8192x16.rank := by decide
  have hf : (fun k k' : Fin 16 => cmp (x ((ix2 t q : S8192x16.Idx).along ⟨1, h⟩ k), y ((ix2 t q : S8192x16.Idx).along ⟨1, h⟩ k))
      (x ((ix2 t q : S8192x16.Idx).along ⟨1, h⟩ k'), y ((ix2 t q : S8192x16.Idx).along ⟨1, h⟩ k')) == 1#1)
      = fun k k' => cmp (x (ix2 t k), y (ix2 t k)) (x (ix2 t k'), y (ix2 t k')) == 1#1 := by
    funext k k'
    rw [along_at, along_at]
  unfold Host.sort2
  rw [dif_pos h]
  rw [← hf]
  exact ⟨congrArg x (along_at t q _ h), congrArg y (along_at t q _ h)⟩

theorem topOf_at (p : FVec Ideal S8192x16 .f32) (t : Fin 8192) (k : Fin 2) :
    (topOf p).1 (ix2 t k) = p (ix2 t (pick (fun e => p (ix2 t e)) (k.castLE (by decide))))
      ∧ (topOf p).2 (ix2 t k) = BitVec.ofNat 32 (pick (fun e => p (ix2 t e)) (k.castLE (by decide))).val := by
  have hb : (fun k k' : Fin 16 => FloatOps.cmpfTotal (F := Ideal) (φ := .f32) .gt (p (ix2 t k)) (p (ix2 t k')) == 1#1) = fun a b => decide (p (ix2 t b) < p (ix2 t a)) :=
    funext fun a => funext fun b => cmp_before _ _
  have hj : (fun a => (⟨0 + ((ix2 t k : S8192x2.Idx) (a.cast sliceFits_S8192x16_S8192x2.1.symm)).val,
      Nat.lt_of_lt_of_le (Nat.add_lt_add_left ((ix2 t k : S8192x2.Idx) _).isLt _) (sliceFits_S8192x16_S8192x2.2 a)⟩ : Fin (S8192x16.size a))) = (ix2 t (k.castLE (by decide)) : S8192x16.Idx) := by
    funext a
    apply Fin.ext
    match a with
    | ⟨0, _⟩ => exact Nat.zero_add t.val
    | ⟨1, _⟩ => exact Nat.zero_add k.val
  unfold pick
  rw [← hb]
  unfold topOf Host.topK extractStridedSlice
  dsimp only
  rw [hj]
  have e := sort2_at (fun l r : Ideal .f32 × BitVec 32 => FloatOps.cmpfTotal (F := Ideal) (φ := .f32) .gt l.1 r.1) p
    (fun i => if hd : 1 < S8192x16.rank then iotaInDim S8192x16 32 ⟨1, hd⟩ i else 0#32) t (k.castLE (by decide))
  dsimp only at e
  refine ⟨e.1, e.2.trans ?_⟩
  generalize sortedFrom _ _ = q
  rfl

theorem wOf_at (v : FVec Ideal S8192x2 .f32) (t : Fin 8192) (k : Fin 2) :
    wOf v (ix2 t k) = Ideal.div (v (ix2 t k)) (v (ix2 t 0) + v (ix2 t 1) + Ideal.ofBits .f32 0x322BCC77#32) := by
  pointwise [wOf]
  rw [Fin.sum_univ_two]

theorem slotsOf_at (i : IVec S8192x2 32) (j : Fin 16384) : slotsOf i (ix1 j) = i (ix2 ⟨j.val / 2, by omega⟩ ⟨j.val % 2, by omega⟩) := by
  pointwise [slotsOf]

theorem flatRankOf_at (s : IVec S16384 32) (j : Fin 16384) :
    flatRankOf s (ix1 j) = ∑ x : Fin 16384, if s (ix1 x) = s (ix1 j) ∧ x.val < j.val then (1 : EReal) else 0 := by
  pointwise [flatRankOf, beforeOf]
  refine Finset.sum_congr rfl fun x _ => ?_
  rw [uitofp_bit]
  refine if_congr ?_ rfl rfl
  rw [andi_one, cmpi_eq_one, cmpi_slt_one _ _ (by omega) (by omega)]

theorem rankOf_at (s : IVec S16384 32) (t : Fin 8192) (k : Fin 2) : rankOf s (ix2 t k) = flatRankOf s (ix1 ⟨2 * t.val + k.val, by omega⟩) := by
  pointwise [rankOf]
  exact congrArg (fun j => flatRankOf s (ix1 j)) (Fin.ext (congrArg (· + k.val) (Nat.mul_comm _ _)))

theorem countOf_at (s : IVec S16384 32) (l : Fin 128) :
    countOf s (ix2 0 l) = ∑ x : Fin 16384, if s (ix1 x) = BitVec.ofNat 32 l.val then (1 : EReal) else 0 := by
  pointwise [countOf]
  refine Finset.sum_congr rfl fun x _ => ?_
  rw [uitofp_bit]
  exact if_congr (cmpi_eq_one _ _) rfl rfl

theorem repeatOf_at (w : FVec Ideal S8192x2 .f32) (t : Fin 8192) (l : Fin 32) : repeatOf w (ix2 t l) = w (ix2 t ⟨l.val / 16, by omega⟩) := by
  pointwise [repeatOf]

/-- The slots of the first `t` tokens that hold expert `n`. -/
theorem slots_tally (S : ℕ → Fin 16 → EReal) (f : ℕ → ℕ) (h0 : ∀ t, f (2 * t) = (first (S t)).val) (h1 : ∀ t, f (2 * t + 1) = (second (S t)).val) (t n : ℕ) :
    ∑ x ∈ Finset.range (2 * t), (if f x = n then (1 : EReal) else 0) = tally S t n := by
  induction t with
  | zero => rfl
  | succ t ih =>
    rw [Nat.mul_succ, Finset.sum_range_succ, Finset.sum_range_succ, ih, h0, h1, add_assoc]
    exact (Finset.sum_range_succ _ _).symm

/-- The record's parts side by side. -/
theorem layout (l : ℕ) (hl : l < 128) (a1 a2 a3 a4 a5 a6 : EReal) :
    (if l < 2 then (if l = 0 then a1 else a2) else if l - 2 < 2 then (if l - 2 = 0 then a3 else a4) else if l - 2 - 2 < 2 then (if l - 2 - 2 = 0 then a5 else a6)
      else if l - 2 - 2 - 2 < 10 then 0 else if l - 2 - 2 - 2 - 10 < 32 then (if (l - 2 - 2 - 2 - 10) / 16 = 0 then a5 else a6) else 0) = record a1 a2 a3 a4 a5 a6 l := by
  by_cases h0 : l = 0
  · subst h0; rfl
  by_cases h1 : l = 1
  · subst h1; rfl
  by_cases h2 : l = 2
  · subst h2; rfl
  by_cases h3 : l = 3
  · subst h3; rfl
  by_cases h4 : l = 4
  · subst h4; rfl
  by_cases h5 : l = 5
  · subst h5; rfl
  unfold record
  rw [if_neg (show ¬ l < 2 by omega), if_neg (show ¬ l - 2 < 2 by omega), if_neg (show ¬ l - 2 - 2 < 2 by omega), if_neg (show ¬ l = 0 by omega), if_neg (show ¬ l = 1 by omega), if_neg (show ¬ l = 2 by omega), if_neg (show ¬ l = 3 by omega), if_neg (show ¬ l = 4 by omega), if_neg (show ¬ l = 5 by omega)]
  by_cases h6 : l < 16
  · rw [if_pos (show l - 2 - 2 - 2 < 10 by omega), if_neg (show ¬ (16 ≤ l ∧ l < 32) by omega), if_neg (show ¬ (32 ≤ l ∧ l < 48) by omega)]
  rw [if_neg (show ¬ l - 2 - 2 - 2 < 10 by omega)]
  by_cases h7 : l < 32
  · rw [if_pos (show l - 2 - 2 - 2 - 10 < 32 by omega), if_pos (show (l - 2 - 2 - 2 - 10) / 16 = 0 by omega), if_pos (show 16 ≤ l ∧ l < 32 by omega)]
  rw [if_neg (show ¬ (16 ≤ l ∧ l < 32) by omega)]
  by_cases h8 : l < 48
  · rw [if_pos (show l - 2 - 2 - 2 - 10 < 32 by omega), if_neg (show ¬ (l - 2 - 2 - 2 - 10) / 16 = 0 by omega), if_pos (show 32 ≤ l ∧ l < 48 by omega)]
  · rw [if_neg (show ¬ l - 2 - 2 - 2 - 10 < 32 by omega), if_neg (show ¬ (32 ≤ l ∧ l < 48) by omega)]

section
variable (p : FVec Ideal S8192x16 .f32) (S : ℕ → Fin 16 → EReal) (hp : ∀ (t : Fin 8192) e, p (ix2 t e) = S t.val e)

/-- The expert in slot `j`. -/
def choice (S : ℕ → Fin 16 → EReal) (j : ℕ) : ℕ := (if j % 2 = 0 then first (S (j / 2)) else second (S (j / 2))).val

theorem choice_lt (j : ℕ) : choice S j < 16 := Fin.isLt _
theorem choice_even (t : ℕ) : choice S (2 * t) = (first (S t)).val := by
  unfold choice
  rw [if_pos (by omega), show 2 * t / 2 = t by omega]
theorem choice_odd (t : ℕ) : choice S (2 * t + 1) = (second (S t)).val := by
  unfold choice
  rw [if_neg (by omega), show (2 * t + 1) / 2 = t by omega]

include hp in
theorem top_at (t : Fin 8192) (k : Fin 2) :
    (topOf p).1 (ix2 t k) = S t.val (if k.val = 0 then first (S t.val) else second (S t.val))
      ∧ (topOf p).2 (ix2 t k) = BitVec.ofNat 32 (if k.val = 0 then first (S t.val) else second (S t.val)).val := by
  have h := topOf_at p t k
  have hk : pick (S t.val) (k.castLE (by decide)) = if k.val = 0 then first (S t.val) else second (S t.val) := by
    by_cases h0 : k.val = 0
    · rw [if_pos h0]
      exact congrArg (pick _) (Fin.ext h0)
    · rw [if_neg h0]
      exact congrArg (pick _) (Fin.ext (show k.val = 1 by omega))
  rw [hp, funext (hp t), hk] at h
  exact h

include hp in
theorem slot_at (j : Fin 16384) : slotsOf (topOf p).2 (ix1 j) = BitVec.ofNat 32 (choice S j.val) := by
  rw [slotsOf_at, (top_at p S hp _ _).2]
  rfl

include hp in
theorem flatRank_at (j : Fin 16384) : flatRankOf (slotsOf (topOf p).2) (ix1 j) = ∑ x ∈ Finset.range j.val, if choice S x = choice S j.val then (1 : EReal) else 0 := by
  have hc := choice_lt S
  rw [flatRankOf_at]
  have he : ∀ x : Fin 16384, (if slotsOf (topOf p).2 (ix1 x) = slotsOf (topOf p).2 (ix1 j) ∧ x.val < j.val then (1 : EReal) else 0)
      = if x.val < j.val then (if choice S x.val = choice S j.val then (1 : EReal) else 0) else 0 := fun x => by
    rw [slot_at p S hp, slot_at p S hp, ← ite_and]
    refine if_congr ?_ rfl rfl
    rw [small_inj _ _ (by have := hc x.val; omega) (by have := hc j.val; omega), and_comm]
  rw [Finset.sum_congr rfl fun x _ => he x, Fin.sum_univ_eq_sum_range (fun x => if x < j.val then (if choice S x = choice S j.val then (1 : EReal) else 0) else 0) 16384,
    ← Finset.sum_filter]
  refine Finset.sum_congr (Finset.ext fun x => ?_) fun _ _ => rfl
  rw [Finset.mem_filter, Finset.mem_range, Finset.mem_range]
  omega

include hp in
theorem rank_at (t : Fin 8192) (k : Fin 2) :
    rankOf (slotsOf (topOf p).2) (ix2 t k) = tally S t.val (if k.val = 0 then first (S t.val) else second (S t.val)).val := by
  rw [rankOf_at, flatRank_at p S hp]
  match k with
  | ⟨0, _⟩ =>
    show ∑ x ∈ Finset.range (2 * t.val), (if choice S x = choice S (2 * t.val) then (1 : EReal) else 0) = tally S t.val (first (S t.val)).val
    rw [choice_even]
    exact slots_tally S _ (choice_even S) (choice_odd S) _ _
  | ⟨1, _⟩ =>
    show ∑ x ∈ Finset.range (2 * t.val + 1), (if choice S x = choice S (2 * t.val + 1) then (1 : EReal) else 0) = tally S t.val (second (S t.val)).val
    rw [choice_odd, Finset.sum_range_succ, slots_tally S _ (choice_even S) (choice_odd S), choice_even,
      if_neg (fun h => first_ne_second (S t.val) (Fin.ext h)), add_zero]

include hp in
theorem count_at (l : Fin 128) : countOf (slotsOf (topOf p).2) (ix2 0 l) = tally S 8192 l.val := by
  have hc := choice_lt S
  rw [countOf_at, ← slots_tally S _ (choice_even S) (choice_odd S), ← Fin.sum_univ_eq_sum_range (fun x => if choice S x = l.val then (1 : EReal) else 0) (2 * 8192)]
  refine Finset.sum_congr rfl fun x _ => if_congr ?_ rfl rfl
  rw [slot_at p S hp, small_inj _ _ (by have := hc x.val; omega) (by omega)]

include hp in
theorem weight_at (t : Fin 8192) (k : Fin 2) : wOf (topOf p).1 (ix2 t k) = weight (S t.val) (if k.val = 0 then first (S t.val) else second (S t.val)) := by
  rw [wOf_at, (top_at p S hp _ _).1, (top_at p S hp _ _).1, (top_at p S hp _ _).1]
  rfl

include hp in
theorem meta_at (t : Fin 8192) (l : Fin 128) :
    metaOf (topOf p).2 (rankOf (slotsOf (topOf p).2)) (wOf (topOf p).1) (repeatOf (wOf (topOf p).1)) (ix2 t l) = entry S t.val l.val := by
  have h1 := fun k => (top_at p S hp t k).2
  have h2 := rank_at p S hp t
  have h3 := weight_at p S hp t
  generalize (topOf p).2 = i at *
  generalize (topOf p).1 = v at *
  generalize rankOf (slotsOf i) = r at *
  have h4 := repeatOf_at (wOf v) t
  generalize repeatOf (wOf v) = u at *
  generalize wOf v = w at *
  pointwise [metaOf]
  have q1 : ∀ (x : ℕ) (h : x < 2), (FloatOps.sitofp .f32 (i (ix2 t ⟨x, h⟩)) : Ideal .f32) = if x = 0 then number (first (S t.val)) else number (second (S t.val)) := fun x h => by
    rw [h1, sitofp_expert, apply_ite number]
  have q2 : ∀ (x : ℕ) (h : x < 2), r (ix2 t ⟨x, h⟩) = if x = 0 then tally S t.val (first (S t.val)).val else tally S t.val (second (S t.val)).val := fun x h => by
    rw [h2, apply_ite (fun e : Fin 16 => tally S t.val e.val)]
  have q3 : ∀ (x : ℕ) (h : x < 2), w (ix2 t ⟨x, h⟩) = if x = 0 then weight (S t.val) (first (S t.val)) else weight (S t.val) (second (S t.val)) := fun x h => by
    rw [h3, apply_ite (weight (S t.val))]
  simp only [q1, q2, q3, h4]
  unfold entry
  generalize number (first (S t.val)) = a1
  generalize number (second (S t.val)) = a2
  generalize tally S t.val (first (S t.val)).val = a3
  generalize tally S t.val (second (S t.val)).val = a4
  generalize weight (S t.val) (first (S t.val)) = a5
  generalize weight (S t.val) (second (S t.val)) = a6
  exact layout l.val l.isLt a1 a2 a3 a4 a5 a6

end

end Cert.Proof.GateRef
-- ==== Proof.GateAlg.lean ====
/-
  The gate: the program's run and the reference's end with equal results.
-/
module

public import proofs.«01_k».proof.Defs
public import proofs.«01_k».proof.Proof.Gen.Pre_in_finite
public import proofs.«01_k».proof.Proof.Pre
public import proofs.«01_k».proof.Proof.GateRef

@[expose] public section

noncomputable section

namespace Cert.Proof.GateAlg

open Idealize.ShloMosaic Idealize.SL.Sem
open Cert.Proof.GateMath Cert.Proof.GatePay Cert.Proof.GateFold Cert.Proof.GateRef

/-- A number whose absolute value is below infinity is neither infinity. -/
theorem fin_of_abs_lt (x : EReal)
    (h : FloatOps.cmpf (F := Ideal) (φ := .f32) .olt (FloatOps.hostAbsf (F := Ideal) (φ := .f32) x) (Ideal.ofBits .f32 0x7F800000#32) = 1#1) : Fin' x := by
  have e : Ideal.ofBits .f32 0x7F800000#32 = ⊤ := by simp [Ideal.ofBits, Ideal.ieee]
  rw [e] at h
  have h1 : max x (-x) < ⊤ := of_decide_eq_true ((ofBool_one _).mp h)
  rw [max_lt_iff] at h1
  exact ⟨fun hx => by rw [hx] at h1; exact absurd h1.2 (by simp), h1.1.ne⟩

/-- The gate's precondition says that every number it is given is neither infinity. -/
theorem all_fin (X : FVec Ideal Cert.Pre_in_finite.S8192x1024 .f32) (W : FVec Ideal Cert.Pre_in_finite.S1024x16 .f32) (b : FVec Ideal Cert.Pre_in_finite.S16 .f32)
    (h : Cert.Pre_in_finite.fn (F := Ideal) X W b = fun _ => 1#1) : (∀ j, Fin' (X j)) ∧ (∀ j, Fin' (W j)) ∧ ∀ j, Fin' (b j) := by
  have h0 := (andi_one _ _).mp (congrFun h fun i => i.elim0)
  have h1 := (andi_one _ _).mp h0.1
  exact ⟨fun j => fin_of_abs_lt _ (Host.reduce_andi_all (t := Cert.Pre_in_finite.S_) _ _ _ _ (fun i => i.elim0) h1.1 j),
    fun j => fin_of_abs_lt _ (Host.reduce_andi_all (t := Cert.Pre_in_finite.S_) _ _ _ _ (fun i => i.elim0) h1.2 j),
    fun j => fin_of_abs_lt _ (Host.reduce_andi_all (t := Cert.Pre_in_finite.S_) _ _ _ _ (fun i => i.elim0) h0.2 j)⟩

/-- The reference's scores are the program's. -/
theorem scores_eq (m : (ℓ : Loc Cert.GateIdeal.nD Cert.GateIdeal.τ Cert.GateIdeal.sig) → Buf (Elt Ideal) ℓ) (c : Dev Cert.GateIdeal.nD) (t : Fin 8192) (e : Fin 16) :
    pOf (zOf (m ((c.tc : Thread Cert.GateIdeal.nD Cert.GateIdeal.τ).loc Cert.GateIdeal.main_arg0)) (m ((c.tc : Thread Cert.GateIdeal.nD Cert.GateIdeal.τ).loc Cert.GateIdeal.main_arg1))
      (m ((c.tc : Thread Cert.GateIdeal.nD Cert.GateIdeal.τ).loc Cert.GateIdeal.main_arg2))) (ix2 t e) = Sof m c t.val e := by
  have ht : Fin.ofNat 8192 t.val = t := Fin.ext (Nat.mod_eq_of_lt t.isLt)
  refine (pOf_at _ t e).trans (congrArg (fun z => softmax z e) (funext fun e' => (zOf_at _ _ _ t e').trans ?_))
  refine congrArg (fun x => logit x (Wof m c) (Bof m c) e') (funext fun d => ?_)
  show _ = m ((c.tc : Thread Cert.GateIdeal.nD Cert.GateIdeal.τ).loc Cert.GateIdeal.main_arg0) (ix2 (Fin.ofNat 8192 t.val) d)
  rw [ht]

theorem exists_ix2 {a b : ℕ} (i : (⟨2, ![a, b]⟩ : Shape).Idx) : ∃ (p : Fin a) (x : Fin b), i = ix2 p x := ⟨i 0, i 1, ValueIdx.eq_ix2 i⟩

set_option maxRecDepth 8192 in
theorem algebraic : Cert.algebraic_GateIdeal_GateRefIdeal_pre_in_finite := by
  intro m g m' g' hpre hm
  have hf : ∀ c t e, Fin' (logit (Xof m c t) (Wof m c) (Bof m c) e) := fun c t e => by
    obtain ⟨hX, hW, hb⟩ := all_fin _ _ _ (hpre c)
    exact logit_fin _ _ _ (fun d => hX _) (fun d e => hW _) (fun e => hb _) e
  refine ⟨fun c => Cert.GateIdeal.Value.G3 m c, fun c => Cert.GateIdeal.Value.G4 m c, Cert.GateIdeal.Value.run (F := Ideal) m g, ?_⟩
  refine (θ_run _ _ _).mono (fun _ h c => ⟨(h c).1.trans ?_, (h c).2.1.trans ?_, (h c).2.2⟩) (Cert.GateRefIdeal.Value.run (F := Ideal) m' g')
  · refine (res_eq m' c).trans ?_
    unfold tops
    rw [(hm c).1, (hm c).2.1, (hm c).2.2]
    funext i
    obtain ⟨t, l, rfl⟩ := exists_ix2 (a := 8192) (b := 128) i
    exact (meta_at _ (Sof m c) (scores_eq m c) t l).trans (G3_at m c (hf c) t l).symm
  · refine Eq.trans (b := countOf (slotsOf (tops m' c).2)) rfl ?_
    unfold tops
    rw [(hm c).1, (hm c).2.1, (hm c).2.2]
    funext i
    obtain ⟨t, l, rfl⟩ := exists_ix2 (a := 1) (b := 128) i
    obtain rfl : t = 0 := Subsingleton.elim _ _
    exact (count_at _ (Sof m c) (scores_eq m c) l).trans (G4_at m c (hf c) l).symm

end Cert.Proof.GateAlg

end
-- ==== Proof.RouteVal.lean ====
/-
  The routing's gate call: what its two arrays hold, of the tokens' scores.
-/
module

public import proofs.«01_k».proof.Proof.Gen.RouteIdeal.Frame
public import proofs.«01_k».proof.Proof.GateFold

@[expose] public section

noncomputable section

namespace Cert.Proof.RouteVal

open Cert.RouteIdeal Cert.RouteIdeal.Gen
open Idealize.ShloMosaic
open Idealize.ShloMosaic.TcCoe Idealize.SL.Sem
open Cert.Proof.GateMath Cert.Proof.GatePay
open Cert.Proof.GateVal (metaOf baseOf pad_weights pad_biases pair_zero)
open Cert.Proof.GateFold (scores tally entry base_at meta_at zero_at)

theorem out0_A_3_eq (c : Dev nD) (i : grid0.Coords) (arg1 : Memref sig .tc .vmem S256x1024 .f32) (harg1 : arg1.IsWhole) (arg2 : Memref sig .tc .vmem S1024x128 .f32) (harg2 : arg2.IsWhole) (arg3 : Memref sig .tc .vmem S1x128 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S1x128 .f32) (harg6 : arg6.IsWhole) (hc0 : cond0_0 i)
    (x0 : Vec Ideal S256x1024 .f32) (x1 : Vec Ideal S1024x128 .f32) (x2 : Vec Ideal S1x128 .f32) :
    out0_A_3 c i arg1 harg1 arg2 harg2 arg3 harg3 arg4 harg4 arg5 harg5 arg6 harg6 hc0 x0 x1 x2 = metaOf x0 x1 x2 (k0_pay2 (F := Ideal)) := by
  frame_out
  rfl

theorem out0_A_4_eq (c : Dev nD) (i : grid0.Coords) (arg1 : Memref sig .tc .vmem S256x1024 .f32) (harg1 : arg1.IsWhole) (arg2 : Memref sig .tc .vmem S1024x128 .f32) (harg2 : arg2.IsWhole) (arg3 : Memref sig .tc .vmem S1x128 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S1x128 .f32) (harg6 : arg6.IsWhole) (hc0 : cond0_0 i)
    (x0 : Vec Ideal S256x1024 .f32) (x1 : Vec Ideal S1024x128 .f32) (x2 : Vec Ideal S1x128 .f32) :
    out0_A_4 c i arg1 harg1 arg2 harg2 arg3 harg3 arg4 harg4 arg5 harg5 arg6 harg6 hc0 x0 x1 x2 = baseOf x0 x1 x2 (k0_pay2 (F := Ideal)) := by
  frame_out
  rfl

theorem sout0_A_0_eq (c : Dev nD) (i : grid0.Coords) (arg1 : Memref sig .tc .vmem S256x1024 .f32) (harg1 : arg1.IsWhole) (arg2 : Memref sig .tc .vmem S1024x128 .f32) (harg2 : arg2.IsWhole) (arg3 : Memref sig .tc .vmem S1x128 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S1x128 .f32) (harg6 : arg6.IsWhole) (hc0 : cond0_0 i)
    (x0 : Vec Ideal S256x1024 .f32) (x1 : Vec Ideal S1024x128 .f32) (x2 : Vec Ideal S1x128 .f32) :
    sout0_A_0 c i arg1 harg1 arg2 harg2 arg3 harg3 arg4 harg4 arg5 harg5 arg6 harg6 hc0 x0 x1 x2 = baseOf x0 x1 x2 (k0_pay2 (F := Ideal)) := by
  frame_out
  rfl

theorem out0_B_3_eq (c : Dev nD) (i : grid0.Coords) (arg1 : Memref sig .tc .vmem S256x1024 .f32) (harg1 : arg1.IsWhole) (arg2 : Memref sig .tc .vmem S1024x128 .f32) (harg2 : arg2.IsWhole) (arg3 : Memref sig .tc .vmem S1x128 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S1x128 .f32) (harg6 : arg6.IsWhole) (hc0 : ¬cond0_0 i)
    (x0 : Vec Ideal S256x1024 .f32) (x1 : Vec Ideal S1024x128 .f32) (x2 : Vec Ideal S1x128 .f32) (xs0 : Vec Ideal S1x128 .f32) :
    out0_B_3 c i arg1 harg1 arg2 harg2 arg3 harg3 arg4 harg4 arg5 harg5 arg6 harg6 hc0 x0 x1 x2 xs0 = metaOf x0 x1 x2 xs0 := by
  frame_out
  rfl

theorem out0_B_4_eq (c : Dev nD) (i : grid0.Coords) (arg1 : Memref sig .tc .vmem S256x1024 .f32) (harg1 : arg1.IsWhole) (arg2 : Memref sig .tc .vmem S1024x128 .f32) (harg2 : arg2.IsWhole) (arg3 : Memref sig .tc .vmem S1x128 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S1x128 .f32) (harg6 : arg6.IsWhole) (hc0 : ¬cond0_0 i)
    (x0 : Vec Ideal S256x1024 .f32) (x1 : Vec Ideal S1024x128 .f32) (x2 : Vec Ideal S1x128 .f32) (xs0 : Vec Ideal S1x128 .f32) :
    out0_B_4 c i arg1 harg1 arg2 harg2 arg3 harg3 arg4 harg4 arg5 harg5 arg6 harg6 hc0 x0 x1 x2 xs0 = baseOf x0 x1 x2 xs0 := by
  frame_out
  rfl

theorem sout0_B_0_eq (c : Dev nD) (i : grid0.Coords) (arg1 : Memref sig .tc .vmem S256x1024 .f32) (harg1 : arg1.IsWhole) (arg2 : Memref sig .tc .vmem S1024x128 .f32) (harg2 : arg2.IsWhole) (arg3 : Memref sig .tc .vmem S1x128 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S1x128 .f32) (harg6 : arg6.IsWhole) (hc0 : ¬cond0_0 i)
    (x0 : Vec Ideal S256x1024 .f32) (x1 : Vec Ideal S1024x128 .f32) (x2 : Vec Ideal S1x128 .f32) (xs0 : Vec Ideal S1x128 .f32) :
    sout0_B_0 c i arg1 harg1 arg2 harg2 arg3 harg3 arg4 harg4 arg5 harg5 arg6 harg6 hc0 x0 x1 x2 xs0 = baseOf x0 x1 x2 xs0 := by
  frame_out
  rfl

variable (m : (ℓ : Loc nD τ sig) → Buf (Elt Ideal) ℓ)

theorem V_main_v2 (c : Dev nD) : V m c main_v2 = Host.scatter scatter_S1024x128_S1_S1024x16_01_n_1_0 (fun _ b => b)
    (broadcastInDim S1024x128 ![] bcast_S_S1024x128 (constant (F := Ideal) S_ .f32 0x00000000#32)) (broadcastInDim S1 ![] bcast_S_S1 (constantI S_ 32 0#32))
    (m ((c : Thread nD τ).loc main_arg1)) := by
  show StableHlo.after hostOps0 _ _ = _
  after_results_simp
theorem V_main_v7 (c : Dev nD) : V m c main_v7 = Host.scatter scatter_S1x128_S2_S16_0_0_01_0 (fun _ b => b)
    (broadcastInDim S1x128 ![] bcast_S_S1x128 (constant (F := Ideal) S_ .f32 0x00000000#32))
    (concatenate S2 0 [⟨S1, broadcastInDim S1 ![] bcast_S_S1 (constantI S_ 32 0#32)⟩, ⟨S1, broadcastInDim S1 ![] bcast_S_S1 (constantI S_ 32 0#32)⟩] concatenates_S1_S1_S2_d0)
    (m ((c : Thread nD τ).loc main_arg2)) := by
  show StableHlo.after hostOps0 _ _ = _
  after_results_simp; rfl

theorem coords_val (t : Fin grid0.N) : (grid0.coords t 0).val = t.val := (by decide +kernel : ∀ t : Fin grid0.N, (grid0.coords t 0).val = t.val) t

/-- The rows that grid point `t` reads. -/
theorem iblk0 (c : Dev nD) (t : Fin cfg0.N) (p : Fin 8192) (r : Fin 256) (hp : p.val = 256 * t.val + r.val) (d : Fin 1024) :
    iblk m c 0 t (ix2 r d) = m ((c : Thread nD τ).loc main_arg0) (ix2 p d) := by
  blk_simp [iblk]
  refine (congrFun (V_main_arg0 m c) _).trans (congrArg _ (funext fun a => Fin.ext ?_))
  refine (Pipeline.Window.rect_emb_val (cfg0.win 0) t (ix2 r d) a rfl).trans ?_
  match a with
  | ⟨0, _⟩ =>
    have ht : t.val < 32 := t.isLt
    show (BitVec.ofNat 32 (grid0.coords t 0).val).toNat * 256 + r.val = p.val
    rw [coords_val, BitVec.toNat_ofNat]
    omega
  | ⟨1, _⟩ => exact Nat.zero_add d.val

/-- The weights that every grid point reads. -/
theorem iblk1 (c : Dev nD) (t : Fin cfg0.N) (d : Fin 1024) (e : Fin 16) : iblk m c 1 t (ix2 d (lane e)) = m ((c : Thread nD τ).loc main_arg1) (ix2 d e) := by
  blk_simp [iblk]
  refine ((congrFun (V_main_v2 m c) _).trans (congrArg _ (funext fun a => Fin.ext ?_))).trans (pad_weights _ _ (fun _ => rfl) (m ((c : Thread nD τ).loc main_arg1)) d e)
  refine (Pipeline.Window.rect_emb_val (cfg0.win 1) t (ix2 d (lane e)) a rfl).trans ?_
  match a with
  | ⟨0, _⟩ => exact Nat.zero_add d.val
  | ⟨1, _⟩ => exact Nat.zero_add (lane e).val

/-- The biases that every grid point reads. -/
theorem iblk2 (c : Dev nD) (t : Fin cfg0.N) (e : Fin 16) : iblk m c 2 t (ix2 0 (lane e)) = m ((c : Thread nD τ).loc main_arg2) (ix1 e) := by
  blk_simp [iblk]
  refine ((congrFun (V_main_v7 m c) _).trans (congrArg _ (funext fun a => Fin.ext ?_))).trans (pad_biases _ _ pair_zero (m ((c : Thread nD τ).loc main_arg2)) e)
  refine (Pipeline.Window.rect_emb_val (cfg0.win 2) t (ix2 0 (lane e)) a rfl).trans ?_
  match a with
  | ⟨0, _⟩ => rfl
  | ⟨1, _⟩ => exact Nat.zero_add (lane e).val

/-- The weights, the biases and the tokens' rows that the call is given, the rows over all the natural numbers. -/
def Wof (c : Dev nD) (d : Fin 1024) (e : Fin 16) : EReal := m ((c : Thread nD τ).loc main_arg1) (ix2 d e)
def Bof (c : Dev nD) (e : Fin 16) : EReal := m ((c : Thread nD τ).loc main_arg2) (ix1 e)
def Xof (c : Dev nD) (t : ℕ) (d : Fin 1024) : EReal := m ((c : Thread nD τ).loc main_arg0) (ix2 (Fin.ofNat 8192 t) d)

/-- The scores of the call's tokens. -/
def Sof (c : Dev nD) : ℕ → Fin 16 → EReal := scores (Wof m c) (Bof m c) (Xof m c)

variable (c : Dev nD) (hf : ∀ t e, Fin' (logit (Xof m c t) (Wof m c) (Bof m c) e))

theorem rows_at (t : Fin cfg0.N) (r : Fin 256) (d : Fin 1024) : iblk m c 0 t (ix2 r d) = Xof m c (256 * t.val + r.val) d := by
  have ht : t.val < 32 := t.isLt
  exact iblk0 m c t (Fin.ofNat 8192 (256 * t.val + r.val)) r (Nat.mod_eq_of_lt (by omega)) d

theorem exists_ix2 {a b : ℕ} (i : (⟨2, ![a, b]⟩ : Shape).Idx) : ∃ (p : Fin a) (x : Fin b), i = ix2 p x := ⟨i 0, i 1, ValueIdx.eq_ix2 i⟩

include hf in
/-- What a grid point leaves. -/
theorem point (n : ℕ) (hn : n < cfg0.N) :
    (∀ r l, (outsAt0 m c n hn).1 (ix2 r l) = entry (Sof m c) (256 * n + r.val) l.val)
      ∧ (∀ l, (outsAt0 m c n hn).2.1 (ix2 0 l) = tally (Sof m c) (256 * n + 256) l.val)
      ∧ ∀ l, (outsAt0 m c n hn).2.2 (ix2 0 l) = tally (Sof m c) (256 * n + 256) l.val := by
  induction n with
  | zero =>
    have e := outsAt0_A m c ⟨0, hn⟩ (Nat.zero_mod _)
    rw [out0_A_3_eq, out0_A_4_eq, sout0_A_0_eq] at e
    rw [e]
    have hb := base_at _ _ _ _ (Wof m c) (Bof m c) (Xof m c) _ (iblk1 m c ⟨0, hn⟩) (iblk2 m c ⟨0, hn⟩) (rows_at m c ⟨0, hn⟩) hf (zero_at (Wof m c) (Bof m c) (Xof m c))
    exact ⟨meta_at _ _ _ _ (Wof m c) (Bof m c) (Xof m c) _ (iblk1 m c ⟨0, hn⟩) (iblk2 m c ⟨0, hn⟩) (rows_at m c ⟨0, hn⟩) hf (zero_at (Wof m c) (Bof m c) (Xof m c)), hb, hb⟩
  | succ n ih =>
    have hN : n + 1 < 32 := hn
    have e := outsAt0_B m c ⟨n + 1, hn⟩ (show ¬ (n + 1) % 32 = 0 by omega)
    rw [out0_B_3_eq, out0_B_4_eq, sout0_B_0_eq] at e
    rw [e]
    have hl := (ih (by omega)).2.2
    have hb := base_at _ _ _ _ (Wof m c) (Bof m c) (Xof m c) _ (iblk1 m c ⟨n + 1, hn⟩) (iblk2 m c ⟨n + 1, hn⟩) (rows_at m c ⟨n + 1, hn⟩) hf hl
    exact ⟨meta_at _ _ _ _ (Wof m c) (Bof m c) (Xof m c) _ (iblk1 m c ⟨n + 1, hn⟩) (iblk2 m c ⟨n + 1, hn⟩) (rows_at m c ⟨n + 1, hn⟩) hf hl, hb, hb⟩

include hf in
/-- The records after the run. -/
theorem records_at (t : Fin 8192) (l : Fin 128) : (dats m 0 c).arrAt 3 cfg0.N (ix2 t l) = entry (Sof m c) t.val l.val := by
  refine (congrFun ((dats m 0 c).arrAt_eq_of_emb 3 (fun i => entry (Sof m c) (i 0).val (i 1).val) (fun t hf' y => ?_) fun i => ?_) (ix2 t l))
  · have ht : t.val < 32 := t.isLt
    obtain ⟨r, x, rfl⟩ := exists_ix2 (a := 256) (b := 128) y
    refine (congrFun (after0_3 m c t) (ix2 r x)).trans (((point m c hf t.val t.isLt).1 r x).trans ?_)
    have e := fun a => (Pipeline.Window.rect_emb_val (cfg0.win 3) t (ix2 r x) a rfl).symm
    refine congrArg₂ (entry (Sof m c)) (Eq.trans ?_ (e 0)) (Eq.trans ?_ (e 1))
    · show 256 * t.val + r.val = (BitVec.ofNat 32 (grid0.coords t 0).val).toNat * 256 + r.val
      rw [coords_val, BitVec.toNat_ofNat]
      omega
    · exact (Nat.zero_add x.val).symm
  · obtain ⟨p, x, rfl⟩ := exists_ix2 (a := 8192) (b := 128) i
    have ht : p.val / 256 < 32 := by omega
    have key : ∀ t : Fin cfg0.N, t.val = p.val / 256 → ix2 p x ∈ ((cfg0.win 3).blk t).view.set := fun t e => by
      refine ((cfg0.win 3).emb_mem_blk_iff t (ix2 p x) rfl).mpr fun a => ?_
      match a with
      | ⟨0, _⟩ =>
        show (BitVec.ofNat 32 (grid0.coords t 0).val).toNat * 256 ≤ p.val ∧ p.val < (BitVec.ofNat 32 (grid0.coords t 0).val).toNat * 256 + 256
        rw [coords_val, BitVec.toNat_ofNat]
        omega
      | ⟨1, _⟩ =>
        show 0 * 128 ≤ x.val ∧ x.val < 0 * 128 + 128
        omega
    exact ⟨(⟨p.val / 256, ht⟩ : Fin 32), flush0_3 _, key _ rfl⟩

include hf in
/-- The counts after the run. -/
theorem counts_at (l : Fin 128) : (dats m 0 c).arrAt 4 cfg0.N (ix2 0 l) = tally (Sof m c) 8192 l.val := by
  refine (congrFun ((dats m 0 c).arrAt_eq_of_emb 4 (fun i => tally (Sof m c) 8192 (i 1).val) (fun t hf' y => ?_) fun i => ?_) (ix2 0 l))
  · obtain ⟨r, x, rfl⟩ := exists_ix2 (a := 1) (b := 128) y
    obtain rfl : r = 0 := Subsingleton.elim _ _
    have ht := (flush0_4 t).mp hf'
    have hl : t.val < 32 := t.isLt
    refine (congrFun (after0_4 m c t) (ix2 0 x)).trans (((point m c hf t.val t.isLt).2.1 x).trans ?_)
    have e := (Pipeline.Window.rect_emb_val (cfg0.win 4) t (ix2 0 x) 1 rfl).symm
    refine congrArg₂ (tally (Sof m c)) ?_ (Eq.trans (Nat.zero_add x.val).symm e)
    show 256 * t.val + 256 = 8192
    omega
  · obtain ⟨p, x, rfl⟩ := exists_ix2 (a := 1) (b := 128) i
    refine ⟨(⟨31, by decide⟩ : Fin 32), (flush0_4 _).mpr rfl, ?_⟩
    refine ((cfg0.win 4).emb_mem_blk_iff _ (ix2 p x) rfl).mpr fun a => ?_
    match a with
    | ⟨0, _⟩ =>
      show 0 * 1 ≤ p.val ∧ p.val < 0 * 1 + 1
      omega
    | ⟨1, _⟩ =>
      show 0 * 128 ≤ x.val ∧ x.val < 0 * 128 + 128
      omega

end Cert.Proof.RouteVal
-- ==== Proof.RouteMath.lean ====
/-
  The routing's whole numbers: how many slots an expert holds, the rows set aside for it, and every slot's row.
-/
module

public import Idealize.ShloMosaic.Lib.Routing.Words
public import Idealize.ShloMosaic.Lib.Routing.OpsSearch
public import Idealize.ShloMosaic.Lib.Routing.OpsSet
public import proofs.«01_k».proof.Proof.GateRef

@[expose] public section

noncomputable section

namespace Cert.Proof.RouteMath

open Idealize.ShloMosaic
open Cert.Proof.GateMath Cert.Proof.GatePay Cert.Proof.GateFold Cert.Proof.GateRef
open scoped BigOperators

/-! ## The numbers -/

/-- How many of the first `k` slots hold expert `n`. -/
def held (f : ℕ → ℕ) (k n : ℕ) : ℕ := Nat.count (fun j => f j = n) k

/-- The rows set aside for an expert: its slots' number, rounded up to whole blocks. -/
def room (f : ℕ → ℕ) (e : ℕ) : ℕ := (held f 16384 e + 255) / 256 * 256

/-- The first row set aside for an expert. -/
def start (f : ℕ → ℕ) (e : ℕ) : ℕ := ∑ i ∈ Finset.range e, room f i

/-- The row of slot `j`. -/
def place (f : ℕ → ℕ) (j : ℕ) : ℕ := start f (f j) + held f j (f j)

theorem held_le (f : ℕ → ℕ) (k n : ℕ) : held f k n ≤ k := Nat.count_le _

theorem held_total (f : ℕ → ℕ) (hf : ∀ j, f j < 16) (k : ℕ) : ∑ e ∈ Finset.range 16, held f k e = k := by
  induction k with
  | zero => simp [held]
  | succ k ih =>
    unfold held at ih ⊢
    simp only [Nat.count_succ]
    rw [Finset.sum_add_distrib, ih, Finset.sum_ite_eq, if_pos (Finset.mem_range.mpr (hf k))]

theorem room_bound (f : ℕ → ℕ) (e : ℕ) : held f 16384 e ≤ room f e ∧ room f e ≤ held f 16384 e + 255 := by
  unfold room
  omega

theorem start_succ (f : ℕ → ℕ) (e : ℕ) : start f (e + 1) = start f e + room f e := Finset.sum_range_succ _ _

theorem start_mono (f : ℕ → ℕ) {a b : ℕ} (h : a ≤ b) : start f a ≤ start f b :=
  Finset.sum_le_sum_of_subset (Finset.range_mono h)

theorem start_le (f : ℕ → ℕ) (hf : ∀ j, f j < 16) {e : ℕ} (he : e ≤ 16) : start f e ≤ 20464 := by
  refine (start_mono f he).trans ((Finset.sum_le_sum fun i _ => (room_bound f i).2).trans ?_)
  rw [Finset.sum_add_distrib, held_total f hf]
  decide

theorem held_lt (f : ℕ → ℕ) {j k : ℕ} (h : j < k) : held f j (f j) < held f k (f j) := Nat.count_strict_mono (p := fun x => f x = f j) rfl h

theorem place_lt_end (f : ℕ → ℕ) {j : ℕ} (h : j < 16384) : place f j < start f (f j + 1) := by
  have h1 := held_lt f h
  have h2 := (room_bound f (f j)).1
  rw [start_succ]
  unfold place
  omega

theorem place_lt (f : ℕ → ℕ) (hf : ∀ j, f j < 16) {j : ℕ} (h : j < 16384) : place f j < 20480 := by
  have h1 := place_lt_end f h
  have h2 := start_le f hf (show f j + 1 ≤ 16 from hf j)
  omega

/-- No two slots have one row. -/
theorem place_inj (f : ℕ → ℕ) {j k : ℕ} (hj : j < 16384) (hk : k < 16384) (h : place f j = place f k) : j = k := by
  have key : ∀ {a b : ℕ}, a < 16384 → f a < f b → place f a < place f b := fun {a b} ha hab =>
    lt_of_lt_of_le (place_lt_end f ha) ((start_mono f hab).trans (Nat.le_add_right _ _))
  rcases lt_trichotomy (f j) (f k) with hlt | heq | hgt
  · exact absurd h (key hj hlt).ne
  · unfold place at h
    rw [heq] at h
    exact Nat.count_injective (p := fun x => f x = f k) heq rfl (Nat.add_left_cancel h)
  · exact absurd h (key hk hgt).ne'

/-! ## The sums that the two programs count with -/

theorem sum_bits (f : ℕ → ℕ) (k n : ℕ) : ∑ x ∈ Finset.range k, (if f x = n then (1 : EReal) else 0) = ((held f k n : ℝ) : EReal) := by
  induction k with
  | zero => simp [held]
  | succ k ih =>
    rw [Finset.sum_range_succ, ih]
    unfold held
    rw [Nat.count_succ]
    split
    · rw [Nat.cast_add, EReal.coe_add, Nat.cast_one, EReal.coe_one]
    · rw [add_zero, add_zero]

theorem tally_held (S : ℕ → Fin 16 → EReal) (t n : ℕ) : tally S t n = ((held (choice S) (2 * t) n : ℝ) : EReal) := by
  rw [← slots_tally S _ (choice_even S) (choice_odd S), sum_bits]

theorem held_even (S : ℕ → Fin 16 → EReal) (t : ℕ) : held (choice S) (2 * t) (first (S t)).val = held (choice S) (2 * t) (choice S (2 * t)) := by rw [choice_even]

theorem held_odd (S : ℕ → Fin 16 → EReal) (t : ℕ) : held (choice S) (2 * t) (second (S t)).val = held (choice S) (2 * t + 1) (choice S (2 * t + 1)) := by
  rw [choice_odd]
  unfold held
  rw [Nat.count_succ, if_neg, add_zero]
  rw [choice_even]
  exact fun h => first_ne_second (S t) (Fin.ext h)

/-- A whole number read back as a word. -/
theorem fptosi_nat (n : ℕ) (h : n < 2 ^ 31) : FloatOps.fptosi (F := Ideal) (φ := .f32) 32 ((n : ℝ) : EReal) = BitVec.ofNat 32 n := by
  show Ideal.fptosi 32 ((n : ℝ) : EReal) = _
  rw [Ideal.fptosi, Ideal.toIntClamped_coe, if_pos (Nat.cast_nonneg n), Int.floor_natCast]
  have e : max (-((2 ^ (32 - 1) : ℕ) : ℤ)) (min ((2 ^ (32 - 1) : ℕ) - 1 : ℤ) (n : ℤ)) = (n : ℤ) := by
    norm_num
    omega
  rw [e, BitVec.ofInt_natCast]

/-! ## Words -/

/-- An index that is not negative stays as it is. -/
theorem wrap_word (k : ℕ) (h : k < 2 ^ 31) (y : BitVec 32) : Scalar.select (IntOp.cmpi .slt (BitVec.ofNat 32 k) 0#32) y (BitVec.ofNat 32 k) = BitVec.ofNat 32 k := by
  rw [select_def, if_neg fun q => Nat.not_lt_zero k ((cmpi_slt_one k 0 h (by decide)).mp q)]

theorem add_word (a b : ℕ) : IntOp.addi (BitVec.ofNat 32 a) (BitVec.ofNat 32 b) = BitVec.ofNat 32 (a + b) := (BitVec.ofNat_add a b).symm

theorem mul_word (a b : ℕ) : IntOp.muli (BitVec.ofNat 32 a) (BitVec.ofNat 32 b) = BitVec.ofNat 32 (a * b) := (BitVec.ofNat_mul a b).symm

theorem sub_word (a b : ℕ) (h : b ≤ a) : IntOp.subi (BitVec.ofNat 32 a) (BitVec.ofNat 32 b) = BitVec.ofNat 32 (a - b) := by
  obtain ⟨d, rfl⟩ : ∃ d, a = d + b := ⟨a - b, by omega⟩
  rw [Nat.add_sub_cancel, BitVec.ofNat_add]
  exact BitVec.add_sub_cancel _ _

theorem min_word (a b : ℕ) (ha : a < 2 ^ 31) (hb : b < 2 ^ 31) : IntOp.minsi (BitVec.ofNat 32 a) (BitVec.ofNat 32 b) = BitVec.ofNat 32 (min a b) := by
  apply BitVec.eq_of_toInt_eq
  rw [toInt_minsi, toInt_small a ha, toInt_small b hb, toInt_small _ (by omega)]
  omega

/-- A sum over a list of the numbers below `n`. -/
theorem sum_list (g : ℕ → ℕ) (n : ℕ) : ((List.range n).map g).sum = ∑ i ∈ Finset.range n, g i := by
  induction n with
  | zero => rfl
  | succ n ih => rw [List.range_succ, List.map_append, List.sum_append, ih, Finset.sum_range_succ, List.map_singleton, List.sum_singleton]

/-- The rows of the experts below `n`, read as a word's comparison. -/
theorem sge_word (a b : ℕ) (ha : a < 2 ^ 31) (hb : b < 2 ^ 31) : IntOp.cmpi .sge (BitVec.ofNat 32 a) (BitVec.ofNat 32 b) = 1#1 ↔ b ≤ a := cmpi_sge_one a b ha hb

section
variable {α : Type} {N M : ℕ} (d : ScatterDims (⟨1, ![M]⟩ : Shape) ⟨2, ![N, 1]⟩ ⟨1, ![N]⟩) (hw : ∀ k, d.window k 0 = 0)
  (hs : ∀ (k : Fin N) (idx : IVec ⟨2, ![N, 1]⟩ 32), d.start (ix1 k) idx 0 = (idx (ix2 k 0)).toInt)
  (x0 : (⟨1, ![M]⟩ : Shape).Idx → α) (idx : IVec ⟨2, ![N, 1]⟩ 32) (u : (⟨1, ![N]⟩ : Shape).Idx → α) (f : ℕ → ℕ)
  (hi : ∀ k : Fin N, idx (ix2 k 0) = BitVec.ofNat 32 (f k.val)) (hf : ∀ k : Fin N, f k.val < 2 ^ 31)

include hw hs hi hf in
theorem lands (k : Fin N) (x : Fin M) : d.resultIdx? (ix1 k) idx = some (ix1 x) ↔ f k.val = x.val := by
  rw [Routing.resultIdx?_eq_some]
  have e : d.start (ix1 k) idx 0 + (d.window (ix1 k) 0 : ℤ) = (f k.val : ℤ) := by
    rw [hs, hw, hi, toInt_small _ (hf k)]
    exact add_zero _
  refine ⟨fun h => ?_, fun h a => ?_⟩
  · exact Int.ofNat.inj (e.symm.trans (h 0))
  · match a with
    | ⟨0, _⟩ => exact e.trans (congrArg Int.ofNat h)

include hw hs hi hf in
/-- Numbers put at different places: each place holds its own. -/
theorem put_hit (k : Fin N) (x : Fin M) (hk : f k.val = x.val) (h1 : ∀ k' : Fin N, f k'.val = x.val → k' = k) :
    Host.scatter d (fun _ b => b) x0 idx u (ix1 x) = u (ix1 k) := by
  refine Routing.scatter_set_hit d x0 idx u (ix1 x) _ (fun k' h => ?_) (ix1 k) ((lands d hw hs idx f hi hf k x).mpr hk)
  obtain ⟨q, rfl⟩ : ∃ q : Fin N, k' = ix1 q := ⟨k' 0, funext fun a => by match a with | ⟨0, _⟩ => rfl⟩
  rw [h1 q ((lands d hw hs idx f hi hf q x).mp h)]

include hw hs hi hf in
theorem put_miss (x : Fin M) (h1 : ∀ k : Fin N, f k.val ≠ x.val) : Host.scatter d (fun _ b => b) x0 idx u (ix1 x) = x0 (ix1 x) := by
  refine Routing.scatter_set_miss d x0 idx u (ix1 x) fun k' h => ?_
  obtain ⟨q, rfl⟩ : ∃ q : Fin N, k' = ix1 q := ⟨k' 0, funext fun a => by match a with | ⟨0, _⟩ => rfl⟩
  exact h1 q ((lands d hw hs idx f hi hf q x).mp h)

end

/-- The row `x` holds its slot's token, and a row without a slot holds zero. -/
def holds (f : ℕ → ℕ) (x : ℕ) (v : BitVec 32) : Prop :=
  (∀ j, j < 16384 → place f j = x → v = BitVec.ofNat 32 (j / 2)) ∧ ((∀ j, j < 16384 → place f j ≠ x) → v = 0#32)

theorem holds_eq (f : ℕ → ℕ) (x : ℕ) (v w : BitVec 32) (hv : holds f x v) (hw : holds f x w) : v = w := by
  by_cases h : ∃ j, j < 16384 ∧ place f j = x
  · obtain ⟨j, hj, e⟩ := h
    exact (hv.1 j hj e).trans (hw.1 j hj e).symm
  · have h' : ∀ j, j < 16384 → place f j ≠ x := fun j hj e => h ⟨j, hj, e⟩
    exact (hv.2 h').trans (hw.2 h').symm

end Cert.Proof.RouteMath

end
-- ==== Proof.RouteTail.lean ====
/-
  The routing's host steps after the gate call: rows, weights, blocks' experts and the rows' tokens, of the call's two arrays.
-/
module

public import Idealize.ShloMosaic.Lib.StableHlo.ReadAt
public import proofs.«01_k».proof.Proof.RouteVal
public import proofs.«01_k».proof.Proof.RouteMath

@[expose] public section

noncomputable section

namespace Cert.Proof.RouteTail

open Cert.RouteIdeal Cert.RouteIdeal.Gen
open Idealize.ShloMosaic
open Idealize.ShloMosaic.TcCoe Idealize.SL.Sem
open Cert.Proof.GateMath Cert.Proof.GatePay Cert.Proof.RouteMath
open Cert.Proof.GateFold (tally entry)
open Cert.Proof.GateRef (choice choice_lt choice_even choice_odd)
open scoped BigOperators

/-- One column of the records. -/
def column (o : ℕ) (h : S8192x128.Slices ![0, o] S8192x1) (R : FVec Ideal S8192x128 .f32) : FVec Ideal S8192 .f32 :=
  shapeCast S8192 (extractStridedSlice S8192x1 ![0, o] R h) shapeCasts_S8192x1_S8192

/-- The counts of the experts. -/
def countsOf (C : FVec Ideal S1x128 .f32) : IVec S16 32 :=
  fptosi 32 (shapeCast S16 (extractStridedSlice S1x16 ![0, 0] C slices_S1x128_S1x16_0_0) shapeCasts_S1x16_S16)

/-- Every number rounded down to a multiple of 256. -/
def downOf (x : IVec S16 32) : IVec S16 32 :=
  muli (Routing.pyDiv bcast_S_S16 x (constantI S_ 32 256#32)) (broadcastInDim S16 ![] bcast_S_S16 (constantI S_ 32 256#32))

/-- The rows set aside for the experts. -/
def roomsOf (n : IVec S16 32) : IVec S16 32 :=
  downOf (subi (addi n (broadcastInDim S16 ![] bcast_S_S16 (constantI S_ 32 256#32))) (broadcastInDim S16 ![] bcast_S_S16 (constantI S_ 32 1#32)))

/-- Where they end. -/
def endsOf (r : IVec S16 32) : IVec S16 32 :=
  Host.reduceWindow IntOp.addi ![16] ![1] ![15] ![0] r (broadcastInDim S_ ![] bcast_S_S_ (constantI S_ 32 0#32)) reduceWindows_S16_S16_w16s1p15_0 h_S_

/-- Where they start. -/
def startsOf (r : IVec S16 32) : IVec S16 32 := subi (endsOf r) r

/-- Indices from the end counted back, as a column. -/
def backOf (n : BitVec 32) (x : IVec S8192 32) : IVec S8192x1 32 :=
  broadcastInDim S8192x1 ![0] bcast_S8192_S8192x1_0 (select (cmpi .slt x (broadcastInDim S8192 ![] bcast_S_S8192 (constantI S_ 32 0#32)))
    (addi x (broadcastInDim S8192 ![] bcast_S_S8192 (constantI S_ 32 n))) x)

/-- The rows of one choice of every token. -/
def rowsOf (s : IVec S16 32) (e r : FVec Ideal S8192 .f32) : IVec S8192 32 :=
  addi (Host.gather gather_S16_S8192x1_S8192_n_0_n_n_0_1_1 s (backOf 16#32 (fptosi 32 e))) (fptosi 32 r)

/-- The blocks' experts. -/
def blocksOf (x : IVec S16 32) : IVec S80 32 :=
  minsi (Host.reduce IntOp.addi (extui 32 (cmpi .sge
      (broadcastInDim S80x16 ![0, 1] bcast_S80x1_S80x16_0_1 (broadcastInDim S80x1 ![0] bcast_S80_S80x1_0 (muli (iotaInDim S80 32 0) (broadcastInDim S80 ![] bcast_S_S80 (constantI S_ 32 256#32)))))
      (broadcastInDim S80x16 ![0, 1] bcast_S1x16_S80x16_0_1 (broadcastInDim S1x16 ![1] bcast_S16_S1x16_1 x))) natLt_1_32) (constantI S_ 32 0#32) reducesTo_S80x16_S80_d1 h_S_)
    (broadcastInDim S80 ![] bcast_S_S80 (constantI S_ 32 15#32))

/-- The rows' tokens. -/
def tokensOf (p1 p2 : IVec S8192 32) : IVec S20480 32 :=
  Host.scatter scatter_S20480_S8192x1_S8192_n_0_0_1 (fun _ b => b)
    (Host.scatter scatter_S20480_S8192x1_S8192_n_0_0_1 (fun _ b => b) (broadcastInDim S20480 ![] bcast_S_S20480 (constantI S_ 32 0#32)) (backOf 20480#32 p1) (iotaInDim S8192 32 0))
    (backOf 20480#32 p2) (iotaInDim S8192 32 0)

/-- The sum of the rows' tokens and of the blocks' experts. -/
def totalOf (k : IVec S20480 32) (b : IVec S80 32) : IVec S_ 32 :=
  addi (Host.reduce IntOp.addi k (constantI S_ 32 0#32) reducesTo_S20480_S_d0 h_S_) (Host.reduce IntOp.addi b (constantI S_ 32 0#32) reducesTo_S80_S_d0 h_S_)

/-- The first token's row, scaled, in the place of every row. -/
def stubOf (X : FVec Ideal S8192x1024 .f32) (n : IVec S_ 32) : FVec Ideal S8192x1024 .f32 :=
  extractStridedSlice S8192x1024 ![0, 0] (broadcastInDim S20480x1024 ![0, 1] bcast_S1x1024_S20480x1024_0_1
    (mulf (extractStridedSlice S1x1024 ![0, 0] X slices_S8192x1024_S1x1024_0_0)
      (broadcastInDim S1x1024 ![] bcast_S_S1x1024 (mulf (sitofp .f32 n) (constant (F := Ideal) S_ .f32 0x3089705F#32))))) slices_S20480x1024_S8192x1024_0_0

/-! ## The results are these -/

section
variable (W : Valuation τ sig (Elt Ideal))

theorem read_rows1 : StableHlo.after [hostOps1, hostOps1_1, hostOps1_2, hostOps1_3, hostOps1_4].flatten W (Proc.devRef .tc main_v44)
    = rowsOf (startsOf (roomsOf (countsOf (W (Proc.devRef .tc main_v8_1))))) (column 0 slices_S8192x128_S8192x1_0_0 (W (Proc.devRef .tc main_v8_0))) (column 2 slices_S8192x128_S8192x1_0_2 (W (Proc.devRef .tc main_v8_0))) := by
  simp only [List.flatten_cons, List.flatten_nil, List.append_nil, List.cons_append, List.nil_append]
  after_reads_simp
  simp -implicitDefEqProofs only [StableHlo.TRef.toBuf, StableHlo.TRef.ofBuf, cast_cast, cast_eq]
  clean_types
  rfl

theorem read_rows2 : StableHlo.after [hostOps1, hostOps1_1, hostOps1_2, hostOps1_3, hostOps1_4].flatten W (Proc.devRef .tc main_v52)
    = rowsOf (startsOf (roomsOf (countsOf (W (Proc.devRef .tc main_v8_1))))) (column 1 slices_S8192x128_S8192x1_0_1 (W (Proc.devRef .tc main_v8_0))) (column 3 slices_S8192x128_S8192x1_0_3 (W (Proc.devRef .tc main_v8_0))) := by
  simp only [List.flatten_cons, List.flatten_nil, List.append_nil, List.cons_append, List.nil_append]
  after_reads_simp
  simp -implicitDefEqProofs only [StableHlo.TRef.toBuf, StableHlo.TRef.ofBuf, cast_cast, cast_eq]
  clean_types
  rfl

theorem read_weight1 : StableHlo.after [hostOps1, hostOps1_1, hostOps1_2, hostOps1_3, hostOps1_4].flatten W (Proc.devRef .tc main_v22)
    = (column 4 slices_S8192x128_S8192x1_0_4 (W (Proc.devRef .tc main_v8_0))) := by
  simp only [List.flatten_cons, List.flatten_nil, List.append_nil, List.cons_append, List.nil_append]
  after_reads_simp
  clean_types
  rfl

theorem read_weight2 : StableHlo.after [hostOps1, hostOps1_1, hostOps1_2, hostOps1_3, hostOps1_4].flatten W (Proc.devRef .tc main_v24)
    = (column 5 slices_S8192x128_S8192x1_0_5 (W (Proc.devRef .tc main_v8_0))) := by
  simp only [List.flatten_cons, List.flatten_nil, List.append_nil, List.cons_append, List.nil_append]
  after_reads_simp
  clean_types
  rfl

theorem read_blocks : StableHlo.after [hostOps1, hostOps1_1, hostOps1_2, hostOps1_3, hostOps1_4].flatten W (Proc.devRef .tc main_v64)
    = blocksOf (endsOf (roomsOf (countsOf (W (Proc.devRef .tc main_v8_1))))) := by
  simp only [List.flatten_cons, List.flatten_nil, List.append_nil, List.cons_append, List.nil_append]
  after_reads_simp
  simp -implicitDefEqProofs only [StableHlo.TRef.toBuf, StableHlo.TRef.ofBuf, cast_cast, cast_eq]
  clean_types
  rfl

theorem read_tokens : StableHlo.after [hostOps1, hostOps1_1, hostOps1_2, hostOps1_3, hostOps1_4].flatten W (Proc.devRef .tc main_v80)
    = tokensOf (rowsOf (startsOf (roomsOf (countsOf (W (Proc.devRef .tc main_v8_1))))) (column 0 slices_S8192x128_S8192x1_0_0 (W (Proc.devRef .tc main_v8_0))) (column 2 slices_S8192x128_S8192x1_0_2 (W (Proc.devRef .tc main_v8_0)))) (rowsOf (startsOf (roomsOf (countsOf (W (Proc.devRef .tc main_v8_1))))) (column 1 slices_S8192x128_S8192x1_0_1 (W (Proc.devRef .tc main_v8_0))) (column 3 slices_S8192x128_S8192x1_0_3 (W (Proc.devRef .tc main_v8_0)))) := by
  simp only [List.flatten_cons, List.flatten_nil, List.append_nil, List.cons_append, List.nil_append]
  after_reads_simp
  simp -implicitDefEqProofs only [StableHlo.TRef.toBuf, StableHlo.TRef.ofBuf, cast_cast, cast_eq]
  clean_types
  rfl

theorem read_stub : StableHlo.after [hostOps1, hostOps1_1, hostOps1_2, hostOps1_3, hostOps1_4].flatten W (Proc.devRef .tc main_v90)
    = stubOf (W (Proc.devRef .tc main_arg0)) (totalOf (tokensOf (rowsOf (startsOf (roomsOf (countsOf (W (Proc.devRef .tc main_v8_1))))) (column 0 slices_S8192x128_S8192x1_0_0 (W (Proc.devRef .tc main_v8_0))) (column 2 slices_S8192x128_S8192x1_0_2 (W (Proc.devRef .tc main_v8_0)))) (rowsOf (startsOf (roomsOf (countsOf (W (Proc.devRef .tc main_v8_1))))) (column 1 slices_S8192x128_S8192x1_0_1 (W (Proc.devRef .tc main_v8_0))) (column 3 slices_S8192x128_S8192x1_0_3 (W (Proc.devRef .tc main_v8_0))))) (blocksOf (endsOf (roomsOf (countsOf (W (Proc.devRef .tc main_v8_1))))))) := by
  simp only [List.flatten_cons, List.flatten_nil, List.append_nil, List.cons_append, List.nil_append]
  after_reads_simp
  simp -implicitDefEqProofs only [StableHlo.TRef.toBuf, StableHlo.TRef.ofBuf, cast_cast, cast_eq]
  clean_types
  rfl

theorem read_loss : StableHlo.after [hostOps1, hostOps1_1, hostOps1_2, hostOps1_3, hostOps1_4].flatten W (Proc.devRef .tc main_cst_22)
    = constant (F := Ideal) S_ .f32 0x00000000#32 := by
  simp only [List.flatten_cons, List.flatten_nil, List.append_nil, List.cons_append, List.nil_append]
  after_reads_simp

end

/-! ## Their values -/

section
variable (R : FVec Ideal S8192x128 .f32) (C : FVec Ideal S1x128 .f32) (S : ℕ → Fin 16 → EReal)
  (hR : ∀ (t : Fin 8192) (l : Fin 128), R (ix2 t l) = entry S t.val l.val) (hC : ∀ l : Fin 128, C (ix2 0 l) = tally S 8192 l.val)

theorem column_at (o : ℕ) (ho : o < 128) (h : S8192x128.Slices ![0, o] S8192x1) (t : Fin 8192) : column o h R (ix1 t) = R (ix2 t ⟨o, ho⟩) := by
  pointwise [column]

include hC in
theorem counts_at (e : Fin 16) : countsOf C (ix1 e) = BitVec.ofNat 32 (held (choice S) 16384 e.val) := by
  pointwise [countsOf]
  rw [hC, tally_held]
  exact fptosi_nat _ (lt_of_le_of_lt (held_le _ _ _) (by decide))

theorem down_at (x : IVec S16 32) (e : Fin 16) (n : ℕ) (hn : n < 2 ^ 31) (h : x (ix1 e) = BitVec.ofNat 32 n) : downOf x (ix1 e) = BitVec.ofNat 32 (n / 256 * 256) := by
  have q := Routing.pyDiv_ap bcast_S_S16 x (constantI S_ 32 256#32) (ix1 e) h rfl hn (b := 256) (by decide) (by decide)
  unfold downOf
  show IntOp.muli (Routing.pyDiv bcast_S_S16 x (constantI S_ 32 256#32) (ix1 e)) 256#32 = _
  rw [q]
  exact mul_word _ _

include hC in
theorem rooms_at (e : Fin 16) : roomsOf (countsOf C) (ix1 e) = BitVec.ofNat 32 (room (choice S) e.val) := by
  have hb := held_le (choice S) 16384 e.val
  refine down_at _ e _ (by omega) ?_
  show IntOp.subi (IntOp.addi (countsOf C (ix1 e)) 256#32) 1#32 = _
  rw [counts_at C S hC, add_word, sub_word _ 1 (by omega)]
  rfl

include hC in
theorem ends_at (e : Fin 16) : endsOf (roomsOf (countsOf C)) (ix1 e) = BitVec.ofNat 32 (start (choice S) (e.val + 1)) := by
  refine (Routing.cumsum1 (N := 16) (Nm1 := 15) rfl _ (room (choice S)) (rooms_at C S hC) _ rfl reduceWindows_S16_S16_w16s1p15_0 h_S_ e).trans ?_
  rw [sum_list]
  rfl

include hC in
theorem starts_at (e : Fin 16) : startsOf (roomsOf (countsOf C)) (ix1 e) = BitVec.ofNat 32 (start (choice S) e.val) := by
  show IntOp.subi (endsOf (roomsOf (countsOf C)) (ix1 e)) (roomsOf (countsOf C) (ix1 e)) = _
  rw [ends_at C S hC, rooms_at C S hC, start_succ, sub_word _ _ (Nat.le_add_left _ _), Nat.add_sub_cancel]

theorem back_at (n : BitVec 32) (x : IVec S8192 32) (t : Fin 8192) (k : ℕ) (hk : k < 2 ^ 31) (h : x (ix1 t) = BitVec.ofNat 32 k) : backOf n x (ix2 t 0) = BitVec.ofNat 32 k := by
  pointwise [backOf]
  rw [h]
  exact wrap_word k hk _

theorem rows_at (s : IVec S16 32) (a b : FVec Ideal S8192 .f32) (hs : ∀ e : Fin 16, s (ix1 e) = BitVec.ofNat 32 (start (choice S) e.val)) (t : Fin 8192) (e : Fin 16) (k : ℕ)
    (hk : k < 2 ^ 31) (ha : a (ix1 t) = number e) (hb : b (ix1 t) = ((k : ℝ) : EReal)) : rowsOf s a b (ix1 t) = BitVec.ofNat 32 (start (choice S) e.val + k) := by
  have h1 : fptosi 32 a (ix1 t) = BitVec.ofNat 32 e.val := (congrArg (FloatOps.fptosi (F := Ideal) (φ := .f32) 32) ha).trans (fptosi_nat e.val (by omega))
  have h2 : fptosi 32 b (ix1 t) = BitVec.ofNat 32 k := (congrArg (FloatOps.fptosi (F := Ideal) (φ := .f32) 32) hb).trans (fptosi_nat k hk)
  unfold rowsOf
  show IntOp.addi (Host.gather gather_S16_S8192x1_S8192_n_0_n_n_0_1_1 s (backOf 16#32 (fptosi 32 a)) (ix1 t)) (fptosi 32 b (ix1 t)) = _
  have h3 : Host.gather gather_S16_S8192x1_S8192_n_0_n_n_0_1_1 s (backOf 16#32 (fptosi 32 a)) (ix1 t) = s (ix1 e) :=
    Routing.gather_take1 gather_S16_S8192x1_S8192_n_0_n_n_0_1_1 rfl rfl rfl rfl s _ t e (back_at _ _ t _ (by omega) h1) (by decide)
  rw [h2, h3, hs, add_word]

include hR hC in
theorem rows1_at (t : Fin 8192) : rowsOf (startsOf (roomsOf (countsOf C))) (column 0 slices_S8192x128_S8192x1_0_0 R) (column 2 slices_S8192x128_S8192x1_0_2 R) (ix1 t)
    = BitVec.ofNat 32 (place (choice S) (2 * t.val)) := by
  have hb := held_le (choice S) (2 * t.val) (choice S (2 * t.val))
  have h2 : column 2 slices_S8192x128_S8192x1_0_2 R (ix1 t) = ((held (choice S) (2 * t.val) (choice S (2 * t.val)) : ℝ) : EReal) := by
    rw [column_at R 2 (by decide), hR, ← held_even, ← tally_held]
    rfl
  refine (rows_at S _ _ _ (starts_at C S hC) t (first (S t.val)) _ (by omega) ?_ h2).trans ?_
  · rw [column_at R 0 (by decide), hR]
    rfl
  · rw [← choice_even]
    rfl

include hR hC in
theorem rows2_at (t : Fin 8192) : rowsOf (startsOf (roomsOf (countsOf C))) (column 1 slices_S8192x128_S8192x1_0_1 R) (column 3 slices_S8192x128_S8192x1_0_3 R) (ix1 t)
    = BitVec.ofNat 32 (place (choice S) (2 * t.val + 1)) := by
  have hb := held_le (choice S) (2 * t.val + 1) (choice S (2 * t.val + 1))
  have h2 : column 3 slices_S8192x128_S8192x1_0_3 R (ix1 t) = ((held (choice S) (2 * t.val + 1) (choice S (2 * t.val + 1)) : ℝ) : EReal) := by
    rw [column_at R 3 (by decide), hR, ← held_odd, ← tally_held]
    rfl
  refine (rows_at S _ _ _ (starts_at C S hC) t (second (S t.val)) _ (by omega) ?_ h2).trans ?_
  · rw [column_at R 1 (by decide), hR]
    rfl
  · rw [← choice_odd]
    rfl

include hR in
theorem weight1_at (t : Fin 8192) : column 4 slices_S8192x128_S8192x1_0_4 R (ix1 t) = weight (S t.val) (first (S t.val)) := by
  rw [column_at R 4 (by decide), hR]
  rfl

include hR in
theorem weight2_at (t : Fin 8192) : column 5 slices_S8192x128_S8192x1_0_5 R (ix1 t) = weight (S t.val) (second (S t.val)) := by
  rw [column_at R 5 (by decide), hR]
  rfl

include hC in
theorem blocks_at (b : Fin 80) : blocksOf (endsOf (roomsOf (countsOf C))) (ix1 b)
    = BitVec.ofNat 32 (min (Nat.count (fun e => start (choice S) (e + 1) ≤ b.val * 256) 16) 15) := by
  have hE := ends_at C S hC
  generalize endsOf (roomsOf (countsOf C)) = x at hE
  unfold blocksOf
  refine Eq.trans (congrArg (IntOp.minsi · 15#32) (Routing.reduce_count (n := 80) (m := 16) (by decide) _ natLt_1_32 reducesTo_S80x16_S80_d1 h_S_ b
    (fun e => start (choice S) (e + 1) ≤ b.val * 256) fun e => ?_)) (min_word _ 15 (lt_of_le_of_lt (Nat.count_le _) (by decide)) (by decide))
  have hs := start_le (choice S) (choice_lt S) (show e.val + 1 ≤ 16 from e.isLt)
  have hx := hE e
  pointwise
  rw [hx]
  refine Iff.trans (iff_of_eq (congrArg (fun w => IntOp.cmpi .sge w _ = 1#1) (mul_word b.val 256))) (sge_word _ _ (by omega) (by omega))

theorem put_window (k : S8192.Idx) : scatter_S20480_S8192x1_S8192_n_0_0_1.window k 0 = 0 := rfl

theorem put_start (k : Fin 8192) (idx : IVec S8192x1 32) : scatter_S20480_S8192x1_S8192_n_0_0_1.start (ix1 k) idx 0 = (idx (ix2 k 0)).toInt := by
  refine congrArg (fun i => (idx i).toInt) (funext fun a => ?_)
  match a with
  | ⟨0, _⟩ => rfl
  | ⟨1, _⟩ => rfl

theorem tokens_at (p1 p2 : IVec S8192 32) (f : ℕ → ℕ) (hf : ∀ j, f j < 16) (h1 : ∀ t : Fin 8192, p1 (ix1 t) = BitVec.ofNat 32 (place f (2 * t.val)))
    (h2 : ∀ t : Fin 8192, p2 (ix1 t) = BitVec.ofNat 32 (place f (2 * t.val + 1))) (x : Fin 20480) : holds f x.val (tokensOf p1 p2 (ix1 x)) := by
  have b1 : ∀ t : Fin 8192, place f (2 * t.val) < 2 ^ 31 := fun t => lt_trans (place_lt f hf (by omega)) (by decide)
  have b2 : ∀ t : Fin 8192, place f (2 * t.val + 1) < 2 ^ 31 := fun t => lt_trans (place_lt f hf (by omega)) (by decide)
  have i1 := fun t => back_at 20480#32 p1 t _ (b1 t) (h1 t)
  have i2 := fun t => back_at 20480#32 p2 t _ (b2 t) (h2 t)
  unfold tokensOf
  refine ⟨fun j hj e => ?_, fun h => ?_⟩
  · rcases Nat.even_or_odd' j with ⟨k, rfl | rfl⟩
    · rw [put_miss _ put_window put_start _ _ _ (fun t => place f (2 * t + 1)) i2 b2 x fun t q => by
        have := place_inj f (by omega) hj (q.trans e.symm)
        omega]
      rw [put_hit _ put_window put_start _ _ _ (fun t => place f (2 * t)) i1 b1 ⟨k, by omega⟩ x e fun t q => Fin.ext (by
        have := place_inj f (by omega) hj (q.trans e.symm)
        show t.val = k
        omega)]
      rw [Nat.mul_div_cancel_left _ (by decide)]
      rfl
    · rw [put_hit _ put_window put_start _ _ _ (fun t => place f (2 * t + 1)) i2 b2 ⟨k, by omega⟩ x e fun t q => Fin.ext (by
        have := place_inj f (by omega) hj (q.trans e.symm)
        show t.val = k
        omega)]
      rw [show (2 * k + 1) / 2 = k by omega]
      rfl
  · rw [put_miss _ put_window put_start _ _ _ (fun t => place f (2 * t + 1)) i2 b2 x fun t => h _ (by omega),
      put_miss _ put_window put_start _ _ _ (fun t => place f (2 * t)) i1 b1 x fun t => h _ (by omega)]
    rfl

end

end Cert.Proof.RouteTail

end
-- ==== Proof.RouteRef.lean ====
/-
  The routing's reference at an index: the same rows, weights, blocks' experts and rows' tokens, of the same scores.
-/
module

public import Idealize.ShloMosaic.Lib.Pointwise
public import Idealize.ShloMosaic.Lib.ValueIdxCore
public import proofs.«01_k».proof.Proof.Gen.RouteRefIdeal.Run
public import proofs.«01_k».proof.Proof.RouteMath

@[expose] public section

noncomputable section

namespace Cert.Proof.RouteRef

open Cert.RouteRefIdeal Cert.RouteRefIdeal.Gen
open Idealize.ShloMosaic
open Idealize.ShloMosaic.TcCoe
open Cert.Proof.GateMath Cert.Proof.GatePay Cert.Proof.RouteMath
open Cert.Proof.GateFold (tally)
open Cert.Proof.GateRef (zOf pOf topOf wOf slotsOf rankOf choice choice_lt choice_even choice_odd top_at slot_at rank_at weight_at slotsOf_at)
open scoped BigOperators

/-- How many slots every expert has. -/
def countsOf (s : IVec S16384 32) : IVec S16 32 :=
  fptosi 32 (Host.reduceAdd (F := Ideal) (uitofp .f32 (cmpi .eq
    (broadcastInDim S16384x16 ![0, 1] bcast_S16384x1_S16384x16_0_1 (broadcastInDim S16384x1 ![0] bcast_S16384_S16384x1_0 s))
    (broadcastInDim S16384x16 ![0, 1] bcast_S1x16_S16384x16_0_1 (broadcastInDim S1x16 ![1] bcast_S16_S1x16_1 (iotaInDim S16 32 0)))))
    (constant S_ .f32 0x00000000#32) reducesTo_S16384x16_S16_d0 h_S_)

/-- The rows set aside for the experts. -/
def roomsOf (n : IVec S16 32) : IVec S16 32 :=
  muli (Routing.pyDiv bcast_S_S16 (addi n (broadcastInDim S16 ![] bcast_S_S16 (constantI S_ 32 255#32))) (constantI S_ 32 256#32))
    (broadcastInDim S16 ![] bcast_S_S16 (constantI S_ 32 256#32))

/-- The experts before every expert, with their rows. -/
def beforeOf (r : IVec S16 32) : IVec S16x16 32 :=
  select (cmpi .slt (broadcastInDim S16x16 ![0, 1] bcast_S1x16_S16x16_0_1 (broadcastInDim S1x16 ![1] bcast_S16_S1x16_1 (iotaInDim S16 32 0)))
      (broadcastInDim S16x16 ![0, 1] bcast_S16x1_S16x16_0_1 (broadcastInDim S16x1 ![0] bcast_S16_S16x1_0 (iotaInDim S16 32 0))))
    (broadcastInDim S16x16 ![0, 1] bcast_S1x16_S16x16_0_1 (broadcastInDim S1x16 ![1] bcast_S16_S1x16_1 r)) (broadcastInDim S16x16 ![] bcast_S_S16x16 (constantI S_ 32 0#32))

/-- Where every expert's rows start. -/
def startsOf (r : IVec S16 32) : IVec S16 32 := Host.reduce IntOp.addi (beforeOf r) (constantI S_ 32 0#32) reducesTo_S16x16_S16_d1 h_S_

/-- The experts as indices of the starts. -/
def indexOf (i : IVec S8192x2 32) : IVec S8192x2x1 32 :=
  broadcastInDim S8192x2x1 ![0, 1] bcast_S8192x2_S8192x2x1_0_1 (select (cmpi .slt i (broadcastInDim S8192x2 ![] bcast_S_S8192x2 (constantI S_ 32 0#32)))
    (addi i (broadcastInDim S8192x2 ![] bcast_S_S8192x2 (constantI S_ 32 16#32))) i)

/-- The rows of the tokens. -/
def posOf (s : IVec S16 32) (i : IVec S8192x2 32) (r : FVec Ideal S8192x2 .f32) : IVec S8192x2 32 :=
  addi (Host.gather gather_S16_S8192x2x1_S8192x2_n_0_n_n_0_2_1 s (indexOf i)) (fptosi 32 r)

/-- The blocks' experts. -/
def blocksOf (s r : IVec S16 32) : IVec S80 32 :=
  minsi (Host.reduce IntOp.addi (extui 32 (cmpi .sle
      (broadcastInDim S80x16 ![0, 1] bcast_S1x16_S80x16_0_1 (broadcastInDim S1x16 ![1] bcast_S16_S1x16_1 (addi s r)))
      (broadcastInDim S80x16 ![0, 1] bcast_S80x1_S80x16_0_1 (muli (broadcastInDim S80x1 ![] bcast_S_S80x1 (constantI S_ 32 256#32)) (broadcastInDim S80x1 ![0] bcast_S80_S80x1_0 (iotaInDim S80 32 0)))))
      natLt_1_32) (constantI S_ 32 0#32) reducesTo_S80x16_S80_d1 h_S_)
    (broadcastInDim S80 ![] bcast_S_S80 (constantI S_ 32 15#32))

/-- The rows as indices. -/
def backOf (x : IVec S16384 32) : IVec S16384x1 32 :=
  broadcastInDim S16384x1 ![0] bcast_S16384_S16384x1_0 (select (cmpi .slt x (broadcastInDim S16384 ![] bcast_S_S16384 (constantI S_ 32 0#32)))
    (addi x (broadcastInDim S16384 ![] bcast_S_S16384 (constantI S_ 32 20480#32))) x)

/-- Every slot's token. -/
def ownersOf : IVec S16384 32 := shapeCast S16384 (broadcastInDim S8192x2 ![0] bcast_S8192_S8192x2_0 (iotaInDim S8192 32 0)) shapeCasts_S8192x2_S16384

/-- The rows' tokens. -/
def tokensOf (p : IVec S8192x2 32) : IVec S20480 32 :=
  Host.scatter scatter_S20480_S16384x1_S16384_n_0_0_1 (fun _ b => b) (broadcastInDim S20480 ![] bcast_S_S20480 (constantI S_ 32 0#32))
    (backOf (shapeCast S16384 p shapeCasts_S8192x2_S16384)) ownersOf

/-- The sum of the rows' tokens and of the blocks' experts. -/
def totalOf (k : IVec S20480 32) (b : IVec S80 32) : IVec S_ 32 :=
  addi (Host.reduce IntOp.addi k (constantI S_ 32 0#32) reducesTo_S20480_S_d0 h_S_) (Host.reduce IntOp.addi b (constantI S_ 32 0#32) reducesTo_S80_S_d0 h_S_)

/-- Every row the first token's, scaled. -/
def stubOf (X : FVec Ideal S8192x1024 .f32) (n : IVec S_ 32) : FVec Ideal S8192x1024 .f32 :=
  broadcastInDim S8192x1024 ![1] bcast_S1024_S8192x1024_1 (mulf (broadcastInDim S1024 ![] bcast_S_S1024 (mulf (constant (F := Ideal) S_ .f32 0x3089705F#32) (sitofp .f32 n)))
    (shapeCast S1024 (extractStridedSlice S1x1024 ![0, 0] X slices_S8192x1024_S1x1024_0_0) shapeCasts_S1x1024_S1024))

/-- One column. -/
def columnOf {α : Type} (o : ℕ) (h : S8192x2.Slices ![0, o] S8192x1) (x : S8192x2.Idx → α) : S8192.Idx → α :=
  shapeCast S8192 (extractStridedSlice S8192x1 ![0, o] x h) shapeCasts_S8192x1_S8192

section
variable (m : (ℓ : Loc nD τ sig) → Buf (Elt Ideal) ℓ) (c : Dev nD)

abbrev tops : FVec Ideal S8192x2 .f32 × IVec S8192x2 32 :=
  topOf (pOf (zOf (m ((c.tc : Thread nD τ).loc main_arg0)) (m ((c.tc : Thread nD τ).loc main_arg1)) (m ((c.tc : Thread nD τ).loc main_arg2))))

abbrev rooms : IVec S16 32 := roomsOf (countsOf (slotsOf (tops m c).2))
abbrev pos : IVec S8192x2 32 := posOf (startsOf (rooms m c)) (tops m c).2 (rankOf (slotsOf (tops m c).2))

set_option maxRecDepth 8192 in
theorem res_rows1 : Value.res_main_v104 m c = columnOf 0 slices_S8192x2_S8192x1_0_0 (pos m c) := rfl
set_option maxRecDepth 8192 in
theorem res_rows2 : Value.res_main_v106 m c = columnOf 1 slices_S8192x2_S8192x1_0_1 (pos m c) := rfl
set_option maxRecDepth 8192 in
theorem res_weight1 : Value.res_main_v108 m c = columnOf 0 slices_S8192x2_S8192x1_0_0 (wOf (tops m c).1) := rfl
set_option maxRecDepth 8192 in
theorem res_weight2 : Value.res_main_v110 m c = columnOf 1 slices_S8192x2_S8192x1_0_1 (wOf (tops m c).1) := rfl
set_option maxRecDepth 8192 in
theorem res_blocks : Value.res_main_v80 m c = blocksOf (startsOf (rooms m c)) (rooms m c) := rfl
set_option maxRecDepth 8192 in
theorem res_tokens : Value.res_main_v92 m c = tokensOf (pos m c) := rfl
set_option maxRecDepth 8192 in
theorem res_stub : Value.res_main_v102 m c = stubOf (m ((c.tc : Thread nD τ).loc main_arg0)) (totalOf (tokensOf (pos m c)) (blocksOf (startsOf (rooms m c)) (rooms m c))) := rfl
end

theorem fold_word (g : Fin 16 → ℕ) (s : Finset (Fin 16)) : s.fold IntOp.addi 0#32 (fun x => BitVec.ofNat 32 (g x)) = BitVec.ofNat 32 (∑ x ∈ s, g x) := by
  induction s using Finset.induction_on with
  | empty => rfl
  | insert a s ha ih => rw [Finset.fold_insert ha, ih, add_word, Finset.sum_insert ha]

theorem column_at {α : Type} (o : ℕ) (ho : o < 2) (h : S8192x2.Slices ![0, o] S8192x1) (x : S8192x2.Idx → α) (t : Fin 8192) : columnOf o h x (ix1 t) = x (ix2 t ⟨o, ho⟩) := by
  pointwise [columnOf]

section
variable (p : FVec Ideal S8192x16 .f32) (S : ℕ → Fin 16 → EReal) (hp : ∀ (t : Fin 8192) e, p (ix2 t e) = S t.val e)

include hp in
theorem counts_at (e : Fin 16) : countsOf (slotsOf (topOf p).2) (ix1 e) = BitVec.ofNat 32 (held (choice S) 16384 e.val) := by
  have hc := choice_lt S
  have hs := slot_at p S hp
  generalize slotsOf (topOf p).2 = s at hs
  refine Eq.trans ?_ (fptosi_nat _ (lt_of_le_of_lt (held_le (choice S) 16384 e.val) (by decide)))
  rw [← sum_bits, ← Fin.sum_univ_eq_sum_range (fun x => if choice S x = e.val then (1 : EReal) else 0) 16384]
  pointwise [countsOf]
  refine congrArg _ (Finset.sum_congr rfl fun x _ => ?_)
  rw [uitofp_bit]
  refine if_congr ?_ rfl rfl
  rw [cmpi_eq_one, hs, small_inj _ _ (by have := hc x.val; omega) (by omega)]

include hp in
theorem rooms_at (e : Fin 16) : roomsOf (countsOf (slotsOf (topOf p).2)) (ix1 e) = BitVec.ofNat 32 (room (choice S) e.val) := by
  have hb := held_le (choice S) 16384 e.val
  have h : addi (countsOf (slotsOf (topOf p).2)) (broadcastInDim S16 ![] bcast_S_S16 (constantI S_ 32 255#32)) (ix1 e) = BitVec.ofNat 32 (held (choice S) 16384 e.val + 255) := by
    show IntOp.addi (countsOf (slotsOf (topOf p).2) (ix1 e)) 255#32 = _
    rw [counts_at p S hp, add_word]
  have q := Routing.pyDiv_ap bcast_S_S16 _ (constantI S_ 32 256#32) (ix1 e) h rfl (by omega) (b := 256) (by decide) (by decide)
  exact (congrArg (IntOp.muli · 256#32) q).trans (mul_word _ _)

theorem starts_at (r : IVec S16 32) (g : ℕ → ℕ) (hr : ∀ e : Fin 16, r (ix1 e) = BitVec.ofNat 32 (g e.val)) (e : Fin 16) :
    startsOf r (ix1 e) = BitVec.ofNat 32 (∑ i ∈ Finset.range e.val, g i) := by
  have hv : ∀ x : Fin 16, beforeOf r (ix2 e x) = BitVec.ofNat 32 (if x.val < e.val then g x.val else 0) := fun x => by
    pointwise [beforeOf]
    rw [hr, select_def, apply_ite (BitVec.ofNat 32)]
    exact if_congr (cmpi_slt_one _ _ (by omega) (by omega)) rfl rfl
  generalize hb : beforeOf r = B at hv
  unfold startsOf
  rw [hb]
  pointwise
  rw [funext hv]
  refine (fold_word (fun x => if x.val < e.val then g x.val else 0) _).trans (congrArg (BitVec.ofNat 32) ?_)
  rw [Fin.sum_univ_eq_sum_range (fun x => if x < e.val then g x else 0) 16, ← Finset.sum_filter]
  refine Finset.sum_congr (Finset.ext fun x => ?_) fun _ _ => rfl
  rw [Finset.mem_filter, Finset.mem_range, Finset.mem_range]
  omega

theorem take_at (s : IVec S16 32) (i : IVec S8192x2 32) (t : Fin 8192) (k : Fin 2) (e : Fin 16) (h : i (ix2 t k) = BitVec.ofNat 32 e.val) :
    Host.gather gather_S16_S8192x2x1_S8192x2_n_0_n_n_0_2_1 s (indexOf i) (ix2 t k) = s (ix1 e) := by
  have hi : indexOf i (ValueIdx.takeIdx (ix2 t k)) = BitVec.ofNat 32 e.val := by
    have h0 : (ValueIdx.takeIdx (ix2 t k) : S8192x2x1.Idx) = ValueIdx.ix3 t k 0 := by
      funext a
      match a with
      | ⟨0, _⟩ => rfl
      | ⟨1, _⟩ => rfl
      | ⟨2, _⟩ => rfl
    rw [h0]
    pointwise [indexOf]
    rw [h]
    exact wrap_word e.val (by omega) _
  refine (ValueIdx.gather_take_apply (N := 16) (R := 8192) (C := 2) (by decide) gather_S16_S8192x2x1_S8192x2_n_0_n_n_0_2_1_wf s (indexOf i) (ix2 t k)).trans ?_
  refine congrArg (fun q => s (ix1 q)) (Fin.ext ?_)
  show min (indexOf i (ValueIdx.takeIdx (ix2 t k))).toInt.toNat (16 - 1) = e.val
  rw [hi, toInt_small _ (by omega), Int.toNat_natCast]
  omega

include hp in
theorem pos_at (t : Fin 8192) (k : Fin 2) :
    posOf (startsOf (roomsOf (countsOf (slotsOf (topOf p).2)))) (topOf p).2 (rankOf (slotsOf (topOf p).2)) (ix2 t k) = BitVec.ofNat 32 (place (choice S) (2 * t.val + k.val)) := by
  have hs := starts_at _ (room (choice S)) (rooms_at p S hp)
  have ht := (top_at p S hp t k).2
  have hk := rank_at p S hp t k
  generalize startsOf (roomsOf (countsOf (slotsOf (topOf p).2))) = s at hs
  generalize rankOf (slotsOf (topOf p).2) = r at hk
  generalize (topOf p).2 = i at ht
  have he : tally S t.val (if k.val = 0 then first (S t.val) else second (S t.val)).val
        = ((held (choice S) (2 * t.val + k.val) (choice S (2 * t.val + k.val)) : ℝ) : EReal)
      ∧ (if k.val = 0 then first (S t.val) else second (S t.val)).val = choice S (2 * t.val + k.val) := by
    rw [tally_held]
    match k with
    | ⟨0, _⟩ =>
      rw [if_pos rfl]
      exact ⟨congrArg (fun n : ℕ => ((n : ℝ) : EReal)) (held_even S t.val), (choice_even S t.val).symm⟩
    | ⟨1, _⟩ =>
      rw [if_neg Nat.one_ne_zero]
      exact ⟨congrArg (fun n : ℕ => ((n : ℝ) : EReal)) (held_odd S t.val), (choice_odd S t.val).symm⟩
  rw [he.1] at hk
  have hb := held_le (choice S) (2 * t.val + k.val) (choice S (2 * t.val + k.val))
  have h2 : fptosi 32 r (ix2 t k) = _ := (congrArg (FloatOps.fptosi (F := Ideal) (φ := .f32) 32) hk).trans (fptosi_nat _ (by omega))
  unfold posOf
  show IntOp.addi (Host.gather gather_S16_S8192x2x1_S8192x2_n_0_n_n_0_2_1 s (indexOf i) (ix2 t k)) (fptosi 32 r (ix2 t k)) = _
  rw [h2, take_at s i t k _ ht, hs, add_word, he.2]
  rfl

include hp in
theorem blocks_at (b : Fin 80) : blocksOf (startsOf (roomsOf (countsOf (slotsOf (topOf p).2)))) (roomsOf (countsOf (slotsOf (topOf p).2))) (ix1 b)
    = BitVec.ofNat 32 (min (Nat.count (fun e => start (choice S) (e + 1) ≤ b.val * 256) 16) 15) := by
  have hR := rooms_at p S hp
  have hS := starts_at _ (room (choice S)) hR
  generalize roomsOf (countsOf (slotsOf (topOf p).2)) = r at hR hS
  generalize startsOf r = s at hS
  unfold blocksOf
  refine Eq.trans (congrArg (IntOp.minsi · 15#32) (Routing.reduce_count (n := 80) (m := 16) (by decide) _ natLt_1_32 reducesTo_S80x16_S80_d1 h_S_ b
    (fun e => start (choice S) (e + 1) ≤ b.val * 256) fun e => ?_)) (min_word _ 15 (lt_of_le_of_lt (Nat.count_le _) (by decide)) (by decide))
  have hs := start_le (choice S) (choice_lt S) (show e.val + 1 ≤ 16 from e.isLt)
  have hx : IntOp.addi (s (ix1 e)) (r (ix1 e)) = BitVec.ofNat 32 (start (choice S) (e.val + 1)) := by
    rw [hS, hR, add_word]
    exact congrArg _ (start_succ _ _).symm
  pointwise
  rw [hx]
  refine Iff.trans (iff_of_eq (congrArg (fun w => IntOp.cmpi .sle _ w = 1#1) ((mul_word 256 b.val).trans (congrArg (BitVec.ofNat 32) (Nat.mul_comm _ _))))) ?_
  exact sge_word (b.val * 256) _ (by omega) (by omega)

theorem back_at (x : IVec S16384 32) (j : Fin 16384) (k : ℕ) (hk : k < 2 ^ 31) (h : x (ix1 j) = BitVec.ofNat 32 k) : backOf x (ix2 j 0) = BitVec.ofNat 32 k := by
  pointwise [backOf]
  rw [h]
  exact wrap_word k hk _

theorem owners_at (j : Fin 16384) : ownersOf (ix1 j) = BitVec.ofNat 32 (j.val / 2) := by pointwise [ownersOf]

theorem put_window (k : S16384.Idx) : scatter_S20480_S16384x1_S16384_n_0_0_1.window k 0 = 0 := rfl

theorem put_start (k : Fin 16384) (idx : IVec S16384x1 32) : scatter_S20480_S16384x1_S16384_n_0_0_1.start (ix1 k) idx 0 = (idx (ix2 k 0)).toInt := by
  refine congrArg (fun i => (idx i).toInt) (funext fun a => ?_)
  match a with
  | ⟨0, _⟩ => rfl
  | ⟨1, _⟩ => rfl

theorem tokens_at (q : IVec S8192x2 32) (f : ℕ → ℕ) (hf : ∀ j, f j < 16) (h : ∀ (t : Fin 8192) (k : Fin 2), q (ix2 t k) = BitVec.ofNat 32 (place f (2 * t.val + k.val))) (x : Fin 20480) :
    holds f x.val (tokensOf q (ix1 x)) := by
  have b : ∀ j : Fin 16384, place f j.val < 2 ^ 31 := fun j => lt_trans (place_lt f hf j.isLt) (by decide)
  have i : ∀ j : Fin 16384, shapeCast S16384 q shapeCasts_S8192x2_S16384 (ix1 j) = BitVec.ofNat 32 (place f j.val) := fun j => by
    refine (slotsOf_at q j).trans ((h _ _).trans (congrArg (fun n => BitVec.ofNat 32 (place f n)) ?_))
    show 2 * (j.val / 2) + j.val % 2 = j.val
    omega
  have i' := fun j => back_at _ j _ (b j) (i j)
  unfold tokensOf
  refine ⟨fun j hj e => ?_, fun h => ?_⟩
  · rw [put_hit _ put_window put_start _ _ _ (place f) i' b ⟨j, hj⟩ x e fun k q => Fin.ext (place_inj f k.isLt hj (q.trans e.symm))]
    exact owners_at _
  · rw [put_miss _ put_window put_start _ _ _ (place f) i' b x fun k => h _ k.isLt]
    rfl

include hp in
theorem weights_at (t : Fin 8192) (k : Fin 2) : wOf (topOf p).1 (ix2 t k) = weight (S t.val) (if k.val = 0 then first (S t.val) else second (S t.val)) := weight_at p S hp t k

end

end Cert.Proof.RouteRef

end
-- ==== Proof.RouteAlg.lean ====
/-
  The routing: the program's run and the reference's end with equal results.
-/
module

public import proofs.«01_k».proof.Proof.GateAlg
public import proofs.«01_k».proof.Proof.RouteTail
public import proofs.«01_k».proof.Proof.RouteRef

@[expose] public section

noncomputable section

namespace Cert.Proof.RouteAlg

open Cert.RouteIdeal Cert.RouteIdeal.Gen
open Idealize.ShloMosaic Idealize.SL.Sem
open Idealize.ShloMosaic.TcCoe
open Cert.Proof.GateMath Cert.Proof.GatePay Cert.Proof.RouteVal
open Cert.Proof.GateFold (tally entry)
open Cert.Proof.GateRef (zOf pOf topOf wOf slotsOf rankOf zOf_at pOf_at choice choice_lt)
open Cert.Proof.RouteMath (place holds_eq)

section
variable (m : (ℓ : Loc nD τ sig) → Buf (Elt Ideal) ℓ) (g : Dev nD → PrngReg) (c : Dev nD)

/-- The records after the call. -/
abbrev recs : FVec Ideal S8192x128 .f32 := (dats m 0 c).arrAt 3 cfg0.N

/-- The counts after the call. -/
abbrev cnts : FVec Ideal S1x128 .f32 := (dats m 0 c).arrAt 4 cfg0.N

/-- The starts of the experts' rows. -/
abbrev starts : IVec S16 32 := RouteTail.startsOf (RouteTail.roomsOf (RouteTail.countsOf (cnts m c)))

abbrev rows1 : IVec S8192 32 := RouteTail.rowsOf (starts m c) (RouteTail.column 0 slices_S8192x128_S8192x1_0_0 (recs m c)) (RouteTail.column 2 slices_S8192x128_S8192x1_0_2 (recs m c))
abbrev rows2 : IVec S8192 32 := RouteTail.rowsOf (starts m c) (RouteTail.column 1 slices_S8192x128_S8192x1_0_1 (recs m c)) (RouteTail.column 3 slices_S8192x128_S8192x1_0_3 (recs m c))
abbrev weight1 : FVec Ideal S8192 .f32 := RouteTail.column 4 slices_S8192x128_S8192x1_0_4 (recs m c)
abbrev weight2 : FVec Ideal S8192 .f32 := RouteTail.column 5 slices_S8192x128_S8192x1_0_5 (recs m c)
abbrev blocks : IVec S80 32 := RouteTail.blocksOf (RouteTail.endsOf (RouteTail.roomsOf (RouteTail.countsOf (cnts m c))))
abbrev tokens : IVec S20480 32 := RouteTail.tokensOf (rows1 m c) (rows2 m c)

abbrev stub : FVec Ideal S8192x1024 .f32 := RouteTail.stubOf (m ((c.tc : Thread nD τ).loc main_arg0)) (RouteTail.totalOf (tokens m c) (blocks m c))

/-- The contents of the buffers when the call has ended. -/
abbrev ended : Valuation τ sig (Elt Ideal) := Pipeline.withArrays (cfgs 0).spec c (V0 m c) fun w => (dats m 0 c).arrAt w (cfgs 0).N

theorem ended_recs : ended m c (Proc.devRef .tc main_v8_0) = recs m c :=
  Pipeline.withArrays_arr (cfgs 0).spec launch0.win.arr_inj c (V0 m c) (fun w => (dats m 0 c).arrAt w (cfgs 0).N) 3

theorem ended_cnts : ended m c (Proc.devRef .tc main_v8_1) = cnts m c :=
  Pipeline.withArrays_arr (cfgs 0).spec launch0.win.arr_inj c (V0 m c) (fun w => (dats m 0 c).arrAt w (cfgs 0).N) 4

theorem ended_arg0 : ended m c (Proc.devRef .tc main_arg0) = m ((c.tc : Thread nD τ).loc main_arg0) :=
  (Pipeline.withArrays_arr (cfgs 0).spec launch0.win.arr_inj c (V0 m c) (fun w => (dats m 0 c).arrAt w (cfgs 0).N) 0).trans
    (((dats m 0 c).arrAt_in 0 rfl _).trans ((A_eq m c 0).trans (V_main_arg0 m c)))

/-- What the program leaves in its results. -/
theorem run : θ_run (defs (F := Ideal)) (onTc (τ := τ) (main (F := Ideal))) ⟨m, fun _ => 0, g⟩ (fun r => ∀ c : Dev nD,
    r.2.mem ((c.tc : Thread nD τ).loc main_v44) = rows1 m c
    ∧ r.2.mem ((c.tc : Thread nD τ).loc main_v52) = rows2 m c
    ∧ r.2.mem ((c.tc : Thread nD τ).loc main_v22) = weight1 m c
    ∧ r.2.mem ((c.tc : Thread nD τ).loc main_v24) = weight2 m c
    ∧ r.2.mem ((c.tc : Thread nD τ).loc main_v64) = blocks m c
    ∧ r.2.mem ((c.tc : Thread nD τ).loc main_v80) = tokens m c
    ∧ r.2.mem ((c.tc : Thread nD τ).loc main_v90) = stub m c
    ∧ r.2.mem ((c.tc : Thread nD τ).loc main_cst_22) = constant (F := Ideal) S_ .f32 0x00000000#32
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)) := by
  refine (θ_run _ _ _).mono (fun r h c => ?_) (θ_run_and (run_main (F := Ideal) m g) (unchanged (F := Ideal) m g))
  have e := (h.1 c).2
  have e1 := (e main_v44 (Pipeline.mem_restRefs_of main_v44 (by decide) (by decide))).trans (RouteTail.read_rows1 (ended m c))
  have e2 := (e main_v52 (Pipeline.mem_restRefs_of main_v52 (by decide) (by decide))).trans (RouteTail.read_rows2 (ended m c))
  have e3 := (e main_v22 (Pipeline.mem_restRefs_of main_v22 (by decide) (by decide))).trans (RouteTail.read_weight1 (ended m c))
  have e4 := (e main_v24 (Pipeline.mem_restRefs_of main_v24 (by decide) (by decide))).trans (RouteTail.read_weight2 (ended m c))
  have e5 := (e main_v64 (Pipeline.mem_restRefs_of main_v64 (by decide) (by decide))).trans (RouteTail.read_blocks (ended m c))
  have e6 := (e main_v80 (Pipeline.mem_restRefs_of main_v80 (by decide) (by decide))).trans (RouteTail.read_tokens (ended m c))
  have e7 := (e main_v90 (Pipeline.mem_restRefs_of main_v90 (by decide) (by decide))).trans (RouteTail.read_stub (ended m c))
  have e8 := (e main_cst_22 (Pipeline.mem_restRefs_of main_cst_22 (by decide) (by decide))).trans (RouteTail.read_loss (ended m c))
  rw [ended_recs, ended_cnts] at e1 e2 e6
  rw [ended_recs, ended_cnts, ended_arg0] at e7
  rw [ended_recs] at e3 e4
  rw [ended_cnts] at e5
  exact ⟨e1, e2, e3, e4, e5, e6, e7, e8, h.2 c⟩

end

/-- The reference's scores are the program's. -/
theorem scores_eq (m : (ℓ : Loc nD τ sig) → Buf (Elt Ideal) ℓ) (c : Dev nD) (t : Fin 8192) (e : Fin 16) :
    pOf (zOf (m ((c.tc : Thread nD τ).loc main_arg0)) (m ((c.tc : Thread nD τ).loc main_arg1)) (m ((c.tc : Thread nD τ).loc main_arg2))) (ix2 t e) = Sof m c t.val e := by
  have ht : Fin.ofNat 8192 t.val = t := Fin.ext (Nat.mod_eq_of_lt t.isLt)
  refine (pOf_at _ t e).trans (congrArg (fun z => softmax z e) (funext fun e' => (zOf_at _ _ _ t e').trans ?_))
  refine congrArg (fun x => logit x (Wof m c) (Bof m c) e') (funext fun d => ?_)
  show _ = m ((c.tc : Thread nD τ).loc main_arg0) (ix2 (Fin.ofNat 8192 t.val) d)
  rw [ht]

theorem exists_ix1 {a : ℕ} (i : (⟨1, ![a]⟩ : Shape).Idx) : ∃ p : Fin a, i = ix1 p := ⟨i 0, funext fun a => by match a with | ⟨0, _⟩ => rfl⟩

/-- The two write the scaled row alike. -/
theorem stub_eq (X : FVec Ideal S8192x1024 .f32) (n : IVec S_ 32) : RouteRef.stubOf X n = RouteTail.stubOf X n := by
  funext i
  obtain ⟨t, d, rfl⟩ := exists_ix2 (a := 8192) (b := 1024) i
  pointwise [RouteRef.stubOf, RouteTail.stubOf]
  exact (mul_comm _ _).trans (congrArg _ (mul_comm _ _))

set_option maxRecDepth 8192 in
theorem algebraic : Cert.algebraic_RouteIdeal_RouteRefIdeal_pre_in_finite := by
  intro m g m' g' hpre hm
  have hf : ∀ c t e, Fin' (logit (Xof m c t) (Wof m c) (Bof m c) e) := fun c t e => by
    obtain ⟨hX, hW, hb⟩ := GateAlg.all_fin _ _ _ (hpre c)
    exact logit_fin _ _ _ (fun d => hX _) (fun d e => hW _) (fun e => hb _) e
  have hR := fun c => records_at m c (hf c)
  have hC := fun c => counts_at m c (hf c)
  have ht : ∀ c, RouteRef.tops m' c = topOf (pOf (zOf (m ((c.tc : Thread nD τ).loc main_arg0)) (m ((c.tc : Thread nD τ).loc main_arg1)) (m ((c.tc : Thread nD τ).loc main_arg2)))) := fun c => by
    unfold RouteRef.tops
    rw [(hm c).1, (hm c).2.1, (hm c).2.2]
  have hp := fun c => RouteRef.pos_at _ (Sof m c) (scores_eq m c)
  have hw := fun c => RouteRef.weights_at _ (Sof m c) (scores_eq m c)
  have hb : ∀ c, RouteRef.blocksOf (RouteRef.startsOf (RouteRef.rooms m' c)) (RouteRef.rooms m' c) = blocks m c := fun c => by
    funext i
    obtain ⟨b, rfl⟩ := exists_ix1 (a := 80) i
    unfold RouteRef.rooms
    rw [ht c]
    exact (RouteRef.blocks_at _ (Sof m c) (scores_eq m c) b).trans (RouteTail.blocks_at _ (Sof m c) (hC c) b).symm
  have hk : ∀ c, RouteRef.tokensOf (RouteRef.pos m' c) = tokens m c := fun c => by
    funext i
    obtain ⟨x, rfl⟩ := exists_ix1 (a := 20480) i
    unfold RouteRef.pos RouteRef.rooms
    rw [ht c]
    exact holds_eq (choice (Sof m c)) x.val _ _ (RouteRef.tokens_at _ _ (choice_lt _) (hp c) x)
      (RouteTail.tokens_at _ _ _ (choice_lt _) (RouteTail.rows1_at _ _ (Sof m c) (hR c) (hC c)) (RouteTail.rows2_at _ _ (Sof m c) (hR c) (hC c)) x)
  refine ⟨rows1 m, rows2 m, weight1 m, weight2 m, blocks m, tokens m, stub m, fun _ => constant (F := Ideal) S_ .f32 0x00000000#32, run m g, ?_⟩
  refine (θ_run _ _ _).mono (fun _ h c => ⟨(h c).1.trans ?_, (h c).2.1.trans ?_, (h c).2.2.1.trans ?_, (h c).2.2.2.1.trans ?_, (h c).2.2.2.2.1.trans ?_, (h c).2.2.2.2.2.1.trans ?_,
    (h c).2.2.2.2.2.2.1.trans ?_, (h c).2.2.2.2.2.2.2⟩) (Cert.RouteRefIdeal.Value.run (F := Ideal) m' g')
  · refine (RouteRef.res_rows1 m' c).trans (funext fun i => ?_)
    obtain ⟨t, rfl⟩ := exists_ix1 (a := 8192) i
    unfold RouteRef.pos RouteRef.rooms
    rw [ht c]
    exact (RouteRef.column_at 0 (by decide) _ _ t).trans ((hp c t 0).trans (RouteTail.rows1_at _ _ (Sof m c) (hR c) (hC c) t).symm)
  · refine (RouteRef.res_rows2 m' c).trans (funext fun i => ?_)
    obtain ⟨t, rfl⟩ := exists_ix1 (a := 8192) i
    unfold RouteRef.pos RouteRef.rooms
    rw [ht c]
    exact (RouteRef.column_at 1 (by decide) _ _ t).trans ((hp c t 1).trans (RouteTail.rows2_at _ _ (Sof m c) (hR c) (hC c) t).symm)
  · refine (RouteRef.res_weight1 m' c).trans (funext fun i => ?_)
    obtain ⟨t, rfl⟩ := exists_ix1 (a := 8192) i
    rw [ht c]
    exact (RouteRef.column_at 0 (by decide) _ _ t).trans ((hw c t 0).trans (RouteTail.weight1_at _ (Sof m c) (hR c) t).symm)
  · refine (RouteRef.res_weight2 m' c).trans (funext fun i => ?_)
    obtain ⟨t, rfl⟩ := exists_ix1 (a := 8192) i
    rw [ht c]
    exact (RouteRef.column_at 1 (by decide) _ _ t).trans ((hw c t 1).trans (RouteTail.weight2_at _ (Sof m c) (hR c) t).symm)
  · exact (RouteRef.res_blocks m' c).trans (hb c)
  · exact (RouteRef.res_tokens m' c).trans (hk c)
  · refine (RouteRef.res_stub m' c).trans ((stub_eq _ _).trans ?_)
    rw [hk c, hb c, (hm c).1]
    rfl

end Cert.Proof.RouteAlg

end
-- ==== Proof.lean ====
module

public import proofs.«01_k».proof.Defs
public import proofs.«01_k».proof.Proof.GatherValue
public import proofs.«01_k».proof.Proof.GatherAlg
public import proofs.«01_k».proof.Proof.CombineValue
public import proofs.«01_k».proof.Proof.CombineAlg
public import proofs.«01_k».proof.Proof.FfnOk
public import proofs.«01_k».proof.Proof.FfnAlg
public import proofs.«01_k».proof.Proof.GateAlg
public import proofs.«01_k».proof.Proof.RouteAlg
public import proofs.«01_k».proof.Proof.Gen.Gate.Frame
public import proofs.«01_k».proof.Proof.Gen.Route.Frame
public import proofs.«01_k».proof.Proof.Gen.RouteIdeal.Frame
public import proofs.«01_k».proof.Proof.Gen.RouteRefIdeal.Run
public import proofs.«01_k».proof.Proof.Gen.GateIdeal.Value
public import proofs.«01_k».proof.Proof.Gen.GateRefIdeal.Run
public import proofs.«01_k».proof.Proof.Gen.GatherRefIdeal.Run
public import proofs.«01_k».proof.Proof.Gen.CombineRefIdeal.Run
public import proofs.«01_k».proof.Proof.Gen.FfnRefIdeal.Run
public import Idealize.ShloMosaic.Adequacy
public import Idealize.ShloMosaic.Init

@[expose] public section

noncomputable section

namespace Cert.Proof

open Idealize.ShloMosaic Idealize.SL.Sem

/-- The gather's reference runs, its arguments unchanged, and every counter ends at zero. -/
theorem gather_ref : Cert.quiescent_GatherRefIdeal := fun m g _ =>
  (θ_run Cert.GatherRefIdeal.defs _ _).mono (fun r h => ⟨fun c => (h c).2, sem_eq_zero_of_no_sems (by decide) r.2⟩) (Cert.GatherRefIdeal.Value.run (F := Ideal) m g)

/-- The combine's reference runs, its arguments unchanged, and every counter ends at zero. -/
theorem combine_ref : Cert.quiescent_CombineRefIdeal := fun m g _ =>
  (θ_run Cert.CombineRefIdeal.defs _ _).mono (fun r h => ⟨fun c => (h c).2, sem_eq_zero_of_no_sems (by decide) r.2⟩) (Cert.CombineRefIdeal.Value.run (F := Ideal) m g)

/-- The experts' layers' reference runs, its arguments unchanged, and every counter ends at zero. -/
theorem ffn_ref : Cert.quiescent_FfnRefIdeal := fun m g _ =>
  (θ_run Cert.FfnRefIdeal.defs _ _).mono (fun r h => ⟨fun c => (h c).2, sem_eq_zero_of_no_sems (by decide) r.2⟩) (Cert.FfnRefIdeal.Value.run (F := Ideal) m g)

/-- The gate runs, its arguments unchanged, and every counter ends at zero. -/
theorem gate : Cert.quiescent_Gate := fun m g _ => Cert.Gate.Gen.frame (F := Bits) m g

/-- So does the idealized gate. -/
theorem gate_ideal : Cert.quiescent_GateIdeal := fun m g _ => Cert.GateIdeal.Gen.frame (F := Ideal) m g

/-- The gate's reference runs, its arguments unchanged, and every counter ends at zero. -/
theorem gate_ref : Cert.quiescent_GateRefIdeal := fun m g _ =>
  (θ_run Cert.GateRefIdeal.defs _ _).mono (fun r h => ⟨fun c => (h c).2.2, sem_eq_zero_of_no_sems (by decide) r.2⟩) (Cert.GateRefIdeal.Value.run (F := Ideal) m g)

/-- The routing runs, its arguments unchanged, and every counter ends at zero. -/
theorem route : Cert.quiescent_Route := fun m g _ => Cert.Route.Gen.frame (F := Bits) m g

/-- So does the idealized routing. -/
theorem route_ideal : Cert.quiescent_RouteIdeal := fun m g _ => Cert.RouteIdeal.Gen.frame (F := Ideal) m g

/-- The routing's reference runs, its arguments unchanged, and every counter ends at zero. -/
theorem route_ref : Cert.quiescent_RouteRefIdeal := fun m g _ =>
  (θ_run Cert.RouteRefIdeal.defs _ _).mono (fun r h => ⟨fun c => (h c).2.2.2.2.2.2.2.2, sem_eq_zero_of_no_sems (by decide) r.2⟩) (Cert.RouteRefIdeal.Value.run (F := Ideal) m g)

theorem claim : Cert.Claim := ⟨Cert.Gather.Gen.facts, Cert.GatherIdeal.Gen.facts, Cert.GatherRefIdeal.Gen.facts, Cert.Combine.Gen.facts, Cert.CombineIdeal.Gen.facts, Cert.CombineRefIdeal.Gen.facts,
  Cert.Ffn.Gen.facts, Cert.FfnIdeal.Gen.facts, Cert.FfnRefIdeal.Gen.facts, Cert.Gate.Gen.facts, Cert.GateIdeal.Gen.facts, Cert.GateRefIdeal.Gen.facts, Cert.Route.Gen.facts, Cert.RouteIdeal.Gen.facts, Cert.RouteRefIdeal.Gen.facts,
  Cert.Pre_in_tokens.Gen.facts, Cert.Pre_in_rows.Gen.facts, Cert.Pre_in_experts.Gen.facts, Cert.Pre_in_finite.Gen.facts,
  Gather.frame, GatherIdeal.frame, gather_ref, fun m g _ => gather_ref m g trivial, Combine.frame, CombineIdeal.frame, combine_ref, fun m g _ => combine_ref m g trivial,
  Ffn.frame, FfnIdeal.frame, ffn_ref, fun m g _ => ffn_ref m g trivial,
  gate, gate_ideal, fun m g _ => gate_ideal m g trivial, gate_ref, fun m g _ => gate_ref m g trivial,
  route, route_ideal, fun m g _ => route_ideal m g trivial, route_ref, fun m g _ => route_ref m g trivial,
  trivial, GatherAlg.algebraic, trivial, CombineAlg.algebraic, trivial, FfnAlg.algebraic,
  IdealRules.named_const.statement Cert.GateIdeal.κ "mask" .f32 0xF149F2CA#32 ⊥ rfl, GateAlg.algebraic,
  IdealRules.named_const.statement Cert.RouteIdeal.κ "mask" .f32 0xF149F2CA#32 ⊥ rfl, RouteAlg.algebraic⟩

end Cert.Proof

end
